-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_of_do [hPre_scales_of_do : Cert.Pre_scales_of_do.Facts] (m : (ℓ : Loc Cert.KernelIdeal.nD Cert.KernelIdeal.τ Cert.KernelIdeal.sig) → Buf (Elt Ideal) ℓ) : Prop :=
  ∀ c : Dev Cert.KernelIdeal.nD,
    (Cert.Pre_scales_of_do.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_of_do [hPre_scales_of_do : Cert.Pre_scales_of_do.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_of_do.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_scales_of_do [hKernelIdeal : Cert.KernelIdeal.Facts] [hPre_scales_of_do : Cert.Pre_scales_of_do.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_of_do m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_scales_of_do [hReferenceIdeal : Cert.ReferenceIdeal.Facts] [hPre_scales_of_do : Cert.Pre_scales_of_do.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_of_do m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "sm_log2e" .f32 0x3E16C740#32 (((Real.sqrt 96)⁻¹ * (Real.log 2)⁻¹ : ℝ) : EReal)
  ∧ IdealRules.named_const.Statement Cert.KernelIdeal.κ "sm" .f32 0x3DD105EC#32 (((Real.sqrt 96)⁻¹ : ℝ) : EReal)

def algebraic_KernelIdeal_ReferenceIdeal_pre_scales_of_do [hKernelIdeal : Cert.KernelIdeal.Facts] [hReferenceIdeal : Cert.ReferenceIdeal.Facts] [hPre_scales_of_do : Cert.Pre_scales_of_do.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_of_do m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_scales_of_do : Cert.Pre_scales_of_do.Facts),
    quiescent_Kernel (hKernel := hKernel)
    ∧ quiescent_KernelIdeal (hKernelIdeal := hKernelIdeal)
    ∧ quiescent_KernelIdeal_pre_scales_of_do (hKernelIdeal := hKernelIdeal) (hPre_scales_of_do := hPre_scales_of_do)
    ∧ quiescent_ReferenceIdeal (hReferenceIdeal := hReferenceIdeal)
    ∧ quiescent_ReferenceIdeal_pre_scales_of_do (hReferenceIdeal := hReferenceIdeal) (hPre_scales_of_do := hPre_scales_of_do)
    ∧ preserves_Kernel_KernelIdeal
    ∧ algebraic_KernelIdeal_ReferenceIdeal_pre_scales_of_do (hKernelIdeal := hKernelIdeal) (hReferenceIdeal := hReferenceIdeal) (hPre_scales_of_do := hPre_scales_of_do)
-- ==== Pre_scales_of_do.lean ====
abbrev S2x640x32x96 : Shape := ⟨4, ![2, 640, 32, 96]⟩
abbrev S32 : Shape := ⟨1, ![32]⟩
abbrev S2x640x8x96 : Shape := ⟨4, ![2, 640, 8, 96]⟩
abbrev S8 : Shape := ⟨1, ![8]⟩
abbrev S2x32x640 : Shape := ⟨3, ![2, 32, 640]⟩
abbrev S2x640 : Shape := ⟨2, ![2, 640]⟩
abbrev S_ : Shape := ⟨0, ![]⟩

class Facts : Prop where
  bcast_S_S2x640 : S_.BroadcastsInDim S2x640 (![] : Fin 0 → Fin S2x640.rank)
  reducesTo_S2x640_S_d0_1 : S2x640.ReducesTo [0, 1] S_
  h_S_ : 0 < S_.numel

variable [Facts]

def fn {F : FTy → Type} [FloatOps F] (main_arg0 : FVec F S2x640x32x96 .fp8e4m3) (main_arg1 : FVec F S32 .f32) (main_arg2 : FVec F S2x640x8x96 .fp8e4m3) (main_arg3 : FVec F S8 .f32) (main_arg4 : FVec F S2x640x8x96 .fp8e4m3) (main_arg5 : FVec F S8 .f32) (main_arg6 : FVec F S2x640x32x96 .bf16) (main_arg7 : FVec F S2x32x640 .f32) (main_arg8 : FVec F S2x640x32x96 .fp8e5m2) (main_arg9 : FVec F S2x640 .f32) : IVec S_ 1 :=
  let main_cst : FVec F S_ .f32 := constant S_ .f32 0x00000000#32
  let main_v0 : FVec F S2x640 .f32 := broadcastInDim S2x640 ![] bcast_S_S2x640 main_cst
  let main_v1 : IVec S2x640 1 := cmpf .oge main_arg9 main_v0
  let main_cst_0 : FVec F S_ .f32 := constant S_ .f32 0x7F800000#32
  let main_v2 : FVec F S2x640 .f32 := broadcastInDim S2x640 ![] bcast_S_S2x640 main_cst_0
  let main_v3 : IVec S2x640 1 := cmpf .olt main_arg9 main_v2
  let main_v4 : IVec S2x640 1 := andi main_v1 main_v3
  let main_c : IVec S_ 1 := constantI S_ 1 1#1
  let main_v5 : IVec S_ 1 := (fun x v => Host.reduce IntOp.andi x v reducesTo_S2x640_S_d0_1 h_S_) main_v4 main_c
  main_v5
-- ==== Kernel.lean ====
abbrev S2x640x32x96 : Shape := ⟨4, ![2, 640, 32, 96]⟩
abbrev S32 : Shape := ⟨1, ![32]⟩
abbrev S2x640x8x96 : Shape := ⟨4, ![2, 640, 8, 96]⟩
abbrev S8 : Shape := ⟨1, ![8]⟩
abbrev S2x32x640 : Shape := ⟨3, ![2, 32, 640]⟩
abbrev S2x640 : Shape := ⟨2, ![2, 640]⟩
abbrev S2x32x96x640 : Shape := ⟨4, ![2, 32, 96, 640]⟩
abbrev S2x4x8x96x640 : Shape := ⟨5, ![2, 4, 8, 96, 640]⟩
abbrev S2x8x96x640 : Shape := ⟨4, ![2, 8, 96, 640]⟩
abbrev S2x1x8x96x640 : Shape := ⟨5, ![2, 1, 8, 96, 640]⟩
abbrev S2x4x8x640 : Shape := ⟨4, ![2, 4, 8, 640]⟩
abbrev S2x1x640 : Shape := ⟨3, ![2, 1, 640]⟩
abbrev S1x4x1x96x640 : Shape := ⟨5, ![1, 4, 1, 96, 640]⟩
abbrev S1x1x96x640 : Shape := ⟨4, ![1, 1, 96, 640]⟩
abbrev S1x4x8x640 : Shape := ⟨4, ![1, 4, 8, 640]⟩
abbrev S1x1x640 : Shape := ⟨3, ![1, 1, 640]⟩
abbrev S640x2560 : Shape := ⟨2, ![640, 2560]⟩
abbrev S96x2560 : Shape := ⟨2, ![96, 2560]⟩
abbrev S8x4x640 : Shape := ⟨3, ![8, 4, 640]⟩
abbrev S1x1x1x640 : Shape := ⟨4, ![1, 1, 1, 640]⟩
abbrev S1x640 : Shape := ⟨2, ![1, 640]⟩
abbrev S1 : Shape := ⟨1, ![1]⟩
abbrev S96x640 : Shape := ⟨2, ![96, 640]⟩
abbrev S640x96 : Shape := ⟨2, ![640, 96]⟩
abbrev S128x128 : Shape := ⟨2, ![128, 128]⟩
abbrev S1x1x1x96x128 : Shape := ⟨5, ![1, 1, 1, 96, 128]⟩
abbrev S96x128 : Shape := ⟨2, ![96, 128]⟩
abbrev S1x128 : Shape := ⟨2, ![1, 128]⟩
abbrev S1x1x128 : Shape := ⟨3, ![1, 1, 128]⟩
abbrev S128 : Shape := ⟨1, ![128]⟩
abbrev S128x96 : Shape := ⟨2, ![128, 96]⟩
abbrev S128x512 : Shape := ⟨2, ![128, 512]⟩
abbrev S96x512 : Shape := ⟨2, ![96, 512]⟩
abbrev S256x96 : Shape := ⟨2, ![256, 96]⟩
abbrev S256x128 : Shape := ⟨2, ![256, 128]⟩
abbrev S96x256 : Shape := ⟨2, ![96, 256]⟩
abbrev S256x512 : Shape := ⟨2, ![256, 512]⟩
abbrev S384x96 : Shape := ⟨2, ![384, 96]⟩
abbrev S384x128 : Shape := ⟨2, ![384, 128]⟩
abbrev S96x384 : Shape := ⟨2, ![96, 384]⟩
abbrev S384x512 : Shape := ⟨2, ![384, 512]⟩
abbrev S512x96 : Shape := ⟨2, ![512, 96]⟩
abbrev S512x128 : Shape := ⟨2, ![512, 128]⟩
abbrev S512x512 : Shape := ⟨2, ![512, 512]⟩
abbrev S640x128 : Shape := ⟨2, ![640, 128]⟩
abbrev S640x512 : Shape := ⟨2, ![640, 512]⟩
abbrev S256x2560 : Shape := ⟨2, ![256, 2560]⟩
abbrev S1x1x96x256 : Shape := ⟨4, ![1, 1, 96, 256]⟩
abbrev S96x1536 : Shape := ⟨2, ![96, 1536]⟩
abbrev S256x1536 : Shape := ⟨2, ![256, 1536]⟩
abbrev S1x1x96x128 : Shape := ⟨4, ![1, 1, 96, 128]⟩

abbrev nBuf : Space → Nat
  | .hbm => 31
  | .vmem => 25
  | .smem => 3
  | _ => 0

abbrev bufTy : (tb : Table) → Fin (tcTables nBuf tb) → BufTy
  | .hbm, ⟨0, _⟩ => ⟨S2x640x32x96, .fp8e4m3⟩
  | .hbm, ⟨1, _⟩ => ⟨S32, .f32⟩
  | .hbm, ⟨2, _⟩ => ⟨S2x640x8x96, .fp8e4m3⟩
  | .hbm, ⟨3, _⟩ => ⟨S8, .f32⟩
  | .hbm, ⟨4, _⟩ => ⟨S2x640x8x96, .fp8e4m3⟩
  | .hbm, ⟨5, _⟩ => ⟨S8, .f32⟩
  | .hbm, ⟨6, _⟩ => ⟨S2x640x32x96, .bf16⟩
  | .hbm, ⟨7, _⟩ => ⟨S2x32x640, .f32⟩
  | .hbm, ⟨8, _⟩ => ⟨S2x640x32x96, .fp8e5m2⟩
  | .hbm, ⟨9, _⟩ => ⟨S2x640, .f32⟩
  | .hbm, ⟨10, _⟩ => ⟨S2x32x96x640, .fp8e4m3⟩
  | .hbm, ⟨11, _⟩ => ⟨S2x4x8x96x640, .fp8e4m3⟩
  | .hbm, ⟨12, _⟩ => ⟨S2x32x96x640, .bf16⟩
  | .hbm, ⟨13, _⟩ => ⟨S2x4x8x96x640, .bf16⟩
  | .hbm, ⟨14, _⟩ => ⟨S2x32x96x640, .fp8e5m2⟩
  | .hbm, ⟨15, _⟩ => ⟨S2x4x8x96x640, .fp8e5m2⟩
  | .hbm, ⟨16, _⟩ => ⟨S2x8x96x640, .fp8e4m3⟩
  | .hbm, ⟨17, _⟩ => ⟨S2x1x8x96x640, .fp8e4m3⟩
  | .hbm, ⟨18, _⟩ => ⟨S2x8x96x640, .fp8e4m3⟩
  | .hbm, ⟨19, _⟩ => ⟨S2x8x96x640, .fp8e4m3⟩
  | .hbm, ⟨20, _⟩ => ⟨S2x1x8x96x640, .fp8e4m3⟩
  | .hbm, ⟨21, _⟩ => ⟨S2x8x96x640, .fp8e4m3⟩
  | .hbm, ⟨22, _⟩ => ⟨S2x4x8x640, .f32⟩
  | .hbm, ⟨23, _⟩ => ⟨S2x1x640, .f32⟩
  | .hbm, ⟨24, _⟩ => ⟨S2x4x8x96x640, .bf16⟩
  | .hbm, ⟨25, _⟩ => ⟨S2x8x96x640, .bf16⟩
  | .hbm, ⟨26, _⟩ => ⟨S2x8x96x640, .bf16⟩
  | .hbm, ⟨27, _⟩ => ⟨S2x32x96x640, .bf16⟩
  | .hbm, ⟨28, _⟩ => ⟨S2x640x32x96, .bf16⟩
  | .hbm, ⟨29, _⟩ => ⟨S2x640x8x96, .bf16⟩
  | .hbm, ⟨30, _⟩ => ⟨S2x640x8x96, .bf16⟩
  | .local _ .vmem, ⟨0, _⟩ => ⟨S1x4x1x96x640, .fp8e4m3⟩
  | .local _ .vmem, ⟨1, _⟩ => ⟨S1x4x1x96x640, .fp8e4m3⟩
  | .local _ .vmem, ⟨2, _⟩ => ⟨S1x1x96x640, .fp8e4m3⟩
  | .local _ .vmem, ⟨3, _⟩ => ⟨S1x1x96x640, .fp8e4m3⟩
  | .local _ .vmem, ⟨4, _⟩ => ⟨S1x1x96x640, .fp8e4m3⟩
  | .local _ .vmem, ⟨5, _⟩ => ⟨S1x1x96x640, .fp8e4m3⟩
  | .local _ .vmem, ⟨6, _⟩ => ⟨S1x4x1x96x640, .bf16⟩
  | .local _ .vmem, ⟨7, _⟩ => ⟨S1x4x1x96x640, .bf16⟩
  | .local _ .vmem, ⟨8, _⟩ => ⟨S1x4x8x640, .f32⟩
  | .local _ .vmem, ⟨9, _⟩ => ⟨S1x4x8x640, .f32⟩
  | .local _ .vmem, ⟨10, _⟩ => ⟨S1x4x1x96x640, .fp8e5m2⟩
  | .local _ .vmem, ⟨11, _⟩ => ⟨S1x4x1x96x640, .fp8e5m2⟩
  | .local _ .vmem, ⟨12, _⟩ => ⟨S1x1x640, .f32⟩
  | .local _ .vmem, ⟨13, _⟩ => ⟨S1x1x640, .f32⟩
  | .local _ .vmem, ⟨14, _⟩ => ⟨S1x4x1x96x640, .bf16⟩
  | .local _ .vmem, ⟨15, _⟩ => ⟨S1x4x1x96x640, .bf16⟩
  | .local _ .vmem, ⟨16, _⟩ => ⟨S1x1x96x640, .bf16⟩
  | .local _ .vmem, ⟨17, _⟩ => ⟨S1x1x96x640, .bf16⟩
  | .local _ .vmem, ⟨18, _⟩ => ⟨S1x1x96x640, .bf16⟩
  | .local _ .vmem, ⟨19, _⟩ => ⟨S1x1x96x640, .bf16⟩
  | .local _ .vmem, ⟨20, _⟩ => ⟨S640x2560, .bf16⟩
  | .local _ .vmem, ⟨21, _⟩ => ⟨S640x2560, .bf16⟩
  | .local _ .vmem, ⟨22, _⟩ => ⟨S96x2560, .bf16⟩
  | .local _ .vmem, ⟨23, _⟩ => ⟨S96x2560, .bf16⟩
  | .local _ .vmem, ⟨24, _⟩ => ⟨S8x4x640, .f32⟩
  | .local _ .smem, ⟨0, _⟩ => ⟨S32, .f32⟩
  | .local _ .smem, ⟨1, _⟩ => ⟨S8, .f32⟩
  | .local _ .smem, ⟨2, _⟩ => ⟨S8, .f32⟩
  | _, _ => ⟨S2x640x32x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![2, 8], ![false, false]⟩

def k0_off1 (i : grid0.Coords) : Fin 1 → Nat :=
  let arg1 : BitVec 32 := BitVec.ofNat 32 (i 1).val
  let v8 : Index := Scalar.indexCast arg1
  ![v8.toNat]
def k0_off2 (i : grid0.Coords) (c0_i32_14 : BitVec 32) : Fin 1 → Nat :=
  let arg1 : BitVec 32 := BitVec.ofNat 32 (i 1).val
  let v26 : BitVec 32 := Scalar.addi c0_i32_14 arg1
  let v27 : Index := Scalar.indexCast v26
  ![v27.toNat]
def k0_off3 (i : grid0.Coords) : Fin 3 → Nat :=
  let arg1 : BitVec 32 := BitVec.ofNat 32 (i 1).val
  let v37 : Index := Scalar.indexCast arg1
  let c0_25 : Index := 0#32
  let c0_26 : Index := 0#32
  ![v37.toNat, 0, 0]
def k0_off4 (i : grid0.Coords) : Fin 3 → Nat :=
  let arg1 : BitVec 32 := BitVec.ofNat 32 (i 1).val
  let v101 : Index := Scalar.indexCast arg1
  let c1_54 : Index := 1#32
  let c0_55 : Index := 0#32
  ![v101.toNat, 1, 0]
def k0_off5 (i : grid0.Coords) : Fin 3 → Nat :=
  let arg1 : BitVec 32 := BitVec.ofNat 32 (i 1).val
  let v165 : Index := Scalar.indexCast arg1
  let c2_82 : Index := 2#32
  let c0_83 : Index := 0#32
  ![v165.toNat, 2, 0]
def k0_off6 (i : grid0.Coords) : Fin 3 → Nat :=
  let arg1 : BitVec 32 := BitVec.ofNat 32 (i 1).val
  let v229 : Index := Scalar.indexCast arg1
  let c3_110 : Index := 3#32
  let c0_111 : Index := 0#32
  ![v229.toNat, 3, 0]
def k0_off7 (i : grid0.Coords) : Fin 3 → Nat :=
  let arg1 : BitVec 32 := BitVec.ofNat 32 (i 1).val
  let v319 : Index := Scalar.indexCast arg1
  let c0_164 : Index := 0#32
  let c128_165 : Index := 128#32
  ![v319.toNat, 0, 128]
def k0_off8 (i : grid0.Coords) : Fin 3 → Nat :=
  let arg1 : BitVec 32 := BitVec.ofNat 32 (i 1).val
  let v386 : Index := Scalar.indexCast arg1
  let c1_194 : Index := 1#32
  let c128_195 : Index := 128#32
  ![v386.toNat, 1, 128]
def k0_off9 (i : grid0.Coords) : Fin 3 → Nat :=
  let arg1 : BitVec 32 := BitVec.ofNat 32 (i 1).val
  let v453 : Index := Scalar.indexCast arg1
  let c2_224 : Index := 2#32
  let c128_225 : Index := 128#32
  ![v453.toNat, 2, 128]
def k0_off10 (i : grid0.Coords) : Fin 3 → Nat :=
  let arg1 : BitVec 32 := BitVec.ofNat 32 (i 1).val
  let v520 : Index := Scalar.indexCast arg1
  let c3_254 : Index := 3#32
  let c128_255 : Index := 128#32
  ![v520.toNat, 3, 128]
def k0_off11 (i : grid0.Coords) : Fin 3 → Nat :=
  let arg1 : BitVec 32 := BitVec.ofNat 32 (i 1).val
  let v613 : Index := Scalar.indexCast arg1
  let c0_308 : Index := 0#32
  let c256_309 : Index := 256#32
  ![v613.toNat, 0, 256]
def k0_off12 (i : grid0.Coords) : Fin 3 → Nat :=
  let arg1 : BitVec 32 := BitVec.ofNat 32 (i 1).val
  let v680 : Index := Scalar.indexCast arg1
  let c1_338 : Index := 1#32
  let c256_339 : Index := 256#32
  ![v680.toNat, 1, 256]
def k0_off13 (i : grid0.Coords) : Fin 3 → Nat :=
  let arg1 : BitVec 32 := BitVec.ofNat 32 (i 1).val
  let v747 : Index := Scalar.indexCast arg1
  let c2_368 : Index := 2#32
  let c256_369 : Index := 256#32
  ![v747.toNat, 2, 256]
def k0_off14 (i : grid0.Coords) : Fin 3 → Nat :=
  let arg1 : BitVec 32 := BitVec.ofNat 32 (i 1).val
  let v814 : Index := Scalar.indexCast arg1
  let c3_398 : Index := 3#32
  let c256_399 : Index := 256#32
  ![v814.toNat, 3, 256]
def k0_off15 (i : grid0.Coords) : Fin 3 → Nat :=
  let arg1 : BitVec 32 := BitVec.ofNat 32 (i 1).val
  let v907 : Index := Scalar.indexCast arg1
  let c0_452 : Index := 0#32
  let c384_453 : Index := 384#32
  ![v907.toNat, 0, 384]
def k0_off16 (i : grid0.Coords) : Fin 3 → Nat :=
  let arg1 : BitVec 32 := BitVec.ofNat 32 (i 1).val
  let v974 : Index := Scalar.indexCast arg1
  let c1_482 : Index := 1#32
  let c384_483 : Index := 384#32
  ![v974.toNat, 1, 384]
def k0_off17 (i : grid0.Coords) : Fin 3 → Nat :=
  let arg1 : BitVec 32 := BitVec.ofNat 32 (i 1).val
  let v1041 : Index := Scalar.indexCast arg1
  let c2_512 : Index := 2#32
  let c384_513 : Index := 384#32
  ![v1041.toNat, 2, 384]
def k0_off18 (i : grid0.Coords) : Fin 3 → Nat :=
  let arg1 : BitVec 32 := BitVec.ofNat 32 (i 1).val
  let v1108 : Index := Scalar.indexCast arg1
  let c3_542 : Index := 3#32
  let c384_543 : Index := 384#32
  ![v1108.toNat, 3, 384]
def k0_off19 (i : grid0.Coords) : Fin 3 → Nat :=
  let arg1 : BitVec 32 := BitVec.ofNat 32 (i 1).val
  let v1201 : Index := Scalar.indexCast arg1
  let c0_596 : Index := 0#32
  let c512_597 : Index := 512#32
  ![v1201.toNat, 0, 512]
def k0_off20 (i : grid0.Coords) : Fin 3 → Nat :=
  let arg1 : BitVec 32 := BitVec.ofNat 32 (i 1).val
  let v1266 : Index := Scalar.indexCast arg1
  let c1_626 : Index := 1#32
  let c512_627 : Index := 512#32
  ![v1266.toNat, 1, 512]
def k0_off21 (i : grid0.Coords) : Fin 3 → Nat :=
  let arg1 : BitVec 32 := BitVec.ofNat 32 (i 1).val
  let v1331 : Index := Scalar.indexCast arg1
  let c2_656 : Index := 2#32
  let c512_657 : Index := 512#32
  ![v1331.toNat, 2, 512]
def k0_off22 (i : grid0.Coords) : Fin 3 → Nat :=
  let arg1 : BitVec 32 := BitVec.ofNat 32 (i 1).val
  let v1396 : Index := Scalar.indexCast arg1
  let c3_686 : Index := 3#32
  let c512_687 : Index := 512#32
  ![v1396.toNat, 3, 512]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4x1x96x640 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x96x640 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x96x640 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x1x96x640 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x8x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x4x1x96x640 .fp8e5m2 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x640 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x4x1x96x640 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x96x640 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x96x640 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "log2e" => some (((Real.log 2)⁻¹ : ℝ) : EReal)
  | "sm" => some (((Real.sqrt 96)⁻¹ : ℝ) : EReal)
  | "sm_log2e" => some (((Real.sqrt 96)⁻¹ * (Real.log 2)⁻¹ : ℝ) : EReal)
  | _ => none
-- ==== ReferenceIdeal.lean ====
abbrev S2x640x32x96 : Shape := ⟨4, ![2, 640, 32, 96]⟩
abbrev S32 : Shape := ⟨1, ![32]⟩
abbrev S2x640x8x96 : Shape := ⟨4, ![2, 640, 8, 96]⟩
abbrev S8 : Shape := ⟨1, ![8]⟩
abbrev S2x32x640 : Shape := ⟨3, ![2, 32, 640]⟩
abbrev S2x640 : Shape := ⟨2, ![2, 640]⟩
abbrev S_ : Shape := ⟨0, ![]⟩
abbrev S2x640x4x8x96 : Shape := ⟨5, ![2, 640, 4, 8, 96]⟩
abbrev S2x4x8x640 : Shape := ⟨4, ![2, 4, 8, 640]⟩
abbrev S2x640x1x1 : Shape := ⟨4, ![2, 640, 1, 1]⟩
abbrev S4x8 : Shape := ⟨2, ![4, 8]⟩
abbrev S1x8 : Shape := ⟨2, ![1, 8]⟩
abbrev S640 : Shape := ⟨1, ![640]⟩
abbrev S2x8x640x640x4 : Shape := ⟨5, ![2, 8, 640, 640, 4]⟩
abbrev S2x4x8x640x640 : Shape := ⟨5, ![2, 4, 8, 640, 640]⟩
abbrev S1x4x8x1x1 : Shape := ⟨5, ![1, 4, 8, 1, 1]⟩
abbrev S1x640 : Shape := ⟨2, ![1, 640]⟩
abbrev S640x1 : Shape := ⟨2, ![640, 1]⟩
abbrev S640x640 : Shape := ⟨2, ![640, 640]⟩
abbrev S2x4x8x640x1 : Shape := ⟨5, ![2, 4, 8, 640, 1]⟩
abbrev S2x1x1x640x1 : Shape := ⟨5, ![2, 1, 1, 640, 1]⟩
abbrev S1x1x8x1x1 : Shape := ⟨5, ![1, 1, 8, 1, 1]⟩
abbrev S2x1x8x640x1 : Shape := ⟨5, ![2, 1, 8, 640, 1]⟩
abbrev S1x1x4x8x1 : Shape := ⟨5, ![1, 1, 4, 8, 1]⟩
abbrev S2x640x1x1x1 : Shape := ⟨5, ![2, 640, 1, 1, 1]⟩
abbrev S2x8x96x4x640 : Shape := ⟨5, ![2, 8, 96, 4, 640]⟩
abbrev S1x1x1x8x1 : Shape := ⟨5, ![1, 1, 1, 8, 1]⟩
abbrev S2x8x96x640 : Shape := ⟨4, ![2, 8, 96, 640]⟩

abbrev nBuf : Space → Nat
  | .hbm => 96
  | .vmem => 8
  | .smem => 0
  | _ => 0

abbrev bufTy : (tb : Table) → Fin (tcTables nBuf tb) → BufTy
  | .hbm, ⟨0, _⟩ => ⟨S2x640x32x96, .fp8e4m3⟩
  | .hbm, ⟨1, _⟩ => ⟨S32, .f32⟩
  | .hbm, ⟨2, _⟩ => ⟨S2x640x8x96, .fp8e4m3⟩
  | .hbm, ⟨3, _⟩ => ⟨S8, .f32⟩
  | .hbm, ⟨4, _⟩ => ⟨S2x640x8x96, .fp8e4m3⟩
  | .hbm, ⟨5, _⟩ => ⟨S8, .f32⟩
  | .hbm, ⟨6, _⟩ => ⟨S2x640x32x96, .bf16⟩
  | .hbm, ⟨7, _⟩ => ⟨S2x32x640, .f32⟩
  | .hbm, ⟨8, _⟩ => ⟨S2x640x32x96, .fp8e5m2⟩
  | .hbm, ⟨9, _⟩ => ⟨S2x640, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S2x640x32x96, .bf16⟩
  | .hbm, ⟨15, _⟩ => ⟨S2x640x8x96, .bf16⟩
  | .hbm, ⟨16, _⟩ => ⟨S2x640x8x96, .bf16⟩
  | .hbm, ⟨17, _⟩ => ⟨S2x640x32x96, .bf16⟩
  | .hbm, ⟨18, _⟩ => ⟨S2x640x4x8x96, .bf16⟩
  | .hbm, ⟨19, _⟩ => ⟨S2x640x4x8x96, .bf16⟩
  | .hbm, ⟨20, _⟩ => ⟨S2x4x8x640, .f32⟩
  | .hbm, ⟨21, _⟩ => ⟨S2x640x32x96, .f32⟩
  | .hbm, ⟨22, _⟩ => ⟨S2x640x1x1, .f32⟩
  | .hbm, ⟨23, _⟩ => ⟨S2x640x32x96, .f32⟩
  | .hbm, ⟨24, _⟩ => ⟨S2x640x32x96, .f32⟩
  | .hbm, ⟨25, _⟩ => ⟨S2x640x32x96, .f32⟩
  | .hbm, ⟨26, _⟩ => ⟨S2x32x640, .f32⟩
  | .hbm, ⟨27, _⟩ => ⟨S2x4x8x640, .f32⟩
  | .hbm, ⟨28, _⟩ => ⟨S4x8, .f32⟩
  | .hbm, ⟨29, _⟩ => ⟨S1x8, .f32⟩
  | .hbm, ⟨30, _⟩ => ⟨S4x8, .f32⟩
  | .hbm, ⟨31, _⟩ => ⟨S4x8, .f32⟩
  | .hbm, ⟨32, _⟩ => ⟨S4x8, .f32⟩
  | .hbm, ⟨33, _⟩ => ⟨S4x8, .f32⟩
  | .hbm, ⟨34, _⟩ => ⟨S640, .i32⟩
  | .hbm, ⟨35, _⟩ => ⟨S2x8x640x640x4, .f32⟩
  | .hbm, ⟨36, _⟩ => ⟨S2x4x8x640x640, .f32⟩
  | .hbm, ⟨37, _⟩ => ⟨S1x4x8x1x1, .f32⟩
  | .hbm, ⟨38, _⟩ => ⟨S2x4x8x640x640, .f32⟩
  | .hbm, ⟨39, _⟩ => ⟨S2x4x8x640x640, .f32⟩
  | .hbm, ⟨40, _⟩ => ⟨S1x640, .i32⟩
  | .hbm, ⟨41, _⟩ => ⟨S640x1, .i32⟩
  | .hbm, ⟨42, _⟩ => ⟨S640x640, .i32⟩
  | .hbm, ⟨43, _⟩ => ⟨S640x640, .i32⟩
  | .hbm, ⟨44, _⟩ => ⟨S640x640, .i1⟩
  | .hbm, ⟨45, _⟩ => ⟨S_, .f32⟩
  | .hbm, ⟨46, _⟩ => ⟨S_, .f32⟩
  | .hbm, ⟨47, _⟩ => ⟨S2x4x8x640x640, .i1⟩
  | .hbm, ⟨48, _⟩ => ⟨S2x4x8x640x640, .f32⟩
  | .hbm, ⟨49, _⟩ => ⟨S2x4x8x640x640, .f32⟩
  | .hbm, ⟨50, _⟩ => ⟨S2x4x8x640x1, .f32⟩
  | .hbm, ⟨51, _⟩ => ⟨S2x4x8x640x640, .f32⟩
  | .hbm, ⟨52, _⟩ => ⟨S2x4x8x640x640, .f32⟩
  | .hbm, ⟨53, _⟩ => ⟨S2x4x8x640x640, .f32⟩
  | .hbm, ⟨54, _⟩ => ⟨S2x8x640x640x4, .f32⟩
  | .hbm, ⟨55, _⟩ => ⟨S2x4x8x640x640, .f32⟩
  | .hbm, ⟨56, _⟩ => ⟨S2x1x1x640x1, .f32⟩
  | .hbm, ⟨57, _⟩ => ⟨S1x1x8x1x1, .f32⟩
  | .hbm, ⟨58, _⟩ => ⟨S2x1x8x640x1, .f32⟩
  | .hbm, ⟨59, _⟩ => ⟨S2x1x8x640x1, .f32⟩
  | .hbm, ⟨60, _⟩ => ⟨S2x1x8x640x1, .f32⟩
  | .hbm, ⟨61, _⟩ => ⟨S2x4x8x640x640, .f32⟩
  | .hbm, ⟨62, _⟩ => ⟨S2x4x8x640x640, .f32⟩
  | .hbm, ⟨63, _⟩ => ⟨S2x4x8x640x1, .f32⟩
  | .hbm, ⟨64, _⟩ => ⟨S2x4x8x640x640, .f32⟩
  | .hbm, ⟨65, _⟩ => ⟨S2x4x8x640x640, .f32⟩
  | .hbm, ⟨66, _⟩ => ⟨S2x4x8x640x640, .f32⟩
  | .hbm, ⟨67, _⟩ => ⟨S4x8, .f32⟩
  | .hbm, ⟨68, _⟩ => ⟨S4x8, .bf16⟩
  | .hbm, ⟨69, _⟩ => ⟨S1x1x4x8x1, .bf16⟩
  | .hbm, ⟨70, _⟩ => ⟨S2x640x4x8x96, .bf16⟩
  | .hbm, ⟨71, _⟩ => ⟨S2x640x4x8x96, .bf16⟩
  | .hbm, ⟨72, _⟩ => ⟨S2x640, .bf16⟩
  | .hbm, ⟨73, _⟩ => ⟨S2x640x1x1x1, .bf16⟩
  | .hbm, ⟨74, _⟩ => ⟨S2x640x4x8x96, .bf16⟩
  | .hbm, ⟨75, _⟩ => ⟨S2x640x4x8x96, .bf16⟩
  | .hbm, ⟨76, _⟩ => ⟨S2x4x8x640x640, .bf16⟩
  | .hbm, ⟨77, _⟩ => ⟨S2x8x96x4x640, .f32⟩
  | .hbm, ⟨78, _⟩ => ⟨S2x640x4x8x96, .f32⟩
  | .hbm, ⟨79, _⟩ => ⟨S8, .f32⟩
  | .hbm, ⟨80, _⟩ => ⟨S8, .f32⟩
  | .hbm, ⟨81, _⟩ => ⟨S1x1x1x8x1, .f32⟩
  | .hbm, ⟨82, _⟩ => ⟨S2x640x4x8x96, .f32⟩
  | .hbm, ⟨83, _⟩ => ⟨S2x640x4x8x96, .f32⟩
  | .hbm, ⟨84, _⟩ => ⟨S2x4x8x640x640, .bf16⟩
  | .hbm, ⟨85, _⟩ => ⟨S2x8x96x640, .f32⟩
  | .hbm, ⟨86, _⟩ => ⟨S2x640x8x96, .f32⟩
  | .hbm, ⟨87, _⟩ => ⟨S2x640x8x96, .f32⟩
  | .hbm, ⟨88, _⟩ => ⟨S2x640x8x96, .f32⟩
  | .hbm, ⟨89, _⟩ => ⟨S2x4x8x640x640, .bf16⟩
  | .hbm, ⟨90, _⟩ => ⟨S2x8x96x640, .f32⟩
  | .hbm, ⟨91, _⟩ => ⟨S2x640x8x96, .f32⟩
  | .hbm, ⟨92, _⟩ => ⟨S2x640x32x96, .f32⟩
  | .hbm, ⟨93, _⟩ => ⟨S2x640x32x96, .bf16⟩
  | .hbm, ⟨94, _⟩ => ⟨S2x640x8x96, .bf16⟩
  | .hbm, ⟨95, _⟩ => ⟨S2x640x8x96, .bf16⟩
  | .local _ .vmem, ⟨0, _⟩ => ⟨S2x640x32x96, .fp8e4m3⟩
  | .local _ .vmem, ⟨1, _⟩ => ⟨S2x640x8x96, .fp8e4m3⟩
  | .local _ .vmem, ⟨2, _⟩ => ⟨S2x640x8x96, .fp8e4m3⟩
  | .local _ .vmem, ⟨3, _⟩ => ⟨S2x640x32x96, .fp8e5m2⟩
  | .local _ .vmem, ⟨4, _⟩ => ⟨S2x640x32x96, .bf16⟩
  | .local _ .vmem, ⟨5, _⟩ => ⟨S2x640x8x96, .bf16⟩
  | .local _ .vmem, ⟨6, _⟩ => ⟨S2x640x8x96, .bf16⟩
  | .local _ .vmem, ⟨7, _⟩ => ⟨S2x640x32x96, .bf16⟩
  | _, _ => ⟨S2x640x32x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev main_v2_2 : Ref sig .tc := ⟨.hbm, 16, rfl⟩
abbrev main_v2_3 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_1 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x640x32x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x640x8x96 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x640x8x96 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x640x32x96 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x640x32x96 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x640x8x96 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x640x8x96 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x640x32x96 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Blocks.lean ====
/- The values that the kernel's body computes, block by block, read at an index: one definition for each kind of
   stored block (generic in the number of rows), and the value it holds at row `r` and lane `c`. -/
module

public import Idealize.ShloMosaic.Lib.Pointwise
public import Idealize.ShloMosaic.Lib.MatmulPlain

@[expose] public section

noncomputable section

namespace Cert.KernelIdeal.Blk

open Idealize.ShloMosaic

/-- A matrix shape. -/
abbrev M2 (a b : ℕ) : Shape := ⟨2, ![a, b]⟩

/-- A plain matrix product at an index: the accumulator and the sum of products. -/
theorem mm_apply {M K N : ℕ} {φ₁ φ₂ : FTy} (lhs : FVec Ideal (M2 M K) φ₁) (rhs : FVec Ideal (M2 K N) φ₂) (acc : FVec Ideal (M2 M N) .f32)
    (r : Fin M) (c : Fin N) :
    matmul (DotDims.plain M K N) none lhs rhs acc (ix2 r c) = (acc (ix2 r c) : EReal) + ∑ k : Fin K, (lhs (ix2 r k) : EReal) * rhs (ix2 k c) := by
  simp only [ix2_eq_valueIdx]
  exact Ideal.matmul_plain_apply none lhs rhs acc r c

/-- A product with a transposed right factor at an index. -/
theorem mt_apply {M K N : ℕ} {φ₁ φ₂ : FTy} (lhs : FVec Ideal (M2 M K) φ₁) (rhs : FVec Ideal (M2 N K) φ₂) (acc : FVec Ideal (M2 M N) .f32)
    (r : Fin M) (c : Fin N) :
    matmul (DotDims.transposedRhs M K N) none lhs rhs acc (ix2 r c) = (acc (ix2 r c) : EReal) + ∑ k : Fin K, (lhs (ix2 r k) : EReal) * rhs (ix2 c k) := by
  simp only [ix2_eq_valueIdx]
  exact Ideal.matmul_transposedRhs_apply none lhs rhs acc r c

/-- Rows `o ..` of a matrix at an index. -/
theorem rows_apply (a N : ℕ) {n o : ℕ} {α : Type} (x : (M2 a N).Idx → α) (h : (M2 a N).Slices ![o, 0] (M2 n N)) (r : Fin n) (c : Fin N) :
    extractStridedSlice (M2 n N) ![o, 0] x h (ix2 r c) = x (ix2 ⟨o + r.val, by have := h.2 0; have := r.isLt; simp at *; omega⟩ c) := by
  pointwise
  congr 1
  funext b; apply Fin.ext
  match b with
  | ⟨0, _⟩ => rfl
  | ⟨1, _⟩ => exact Nat.zero_add _

/-- The mask of a diagonal block: row index ≤ lane index. -/
def keep (h0 : (M2 128 128).Iotas .tc 32 [0]) (h1 : (M2 128 128).Iotas .tc 32 [1]) : IVec (M2 128 128) 1 :=
  cmpi .sle (iota .tc (M2 128 128) 32 [0] h0) (iota .tc (M2 128 128) 32 [1] h1)

/-- The mask's bit at row `r`, lane `c` says `r ≤ c`. -/
theorem keep_apply (h0 : (M2 128 128).Iotas .tc 32 [0]) (h1 : (M2 128 128).Iotas .tc 32 [1]) (r c : Fin 128) :
    keep h0 h1 (ix2 r c) = BitVec.ofBool (decide (r.val ≤ c.val)) := by
  unfold keep
  pointwise
  have hr : (BitVec.ofNat 32 r.val).toInt = r.val := by
    have := r.isLt
    rw [BitVec.toInt_ofNat']; norm_num [Int.bmod]; omega
  have hc : (BitVec.ofNat 32 c.val).toInt = c.val := by
    have := c.isLt
    rw [BitVec.toInt_ofNat']; norm_num [Int.bmod]; omega
  show BitVec.ofBool ((BitVec.ofNat 32 r.val).sle (BitVec.ofNat 32 c.val)) = _
  rw [BitVec.sle_eq_decide, hr, hc]
  simp

variable (n m : ℕ)

/-- The exponentials of the scores of `n` key rows against 128 queries. -/
def sc (hb : (M2 1 128).Broadcasts (M2 n 128))
    (K : FVec Ideal (M2 n 96) .fp8e4m3) (qk : Ideal .f32) (q : FVec Ideal (M2 96 128) .fp8e4m3) (l : FVec Ideal (M2 1 128) .f32) :
    FVec Ideal (M2 n 128) .f32 :=
  exp2 (subf (mulf (matmul (DotDims.plain n 96 128) none K q (constant (M2 n 128) .f32 0x00000000#32))
    (broadcast (M2 n 128) qk)) (broadcastTo (M2 n 128) l hb))

/-- A score block at an index. -/
theorem sc_apply (hb : (M2 1 128).Broadcasts (M2 n 128))
    (K : FVec Ideal (M2 n 96) .fp8e4m3) (qk : Ideal .f32) (q : FVec Ideal (M2 96 128) .fp8e4m3) (l : FVec Ideal (M2 1 128) .f32)
    (r : Fin n) (c : Fin 128) :
    sc n hb K qk q l (ix2 r c) = Ideal.exp2 ((∑ d : Fin 96, K (ix2 r d) * q (ix2 d c)) * qk - l (ix2 0 c)) := by
  unfold sc
  show Ideal.exp2 (matmul (DotDims.plain n 96 128) none K q (constant (M2 n 128) .f32 0x00000000#32) (ix2 r c) * qk
    - broadcastTo (M2 n 128) l hb (ix2 r c)) = _
  rw [mm_apply]
  pointwise

/-- The masked probabilities of the first block of queries. -/
def pr0 (h0 : (M2 128 128).Iotas .tc 32 [0]) (h1 : (M2 128 128).Iotas .tc 32 [1]) (S : FVec Ideal (M2 128 128) .f32) : FVec Ideal (M2 128 128) .f32 :=
  select (keep h0 h1) S (broadcast (M2 128 128) (Scalar.ofBits (F := Ideal) .f32 0x00000000#32))

/-- The masked probabilities of a later block of queries: the last 128 rows are the diagonal block. -/
def pr (h0 : (M2 128 128).Iotas .tc 32 [0]) (h1 : (M2 128 128).Iotas .tc 32 [1]) (ha : (M2 n 128).Slices ![0, 0] (M2 m 128))
    (hb : (M2 n 128).Slices ![m, 0] (M2 128 128)) (hc : Shape.Concatenates [M2 m 128, M2 128 128] (M2 n 128) 0) (S : FVec Ideal (M2 n 128) .f32) :
    FVec Ideal (M2 n 128) .f32 :=
  concatenate (M2 n 128) 0 [⟨M2 m 128, extractStridedSlice (M2 m 128) ![0, 0] S ha⟩,
    ⟨M2 128 128, pr0 h0 h1 (extractStridedSlice (M2 128 128) ![m, 0] S hb)⟩] hc

/-- The first block's masked probabilities at an index. -/
theorem pr0_apply (h0 : (M2 128 128).Iotas .tc 32 [0]) (h1 : (M2 128 128).Iotas .tc 32 [1]) (S : FVec Ideal (M2 128 128) .f32) (r c : Fin 128) :
    pr0 h0 h1 S (ix2 r c) = if r.val ≤ c.val then S (ix2 r c) else (0 : EReal) := by
  unfold pr0
  pointwise [keep_apply]

/-- A later block's masked probabilities at an index. -/
theorem pr_apply (hn : n = m + 128) (h0 : (M2 128 128).Iotas .tc 32 [0]) (h1 : (M2 128 128).Iotas .tc 32 [1]) (ha : (M2 n 128).Slices ![0, 0] (M2 m 128))
    (hb : (M2 n 128).Slices ![m, 0] (M2 128 128)) (hc : Shape.Concatenates [M2 m 128, M2 128 128] (M2 n 128) 0) (S : FVec Ideal (M2 n 128) .f32)
    (r : Fin n) (c : Fin 128) :
    pr n m h0 h1 ha hb hc S (ix2 r c) = if r.val ≤ m + c.val then S (ix2 r c) else (0 : EReal) := by
  unfold pr
  have hr := r.isLt
  rw [concatenate_pair_apply]
  by_cases h : r.val < m
  · refine (dif_pos (show _ from h)).trans ?_
    rw [if_pos (by omega)]
    refine (congrArg _ (show Shape.Idx.norm _ = ix2 (⟨r.val, h⟩ : Fin m) c from ?_)).trans ?_
    · funext b; apply Fin.ext
      match b with
      | ⟨0, _⟩ => rfl
      | ⟨1, _⟩ => rfl
    rw [rows_apply]
    congr 1; congr 1; apply Fin.ext; exact Nat.zero_add _
  · refine (dif_neg (show _ from h)).trans ?_
    refine (congrArg _ (show Shape.Idx.norm _ = ix2 (⟨r.val - m, by omega⟩ : Fin 128) c from ?_)).trans ?_
    · funext b; apply Fin.ext
      match b with
      | ⟨0, _⟩ => rfl
      | ⟨1, _⟩ => rfl
    rw [pr0_apply, rows_apply]
    show (if r.val - m ≤ c.val then _ else _) = _
    by_cases h' : r.val ≤ m + c.val
    · rw [if_pos h', if_pos (by omega)]
      congr 1; congr 1; apply Fin.ext; show m + (r.val - m) = r.val; omega
    · rw [if_neg h', if_neg (by omega)]

/-- The gradient of the scores: probabilities times (value product, scaled, minus the row's delta). -/
def ds (hb : (M2 1 128).Broadcasts (M2 n 128)) (P : FVec Ideal (M2 n 128) .f32)
    (V : FVec Ideal (M2 n 96) .bf16) (o : FVec Ideal (M2 96 128) .bf16) (sv dl : FVec Ideal (M2 1 128) .f32) : FVec Ideal (M2 n 128) .f32 :=
  mulf P (subf (mulf (matmul (DotDims.plain n 96 128) none V o (constant (M2 n 128) .f32 0x00000000#32))
    (broadcastTo (M2 n 128) sv hb)) (broadcastTo (M2 n 128) dl hb))

/-- The gradient of the scores at an index. -/
theorem ds_apply (hb : (M2 1 128).Broadcasts (M2 n 128)) (P : FVec Ideal (M2 n 128) .f32)
    (V : FVec Ideal (M2 n 96) .bf16) (o : FVec Ideal (M2 96 128) .bf16) (sv dl : FVec Ideal (M2 1 128) .f32) (r : Fin n) (c : Fin 128) :
    ds n hb P V o sv dl (ix2 r c)
      = P (ix2 r c) * ((∑ d : Fin 96, V (ix2 r d) * o (ix2 d c)) * sv (ix2 0 c) - dl (ix2 0 c)) := by
  unfold ds
  show P (ix2 r c) * (matmul (DotDims.plain n 96 128) none V o (constant (M2 n 128) .f32 0x00000000#32) (ix2 r c)
    * broadcastTo (M2 n 128) sv hb (ix2 r c) - broadcastTo (M2 n 128) dl hb (ix2 r c)) = _
  rw [mm_apply]
  pointwise

/-! ### The stored blocks, from the loads -/

/-- A staged head: one key/value head's 96 × 640 block. -/
abbrev H4 : Shape := ⟨4, ![1, 1, 96, 640]⟩
/-- One query block of a head: 96 × 128. -/
abbrev Q5 : Shape := ⟨5, ![1, 1, 1, 96, 128]⟩
/-- One row of 128 lanes. -/
abbrev L3 : Shape := ⟨3, ![1, 1, 128]⟩
/-- One row of 640 lanes. -/
abbrev R3 : Shape := ⟨3, ![1, 1, 640]⟩

section full
variable {n m : ℕ}

/-- The key head, widened, transposed and narrowed. -/
def kRows (h : H4.ShapeCasts (M2 96 640)) (ht : (M2 96 640).Transposes [1, 0] (M2 640 96)) (hl : FTy.fp8e4m3.bits < FTy.bf16.bits) (k : FVec Ideal H4 .fp8e4m3) :
    FVec Ideal (M2 640 96) .fp8e4m3 :=
  truncf .fp8e4m3 (transpose (M2 640 96) [1, 0] (extf .bf16 (shapeCast (M2 96 640) k h) hl) ht) hl

/-- The value head, widened and transposed. -/
def vRows (h : H4.ShapeCasts (M2 96 640)) (ht : (M2 96 640).Transposes [1, 0] (M2 640 96)) (hl : FTy.fp8e4m3.bits < FTy.bf16.bits) (k : FVec Ideal H4 .fp8e4m3) :
    FVec Ideal (M2 640 96) .bf16 :=
  transpose (M2 640 96) [1, 0] (extf .bf16 (shapeCast (M2 96 640) k h) hl) ht

theorem kRows_apply (h : H4.ShapeCasts (M2 96 640)) (ht : (M2 96 640).Transposes [1, 0] (M2 640 96)) (hl : FTy.fp8e4m3.bits < FTy.bf16.bits) (k : FVec Ideal H4 .fp8e4m3)
    (r : Fin 640) (d : Fin 96) : kRows h ht hl k (ix2 r d) = k (ix4 0 0 d r) := by
  unfold kRows
  pointwise

theorem vRows_apply (h : H4.ShapeCasts (M2 96 640)) (ht : (M2 96 640).Transposes [1, 0] (M2 640 96)) (hl : FTy.fp8e4m3.bits < FTy.bf16.bits) (k : FVec Ideal H4 .fp8e4m3)
    (r : Fin 640) (d : Fin 96) : vRows h ht hl k (ix2 r d) = k (ix4 0 0 d r) := by
  unfold vRows
  pointwise

theorem cast5_apply {φ : FTy} (h : Q5.ShapeCasts (M2 96 128)) (q : FVec Ideal Q5 φ) (d : Fin 96) (c : Fin 128) :
    shapeCast (M2 96 128) q h (ix2 d c) = q (ix5 0 0 0 d c) := by
  pointwise

theorem cast3_apply {φ : FTy} (h : L3.ShapeCasts (M2 1 128)) (q : FVec Ideal L3 φ) (c : Fin 128) :
    shapeCast (M2 1 128) q h (ix2 0 c) = q (ix3 0 0 c) := by
  pointwise

theorem dosSlice_apply {o : ℕ} (ho : o + 128 ≤ 640) (h : R3.ShapeCasts (M2 1 640)) (hs : (M2 1 640).Slices ![0, o] (M2 1 128)) (x : FVec Ideal R3 .f32) (c : Fin 128) :
    extractStridedSlice (M2 1 128) ![0, o] (shapeCast (M2 1 640) x h) hs (ix2 0 c) = x (ix3 0 0 ⟨o + c.val, by omega⟩) := by
  pointwise

/-- The row of deltas: `Σ_d do·o`, times the row of scales. -/
def del (h5 : Q5.ShapeCasts (M2 96 128)) (hl : FTy.fp8e5m2.bits < FTy.bf16.bits) (hl' : FTy.bf16.bits < FTy.f32.bits)
    (hr : (M2 96 128).Reduces [0] ⟨1, ![128]⟩) (hk : FKind.Formats .f32) (hk' : (0x00000000#32 : BitVec FTy.f32.bits) = FKind.add.neutral .f32 hk) (h1 : (⟨1, ![128]⟩ : Shape).ShapeCasts (M2 1 128))
    (dO : FVec Ideal Q5 .fp8e5m2) (o : FVec Ideal Q5 .bf16) (dos : FVec Ideal (M2 1 128) .f32) : FVec Ideal (M2 1 128) .f32 :=
  mulf (shapeCast (M2 1 128) (multiReduction .add [0] ⟨1, ![128]⟩ (mulf (extf .f32 (extf .bf16 (shapeCast (M2 96 128) dO h5) hl) hl') (extf .f32 (shapeCast (M2 96 128) o h5) hl'))
    0x00000000#32 hr hk hk') h1) dos

theorem del_apply (h5 : Q5.ShapeCasts (M2 96 128)) (hl : FTy.fp8e5m2.bits < FTy.bf16.bits) (hl' : FTy.bf16.bits < FTy.f32.bits)
    (hr : (M2 96 128).Reduces [0] ⟨1, ![128]⟩) (hk : FKind.Formats .f32) (hk' : (0x00000000#32 : BitVec FTy.f32.bits) = FKind.add.neutral .f32 hk) (h1 : (⟨1, ![128]⟩ : Shape).ShapeCasts (M2 1 128))
    (dO : FVec Ideal Q5 .fp8e5m2) (o : FVec Ideal Q5 .bf16) (dos : FVec Ideal (M2 1 128) .f32) (c : Fin 128) :
    del h5 hl hl' hr hk hk' h1 dO o dos (ix2 0 c) = (∑ d : Fin 96, dO (ix5 0 0 0 d c) * o (ix5 0 0 0 d c)) * dos (ix2 0 c) := by
  unfold del
  pointwise

/-- The query block times its head's scale. -/
def qw (h5 : Q5.ShapeCasts (M2 96 128)) (hl : FTy.fp8e4m3.bits < FTy.bf16.bits) (hl' : FTy.bf16.bits < FTy.f32.bits) (hb : (M2 1 128).Broadcasts (M2 96 128))
    (hc : (M2 96 128).ShapeCasts (M2 96 128)) (q : FVec Ideal Q5 .fp8e4m3) (s : Ideal .f32) : FVec Ideal (M2 96 128) .bf16 :=
  shapeCast (M2 96 128) (mulf (extf .bf16 (shapeCast (M2 96 128) q h5) hl) (broadcastTo (M2 96 128) (truncf .bf16 (broadcast (M2 1 128) s) hl') hb)) hc

theorem qw_apply (h5 : Q5.ShapeCasts (M2 96 128)) (hl : FTy.fp8e4m3.bits < FTy.bf16.bits) (hl' : FTy.bf16.bits < FTy.f32.bits) (hb : (M2 1 128).Broadcasts (M2 96 128))
    (hc : (M2 96 128).ShapeCasts (M2 96 128)) (q : FVec Ideal Q5 .fp8e4m3) (s : Ideal .f32) (d : Fin 96) (c : Fin 128) :
    qw h5 hl hl' hb hc q s (ix2 d c) = q (ix5 0 0 0 d c) * s := by
  unfold qw
  pointwise

/-- The block of the output's gradient times the row of scales. -/
def dw (h5 : Q5.ShapeCasts (M2 96 128)) (hl : FTy.fp8e5m2.bits < FTy.bf16.bits) (hl' : FTy.bf16.bits < FTy.f32.bits) (hb : (M2 1 128).Broadcasts (M2 96 128))
    (hc : (M2 96 128).ShapeCasts (M2 96 128)) (q : FVec Ideal Q5 .fp8e5m2) (s : FVec Ideal (M2 1 128) .f32) : FVec Ideal (M2 96 128) .bf16 :=
  shapeCast (M2 96 128) (mulf (extf .bf16 (shapeCast (M2 96 128) q h5) hl) (broadcastTo (M2 96 128) (truncf .bf16 s hl') hb)) hc

theorem dw_apply (h5 : Q5.ShapeCasts (M2 96 128)) (hl : FTy.fp8e5m2.bits < FTy.bf16.bits) (hl' : FTy.bf16.bits < FTy.f32.bits) (hb : (M2 1 128).Broadcasts (M2 96 128))
    (hc : (M2 96 128).ShapeCasts (M2 96 128)) (q : FVec Ideal Q5 .fp8e5m2) (s : FVec Ideal (M2 1 128) .f32) (d : Fin 96) (c : Fin 128) :
    dw h5 hl hl' hb hc q s (ix2 d c) = q (ix5 0 0 0 d c) * s (ix2 0 c) := by
  unfold dw
  pointwise

/-- One head's block of the queries' gradient. -/
def dq (o : ℕ) (hl' : FTy.bf16.bits < FTy.f32.bits)
    (ho : (M2 96 512).Slices ![0, o] (M2 96 128)) (hc : (M2 96 128).ShapeCasts Q5) (K : FVec Ideal (M2 96 n) .bf16) (D : FVec Ideal (M2 n 512) .bf16) (s : Ideal .f32) : FVec Ideal Q5 .bf16 :=
  shapeCast Q5 (truncf .bf16 (extractStridedSlice (M2 96 128) ![0, o] (mulf (matmul (DotDims.plain 96 n 512) none
    K D (constant (M2 96 512) .f32 0x00000000#32)) (broadcast (M2 96 512) s)) ho) hl') hc

theorem dq_apply (o : ℕ) (ho' : o + 128 ≤ 512) (hl' : FTy.bf16.bits < FTy.f32.bits)
    (ho : (M2 96 512).Slices ![0, o] (M2 96 128)) (hc : (M2 96 128).ShapeCasts Q5) (K : FVec Ideal (M2 96 n) .bf16) (D : FVec Ideal (M2 n 512) .bf16) (s : Ideal .f32) (d : Fin 96) (c : Fin 128) :
    dq o hl' ho hc K D s (ix5 0 0 0 d c) = (∑ r : Fin n, K (ix2 d r) * D (ix2 r ⟨o + c.val, by omega⟩)) * s := by
  unfold dq
  have e : ∀ x : FVec Ideal (M2 96 512) .f32, shapeCast Q5 (truncf .bf16 (extractStridedSlice (M2 96 128) ![0, o] x ho) hl') hc (ix5 0 0 0 d c) = x (ix2 d ⟨o + c.val, by omega⟩) := by
    intro x
    pointwise
  rw [e]
  show matmul (DotDims.plain 96 n 512) none _ D (constant (M2 96 512) .f32 0x00000000#32) _ * s = _
  rw [mm_apply]
  pointwise

/-- A key head's block, its first `n` columns. -/
theorem cols_apply (hn : n ≤ 640) (h : H4.ShapeCasts (M2 96 640)) (hl : FTy.fp8e4m3.bits < FTy.bf16.bits) (hs : (M2 96 640).Slices ![0, 0] (M2 96 n)) (k : FVec Ideal H4 .fp8e4m3) (d : Fin 96) (r : Fin n) :
    extractStridedSlice (M2 96 n) ![0, 0] (extf .bf16 (shapeCast (M2 96 640) k h) hl) hs (ix2 d r) = k (ix4 0 0 d ⟨r, by omega⟩) := by
  pointwise

theorem cols_apply' (h : H4.ShapeCasts (M2 96 640)) (hl : FTy.fp8e4m3.bits < FTy.bf16.bits) (k : FVec Ideal H4 .fp8e4m3) (d : Fin 96) (r : Fin 640) :
    extf (F := Ideal) .bf16 (shapeCast (M2 96 640) k h) hl (ix2 d r) = k (ix4 0 0 d r) := by
  pointwise

/-- A block of columns of the values' gradient. -/
def dv (hl' : FTy.bf16.bits < FTy.f32.bits) (hc : (M2 96 m).ShapeCasts ⟨4, ![1, 1, 96, m]⟩) (W : FVec Ideal (M2 96 n) .bf16) (P : FVec Ideal (M2 m n) .bf16) :
    FVec Ideal ⟨4, ![1, 1, 96, m]⟩ .bf16 :=
  shapeCast ⟨4, ![1, 1, 96, m]⟩ (truncf .bf16 (matmul (DotDims.transposedRhs 96 n m) none W P (constant (M2 96 m) .f32 0x00000000#32)) hl') hc

theorem dv_apply (hl' : FTy.bf16.bits < FTy.f32.bits) (hc : (M2 96 m).ShapeCasts ⟨4, ![1, 1, 96, m]⟩) (W : FVec Ideal (M2 96 n) .bf16) (P : FVec Ideal (M2 m n) .bf16)
    (e : ∀ (x : FVec Ideal (M2 96 m) .f32) (d : Fin 96) (c : Fin m), shapeCast ⟨4, ![1, 1, 96, m]⟩ (truncf .bf16 x hl') hc (ix4 0 0 d c) = x (ix2 d c))
    (d : Fin 96) (c : Fin m) : dv hl' hc W P (ix4 0 0 d c) = ∑ w : Fin n, W (ix2 d w) * P (ix2 c w) := by
  unfold dv
  rw [e, mt_apply]
  pointwise

/-- A block of columns of the keys' gradient. -/
def dk (hl' : FTy.bf16.bits < FTy.f32.bits) (hc : (M2 96 m).ShapeCasts ⟨4, ![1, 1, 96, m]⟩) (W : FVec Ideal (M2 96 n) .bf16) (P : FVec Ideal (M2 m n) .bf16) (s : Ideal .f32) :
    FVec Ideal ⟨4, ![1, 1, 96, m]⟩ .bf16 :=
  shapeCast ⟨4, ![1, 1, 96, m]⟩ (truncf .bf16 (mulf (matmul (DotDims.transposedRhs 96 n m) none W P (constant (M2 96 m) .f32 0x00000000#32)) (broadcast (M2 96 m) s)) hl') hc

theorem dk_apply (hl' : FTy.bf16.bits < FTy.f32.bits) (hc : (M2 96 m).ShapeCasts ⟨4, ![1, 1, 96, m]⟩) (W : FVec Ideal (M2 96 n) .bf16) (P : FVec Ideal (M2 m n) .bf16) (s : Ideal .f32)
    (e : ∀ (x : FVec Ideal (M2 96 m) .f32) (d : Fin 96) (c : Fin m), shapeCast ⟨4, ![1, 1, 96, m]⟩ (truncf .bf16 x hl') hc (ix4 0 0 d c) = x (ix2 d c))
    (d : Fin 96) (c : Fin m) : dk hl' hc W P s (ix4 0 0 d c) = (∑ w : Fin n, W (ix2 d w) * P (ix2 c w)) * s := by
  unfold dk
  rw [e]
  show matmul (DotDims.transposedRhs 96 n m) none W P (constant (M2 96 m) .f32 0x00000000#32) _ * s = _
  rw [mt_apply]
  pointwise

theorem cast256 (hl' : FTy.bf16.bits < FTy.f32.bits) (hc : (M2 96 256).ShapeCasts ⟨4, ![1, 1, 96, 256]⟩) (x : FVec Ideal (M2 96 256) .f32) (d : Fin 96) (c : Fin 256) :
    shapeCast ⟨4, ![1, 1, 96, 256]⟩ (truncf .bf16 x hl') hc (ix4 0 0 d c) = x (ix2 d c) := by
  pointwise

theorem cast128 (hl' : FTy.bf16.bits < FTy.f32.bits) (hc : (M2 96 128).ShapeCasts ⟨4, ![1, 1, 96, 128]⟩) (x : FVec Ideal (M2 96 128) .f32) (d : Fin 96) (c : Fin 128) :
    shapeCast ⟨4, ![1, 1, 96, 128]⟩ (truncf .bf16 x hl') hc (ix4 0 0 d c) = x (ix2 d c) := by
  pointwise

end full

end Cert.KernelIdeal.Blk

end
-- ==== Proof.Forms.lean ====
/- The closed forms of what the kernel's body computes at one grid point, over the point's blocks (`Pt`), and for each
   kind of stored block the statement that its payload is the closed form on the rectangle it is stored to. -/
module

public import proofs.«01_k».proof.KernelIdeal
public import proofs.«01_k».proof.Proof.Blocks
public import Idealize.ShloMosaic.Lib.WholeRead
public import Idealize.ShloMosaic.Lib.Pipeline.ValueKit

@[expose] public section

set_option maxRecDepth 16384

noncomputable section

namespace Cert.KernelIdeal

open Idealize.ShloMosaic

/-- The softmax scale's constant. -/
def smK : EReal := Named.named (F := Ideal) (φ := .f32) κ "sm" 0x3DD105EC#32
/-- The softmax scale times the binary logarithm of `e`, as a constant. -/
def smlK : EReal := Named.named (F := Ideal) (φ := .f32) κ "sm_log2e" 0x3E16C740#32
/-- The binary logarithm of `e`, as a constant. -/
def lgK : EReal := Named.named (F := Ideal) (φ := .f32) κ "log2e" 0x3FB8AA3B#32

/-- One grid point's blocks: the four query heads of one key/value head of one batch. -/
structure Pt where
  qs : Fin 4 → EReal
  ks : EReal
  vs : EReal
  q : Fin 4 → Fin 96 → Fin 640 → EReal
  o : Fin 4 → Fin 96 → Fin 640 → EReal
  dO : Fin 4 → Fin 96 → Fin 640 → EReal
  k : Fin 96 → Fin 640 → EReal
  v : Fin 96 → Fin 640 → EReal
  l : Fin 4 → Fin 640 → EReal
  dos : Fin 640 → EReal

/-- The query head of a packed lane. -/
def grp (w : Fin 2560) : Fin 4 := ⟨w.val % 512 / 128, by omega⟩
/-- The query position of a packed lane. -/
def pos (w : Fin 2560) : Fin 640 := ⟨w.val / 512 * 128 + w.val % 128, by omega⟩

/-- The query position of lane `c` of block `i`. -/
def qp (i : Fin 5) (c : Fin 128) : Fin 640 := ⟨i.val * 128 + c.val, by omega⟩
/-- The query head `g` of key/value head `n`. -/
def qh (g : Fin 4) (n : Fin 8) : Fin 32 := ⟨g.val * 8 + n.val, by omega⟩

namespace Pt

variable (P : Pt)

/-- The probability of key `r` for query `t` of head `g`. -/
def p (g : Fin 4) (r t : Fin 640) : EReal :=
  if r.val ≤ t.val then Ideal.exp2 ((∑ d, P.k d r * P.q g d t) * (P.qs g * P.ks * smlK) - P.l g t) else 0
/-- The gradient of the score of key `r` for query `t` of head `g`. -/
def dS (g : Fin 4) (r t : Fin 640) : EReal :=
  P.p g r t * ((∑ d, P.v d r * P.dO g d t) * (P.dos t * P.vs) - (∑ d, P.dO g d t * P.o g d t) * P.dos t)
/-- The probabilities over packed lanes. -/
def c15 (r : Fin 640) (w : Fin 2560) : EReal := P.p (grp w) r (pos w)
/-- The score gradients over packed lanes. -/
def c16 (r : Fin 640) (w : Fin 2560) : EReal := P.dS (grp w) r (pos w)
/-- The scaled queries over packed lanes. -/
def c17 (d : Fin 96) (w : Fin 2560) : EReal := P.q (grp w) d (pos w) * P.qs (grp w)
/-- The scaled output gradients over packed lanes. -/
def c18 (d : Fin 96) (w : Fin 2560) : EReal := P.dO (grp w) d (pos w) * P.dos (pos w)
/-- The queries' gradient. -/
def dq (g : Fin 4) (d : Fin 96) (t : Fin 640) : EReal := (∑ r, P.k d r * P.dS g r t) * (P.ks * smK)
/-- The keys' gradient. -/
def dk (d : Fin 96) (r : Fin 640) : EReal := (∑ w, P.c17 d w * P.c16 r w) * smK
/-- The values' gradient. -/
def dv (d : Fin 96) (r : Fin 640) : EReal := ∑ w, P.c18 d w * P.c15 r w

theorem p_of_lt {g : Fin 4} {r t : Fin 640} (h : t.val < r.val) : P.p g r t = 0 := if_neg (by omega)

theorem dS_of_lt {g : Fin 4} {r t : Fin 640} (h : t.val < r.val) : P.dS g r t = 0 := by
  unfold dS
  rw [P.p_of_lt h, zero_mul]

end Pt

theorem grp_at (i : Fin 5) (g : Fin 4) (c : Fin 128) (w : Fin 2560) (h : w.val = i.val * 512 + g.val * 128 + c.val) : grp w = g := by
  apply Fin.ext; show w.val % 512 / 128 = _; omega

theorem pos_at (i : Fin 5) (g : Fin 4) (c : Fin 128) (w : Fin 2560) (h : w.val = i.val * 512 + g.val * 128 + c.val) : pos w = (qp i c) := by
  apply Fin.ext; show w.val / 512 * 128 + w.val % 128 = i.val * 128 + c.val; omega

namespace Blk

/-- A payload that is a closed form on the leading rows and the lanes from `o` on is that closed form on its rectangle. -/
theorem piece2 {R C n m o : ℕ} (G : Fin R → Fin C → EReal) (pay : (M2 n m).Idx → EReal)
    (inb : ∀ a, (![0, o] : Fin 2 → ℕ) a + (M2 n m).size a ≤ (M2 R C).size a)
    (h : ∀ (r : Fin n) (c : Fin m) (r' : Fin R) (c' : Fin C), r'.val = r.val → c'.val = o + c.val → pay (ix2 r c) = G r' c') :
    ∀ x : (M2 n m).Idx, pay x = G ((Rect.unit (s := M2 R C) ![0, o] (M2 n m).size inb).emb x 0) ((Rect.unit (s := M2 R C) ![0, o] (M2 n m).size inb).emb x 1) := by
  intro x
  have e : x = ix2 (x 0) (x 1) := by
    funext b
    match b with
    | ⟨0, _⟩ => rfl
    | ⟨1, _⟩ => rfl
  exact (congrArg pay e).trans (h (x 0) (x 1) _ _ (by show 0 + 1 * (x 0).val = _; omega) (by show o + 1 * (x 1).val = _; omega))

/-- What the operands of a block of probabilities hold. -/
structure PLoads {n : ℕ} (P : Pt) (g : Fin 4) (i : Fin 5) (k : FVec Ideal (M2 n 96) .fp8e4m3) (q : FVec Ideal (M2 96 128) .fp8e4m3) (qk : Ideal .f32) (l : FVec Ideal (M2 1 128) .f32) : Prop where
  hk : ∀ (r : Fin n) (d : Fin 96) (r' : Fin 640), r'.val = r.val → k (ix2 r d) = P.k d r'
  hq : ∀ (d : Fin 96) (c : Fin 128), q (ix2 d c) = P.q g d (qp i c)
  hqk : qk = P.qs g * P.ks * smlK
  hll : ∀ c : Fin 128, l (ix2 0 c) = P.l g (qp i c)

/-- What the further operands of a block of score gradients hold. -/
structure DLoads {n : ℕ} (P : Pt) (g : Fin 4) (i : Fin 5) (v : FVec Ideal (M2 n 96) .bf16) (dO : FVec Ideal (M2 96 128) .bf16) (sv dl : FVec Ideal (M2 1 128) .f32) : Prop where
  hv : ∀ (r : Fin n) (d : Fin 96) (r' : Fin 640), r'.val = r.val → v (ix2 r d) = P.v d r'
  hdO : ∀ (d : Fin 96) (c : Fin 128), dO (ix2 d c) = P.dO g d (qp i c)
  hsv : ∀ c : Fin 128, sv (ix2 0 c) = P.dos (qp i c) * P.vs
  hdl : ∀ c : Fin 128, dl (ix2 0 c) = (∑ d, P.dO g d (qp i c) * P.o g d (qp i c)) * P.dos (qp i c)

section stored
variable {n m o : ℕ} (P : Pt) (g : Fin 4) (i : Fin 5)

variable {hl : FTy.fp8e4m3.bits < FTy.bf16.bits} {h5 : Q5.ShapeCasts (M2 96 128)} {hl' : FTy.bf16.bits < FTy.f32.bits} {hle : FTy.fp8e5m2.bits < FTy.bf16.bits}
  {hb hb' : (M2 1 128).Broadcasts (M2 n 128)} {hb0 hb0' : (M2 1 128).Broadcasts (M2 128 128)}
  {hi0 : (M2 128 128).Iotas .tc 32 [0]} {hi1 : (M2 128 128).Iotas .tc 32 [1]} {ha : (M2 n 128).Slices ![0, 0] (M2 m 128)}
  {hbb : (M2 n 128).Slices ![m, 0] (M2 128 128)} {hcat : Shape.Concatenates [M2 m 128, M2 128 128] (M2 n 128) 0}
  {hss : (M2 n 128).ShapeCasts (M2 n 128)} {hss0 : (M2 128 128).ShapeCasts (M2 128 128)} {hR : R3.ShapeCasts (M2 1 640)} {od : ℕ} {hdo : (M2 1 640).Slices ![0, od] (M2 1 128)}
  {k : FVec Ideal (M2 n 96) .fp8e4m3} {v : FVec Ideal (M2 n 96) .bf16} {k0 : FVec Ideal (M2 128 96) .fp8e4m3} {v0 : FVec Ideal (M2 128 96) .bf16}
  {q : FVec Ideal (M2 96 128) .fp8e4m3} {qk : Ideal .f32} {l : FVec Ideal (M2 1 128) .f32} {dO : FVec Ideal (M2 96 128) .bf16} {sv dl : FVec Ideal (M2 1 128) .f32}

theorem self_apply {φ : FTy} {a b : ℕ} (h : (M2 a b).ShapeCasts (M2 a b)) (x : FVec Ideal (M2 a b) φ) (r : Fin a) (c : Fin b) :
    shapeCast (M2 a b) x h (ix2 r c) = x (ix2 r c) := by
  rw [shapeCast_self]

theorem narrow_apply {s : Shape} (h : FTy.bf16.bits < FTy.f32.bits) (x : FVec Ideal s .f32) (j : s.Idx) : truncf .bf16 x h j = x j := rfl

theorem p_apply (hn : n = m + 128) (hm : m = i.val * 128) (H : PLoads P g i k q qk l) (r : Fin n) (c : Fin 128) (r' t : Fin 640)
    (er : r'.val = r.val) (et : t.val = i.val * 128 + c.val) :
    pr n m hi0 hi1 ha hbb hcat (sc n hb k qk q l) (ix2 r c) = P.p g r' t := by
  have br : r.val < 640 := by omega
  have bt : i.val * 128 + c.val < 640 := by omega
  obtain rfl : r' = ⟨r.val, br⟩ := Fin.ext er
  obtain rfl : t = qp i c := Fin.ext et
  rw [pr_apply n m hn]
  unfold Pt.p
  rw [hm]
  refine if_congr Iff.rfl ?_ rfl
  rw [sc_apply n]
  simp only [fun d => H.hk r d ⟨r.val, br⟩ rfl, H.hq, H.hqk, H.hll]

theorem p0_apply (hi : i = 0) (H : PLoads P g i k0 q qk l) (r : Fin 128) (c : Fin 128) (r' t : Fin 640)
    (er : r'.val = r.val) (et : t.val = i.val * 128 + c.val) :
    pr0 hi0 hi1 (sc 128 hb0 k0 qk q l) (ix2 r c) = P.p g r' t := by
  have br : r.val < 640 := by omega
  have bt : i.val * 128 + c.val < 640 := by omega
  obtain rfl : r' = ⟨r.val, br⟩ := Fin.ext er
  obtain rfl : t = qp i c := Fin.ext et
  rw [pr0_apply]
  unfold Pt.p
  subst hi
  refine if_congr (by rw [show (qp 0 c).val = c.val from (by show 0 * 128 + c.val = _; omega)]) ?_ rfl
  rw [sc_apply 128]
  simp only [fun d => H.hk r d ⟨r.val, br⟩ rfl, H.hq, H.hqk, H.hll]

/-- A later block of probabilities is stored as the closed form. -/
theorem piece_p (hn : n = m + 128) (hm : m = i.val * 128) (ho : o = i.val * 512 + g.val * 128)
    {inb : ∀ a, (![0, o] : Fin 2 → ℕ) a + (M2 n 128).size a ≤ (M2 640 2560).size a} (H : PLoads P g i k q qk l) :
    ∀ x : (M2 n 128).Idx, shapeCast (M2 n 128) (truncf .bf16 (pr n m hi0 hi1 ha hbb hcat (sc n hb k qk q l)) hl') hss x
      = P.c15 ((Rect.unit (s := M2 640 2560) ![0, o] (M2 n 128).size inb).emb x 0) ((Rect.unit (s := M2 640 2560) ![0, o] (M2 n 128).size inb).emb x 1) := by
  refine piece2 P.c15 _ inb fun r c r' c' er ec => ?_
  rw [self_apply, narrow_apply]
  unfold Pt.c15
  rw [grp_at i g c c' (by omega), pos_at i g c c' (by omega)]
  exact p_apply P g i hn hm H r c _ _ er rfl

/-- The first block of probabilities is stored as the closed form. -/
theorem piece_p0 (hi : i = 0) (ho : o = i.val * 512 + g.val * 128)
    {inb : ∀ a, (![0, o] : Fin 2 → ℕ) a + (M2 128 128).size a ≤ (M2 640 2560).size a} (H : PLoads P g i k0 q qk l) :
    ∀ x : (M2 128 128).Idx, shapeCast (M2 128 128) (truncf .bf16 (pr0 hi0 hi1 (sc 128 hb0 k0 qk q l)) hl') hss0 x
      = P.c15 ((Rect.unit (s := M2 640 2560) ![0, o] (M2 128 128).size inb).emb x 0) ((Rect.unit (s := M2 640 2560) ![0, o] (M2 128 128).size inb).emb x 1) := by
  refine piece2 P.c15 _ inb fun r c r' c' er ec => ?_
  rw [self_apply, narrow_apply]
  unfold Pt.c15
  rw [grp_at i g c c' (by omega), pos_at i g c c' (by omega)]
  exact p0_apply P g i hi H r c _ _ er rfl

/-- The row of output scales of a block of queries. -/
abbrev dosF (od : ℕ) (hR : R3.ShapeCasts (M2 1 640)) (hdo : (M2 1 640).Slices ![0, od] (M2 1 128)) (ds : FVec Ideal R3 .f32) : FVec Ideal (M2 1 128) .f32 :=
  extractStridedSlice (M2 1 128) ![0, od] (shapeCast (M2 1 640) ds hR) hdo

theorem d_apply (hn : n ≤ 640) (D : DLoads P g i v dO sv dl) (Q : FVec Ideal (M2 n 128) .f32)
    (r : Fin n) (c : Fin 128) (r' t : Fin 640) (er : r'.val = r.val) (et : t.val = i.val * 128 + c.val) (hQ : Q (ix2 r c) = P.p g r' t) :
    ds n hb Q v dO sv dl (ix2 r c) = P.dS g r' t := by
  have br : r.val < 640 := by omega
  have bt : i.val * 128 + c.val < 640 := by omega
  obtain rfl : r' = ⟨r.val, br⟩ := Fin.ext er
  obtain rfl : t = qp i c := Fin.ext et
  rw [ds_apply n, hQ, D.hsv, D.hdl]
  simp only [fun d => D.hv r d ⟨r.val, br⟩ rfl, D.hdO]
  rfl

/-- A later block of score gradients is stored as the closed form. -/
theorem piece_d (hn : n = m + 128) (hm : m = i.val * 128) (ho : o = i.val * 512 + g.val * 128)
    {inb : ∀ a, (![0, o] : Fin 2 → ℕ) a + (M2 n 128).size a ≤ (M2 640 2560).size a} (H : PLoads P g i k q qk l) (D : DLoads P g i v dO sv dl) :
    ∀ x : (M2 n 128).Idx, shapeCast (M2 n 128) (truncf .bf16 (ds n hb' (pr n m hi0 hi1 ha hbb hcat (sc n hb k qk q l)) v dO sv dl) hl') hss x
      = P.c16 ((Rect.unit (s := M2 640 2560) ![0, o] (M2 n 128).size inb).emb x 0) ((Rect.unit (s := M2 640 2560) ![0, o] (M2 n 128).size inb).emb x 1) := by
  refine piece2 P.c16 _ inb fun r c r' c' er ec => ?_
  rw [self_apply, narrow_apply]
  unfold Pt.c16
  rw [grp_at i g c c' (by omega), pos_at i g c c' (by omega)]
  exact d_apply P g i (by omega) D _ r c _ _ er rfl (p_apply P g i hn hm H r c _ _ er rfl)

/-- The first block of score gradients is stored as the closed form. -/
theorem piece_d0 (hi : i = 0) (ho : o = i.val * 512 + g.val * 128)
    {inb : ∀ a, (![0, o] : Fin 2 → ℕ) a + (M2 128 128).size a ≤ (M2 640 2560).size a} (H : PLoads P g i k0 q qk l) (D : DLoads P g i v0 dO sv dl) :
    ∀ x : (M2 128 128).Idx, shapeCast (M2 128 128) (truncf .bf16 (ds 128 hb0' (pr0 hi0 hi1 (sc 128 hb0 k0 qk q l)) v0 dO sv dl) hl') hss0 x
      = P.c16 ((Rect.unit (s := M2 640 2560) ![0, o] (M2 128 128).size inb).emb x 0) ((Rect.unit (s := M2 640 2560) ![0, o] (M2 128 128).size inb).emb x 1) := by
  refine piece2 P.c16 _ inb fun r c r' c' er ec => ?_
  rw [self_apply, narrow_apply]
  unfold Pt.c16
  rw [grp_at i g c c' (by omega), pos_at i g c c' (by omega)]
  exact d_apply P g i (by omega) D _ r c _ _ er rfl (p0_apply P g i hi H r c _ _ er rfl)

/-- A block of scaled queries is stored as the closed form. -/
theorem piece_q {q : FVec Ideal Q5 .fp8e4m3} {hB : (M2 1 128).Broadcasts (M2 96 128)} {hc : (M2 96 128).ShapeCasts (M2 96 128)} {s : Ideal .f32} (ho : o = i.val * 512 + g.val * 128)
    {inb : ∀ a, (![0, o] : Fin 2 → ℕ) a + (M2 96 128).size a ≤ (M2 96 2560).size a}
    (hq : ∀ (d : Fin 96) (c : Fin 128), q (ix5 0 0 0 d c) = P.q g d (qp i c)) (hs : s = P.qs g) :
    ∀ x : (M2 96 128).Idx, qw h5 hl hl' hB hc q s x
      = P.c17 ((Rect.unit (s := M2 96 2560) ![0, o] (M2 96 128).size inb).emb x 0) ((Rect.unit (s := M2 96 2560) ![0, o] (M2 96 128).size inb).emb x 1) := by
  refine piece2 P.c17 _ inb fun r c r' c' er ec => ?_
  obtain rfl : r' = r := Fin.ext er
  unfold Pt.c17
  rw [qw_apply, grp_at i g c c' (by omega), pos_at i g c c' (by omega), hq, hs]

/-- A block of scaled output gradients is stored as the closed form. -/
theorem piece_o {dO : FVec Ideal Q5 .fp8e5m2} {ds : FVec Ideal R3 .f32} {hB : (M2 1 128).Broadcasts (M2 96 128)} {hc : (M2 96 128).ShapeCasts (M2 96 128)} (ho : o = i.val * 512 + g.val * 128) (hod : od = i.val * 128)
    {inb : ∀ a, (![0, o] : Fin 2 → ℕ) a + (M2 96 128).size a ≤ (M2 96 2560).size a}
    (hdO : ∀ (d : Fin 96) (c : Fin 128), dO (ix5 0 0 0 d c) = P.dO g d (qp i c)) (hds : ∀ t, ds (ix3 0 0 t) = P.dos t) :
    ∀ x : (M2 96 128).Idx, dw h5 hle hl' hB hc dO (dosF od hR hdo ds) x
      = P.c18 ((Rect.unit (s := M2 96 2560) ![0, o] (M2 96 128).size inb).emb x 0) ((Rect.unit (s := M2 96 2560) ![0, o] (M2 96 128).size inb).emb x 1) := by
  refine piece2 P.c18 _ inb fun r c r' c' er ec => ?_
  obtain rfl : r' = r := Fin.ext er
  unfold Pt.c18
  rw [dw_apply, grp_at i g c c' (by omega), pos_at i g c c' (by omega), hdO]
  congr 1
  unfold dosF
  rw [dosSlice_apply (by omega), hds]
  congr 1; apply Fin.ext; show od + c.val = i.val*128+c.val; omega

end stored

end Blk

end Cert.KernelIdeal

end
-- ==== Proof.Reads.lean ====
/- What the body's loads of its staged blocks read, at an index, and the point's blocks (`ptOf`) made of them. -/
module

public import proofs.«01_k».proof.Proof.Forms

@[expose] public section

set_option maxRecDepth 16384

noncomputable section

namespace Cert.KernelIdeal

open Idealize.ShloMosaic

/-- The key/value head of a grid point. -/
def head (i : grid0.Coords) : Fin 8 := ⟨(i 1).val, (i 1).isLt⟩

/-- The grid point's blocks, from the contents of the staged memrefs and of the scratch row of scaled log-sum-exps. -/
def ptOf (n : Fin 8) (x0 : Vec Ideal S32 .f32) (x1 x2 : Vec Ideal S8 .f32) (x3 : Vec Ideal S1x4x1x96x640 .fp8e4m3) (x4 x5 : Vec Ideal S1x1x96x640 .fp8e4m3)
    (x6 : Vec Ideal S1x4x1x96x640 .bf16) (x8 : Vec Ideal S1x4x1x96x640 .fp8e5m2) (x9 : Vec Ideal S1x1x640 .f32) (L : Vec Ideal S8x4x640 .f32) : Pt where
  qs g := x0 (ix1 (qh g n))
  ks := x1 (ix1 n)
  vs := x2 (ix1 n)
  q g d t := x3 (ix5 0 g 0 d t)
  o g d t := x6 (ix5 0 g 0 d t)
  dO g d t := x8 (ix5 0 g 0 d t)
  k d r := x4 (ix4 0 0 d r)
  v d r := x5 (ix4 0 0 d r)
  l g t := L (ix3 n g t)
  dos t := x9 (ix3 0 0 t)

section rd

theorem ofNat_head (i : grid0.Coords) : (BitVec.ofNat 32 (i 1).val).toNat = (i 1).val := by
  have := (head i).isLt
  rw [BitVec.toNat_ofNat, Nat.mod_eq_of_lt]
  show (head i).val < _
  omega

/-- The scalar of a key/value head. -/
theorem rd1 {arg : Memref sig .tc .smem S8 .f32} (h : arg.IsWhole) (x : Vec Ideal S8 .f32) (i : grid0.Coords)
    {inb : ∀ a, k0_off1 i a + S1.size a ≤ S8.size a} {hz : 0 < (Rect.unit (s := S8) (k0_off1 i) S1.size inb).toLoadRect.shape.numel} :
    View.readAt (Elt Ideal) arg.view (Rect.unit (s := S8) (k0_off1 i) S1.size inb).toLoadRect (h.unread x) (Shape.Idx.first hz) = x (ix1 (head i)) := by
  rw [h.readAt_unread]
  congr 1
  funext b
  match b with
  | ⟨0, _⟩ => exact Fin.ext (show (BitVec.ofNat 32 (i 1).val).toNat + 1 * 0 = (i 1).val from by rw [ofNat_head]; omega)

/-- The scalar of a query head. -/
theorem rd2 {arg : Memref sig .tc .smem S32 .f32} (h : arg.IsWhole) (x : Vec Ideal S32 .f32) (i : grid0.Coords) (g : Fin 4) {w : BitVec 32} (hw : w = BitVec.ofNat 32 (g.val * 8))
    {inb : ∀ a, k0_off2 i w a + S1.size a ≤ S32.size a} {hz : 0 < (Rect.unit (s := S32) (k0_off2 i w) S1.size inb).toLoadRect.shape.numel} :
    View.readAt (Elt Ideal) arg.view (Rect.unit (s := S32) (k0_off2 i w) S1.size inb).toLoadRect (h.unread x) (Shape.Idx.first hz) = x (ix1 (qh g (head i))) := by
  subst hw
  rw [h.readAt_unread]
  congr 1
  funext b
  match b with
  | ⟨0, _⟩ =>
    refine Fin.ext (show (BitVec.ofNat 32 (g.val * 8) + BitVec.ofNat 32 (i 1).val).toNat + 1 * 0 = g.val * 8 + (i 1).val from ?_)
    have := (head i).isLt
    have e : (head i).val = (i 1).val := rfl
    rw [BitVec.toNat_add, ofNat_head, BitVec.toNat_ofNat]
    omega

/-- A key or value head's block. -/
theorem rd4 {e : EltTy} {arg : Memref sig .tc .vmem S1x1x96x640 e} (h : arg.IsWhole) (x : Vec Ideal S1x1x96x640 e)
    {inb : ∀ a, (![0, 0, 0, 0] : Fin 4 → ℕ) a + S1x1x96x640.size a ≤ S1x1x96x640.size a} (d : Fin 96) (r : Fin 640) :
    View.readAt (Elt Ideal) arg.view (Rect.unit (s := S1x1x96x640) ![0, 0, 0, 0] S1x1x96x640.size inb).toLoadRect (h.unread x) (ix4 0 0 d r) = x (ix4 0 0 d r) := by
  rw [h.readAt_unread]
  congr 1
  funext b
  apply Fin.ext
  match b with
  | ⟨0, _⟩ => rfl
  | ⟨1, _⟩ => rfl
  | ⟨2, _⟩ => show 0 + 1 * d.val = d.val; omega
  | ⟨3, _⟩ => show 0 + 1 * r.val = r.val; omega

/-- A query block of a head. -/
theorem rd5 {e : EltTy} {arg : Memref sig .tc .vmem S1x4x1x96x640 e} (h : arg.IsWhole) (x : Vec Ideal S1x4x1x96x640 e) (g : Fin 4) (i : Fin 5) {gn o : ℕ} (hg : gn = g.val) (ho : o = i.val * 128)
    {inb : ∀ a, (![0, gn, 0, 0, o] : Fin 5 → ℕ) a + S1x1x1x96x128.size a ≤ S1x4x1x96x640.size a} (d : Fin 96) (c : Fin 128) :
    View.readAt (Elt Ideal) arg.view (Rect.unit (s := S1x4x1x96x640) ![0, gn, 0, 0, o] S1x1x1x96x128.size inb).toLoadRect (h.unread x) (ix5 0 0 0 d c)
      = x (ix5 0 g 0 d (qp i c)) := by
  rw [h.readAt_unread]
  congr 1
  funext b
  apply Fin.ext
  match b with
  | ⟨0, _⟩ => rfl
  | ⟨1, _⟩ => show gn + 1 * 0 = g.val; omega
  | ⟨2, _⟩ => rfl
  | ⟨3, _⟩ => show 0 + 1 * d.val = d.val; omega
  | ⟨4, _⟩ => show o + 1 * c.val = i.val * 128 + c.val; omega

/-- The row of output scales. -/
theorem rd3 {arg : Memref sig .tc .vmem S1x1x640 .f32} (h : arg.IsWhole) (x : Vec Ideal S1x1x640 .f32)
    {inb : ∀ a, (![0, 0, 0] : Fin 3 → ℕ) a + S1x1x640.size a ≤ S1x1x640.size a} (t : Fin 640) :
    View.readAt (Elt Ideal) arg.view (Rect.unit (s := S1x1x640) ![0, 0, 0] S1x1x640.size inb).toLoadRect (h.unread x) (ix3 0 0 t) = x (ix3 0 0 t) := by
  rw [h.readAt_unread]
  congr 1
  funext b
  apply Fin.ext
  match b with
  | ⟨0, _⟩ => rfl
  | ⟨1, _⟩ => rfl
  | ⟨2, _⟩ => show 0 + 1 * t.val = t.val; omega

/-- The offsets of a load of the scratch row's block. -/
structure OffL (off : Fin 3 → ℕ) (i : grid0.Coords) (g : Fin 4) (b : Fin 5) : Prop where
  e0 : off 0 = (BitVec.ofNat 32 (i 1).val).toNat
  e1 : off 1 = g.val
  e2 : off 2 = b.val * 128

theorem OffL.idx {off : Fin 3 → ℕ} {i : grid0.Coords} {g : Fin 4} {b : Fin 5} (H : OffL off i g b)
    {inb : ∀ a, off a + S1x1x128.size a ≤ S8x4x640.size a} (c : Fin 128) :
    (Rect.unit (s := S8x4x640) off S1x1x128.size inb).toLoadRect.idx (ix3 0 0 c) = ix3 (head i) g (qp b c) := by
  funext a
  apply Fin.ext
  match a with
  | ⟨0, _⟩ => show off 0 + 1 * 0 = (i 1).val; rw [H.e0, ofNat_head]; omega
  | ⟨1, _⟩ => show off 1 + 1 * 0 = g.val; rw [H.e1]; omega
  | ⟨2, _⟩ => show off 2 + 1 * c.val = b.val * 128 + c.val; rw [H.e2]; omega

/-- A block of the scratch row. -/
theorem rdL {arg : Memref sig .tc .vmem S8x4x640 .f32} (h : arg.IsWhole) (x : Vec Ideal S8x4x640 .f32) {off : Fin 3 → ℕ} {i : grid0.Coords} {g : Fin 4} {b : Fin 5} (H : OffL off i g b)
    {inb : ∀ a, off a + S1x1x128.size a ≤ S8x4x640.size a} (c : Fin 128) :
    View.readAt (Elt Ideal) arg.view (Rect.unit (s := S8x4x640) off S1x1x128.size inb).toLoadRect (h.unread x) (ix3 0 0 c)
      = x (ix3 (head i) g (qp b c)) := by
  rw [h.readAt_unread, H.idx]

end rd

section loads
variable {i : grid0.Coords} {arg2 : Memref sig .tc .smem S32 .f32} {harg2 : arg2.IsWhole} {arg3 : Memref sig .tc .smem S8 .f32} {harg3 : arg3.IsWhole}
  {arg4 : Memref sig .tc .smem S8 .f32} {harg4 : arg4.IsWhole} {arg5 : Memref sig .tc .vmem S1x4x1x96x640 .fp8e4m3} {harg5 : arg5.IsWhole}
  {arg6 : Memref sig .tc .vmem S1x1x96x640 .fp8e4m3} {harg6 : arg6.IsWhole} {arg7 : Memref sig .tc .vmem S1x1x96x640 .fp8e4m3} {harg7 : arg7.IsWhole}
  {arg8 : Memref sig .tc .vmem S1x4x1x96x640 .bf16} {harg8 : arg8.IsWhole} {arg10 : Memref sig .tc .vmem S1x4x1x96x640 .fp8e5m2} {harg10 : arg10.IsWhole}
  {arg11 : Memref sig .tc .vmem S1x1x640 .f32} {harg11 : arg11.IsWhole}
  {arg19 : Memref sig .tc .vmem S8x4x640 .f32} {harg19 : arg19.IsWhole}
  {x0 : Vec Ideal S32 .f32} {x1 x2 : Vec Ideal S8 .f32} {x3 : Vec Ideal S1x4x1x96x640 .fp8e4m3} {x4 x5 : Vec Ideal S1x1x96x640 .fp8e4m3}
  {x6 : Vec Ideal S1x4x1x96x640 .bf16} {x8 : Vec Ideal S1x4x1x96x640 .fp8e5m2} {x9 : Vec Ideal S1x1x640 .f32} {L : Vec Ideal S8x4x640 .f32}
  {g : Fin 4} {b : Fin 5} {w : BitVec 32} {gn o : ℕ}
  {inb1 : ∀ a, k0_off1 i a + S1.size a ≤ S8.size a} {hz1 : 0 < (Rect.unit (s := S8) (k0_off1 i) S1.size inb1).toLoadRect.shape.numel}
  {inb2 : ∀ a, k0_off2 i w a + S1.size a ≤ S32.size a} {hz2 : 0 < (Rect.unit (s := S32) (k0_off2 i w) S1.size inb2).toLoadRect.shape.numel}
  {inb4 : ∀ a, (![0, 0, 0, 0] : Fin 4 → ℕ) a + S1x1x96x640.size a ≤ S1x1x96x640.size a}
  {inb5 : ∀ a, (![0, gn, 0, 0, o] : Fin 5 → ℕ) a + S1x1x1x96x128.size a ≤ S1x4x1x96x640.size a}
  {inb3 : ∀ a, (![0, 0, 0] : Fin 3 → ℕ) a + S1x1x640.size a ≤ S1x1x640.size a}

/-- The key rows, of all of a head's. -/
theorem kw {h4 : Blk.H4.ShapeCasts (Blk.M2 96 640)} {ht : (Blk.M2 96 640).Transposes [1, 0] (Blk.M2 640 96)} {hl : FTy.fp8e4m3.bits < FTy.bf16.bits}
    (r : Fin 640) (d : Fin 96) (r' : Fin 640) (e : r'.val = r.val) :
    Blk.kRows h4 ht hl (View.readAt (Elt Ideal) arg6.view (Rect.unit (s := S1x1x96x640) ![0, 0, 0, 0] S1x1x96x640.size inb4).toLoadRect (harg6.unread x4)) (ix2 r d) = x4 (ix4 0 0 d r') := by
  obtain rfl : r' = r := Fin.ext e
  exact (Blk.kRows_apply h4 ht hl _ r' d).trans (rd4 harg6 x4 d r')

/-- The leading key rows. -/
theorem ks {n : ℕ} {h4 : Blk.H4.ShapeCasts (Blk.M2 96 640)} {ht : (Blk.M2 96 640).Transposes [1, 0] (Blk.M2 640 96)} {hl : FTy.fp8e4m3.bits < FTy.bf16.bits}
    {hs : (Blk.M2 640 96).Slices ![0, 0] (Blk.M2 n 96)} (r : Fin n) (d : Fin 96) (r' : Fin 640) (e : r'.val = r.val) :
    extractStridedSlice (Blk.M2 n 96) ![0, 0]
      (Blk.kRows h4 ht hl (View.readAt (Elt Ideal) arg6.view (Rect.unit (s := S1x1x96x640) ![0, 0, 0, 0] S1x1x96x640.size inb4).toLoadRect (harg6.unread x4))) hs (ix2 r d) = x4 (ix4 0 0 d r') := by
  rw [Blk.rows_apply 640 96]
  exact kw _ _ _ (by show r'.val = 0 + r.val; omega)

/-- The value rows, of all of a head's. -/
theorem vw {h4 : Blk.H4.ShapeCasts (Blk.M2 96 640)} {ht : (Blk.M2 96 640).Transposes [1, 0] (Blk.M2 640 96)} {hl : FTy.fp8e4m3.bits < FTy.bf16.bits}
    (r : Fin 640) (d : Fin 96) (r' : Fin 640) (e : r'.val = r.val) :
    Blk.vRows h4 ht hl (View.readAt (Elt Ideal) arg7.view (Rect.unit (s := S1x1x96x640) ![0, 0, 0, 0] S1x1x96x640.size inb4).toLoadRect (harg7.unread x5)) (ix2 r d) = x5 (ix4 0 0 d r') := by
  obtain rfl : r' = r := Fin.ext e
  exact (Blk.vRows_apply h4 ht hl _ r' d).trans (rd4 harg7 x5 d r')

/-- The leading value rows. -/
theorem vs {n : ℕ} {h4 : Blk.H4.ShapeCasts (Blk.M2 96 640)} {ht : (Blk.M2 96 640).Transposes [1, 0] (Blk.M2 640 96)} {hl : FTy.fp8e4m3.bits < FTy.bf16.bits}
    {hs : (Blk.M2 640 96).Slices ![0, 0] (Blk.M2 n 96)} (r : Fin n) (d : Fin 96) (r' : Fin 640) (e : r'.val = r.val) :
    extractStridedSlice (Blk.M2 n 96) ![0, 0]
      (Blk.vRows h4 ht hl (View.readAt (Elt Ideal) arg7.view (Rect.unit (s := S1x1x96x640) ![0, 0, 0, 0] S1x1x96x640.size inb4).toLoadRect (harg7.unread x5))) hs (ix2 r d) = x5 (ix4 0 0 d r') := by
  rw [Blk.rows_apply 640 96]
  exact vw _ _ _ (by show r'.val = 0 + r.val; omega)

/-- The query block. -/
theorem cq {h5 : Blk.Q5.ShapeCasts (Blk.M2 96 128)} (hg : gn = g.val) (ho : o = b.val * 128) (d : Fin 96) (c : Fin 128) :
    shapeCast (Blk.M2 96 128) (View.readAt (Elt Ideal) arg5.view (Rect.unit (s := S1x4x1x96x640) ![0, gn, 0, 0, o] S1x1x1x96x128.size inb5).toLoadRect (harg5.unread x3)) h5 (ix2 d c)
      = x3 (ix5 0 g 0 d (qp b c)) :=
  (Blk.cast5_apply (φ := .fp8e4m3) h5 _ d c).trans (rd5 harg5 x3 g b hg ho d c)

/-- The widened block of the output's gradient. -/
theorem cdO {h5 : Blk.Q5.ShapeCasts (Blk.M2 96 128)} {hle : FTy.fp8e5m2.bits < FTy.bf16.bits} (hg : gn = g.val) (ho : o = b.val * 128) (d : Fin 96) (c : Fin 128) :
    extf (F := Ideal) .bf16 (shapeCast (Blk.M2 96 128) (View.readAt (Elt Ideal) arg10.view (Rect.unit (s := S1x4x1x96x640) ![0, gn, 0, 0, o] S1x1x1x96x128.size inb5).toLoadRect (harg10.unread x8)) h5 : FVec Ideal (Blk.M2 96 128) .fp8e5m2) hle (ix2 d c)
      = (x8 (ix5 0 g 0 d (qp b c)) : EReal) :=
  (Blk.cast5_apply (φ := .fp8e5m2) h5 _ d c).trans (rd5 harg10 x8 g b hg ho d c)

/-- The scale of a head's scores. -/
theorem cqk (hw : w = BitVec.ofNat 32 (g.val * 8)) :
    Scalar.mulf (Scalar.mulf (View.readAt (Elt Ideal) arg2.view (Rect.unit (s := S32) (k0_off2 i w) S1.size inb2).toLoadRect (harg2.unread x0) (Shape.Idx.first hz2))
        (View.readAt (Elt Ideal) arg3.view (Rect.unit (s := S8) (k0_off1 i) S1.size inb1).toLoadRect (harg3.unread x1) (Shape.Idx.first hz1))) (Named.named (F := Ideal) (φ := .f32) κ "sm_log2e" 0x3E16C740#32)
      = x0 (ix1 (qh g (head i))) * x1 (ix1 (head i)) * smlK := by
  rw [rd2 harg2 x0 i g hw, rd1 harg3 x1 i]; rfl

/-- The row of scaled log-sum-exps. -/
theorem cl {h3 : Blk.L3.ShapeCasts (Blk.M2 1 128)} {off : Fin 3 → ℕ} (H : OffL off i g b) {inb : ∀ a, off a + S1x1x128.size a ≤ S8x4x640.size a} (c : Fin 128) :
    shapeCast (Blk.M2 1 128) (View.readAt (Elt Ideal) arg19.view (Rect.unit (s := S8x4x640) off S1x1x128.size inb).toLoadRect (harg19.unread L)) h3 (ix2 0 c)
      = L (ix3 (head i) g (qp b c)) :=
  (Blk.cast3_apply (φ := .f32) h3 _ c).trans (rdL harg19 L H c)

theorem cdos {hR : Blk.R3.ShapeCasts (Blk.M2 1 640)} {hdo : (Blk.M2 1 640).Slices ![0, o] (Blk.M2 1 128)} (ho : o = b.val * 128) (c : Fin 128) :
    Blk.dosF o hR hdo (View.readAt (Elt Ideal) arg11.view (Rect.unit (s := S1x1x640) ![0, 0, 0] S1x1x640.size inb3).toLoadRect (harg11.unread x9)) (ix2 0 c)
      = x9 (ix3 0 0 (qp b c)) := by
  unfold Blk.dosF
  rw [Blk.dosSlice_apply (by omega)]
  refine (rd3 harg11 x9 _).trans ?_
  congr 1; congr 1; apply Fin.ext; show o + c.val = b.val * 128 + c.val; omega

/-- The row of output scales times the value scale. -/
theorem csv {hR : Blk.R3.ShapeCasts (Blk.M2 1 640)} {hdo : (Blk.M2 1 640).Slices ![0, o] (Blk.M2 1 128)} (ho : o = b.val * 128) (c : Fin 128) :
    mulf (Blk.dosF o hR hdo (View.readAt (Elt Ideal) arg11.view (Rect.unit (s := S1x1x640) ![0, 0, 0] S1x1x640.size inb3).toLoadRect (harg11.unread x9)))
      (broadcast (Blk.M2 1 128) (View.readAt (Elt Ideal) arg4.view (Rect.unit (s := S8) (k0_off1 i) S1.size inb1).toLoadRect (harg4.unread x2) (Shape.Idx.first hz1))) (ix2 0 c)
      = x9 (ix3 0 0 (qp b c)) * x2 (ix1 (head i)) := by
  rw [← cdos (x9 := x9) (arg11 := arg11) (harg11 := harg11) (inb3 := inb3) (hR := hR) (hdo := hdo) ho c, ← rd1 harg4 x2 i (inb := inb1) (hz := hz1)]
  rfl

/-- The row of deltas. -/
theorem cdl {h5' : Blk.Q5.ShapeCasts (Blk.M2 96 128)} {hle : FTy.fp8e5m2.bits < FTy.bf16.bits} {hl' : FTy.bf16.bits < FTy.f32.bits}
    {hr : (Blk.M2 96 128).Reduces [0] ⟨1, ![128]⟩} {hk1 : FKind.Formats .f32} {hk2 : (0x00000000#32 : BitVec FTy.f32.bits) = FKind.add.neutral .f32 hk1}
    {h1 : (⟨1, ![128]⟩ : Shape).ShapeCasts (Blk.M2 1 128)}
    {hR : Blk.R3.ShapeCasts (Blk.M2 1 640)} {hdo : (Blk.M2 1 640).Slices ![0, o] (Blk.M2 1 128)} (hg : gn = g.val) (ho : o = b.val * 128) (c : Fin 128) :
    Blk.del h5' hle hl' hr hk1 hk2 h1
      (View.readAt (Elt Ideal) arg10.view (Rect.unit (s := S1x4x1x96x640) ![0, gn, 0, 0, o] S1x1x1x96x128.size inb5).toLoadRect (harg10.unread x8))
      (View.readAt (Elt Ideal) arg8.view (Rect.unit (s := S1x4x1x96x640) ![0, gn, 0, 0, o] S1x1x1x96x128.size inb5).toLoadRect (harg8.unread x6))
      (Blk.dosF o hR hdo (View.readAt (Elt Ideal) arg11.view (Rect.unit (s := S1x1x640) ![0, 0, 0] S1x1x640.size inb3).toLoadRect (harg11.unread x9))) (ix2 0 c)
      = (∑ d : Fin 96, x8 (ix5 0 g 0 d (qp b c)) * x6 (ix5 0 g 0 d (qp b c))) * x9 (ix3 0 0 (qp b c)) := by
  rw [Blk.del_apply, cdos ho]
  congr 1
  refine Finset.sum_congr rfl fun d _ => ?_
  exact congrArg₂ (· * ·) (rd5 harg10 x8 g b hg ho d c) (rd5 harg8 x6 g b hg ho d c)

/-- The stored block of scaled queries. -/
theorem spq {on : ℕ} {h5 : Blk.Q5.ShapeCasts (Blk.M2 96 128)} {hl : FTy.fp8e4m3.bits < FTy.bf16.bits} {hl' : FTy.bf16.bits < FTy.f32.bits} {hB : (Blk.M2 1 128).Broadcasts (Blk.M2 96 128)}
    {hc : (Blk.M2 96 128).ShapeCasts (Blk.M2 96 128)} (hw : w = BitVec.ofNat 32 (g.val * 8)) (hg : gn = g.val) (ho : o = b.val * 128) (hon : on = b.val * 512 + g.val * 128)
    {inb : ∀ a, (![0, on] : Fin 2 → ℕ) a + (Blk.M2 96 128).size a ≤ (Blk.M2 96 2560).size a} :
    ∀ x : (Blk.M2 96 128).Idx, Blk.qw h5 hl hl' hB hc
      (View.readAt (Elt Ideal) arg5.view (Rect.unit (s := S1x4x1x96x640) ![0, gn, 0, 0, o] S1x1x1x96x128.size inb5).toLoadRect (harg5.unread x3))
      (View.readAt (Elt Ideal) arg2.view (Rect.unit (s := S32) (k0_off2 i w) S1.size inb2).toLoadRect (harg2.unread x0) (Shape.Idx.first hz2)) x
      = (ptOf (head i) x0 x1 x2 x3 x4 x5 x6 x8 x9 L).c17 ((Rect.unit (s := Blk.M2 96 2560) ![0, on] (Blk.M2 96 128).size inb).emb x 0)
        ((Rect.unit (s := Blk.M2 96 2560) ![0, on] (Blk.M2 96 128).size inb).emb x 1) :=
  Blk.piece_q (ptOf (head i) x0 x1 x2 x3 x4 x5 x6 x8 x9 L) g b hon (rd5 harg5 x3 g b hg ho) (rd2 harg2 x0 i g hw)

/-- The stored block of scaled output gradients. -/
theorem spo {on : ℕ} {h5 : Blk.Q5.ShapeCasts (Blk.M2 96 128)} {hle : FTy.fp8e5m2.bits < FTy.bf16.bits} {hl' : FTy.bf16.bits < FTy.f32.bits} {hB : (Blk.M2 1 128).Broadcasts (Blk.M2 96 128)}
    {hc : (Blk.M2 96 128).ShapeCasts (Blk.M2 96 128)} {hR : Blk.R3.ShapeCasts (Blk.M2 1 640)} {hdo : (Blk.M2 1 640).Slices ![0, o] (Blk.M2 1 128)}
    (hg : gn = g.val) (ho : o = b.val * 128) (hon : on = b.val * 512 + g.val * 128)
    {inb : ∀ a, (![0, on] : Fin 2 → ℕ) a + (Blk.M2 96 128).size a ≤ (Blk.M2 96 2560).size a} :
    ∀ x : (Blk.M2 96 128).Idx, Blk.dw h5 hle hl' hB hc
      (View.readAt (Elt Ideal) arg10.view (Rect.unit (s := S1x4x1x96x640) ![0, gn, 0, 0, o] S1x1x1x96x128.size inb5).toLoadRect (harg10.unread x8))
      (Blk.dosF o hR hdo (View.readAt (Elt Ideal) arg11.view (Rect.unit (s := S1x1x640) ![0, 0, 0] S1x1x640.size inb3).toLoadRect (harg11.unread x9))) x
      = (ptOf (head i) x0 x1 x2 x3 x4 x5 x6 x8 x9 L).c18 ((Rect.unit (s := Blk.M2 96 2560) ![0, on] (Blk.M2 96 128).size inb).emb x 0)
        ((Rect.unit (s := Blk.M2 96 2560) ![0, on] (Blk.M2 96 128).size inb).emb x 1) :=
  Blk.piece_o (ptOf (head i) x0 x1 x2 x3 x4 x5 x6 x8 x9 L) g b hon ho (rd5 harg10 x8 g b hg ho) (rd3 harg11 x9)

end loads

/-- The scaled log-sum-exps of a batch entry, laid out as the scratch keeps them. -/
def lseOf (x7 : Vec Ideal S1x4x8x640 .f32) : Vec Ideal S8x4x640 .f32 :=
  fun y => x7 (ix4 (0 : Fin 1) ((y 1 : Fin 4)) ((y 0 : Fin 8)) ((y 2 : Fin 640))) * lgK

/-- A stored row of scaled log-sum-exps. -/
theorem lseP (arg9 : Memref sig .tc .vmem S1x4x8x640 .f32) (harg9 : arg9.IsWhole) (x7 : Vec Ideal S1x4x8x640 .f32) (n g : ℕ) (hn : n < 8) (hg : g < 4)
    {inb : ∀ a, (![0, g, n, 0] : Fin 4 → ℕ) a + S1x1x1x640.size a ≤ S1x4x8x640.size a}
    {inbo : ∀ a, (![n, g, 0] : Fin 3 → ℕ) a + S1x1x640.size a ≤ S8x4x640.size a}
    {h1 : S1x1x1x640.ShapeCasts S1x640} {h2 : S1x640.ShapeCasts S1x1x640} :
    ∀ x : (Rect.unit (s := S8x4x640) ![n, g, 0] S1x1x640.size inbo).shape.Idx,
      shapeCast S1x1x640 (mulf (F := Ideal) (φ := .f32) (shapeCast S1x640 (View.readAt (Elt Ideal) arg9.view (Rect.unit (s := S1x4x8x640) ![0, g, n, 0] S1x1x1x640.size inb).toLoadRect (harg9.unread x7)) h1)
        (broadcast S1x640 (Named.named (F := Ideal) κ "log2e" (0x3FB8AA3B#32 : BitVec FTy.f32.bits)))) h2 x
        = lseOf x7 ((Rect.unit (s := S8x4x640) ![n, g, 0] S1x1x640.size inbo).emb x) := by
  intro (x : S1x1x640.Idx)
  obtain ⟨a, b, t, rfl⟩ : ∃ (a : Fin 1) (b : Fin 1) (t : Fin 640), x = ix3 a b t := ⟨x 0, x 1, x 2, by funext k; match k with | ⟨0, _⟩ => rfl | ⟨1, _⟩ => rfl | ⟨2, _⟩ => rfl⟩
  obtain rfl : a = 0 := Subsingleton.elim _ _
  obtain rfl : b = 0 := Subsingleton.elim _ _
  have e : View.readAt (Elt Ideal) arg9.view (Rect.unit (s := S1x4x8x640) ![0, g, n, 0] S1x1x1x640.size inb).toLoadRect (harg9.unread x7) (ix4 0 0 0 t)
      = x7 (ix4 (0 : Fin 1) (⟨g, hg⟩ : Fin 4) (⟨n, hn⟩ : Fin 8) t) := by
    rw [harg9.readAt_unread]
    congr 1
    funext k
    apply Fin.ext
    match k with
    | ⟨0, _⟩ => rfl
    | ⟨1, _⟩ => show g + 1 * 0 = g; omega
    | ⟨2, _⟩ => show n + 1 * 0 = n; omega
    | ⟨3, _⟩ => show 0 + 1 * t.val = t.val; omega
  have e' : lseOf x7 ((Rect.unit (s := S8x4x640) ![n, g, 0] S1x1x640.size inbo).emb (ix3 0 0 t)) = x7 (ix4 (0 : Fin 1) (⟨g, hg⟩ : Fin 4) (⟨n, hn⟩ : Fin 8) t) * lgK := by
    unfold lseOf
    congr 2
    funext k
    apply Fin.ext
    match k with
    | ⟨0, _⟩ => rfl
    | ⟨1, _⟩ => show g + 1 * 0 = g; omega
    | ⟨2, _⟩ => show n + 1 * 0 = n; omega
    | ⟨3, _⟩ => show 0 + 1 * t.val = t.val; omega
  refine Eq.trans ?_ e'.symm
  rw [← e]
  generalize View.readAt (Elt Ideal) arg9.view (Rect.unit (s := S1x4x8x640) ![0, g, n, 0] S1x1x1x640.size inb).toLoadRect (harg9.unread x7) = v
  have c1 : (shapeCast S1x640 v h1 : FVec Ideal S1x640 .f32) (ix2 0 t) = v (ix4 0 0 0 t) := by pointwise
  refine Eq.trans (b := mulf (F := Ideal) (φ := .f32) (shapeCast S1x640 v h1) (broadcast S1x640 (Named.named (F := Ideal) κ "log2e" (0x3FB8AA3B#32 : BitVec FTy.f32.bits))) (ix2 0 t)) ?_ ?_
  · generalize mulf (F := Ideal) (φ := .f32) (shapeCast S1x640 v h1) (broadcast S1x640 (Named.named (F := Ideal) κ "log2e" (0x3FB8AA3B#32 : BitVec FTy.f32.bits))) = u
    pointwise
  · rw [← c1]; rfl

/-- A block of the scratch rows of scaled log-sum-exps read after the point's own stores. -/
theorem clw (arg19 : Memref sig .tc .vmem S8x4x640 .f32) (L : Vec Ideal S8x4x640 .f32) {Lst : List (View.Piece (Elt Ideal) S8x4x640 .f32)}
    (hp : ∀ p ∈ Lst, ∀ x : p.1.shape.Idx, p.2 x = L (p.1.emb x)) (hc : ∀ y : S8x4x640.Idx, ∃ p ∈ Lst, y ∈ p.1.set)
    {h3 : Blk.L3.ShapeCasts (Blk.M2 1 128)} {off : Fin 3 → ℕ} {i : grid0.Coords} {g : Fin 4} {b : Fin 5} (H : OffL off i g b) {inb : ∀ a, off a + S1x1x128.size a ≤ S8x4x640.size a} (c : Fin 128) :
    shapeCast (Blk.M2 1 128) (View.readAt (Elt Ideal) arg19.view (Rect.unit (s := S8x4x640) off S1x1x128.size inb).toLoadRect (arg19.view.writes (Elt Ideal) arg19.view.junk Lst)) h3 (ix2 0 c)
      = L (ix3 (head i) g (qp b c)) := by
  refine (Blk.cast3_apply (φ := .f32) h3 _ c).trans ?_
  rw [View.readAt_apply, H.idx]
  exact View.read_writes_apply_of_pieces _ _ L Lst hp _ (hc _)

end Cert.KernelIdeal

end
-- ==== Proof.Entry.lean ====
/- The arrays the grid reads, as entries of the arguments. -/
module

public import proofs.«01_k».proof.Proof.Reads
public import proofs.«01_k».proof.Proof.Gen.KernelIdeal.Frame
public import Idealize.ShloMosaic.Lib.Pipeline.ValueKit
public import Idealize.ShloMosaic.Lib.Claim
public import Idealize.ShloMosaic.Lib.StableHlo.RunRead

@[expose] public section

set_option maxRecDepth 16384

noncomputable section

namespace Cert.KernelIdeal.Value

open Idealize.ShloMosaic Idealize.ShloMosaic.TcCoe Idealize.SL.Sem Cert.KernelIdeal.Gen
open Idealize.ShloMosaic.Pipeline (Dat)

/-- The quantities of one batch and one key head, as entries of the arguments. -/
def pt (a0 : FVec Ideal S2x640x32x96 .fp8e4m3) (a1 : FVec Ideal S32 .f32) (a2 : FVec Ideal S2x640x8x96 .fp8e4m3) (a3 : FVec Ideal S8 .f32)
    (a4 : FVec Ideal S2x640x8x96 .fp8e4m3) (a5 : FVec Ideal S8 .f32) (a6 : FVec Ideal S2x640x32x96 .bf16) (a7 : FVec Ideal S2x32x640 .f32)
    (a8 : FVec Ideal S2x640x32x96 .fp8e5m2) (a9 : FVec Ideal S2x640 .f32) (b : Fin 2) (n : Fin 8) : Pt where
  qs g := a1 (ix1 (qh g n))
  ks := a3 (ix1 n)
  vs := a5 (ix1 n)
  q g d t := a0 (ix4 b t (qh g n) d)
  o g d t := a6 (ix4 b t (qh g n) d)
  dO g d t := a8 (ix4 b t (qh g n) d)
  k d r := a2 (ix4 b r n d)
  v d r := a4 (ix4 b r n d)
  l g t := a7 (ix3 b (qh g n) t) * lgK
  dos t := a9 (ix2 b t)

variable (m : (ℓ : Loc nD τ sig) → Buf (Elt Ideal) ℓ)

/-- The transposed queries, at an index. -/
theorem entry_q (c : Dev nD) (b : Fin 2) (g : Fin 4) (n : Fin 8) (d : Fin 96) (t : Fin 640) :
    (V m c main_v1 : FVec Ideal S2x4x8x96x640 .fp8e4m3) (ix5 b g n d t) = (m ((c : Thread nD τ).loc main_arg0) : FVec Ideal S2x640x32x96 .fp8e4m3) (ix4 b t (qh g n) d) := by
  unfold V V0
  simp only [List.flatten_cons, List.flatten_nil, List.append_nil]
  after_reads_simp
  pointwise
  rfl

/-- The transposed outputs, at an index. -/
theorem entry_o (c : Dev nD) (b : Fin 2) (g : Fin 4) (n : Fin 8) (d : Fin 96) (t : Fin 640) :
    (V m c main_v3 : FVec Ideal S2x4x8x96x640 .bf16) (ix5 b g n d t) = (m ((c : Thread nD τ).loc main_arg6) : FVec Ideal S2x640x32x96 .bf16) (ix4 b t (qh g n) d) := by
  unfold V V0
  simp only [List.flatten_cons, List.flatten_nil, List.append_nil]
  after_reads_simp
  pointwise
  rfl

/-- The transposed gradient of the output, at an index. -/
theorem entry_do (c : Dev nD) (b : Fin 2) (g : Fin 4) (n : Fin 8) (d : Fin 96) (t : Fin 640) :
    (V m c main_v5 : FVec Ideal S2x4x8x96x640 .fp8e5m2) (ix5 b g n d t) = (m ((c : Thread nD τ).loc main_arg8) : FVec Ideal S2x640x32x96 .fp8e5m2) (ix4 b t (qh g n) d) := by
  unfold V V0
  simp only [List.flatten_cons, List.flatten_nil, List.append_nil]
  after_reads_simp
  pointwise
  rfl

/-- The transposed keys, at an index. -/
theorem entry_k (c : Dev nD) (b : Fin 2) (n : Fin 8) (d : Fin 96) (t : Fin 640) :
    (V m c main_v8 : FVec Ideal S2x8x96x640 .fp8e4m3) (ix4 b n d t) = (m ((c : Thread nD τ).loc main_arg2) : FVec Ideal S2x640x8x96 .fp8e4m3) (ix4 b t n d) := by
  unfold V V0
  simp only [List.flatten_cons, List.flatten_nil, List.append_nil]
  after_reads_simp
  pointwise

/-- The transposed values, at an index. -/
theorem entry_v (c : Dev nD) (b : Fin 2) (n : Fin 8) (d : Fin 96) (t : Fin 640) :
    (V m c main_v11 : FVec Ideal S2x8x96x640 .fp8e4m3) (ix4 b n d t) = (m ((c : Thread nD τ).loc main_arg4) : FVec Ideal S2x640x8x96 .fp8e4m3) (ix4 b t n d) := by
  unfold V V0
  simp only [List.flatten_cons, List.flatten_nil, List.append_nil]
  after_reads_simp
  pointwise

/-- The log-sum-exps by group and key head, at an index. -/
theorem entry_l (c : Dev nD) (b : Fin 2) (g : Fin 4) (n : Fin 8) (t : Fin 640) :
    (V m c main_v12 : FVec Ideal S2x4x8x640 .f32) (ix4 b g n t) = (m ((c : Thread nD τ).loc main_arg7) : FVec Ideal S2x32x640 .f32) (ix3 b (qh g n) t) := by
  unfold V V0
  simp only [List.flatten_cons, List.flatten_nil, List.append_nil]
  after_reads_simp
  pointwise
  rfl

/-- The scales of the output's gradient, at an index. -/
theorem entry_s (c : Dev nD) (b : Fin 2) (t : Fin 640) :
    (V m c main_v13 : FVec Ideal S2x1x640 .f32) (ix3 b 0 t) = (m ((c : Thread nD τ).loc main_arg9) : FVec Ideal S2x640 .f32) (ix2 b t) := by
  unfold V V0
  simp only [List.flatten_cons, List.flatten_nil, List.append_nil]
  after_reads_simp
  pointwise

end Cert.KernelIdeal.Value

end
-- ==== Proof.BlkAt.lean ====
/- The blocks of a grid point as entries of the arguments. -/
module

public import proofs.«01_k».proof.Proof.Entry
public import proofs.«01_k».proof.Proof.Gen.KernelIdeal.Frame
public import Idealize.ShloMosaic.Lib.Pipeline.ValueKit
public import Idealize.ShloMosaic.Lib.Claim
public import Idealize.ShloMosaic.Lib.StableHlo.RunRead

@[expose] public section

set_option maxRecDepth 16384

noncomputable section

namespace Cert.KernelIdeal.Value

open Idealize.ShloMosaic Idealize.ShloMosaic.TcCoe Idealize.SL.Sem Cert.KernelIdeal.Gen
open Idealize.ShloMosaic.Pipeline (Dat)

variable (m : (ℓ : Loc nD τ sig) → Buf (Elt Ideal) ℓ)

/-- Which block each window takes at a grid point. -/
theorem idx : ∀ t : Fin cfg0.N, win0_0.index t = ![0] ∧ win0_1.index t = ![0] ∧ win0_2.index t = ![0]
    ∧ win0_3.index t = ![t.val / 8, 0, t.val % 8, 0, 0] ∧ win0_4.index t = ![t.val / 8, t.val % 8, 0, 0]
    ∧ win0_5.index t = ![t.val / 8, t.val % 8, 0, 0] ∧ win0_6.index t = ![t.val / 8, 0, t.val % 8, 0, 0]
    ∧ win0_7.index t = ![t.val / 8, 0, 0, 0] ∧ win0_8.index t = ![t.val / 8, 0, t.val % 8, 0, 0]
    ∧ win0_9.index t = ![t.val / 8, 0, 0] ∧ win0_10.index t = ![t.val / 8, 0, t.val % 8, 0, 0]
    ∧ win0_11.index t = ![t.val / 8, t.val % 8, 0, 0] ∧ win0_12.index t = ![t.val / 8, t.val % 8, 0, 0] ∧ t.val / 8 < 2 :=
  (by decide +kernel : ∀ t : Fin grid0.N, _)

/-- The batch of a grid point. -/
def bat (t : Fin cfg0.N) : Fin 2 := ⟨t.val / 8, (idx t).2.2.2.2.2.2.2.2.2.2.2.2.2⟩

/-- The key head of a grid point. -/
def hd (t : Fin cfg0.N) : Fin 8 := ⟨t.val % 8, Nat.mod_lt _ (by decide)⟩

/-- The block of queries of a grid point. -/
theorem blk_q (c : Dev nD) (t : Fin cfg0.N) (g : Fin 4) (d : Fin 96) (s : Fin 640) :
    (iblk m c 3 t : Vec Ideal S1x4x1x96x640 .fp8e4m3) (ix5 0 g 0 d s) = (m ((c : Thread nD τ).loc main_arg0) : FVec Ideal S2x640x32x96 .fp8e4m3) (ix4 (bat t) s (qh g (hd t)) d) := by
  refine Eq.trans (b := (V m c main_v1 : FVec Ideal S2x4x8x96x640 .fp8e4m3) (ix5 (bat t) g (hd t) d s)) ?_ (entry_q m c _ _ _ _ _)
  blk_ext! [iblk, idx t, bat, hd]

/-- The block of outputs of a grid point. -/
theorem blk_o (c : Dev nD) (t : Fin cfg0.N) (g : Fin 4) (d : Fin 96) (s : Fin 640) :
    (iblk m c 6 t : Vec Ideal S1x4x1x96x640 .bf16) (ix5 0 g 0 d s) = (m ((c : Thread nD τ).loc main_arg6) : FVec Ideal S2x640x32x96 .bf16) (ix4 (bat t) s (qh g (hd t)) d) := by
  refine Eq.trans (b := (V m c main_v3 : FVec Ideal S2x4x8x96x640 .bf16) (ix5 (bat t) g (hd t) d s)) ?_ (entry_o m c _ _ _ _ _)
  blk_ext! [iblk, idx t, bat, hd]

/-- The block of gradients of the output of a grid point. -/
theorem blk_do (c : Dev nD) (t : Fin cfg0.N) (g : Fin 4) (d : Fin 96) (s : Fin 640) :
    (iblk m c 8 t : Vec Ideal S1x4x1x96x640 .fp8e5m2) (ix5 0 g 0 d s) = (m ((c : Thread nD τ).loc main_arg8) : FVec Ideal S2x640x32x96 .fp8e5m2) (ix4 (bat t) s (qh g (hd t)) d) := by
  refine Eq.trans (b := (V m c main_v5 : FVec Ideal S2x4x8x96x640 .fp8e5m2) (ix5 (bat t) g (hd t) d s)) ?_ (entry_do m c _ _ _ _ _)
  blk_ext! [iblk, idx t, bat, hd]

/-- The block of keys of a grid point. -/
theorem blk_k (c : Dev nD) (t : Fin cfg0.N) (d : Fin 96) (s : Fin 640) :
    (iblk m c 4 t : Vec Ideal S1x1x96x640 .fp8e4m3) (ix4 0 0 d s) = (m ((c : Thread nD τ).loc main_arg2) : FVec Ideal S2x640x8x96 .fp8e4m3) (ix4 (bat t) s (hd t) d) := by
  refine Eq.trans (b := (V m c main_v8 : FVec Ideal S2x8x96x640 .fp8e4m3) (ix4 (bat t) (hd t) d s)) ?_ (entry_k m c _ _ _ _)
  blk_ext! [iblk, idx t, bat, hd]

/-- The block of values of a grid point. -/
theorem blk_v (c : Dev nD) (t : Fin cfg0.N) (d : Fin 96) (s : Fin 640) :
    (iblk m c 5 t : Vec Ideal S1x1x96x640 .fp8e4m3) (ix4 0 0 d s) = (m ((c : Thread nD τ).loc main_arg4) : FVec Ideal S2x640x8x96 .fp8e4m3) (ix4 (bat t) s (hd t) d) := by
  refine Eq.trans (b := (V m c main_v11 : FVec Ideal S2x8x96x640 .fp8e4m3) (ix4 (bat t) (hd t) d s)) ?_ (entry_v m c _ _ _ _)
  blk_ext! [iblk, idx t, bat, hd]

/-- The block of log-sum-exps of a grid point. -/
theorem blk_l (c : Dev nD) (t : Fin cfg0.N) (g : Fin 4) (n : Fin 8) (s : Fin 640) :
    (iblk m c 7 t : Vec Ideal S1x4x8x640 .f32) (ix4 0 g n s) = (m ((c : Thread nD τ).loc main_arg7) : FVec Ideal S2x32x640 .f32) (ix3 (bat t) (qh g n) s) := by
  refine Eq.trans (b := (V m c main_v12 : FVec Ideal S2x4x8x640 .f32) (ix4 (bat t) g n s)) ?_ (entry_l m c _ _ _ _)
  blk_ext! [iblk, idx t, bat, hd]

/-- The block of scales of the output's gradient of a grid point. -/
theorem blk_s (c : Dev nD) (t : Fin cfg0.N) (s : Fin 640) :
    (iblk m c 9 t : Vec Ideal S1x1x640 .f32) (ix3 0 0 s) = (m ((c : Thread nD τ).loc main_arg9) : FVec Ideal S2x640 .f32) (ix2 (bat t) s) := by
  refine Eq.trans (b := (V m c main_v13 : FVec Ideal S2x1x640 .f32) (ix3 (bat t) 0 s)) ?_ (entry_s m c _ _)
  blk_ext! [iblk, idx t, bat, hd]

/-- The query scales at a grid point. -/
theorem blk_0 (c : Dev nD) (t : Fin cfg0.N) (h : Fin 32) :
    (iblk m c 0 t : Vec Ideal S32 .f32) (ix1 h) = (m ((c : Thread nD τ).loc main_arg1) : FVec Ideal S32 .f32) (ix1 h) := by
  blk_ext! [iblk, V, idx t]

/-- The key scales at a grid point. -/
theorem blk_1 (c : Dev nD) (t : Fin cfg0.N) (h : Fin 8) :
    (iblk m c 1 t : Vec Ideal S8 .f32) (ix1 h) = (m ((c : Thread nD τ).loc main_arg3) : FVec Ideal S8 .f32) (ix1 h) := by
  blk_ext! [iblk, V, idx t]

/-- The value scales at a grid point. -/
theorem blk_2 (c : Dev nD) (t : Fin cfg0.N) (h : Fin 8) :
    (iblk m c 2 t : Vec Ideal S8 .f32) (ix1 h) = (m ((c : Thread nD τ).loc main_arg5) : FVec Ideal S8 .f32) (ix1 h) := by
  blk_ext! [iblk, V, idx t]

end Cert.KernelIdeal.Value

end
-- ==== Proof.PointAt.lean ====
/- The quantities of a grid point's blocks, as entries of the arguments. -/
module

public import proofs.«01_k».proof.Proof.BlkAt

@[expose] public section

set_option maxRecDepth 16384

noncomputable section

namespace Cert.KernelIdeal.Value

open Idealize.ShloMosaic Idealize.ShloMosaic.TcCoe Idealize.SL.Sem Cert.KernelIdeal.Gen
open Idealize.ShloMosaic.Pipeline (Dat)

/-- A point's quantities are determined by the entries of its blocks. -/
theorem ptOf_ext (n : Fin 8) (x0 : Vec Ideal S32 .f32) (x1 x2 : Vec Ideal S8 .f32) (x3 : Vec Ideal S1x4x1x96x640 .fp8e4m3) (x4 x5 : Vec Ideal S1x1x96x640 .fp8e4m3)
    (x6 : Vec Ideal S1x4x1x96x640 .bf16) (x8 : Vec Ideal S1x4x1x96x640 .fp8e5m2) (x9 : Vec Ideal S1x1x640 .f32) (L : Vec Ideal S8x4x640 .f32) (P : Pt)
    (h0 : ∀ g, x0 (ix1 (qh g n)) = P.qs g) (h1 : x1 (ix1 n) = P.ks) (h2 : x2 (ix1 n) = P.vs)
    (h3 : ∀ g d t, x3 (ix5 0 g 0 d t) = P.q g d t) (h4 : ∀ d r, x4 (ix4 0 0 d r) = P.k d r) (h5 : ∀ d r, x5 (ix4 0 0 d r) = P.v d r)
    (h6 : ∀ g d t, x6 (ix5 0 g 0 d t) = P.o g d t) (h8 : ∀ g d t, x8 (ix5 0 g 0 d t) = P.dO g d t) (h9 : ∀ t, x9 (ix3 0 0 t) = P.dos t)
    (hL : ∀ g t, L (ix3 n g t) = P.l g t) : ptOf n x0 x1 x2 x3 x4 x5 x6 x8 x9 L = P := by
  obtain ⟨qs, ks, vs, q, o, dO, k, v, l, dos⟩ := P
  unfold ptOf
  rw [Pt.mk.injEq]
  exact ⟨funext h0, h1, h2, funext fun g => funext fun d => funext fun t => h3 g d t, funext fun g => funext fun d => funext fun t => h6 g d t,
    funext fun g => funext fun d => funext fun t => h8 g d t, funext fun d => funext fun r => h4 d r, funext fun d => funext fun r => h5 d r,
    funext fun g => funext fun t => hL g t, funext h9⟩

variable (m : (ℓ : Loc nD τ sig) → Buf (Elt Ideal) ℓ)

/-- The key head of a grid point is its second coordinate. -/
theorem head_eq (t : Fin cfg0.N) : head (grid0.coords t) = hd t := by
  have h : (grid0.coords t 1).val = t.val / 1 % 8 := Pipeline.Grid.coords_val t 1 (by decide) rfl
  exact Fin.ext (h.trans (by rw [Nat.div_one]; rfl))

/-- The quantities a grid point's blocks hold. -/
abbrev ptAt (c : Dev nD) (t : Fin cfg0.N) : Pt :=
  pt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (bat t) (hd t)

/-- A grid point's blocks hold the quantities of its batch and key head. -/
theorem ptOf_eq (c : Dev nD) (t : Fin cfg0.N) (L : Vec Ideal S8x4x640 .f32) (hL : L = lseOf (iblk m c 7 t)) :
    ptOf (head (grid0.coords t)) (iblk m c 0 t) (iblk m c 1 t) (iblk m c 2 t) (iblk m c 3 t) (iblk m c 4 t) (iblk m c 5 t) (iblk m c 6 t) (iblk m c 8 t) (iblk m c 9 t) L = ptAt m c t := by
  subst hL
  rw [head_eq]
  exact ptOf_ext (hd t) (iblk m c 0 t) (iblk m c 1 t) (iblk m c 2 t) (iblk m c 3 t) (iblk m c 4 t) (iblk m c 5 t) (iblk m c 6 t) (iblk m c 8 t) (iblk m c 9 t) (lseOf (iblk m c 7 t)) (ptAt m c t)
    (fun g => blk_0 m c t _) (blk_1 m c t _) (blk_2 m c t _) (fun g d s => blk_q m c t g d s) (fun d s => blk_k m c t d s) (fun d s => blk_v m c t d s)
    (fun g d s => blk_o m c t g d s) (fun g d s => blk_do m c t g d s) (fun s => blk_s m c t s) (fun g s => congrArg (· * lgK) (blk_l m c t g (hd t) s))

/-- The scaled log-sum-exps are the same at two grid points of one batch. -/
theorem lse_eq (c : Dev nD) (t u : Fin cfg0.N) (h : bat t = bat u) : lseOf (iblk m c 7 t) = lseOf (iblk m c 7 u) := by
  funext y
  exact congrArg (· * lgK) ((blk_l m c t (y 1) (y 0) (y 2)).trans ((congrArg (fun b => (m ((c : Thread nD τ).loc main_arg7) : FVec Ideal S2x32x640 .f32) (ix3 b (qh (y 1) (y 0)) (y 2))) h).trans (blk_l m c u (y 1) (y 0) (y 2)).symm))

end Cert.KernelIdeal.Value

end
-- ==== Proof.Good.lean ====
/- What it means that a grid point leaves the values of its quantities. -/
module

public import proofs.«01_k».proof.Proof.Reads

@[expose] public section

set_option maxRecDepth 16384

noncomputable section

namespace Cert.KernelIdeal

open Idealize.ShloMosaic Idealize.ShloMosaic.TcCoe Idealize.SL.Sem

/-- The contents a grid point leaves are those of its quantities. -/
structure Good (P : Pt) (L : Vec Ideal S8x4x640 .f32) (o0 : Vec Ideal S1x4x1x96x640 .bf16) (o1 o2 : Vec Ideal S1x1x96x640 .bf16)
    (s0 s1 : Vec Ideal S640x2560 .bf16) (s4 : Vec Ideal S8x4x640 .f32) : Prop where
  q : ∀ (g : Fin 4) (d : Fin 96) (t : Fin 640), o0 (ix5 0 g 0 d t) = P.dq g d t
  k : ∀ (d : Fin 96) (t : Fin 640), o1 (ix4 0 0 d t) = P.dk d t
  v : ∀ (d : Fin 96) (t : Fin 640), o2 (ix4 0 0 d t) = P.dv d t
  p : ∀ (r : Fin 640) (w : Fin 2560), s0 (ix2 r w) = P.c15 r w
  s : ∀ (r : Fin 640) (w : Fin 2560), s1 (ix2 r w) = P.c16 r w
  l : s4 = L

/-- Below the diagonal the carried probabilities are zero. -/
theorem Good.zp {P L o0 o1 o2 s0 s1 s4} (h : Good P L o0 o1 o2 s0 s1 s4) (r : Fin 640) (w : Fin 2560) (hw : (pos w).val < r.val) : s0 (ix2 r w) = 0 :=
  (h.p r w).trans (P.p_of_lt hw)

/-- Below the diagonal the carried score gradients are zero. -/
theorem Good.zs {P L o0 o1 o2 s0 s1 s4} (h : Good P L o0 o1 o2 s0 s1 s4) (r : Fin 640) (w : Fin 2560) (hw : (pos w).val < r.val) : s1 (ix2 r w) = 0 :=
  (h.s r w).trans (P.dS_of_lt hw)

/-- The contents of an equal tuple are as good. -/
theorem Good.of_eq {P L} {O : Vec Ideal S1x4x1x96x640 .bf16 × Vec Ideal S1x1x96x640 .bf16 × Vec Ideal S1x1x96x640 .bf16 × Vec Ideal S640x2560 .bf16 × Vec Ideal S640x2560 .bf16 × Vec Ideal S8x4x640 .f32} {o0 o1 o2 s0 s1 s4} (e : O = (o0, o1, o2, s0, s1, s4)) (h : Good P L o0 o1 o2 s0 s1 s4) :
    Good P L O.1 O.2.1 O.2.2.1 O.2.2.2.1 O.2.2.2.2.1 O.2.2.2.2.2 := by
  subst e; exact h

/-- The contents are as good for equal quantities. -/
theorem Good.conv {P P' L L' o0 o1 o2 s0 s1 s4} (h : Good P L o0 o1 o2 s0 s1 s4) (eP : P = P') (eL : L = L') : Good P' L' o0 o1 o2 s0 s1 s4 := by
  subst eP; subst eL; exact h

end Cert.KernelIdeal

end
-- ==== Proof.LseA.lean ====
/- What the stores into the scratch rows of scaled log-sum-exps hold, in one case of the body. -/
module

public import proofs.«01_k».proof.Proof.Gen.KernelIdeal.Frame
public import proofs.«01_k».proof.Proof.Reads

@[expose] public section

set_option maxRecDepth 16384

noncomputable section

namespace Cert.KernelIdeal.RunA

open Idealize.ShloMosaic Idealize.ShloMosaic.TcCoe Cert.KernelIdeal.Gen

variable (c : Dev nD) (i : grid0.Coords)
  (arg2 : Memref sig .tc .smem S32 .f32) (harg2 : arg2.IsWhole) (arg3 : Memref sig .tc .smem S8 .f32) (harg3 : arg3.IsWhole)
  (arg4 : Memref sig .tc .smem S8 .f32) (harg4 : arg4.IsWhole) (arg5 : Memref sig .tc .vmem S1x4x1x96x640 .fp8e4m3) (harg5 : arg5.IsWhole)
  (arg6 : Memref sig .tc .vmem S1x1x96x640 .fp8e4m3) (harg6 : arg6.IsWhole) (arg7 : Memref sig .tc .vmem S1x1x96x640 .fp8e4m3) (harg7 : arg7.IsWhole)
  (arg8 : Memref sig .tc .vmem S1x4x1x96x640 .bf16) (harg8 : arg8.IsWhole) (arg9 : Memref sig .tc .vmem S1x4x8x640 .f32) (harg9 : arg9.IsWhole)
  (arg10 : Memref sig .tc .vmem S1x4x1x96x640 .fp8e5m2) (harg10 : arg10.IsWhole)
  (arg11 : Memref sig .tc .vmem S1x1x640 .f32) (harg11 : arg11.IsWhole)
  (arg15 : Memref sig .tc .vmem S640x2560 .bf16) (harg15 : arg15.IsWhole) (arg16 : Memref sig .tc .vmem S640x2560 .bf16) (harg16 : arg16.IsWhole)
  (arg17 : Memref sig .tc .vmem S96x2560 .bf16) (harg17 : arg17.IsWhole) (arg18 : Memref sig .tc .vmem S96x2560 .bf16) (harg18 : arg18.IsWhole)
  (arg19 : Memref sig .tc .vmem S8x4x640 .f32) (harg19 : arg19.IsWhole)
  (x0 : Vec Ideal S32 .f32) (x1 x2 : Vec Ideal S8 .f32) (x3 : Vec Ideal S1x4x1x96x640 .fp8e4m3) (x4 x5 : Vec Ideal S1x1x96x640 .fp8e4m3)
  (x6 : Vec Ideal S1x4x1x96x640 .bf16) (x7 : Vec Ideal S1x4x8x640 .f32) (x8 : Vec Ideal S1x4x1x96x640 .fp8e5m2) (x9 : Vec Ideal S1x1x640 .f32)
  (xs0 xs1 : Vec Ideal S640x2560 .bf16) (xs4 : Vec Ideal S8x4x640 .f32)

/-- Every store into the scratch rows holds the scaled log-sum-exps. -/
theorem hs4 : ∀ p ∈ (kernelRun0_A.sl.HS4_32 (F := Ideal) c arg9 harg9 x7), ∀ x : p.1.shape.Idx, p.2 x = lseOf x7 (p.1.emb x) := by
  unfold kernelRun0_A.sl.HS4_32
  refine List.forall_mem_cons.2 ⟨lseP arg9 harg9 x7 7 3 (by decide) (by decide) (inbo := inb_S8x4x640_S1x1x640_7_3_0), ?_⟩
  refine List.forall_mem_cons.2 ⟨lseP arg9 harg9 x7 7 2 (by decide) (by decide) (inbo := inb_S8x4x640_S1x1x640_7_2_0), ?_⟩
  refine List.forall_mem_cons.2 ⟨lseP arg9 harg9 x7 7 1 (by decide) (by decide) (inbo := inb_S8x4x640_S1x1x640_7_1_0), ?_⟩
  refine List.forall_mem_cons.2 ⟨lseP arg9 harg9 x7 7 0 (by decide) (by decide) (inbo := inb_S8x4x640_S1x1x640_7_0_0), ?_⟩
  refine List.forall_mem_cons.2 ⟨lseP arg9 harg9 x7 6 3 (by decide) (by decide) (inbo := inb_S8x4x640_S1x1x640_6_3_0), ?_⟩
  refine List.forall_mem_cons.2 ⟨lseP arg9 harg9 x7 6 2 (by decide) (by decide) (inbo := inb_S8x4x640_S1x1x640_6_2_0), ?_⟩
  refine List.forall_mem_cons.2 ⟨lseP arg9 harg9 x7 6 1 (by decide) (by decide) (inbo := inb_S8x4x640_S1x1x640_6_1_0), ?_⟩
  refine List.forall_mem_cons.2 ⟨lseP arg9 harg9 x7 6 0 (by decide) (by decide) (inbo := inb_S8x4x640_S1x1x640_6_0_0), ?_⟩
  refine List.forall_mem_cons.2 ⟨lseP arg9 harg9 x7 5 3 (by decide) (by decide) (inbo := inb_S8x4x640_S1x1x640_5_3_0), ?_⟩
  refine List.forall_mem_cons.2 ⟨lseP arg9 harg9 x7 5 2 (by decide) (by decide) (inbo := inb_S8x4x640_S1x1x640_5_2_0), ?_⟩
  refine List.forall_mem_cons.2 ⟨lseP arg9 harg9 x7 5 1 (by decide) (by decide) (inbo := inb_S8x4x640_S1x1x640_5_1_0), ?_⟩
  refine List.forall_mem_cons.2 ⟨lseP arg9 harg9 x7 5 0 (by decide) (by decide) (inbo := inb_S8x4x640_S1x1x640_5_0_0), ?_⟩
  refine List.forall_mem_cons.2 ⟨lseP arg9 harg9 x7 4 3 (by decide) (by decide) (inbo := inb_S8x4x640_S1x1x640_4_3_0), ?_⟩
  refine List.forall_mem_cons.2 ⟨lseP arg9 harg9 x7 4 2 (by decide) (by decide) (inbo := inb_S8x4x640_S1x1x640_4_2_0), ?_⟩
  refine List.forall_mem_cons.2 ⟨lseP arg9 harg9 x7 4 1 (by decide) (by decide) (inbo := inb_S8x4x640_S1x1x640_4_1_0), ?_⟩
  refine List.forall_mem_cons.2 ⟨lseP arg9 harg9 x7 4 0 (by decide) (by decide) (inbo := inb_S8x4x640_S1x1x640_4_0_0), ?_⟩
  refine List.forall_mem_cons.2 ⟨lseP arg9 harg9 x7 3 3 (by decide) (by decide) (inbo := inb_S8x4x640_S1x1x640_3_3_0), ?_⟩
  refine List.forall_mem_cons.2 ⟨lseP arg9 harg9 x7 3 2 (by decide) (by decide) (inbo := inb_S8x4x640_S1x1x640_3_2_0), ?_⟩
  refine List.forall_mem_cons.2 ⟨lseP arg9 harg9 x7 3 1 (by decide) (by decide) (inbo := inb_S8x4x640_S1x1x640_3_1_0), ?_⟩
  refine List.forall_mem_cons.2 ⟨lseP arg9 harg9 x7 3 0 (by decide) (by decide) (inbo := inb_S8x4x640_S1x1x640_3_0_0), ?_⟩
  refine List.forall_mem_cons.2 ⟨lseP arg9 harg9 x7 2 3 (by decide) (by decide) (inbo := inb_S8x4x640_S1x1x640_2_3_0), ?_⟩
  refine List.forall_mem_cons.2 ⟨lseP arg9 harg9 x7 2 2 (by decide) (by decide) (inbo := inb_S8x4x640_S1x1x640_2_2_0), ?_⟩
  refine List.forall_mem_cons.2 ⟨lseP arg9 harg9 x7 2 1 (by decide) (by decide) (inbo := inb_S8x4x640_S1x1x640_2_1_0), ?_⟩
  refine List.forall_mem_cons.2 ⟨lseP arg9 harg9 x7 2 0 (by decide) (by decide) (inbo := inb_S8x4x640_S1x1x640_2_0_0), ?_⟩
  refine List.forall_mem_cons.2 ⟨lseP arg9 harg9 x7 1 3 (by decide) (by decide) (inbo := inb_S8x4x640_S1x1x640_1_3_0), ?_⟩
  refine List.forall_mem_cons.2 ⟨lseP arg9 harg9 x7 1 2 (by decide) (by decide) (inbo := inb_S8x4x640_S1x1x640_1_2_0), ?_⟩
  refine List.forall_mem_cons.2 ⟨lseP arg9 harg9 x7 1 1 (by decide) (by decide) (inbo := inb_S8x4x640_S1x1x640_1_1_0), ?_⟩
  refine List.forall_mem_cons.2 ⟨lseP arg9 harg9 x7 1 0 (by decide) (by decide) (inbo := inb_S8x4x640_S1x1x640_1_0_0), ?_⟩
  refine List.forall_mem_cons.2 ⟨lseP arg9 harg9 x7 0 3 (by decide) (by decide) (inbo := inb_S8x4x640_S1x1x640_0_3_0), ?_⟩
  refine List.forall_mem_cons.2 ⟨lseP arg9 harg9 x7 0 2 (by decide) (by decide) (inbo := inb_S8x4x640_S1x1x640_0_2_0), ?_⟩
  refine List.forall_mem_cons.2 ⟨lseP arg9 harg9 x7 0 1 (by decide) (by decide) (inbo := inb_S8x4x640_S1x1x640_0_1_0), ?_⟩
  refine List.forall_mem_cons.2 ⟨lseP arg9 harg9 x7 0 0 (by decide) (by decide) (inbo := inb_S8x4x640_S1x1x640_0_0_0), ?_⟩
  exact List.forall_mem_nil _

/-- The stores cover the scratch rows. -/
theorem hc4 : ∀ y : S8x4x640.Idx, ∃ p ∈ (kernelRun0_A.sl.HS4_32 (F := Ideal) c arg9 harg9 x7), y ∈ p.1.set := fun y =>
  View.cover_of_tiledL (kernelRun0_A.sl.HS4_32 (F := Ideal) c arg9 harg9 x7) S1x1x640.size (by sl_kernel_rfl) y

end Cert.KernelIdeal.RunA

end
-- ==== Proof.StoresA.lean ====
/- What the stores into the scratch buffers of probabilities, scaled queries and scaled output gradients hold, in one case of the body. -/
module

public import proofs.«01_k».proof.Proof.LseA

@[expose] public section

set_option maxRecDepth 16384

noncomputable section

namespace Cert.KernelIdeal.RunA

open Idealize.ShloMosaic Idealize.ShloMosaic.TcCoe Cert.KernelIdeal.Gen

variable (c : Dev nD) (i : grid0.Coords)
  (arg2 : Memref sig .tc .smem S32 .f32) (harg2 : arg2.IsWhole) (arg3 : Memref sig .tc .smem S8 .f32) (harg3 : arg3.IsWhole)
  (arg4 : Memref sig .tc .smem S8 .f32) (harg4 : arg4.IsWhole) (arg5 : Memref sig .tc .vmem S1x4x1x96x640 .fp8e4m3) (harg5 : arg5.IsWhole)
  (arg6 : Memref sig .tc .vmem S1x1x96x640 .fp8e4m3) (harg6 : arg6.IsWhole) (arg7 : Memref sig .tc .vmem S1x1x96x640 .fp8e4m3) (harg7 : arg7.IsWhole)
  (arg8 : Memref sig .tc .vmem S1x4x1x96x640 .bf16) (harg8 : arg8.IsWhole) (arg9 : Memref sig .tc .vmem S1x4x8x640 .f32) (harg9 : arg9.IsWhole)
  (arg10 : Memref sig .tc .vmem S1x4x1x96x640 .fp8e5m2) (harg10 : arg10.IsWhole)
  (arg11 : Memref sig .tc .vmem S1x1x640 .f32) (harg11 : arg11.IsWhole)
  (arg15 : Memref sig .tc .vmem S640x2560 .bf16) (harg15 : arg15.IsWhole) (arg16 : Memref sig .tc .vmem S640x2560 .bf16) (harg16 : arg16.IsWhole)
  (arg17 : Memref sig .tc .vmem S96x2560 .bf16) (harg17 : arg17.IsWhole) (arg18 : Memref sig .tc .vmem S96x2560 .bf16) (harg18 : arg18.IsWhole)
  (arg19 : Memref sig .tc .vmem S8x4x640 .f32) (harg19 : arg19.IsWhole)
  (x0 : Vec Ideal S32 .f32) (x1 x2 : Vec Ideal S8 .f32) (x3 : Vec Ideal S1x4x1x96x640 .fp8e4m3) (x4 x5 : Vec Ideal S1x1x96x640 .fp8e4m3)
  (x6 : Vec Ideal S1x4x1x96x640 .bf16) (x7 : Vec Ideal S1x4x8x640 .f32) (x8 : Vec Ideal S1x4x1x96x640 .fp8e5m2) (x9 : Vec Ideal S1x1x640 .f32)
  (xs0 xs1 : Vec Ideal S640x2560 .bf16) (xs4 : Vec Ideal S8x4x640 .f32)

set_option maxHeartbeats 1000000 in
/-- Every store into the probabilities' scratch but the first, which clears it, holds the probabilities. -/
theorem hs0 : ∀ p ∈ List.dropLast (kernelRun0_A.sl.HS0_21 (F := Ideal) c i arg2 harg2 arg3 harg3 arg5 harg5 arg6 harg6 arg9 harg9 arg19 x0 x1 x3 x4 x7), ∀ x : p.1.shape.Idx, p.2 x = (ptOf (head i) x0 x1 x2 x3 x4 x5 x6 x8 x9 (lseOf x7)).c15 (p.1.emb x 0) (p.1.emb x 1) := by
  unfold kernelRun0_A.sl.HS0_21 kernelRun0_A.sl.HS0_20 kernelRun0_A.sl.HS0_17 kernelRun0_A.sl.HS0_14 kernelRun0_A.sl.HS0_11 kernelRun0_A.sl.HS0_8 kernelRun0_A.sl.HS0_5 kernelRun0_A.sl.HS0_2
  simp only [List.dropLast]
  refine List.forall_mem_cons.2 ⟨Blk.piece_p (n := 640) (m := 512) (o := 2432) (inb := inb_S640x2560_S640x128_0_2432) _ 3 4 rfl rfl rfl ⟨?_, ?_, ?_, ?_⟩, ?_⟩
  · exact kw (arg6 := arg6) (harg6 := harg6) (x4 := x4)
  · exact cq (arg5 := arg5) (harg5 := harg5) (x3 := x3) (gn := 3) (o := 512) rfl rfl
  · exact cqk (arg2 := arg2) (harg2 := harg2) (arg3 := arg3) (harg3 := harg3) (x0 := x0) (x1 := x1) (w := 24#32) rfl
  · exact clw arg19 (lseOf x7) (off := k0_off22 i) (hs4 c arg9 harg9 x7) (hc4 c arg9 harg9 x7) ⟨rfl, rfl, rfl⟩
  refine List.forall_mem_cons.2 ⟨Blk.piece_p (n := 640) (m := 512) (o := 2304) (inb := inb_S640x2560_S640x128_0_2304) _ 2 4 rfl rfl rfl ⟨?_, ?_, ?_, ?_⟩, ?_⟩
  · exact kw (arg6 := arg6) (harg6 := harg6) (x4 := x4)
  · exact cq (arg5 := arg5) (harg5 := harg5) (x3 := x3) (gn := 2) (o := 512) rfl rfl
  · exact cqk (arg2 := arg2) (harg2 := harg2) (arg3 := arg3) (harg3 := harg3) (x0 := x0) (x1 := x1) (w := 16#32) rfl
  · exact clw arg19 (lseOf x7) (off := k0_off21 i) (hs4 c arg9 harg9 x7) (hc4 c arg9 harg9 x7) ⟨rfl, rfl, rfl⟩
  refine List.forall_mem_cons.2 ⟨Blk.piece_p (n := 640) (m := 512) (o := 2176) (inb := inb_S640x2560_S640x128_0_2176) _ 1 4 rfl rfl rfl ⟨?_, ?_, ?_, ?_⟩, ?_⟩
  · exact kw (arg6 := arg6) (harg6 := harg6) (x4 := x4)
  · exact cq (arg5 := arg5) (harg5 := harg5) (x3 := x3) (gn := 1) (o := 512) rfl rfl
  · exact cqk (arg2 := arg2) (harg2 := harg2) (arg3 := arg3) (harg3 := harg3) (x0 := x0) (x1 := x1) (w := 8#32) rfl
  · exact clw arg19 (lseOf x7) (off := k0_off20 i) (hs4 c arg9 harg9 x7) (hc4 c arg9 harg9 x7) ⟨rfl, rfl, rfl⟩
  refine List.forall_mem_cons.2 ⟨Blk.piece_p (n := 640) (m := 512) (o := 2048) (inb := inb_S640x2560_S640x128_0_2048) _ 0 4 rfl rfl rfl ⟨?_, ?_, ?_, ?_⟩, ?_⟩
  · exact kw (arg6 := arg6) (harg6 := harg6) (x4 := x4)
  · exact cq (arg5 := arg5) (harg5 := harg5) (x3 := x3) (gn := 0) (o := 512) rfl rfl
  · exact cqk (arg2 := arg2) (harg2 := harg2) (arg3 := arg3) (harg3 := harg3) (x0 := x0) (x1 := x1) (w := 0#32) rfl
  · exact clw arg19 (lseOf x7) (off := k0_off19 i) (hs4 c arg9 harg9 x7) (hc4 c arg9 harg9 x7) ⟨rfl, rfl, rfl⟩
  refine List.forall_mem_cons.2 ⟨Blk.piece_p (n := 512) (m := 384) (o := 1920) (inb := inb_S640x2560_S512x128_0_1920) _ 3 3 rfl rfl rfl ⟨?_, ?_, ?_, ?_⟩, ?_⟩
  · exact ks (arg6 := arg6) (harg6 := harg6) (x4 := x4)
  · exact cq (arg5 := arg5) (harg5 := harg5) (x3 := x3) (gn := 3) (o := 384) rfl rfl
  · exact cqk (arg2 := arg2) (harg2 := harg2) (arg3 := arg3) (harg3 := harg3) (x0 := x0) (x1 := x1) (w := 24#32) rfl
  · exact clw arg19 (lseOf x7) (off := k0_off18 i) (hs4 c arg9 harg9 x7) (hc4 c arg9 harg9 x7) ⟨rfl, rfl, rfl⟩
  refine List.forall_mem_cons.2 ⟨Blk.piece_p (n := 512) (m := 384) (o := 1792) (inb := inb_S640x2560_S512x128_0_1792) _ 2 3 rfl rfl rfl ⟨?_, ?_, ?_, ?_⟩, ?_⟩
  · exact ks (arg6 := arg6) (harg6 := harg6) (x4 := x4)
  · exact cq (arg5 := arg5) (harg5 := harg5) (x3 := x3) (gn := 2) (o := 384) rfl rfl
  · exact cqk (arg2 := arg2) (harg2 := harg2) (arg3 := arg3) (harg3 := harg3) (x0 := x0) (x1 := x1) (w := 16#32) rfl
  · exact clw arg19 (lseOf x7) (off := k0_off17 i) (hs4 c arg9 harg9 x7) (hc4 c arg9 harg9 x7) ⟨rfl, rfl, rfl⟩
  refine List.forall_mem_cons.2 ⟨Blk.piece_p (n := 512) (m := 384) (o := 1664) (inb := inb_S640x2560_S512x128_0_1664) _ 1 3 rfl rfl rfl ⟨?_, ?_, ?_, ?_⟩, ?_⟩
  · exact ks (arg6 := arg6) (harg6 := harg6) (x4 := x4)
  · exact cq (arg5 := arg5) (harg5 := harg5) (x3 := x3) (gn := 1) (o := 384) rfl rfl
  · exact cqk (arg2 := arg2) (harg2 := harg2) (arg3 := arg3) (harg3 := harg3) (x0 := x0) (x1 := x1) (w := 8#32) rfl
  · exact clw arg19 (lseOf x7) (off := k0_off16 i) (hs4 c arg9 harg9 x7) (hc4 c arg9 harg9 x7) ⟨rfl, rfl, rfl⟩
  refine List.forall_mem_cons.2 ⟨Blk.piece_p (n := 512) (m := 384) (o := 1536) (inb := inb_S640x2560_S512x128_0_1536) _ 0 3 rfl rfl rfl ⟨?_, ?_, ?_, ?_⟩, ?_⟩
  · exact ks (arg6 := arg6) (harg6 := harg6) (x4 := x4)
  · exact cq (arg5 := arg5) (harg5 := harg5) (x3 := x3) (gn := 0) (o := 384) rfl rfl
  · exact cqk (arg2 := arg2) (harg2 := harg2) (arg3 := arg3) (harg3 := harg3) (x0 := x0) (x1 := x1) (w := 0#32) rfl
  · exact clw arg19 (lseOf x7) (off := k0_off15 i) (hs4 c arg9 harg9 x7) (hc4 c arg9 harg9 x7) ⟨rfl, rfl, rfl⟩
  refine List.forall_mem_cons.2 ⟨Blk.piece_p (n := 384) (m := 256) (o := 1408) (inb := inb_S640x2560_S384x128_0_1408) _ 3 2 rfl rfl rfl ⟨?_, ?_, ?_, ?_⟩, ?_⟩
  · exact ks (arg6 := arg6) (harg6 := harg6) (x4 := x4)
  · exact cq (arg5 := arg5) (harg5 := harg5) (x3 := x3) (gn := 3) (o := 256) rfl rfl
  · exact cqk (arg2 := arg2) (harg2 := harg2) (arg3 := arg3) (harg3 := harg3) (x0 := x0) (x1 := x1) (w := 24#32) rfl
  · exact clw arg19 (lseOf x7) (off := k0_off14 i) (hs4 c arg9 harg9 x7) (hc4 c arg9 harg9 x7) ⟨rfl, rfl, rfl⟩
  refine List.forall_mem_cons.2 ⟨Blk.piece_p (n := 384) (m := 256) (o := 1280) (inb := inb_S640x2560_S384x128_0_1280) _ 2 2 rfl rfl rfl ⟨?_, ?_, ?_, ?_⟩, ?_⟩
  · exact ks (arg6 := arg6) (harg6 := harg6) (x4 := x4)
  · exact cq (arg5 := arg5) (harg5 := harg5) (x3 := x3) (gn := 2) (o := 256) rfl rfl
  · exact cqk (arg2 := arg2) (harg2 := harg2) (arg3 := arg3) (harg3 := harg3) (x0 := x0) (x1 := x1) (w := 16#32) rfl
  · exact clw arg19 (lseOf x7) (off := k0_off13 i) (hs4 c arg9 harg9 x7) (hc4 c arg9 harg9 x7) ⟨rfl, rfl, rfl⟩
  refine List.forall_mem_cons.2 ⟨Blk.piece_p (n := 384) (m := 256) (o := 1152) (inb := inb_S640x2560_S384x128_0_1152) _ 1 2 rfl rfl rfl ⟨?_, ?_, ?_, ?_⟩, ?_⟩
  · exact ks (arg6 := arg6) (harg6 := harg6) (x4 := x4)
  · exact cq (arg5 := arg5) (harg5 := harg5) (x3 := x3) (gn := 1) (o := 256) rfl rfl
  · exact cqk (arg2 := arg2) (harg2 := harg2) (arg3 := arg3) (harg3 := harg3) (x0 := x0) (x1 := x1) (w := 8#32) rfl
  · exact clw arg19 (lseOf x7) (off := k0_off12 i) (hs4 c arg9 harg9 x7) (hc4 c arg9 harg9 x7) ⟨rfl, rfl, rfl⟩
  refine List.forall_mem_cons.2 ⟨Blk.piece_p (n := 384) (m := 256) (o := 1024) (inb := inb_S640x2560_S384x128_0_1024) _ 0 2 rfl rfl rfl ⟨?_, ?_, ?_, ?_⟩, ?_⟩
  · exact ks (arg6 := arg6) (harg6 := harg6) (x4 := x4)
  · exact cq (arg5 := arg5) (harg5 := harg5) (x3 := x3) (gn := 0) (o := 256) rfl rfl
  · exact cqk (arg2 := arg2) (harg2 := harg2) (arg3 := arg3) (harg3 := harg3) (x0 := x0) (x1 := x1) (w := 0#32) rfl
  · exact clw arg19 (lseOf x7) (off := k0_off11 i) (hs4 c arg9 harg9 x7) (hc4 c arg9 harg9 x7) ⟨rfl, rfl, rfl⟩
  refine List.forall_mem_cons.2 ⟨Blk.piece_p (n := 256) (m := 128) (o := 896) (inb := inb_S640x2560_S256x128_0_896) _ 3 1 rfl rfl rfl ⟨?_, ?_, ?_, ?_⟩, ?_⟩
  · exact ks (arg6 := arg6) (harg6 := harg6) (x4 := x4)
  · exact cq (arg5 := arg5) (harg5 := harg5) (x3 := x3) (gn := 3) (o := 128) rfl rfl
  · exact cqk (arg2 := arg2) (harg2 := harg2) (arg3 := arg3) (harg3 := harg3) (x0 := x0) (x1 := x1) (w := 24#32) rfl
  · exact clw arg19 (lseOf x7) (off := k0_off10 i) (hs4 c arg9 harg9 x7) (hc4 c arg9 harg9 x7) ⟨rfl, rfl, rfl⟩
  refine List.forall_mem_cons.2 ⟨Blk.piece_p (n := 256) (m := 128) (o := 768) (inb := inb_S640x2560_S256x128_0_768) _ 2 1 rfl rfl rfl ⟨?_, ?_, ?_, ?_⟩, ?_⟩
  · exact ks (arg6 := arg6) (harg6 := harg6) (x4 := x4)
  · exact cq (arg5 := arg5) (harg5 := harg5) (x3 := x3) (gn := 2) (o := 128) rfl rfl
  · exact cqk (arg2 := arg2) (harg2 := harg2) (arg3 := arg3) (harg3 := harg3) (x0 := x0) (x1 := x1) (w := 16#32) rfl
  · exact clw arg19 (lseOf x7) (off := k0_off9 i) (hs4 c arg9 harg9 x7) (hc4 c arg9 harg9 x7) ⟨rfl, rfl, rfl⟩
  refine List.forall_mem_cons.2 ⟨Blk.piece_p (n := 256) (m := 128) (o := 640) (inb := inb_S640x2560_S256x128_0_640) _ 1 1 rfl rfl rfl ⟨?_, ?_, ?_, ?_⟩, ?_⟩
  · exact ks (arg6 := arg6) (harg6 := harg6) (x4 := x4)
  · exact cq (arg5 := arg5) (harg5 := harg5) (x3 := x3) (gn := 1) (o := 128) rfl rfl
  · exact cqk (arg2 := arg2) (harg2 := harg2) (arg3 := arg3) (harg3 := harg3) (x0 := x0) (x1 := x1) (w := 8#32) rfl
  · exact clw arg19 (lseOf x7) (off := k0_off8 i) (hs4 c arg9 harg9 x7) (hc4 c arg9 harg9 x7) ⟨rfl, rfl, rfl⟩
  refine List.forall_mem_cons.2 ⟨Blk.piece_p (n := 256) (m := 128) (o := 512) (inb := inb_S640x2560_S256x128_0_512) _ 0 1 rfl rfl rfl ⟨?_, ?_, ?_, ?_⟩, ?_⟩
  · exact ks (arg6 := arg6) (harg6 := harg6) (x4 := x4)
  · exact cq (arg5 := arg5) (harg5 := harg5) (x3 := x3) (gn := 0) (o := 128) rfl rfl
  · exact cqk (arg2 := arg2) (harg2 := harg2) (arg3 := arg3) (harg3 := harg3) (x0 := x0) (x1 := x1) (w := 0#32) rfl
  · exact clw arg19 (lseOf x7) (off := k0_off7 i) (hs4 c arg9 harg9 x7) (hc4 c arg9 harg9 x7) ⟨rfl, rfl, rfl⟩
  refine List.forall_mem_cons.2 ⟨Blk.piece_p0 (o := 384) (inb := inb_S640x2560_S128x128_0_384) _ 3 0 rfl rfl ⟨?_, ?_, ?_, ?_⟩, ?_⟩
  · exact ks (arg6 := arg6) (harg6 := harg6) (x4 := x4)
  · exact cq (arg5 := arg5) (harg5 := harg5) (x3 := x3) (gn := 3) (o := 0) rfl rfl
  · exact cqk (arg2 := arg2) (harg2 := harg2) (arg3 := arg3) (harg3 := harg3) (x0 := x0) (x1 := x1) (w := 24#32) rfl
  · exact clw arg19 (lseOf x7) (off := k0_off6 i) (hs4 c arg9 harg9 x7) (hc4 c arg9 harg9 x7) ⟨rfl, rfl, rfl⟩
  refine List.forall_mem_cons.2 ⟨Blk.piece_p0 (o := 256) (inb := inb_S640x2560_S128x128_0_256) _ 2 0 rfl rfl ⟨?_, ?_, ?_, ?_⟩, ?_⟩
  · exact ks (arg6 := arg6) (harg6 := harg6) (x4 := x4)
  · exact cq (arg5 := arg5) (harg5 := harg5) (x3 := x3) (gn := 2) (o := 0) rfl rfl
  · exact cqk (arg2 := arg2) (harg2 := harg2) (arg3 := arg3) (harg3 := harg3) (x0 := x0) (x1 := x1) (w := 16#32) rfl
  · exact clw arg19 (lseOf x7) (off := k0_off5 i) (hs4 c arg9 harg9 x7) (hc4 c arg9 harg9 x7) ⟨rfl, rfl, rfl⟩
  refine List.forall_mem_cons.2 ⟨Blk.piece_p0 (o := 128) (inb := inb_S640x2560_S128x128_0_128) _ 1 0 rfl rfl ⟨?_, ?_, ?_, ?_⟩, ?_⟩
  · exact ks (arg6 := arg6) (harg6 := harg6) (x4 := x4)
  · exact cq (arg5 := arg5) (harg5 := harg5) (x3 := x3) (gn := 1) (o := 0) rfl rfl
  · exact cqk (arg2 := arg2) (harg2 := harg2) (arg3 := arg3) (harg3 := harg3) (x0 := x0) (x1 := x1) (w := 8#32) rfl
  · exact clw arg19 (lseOf x7) (off := k0_off4 i) (hs4 c arg9 harg9 x7) (hc4 c arg9 harg9 x7) ⟨rfl, rfl, rfl⟩
  refine List.forall_mem_cons.2 ⟨Blk.piece_p0 (o := 0) (inb := inb_S640x2560_S128x128_0_0) _ 0 0 rfl rfl ⟨?_, ?_, ?_, ?_⟩, ?_⟩
  · exact ks (arg6 := arg6) (harg6 := harg6) (x4 := x4)
  · exact cq (arg5 := arg5) (harg5 := harg5) (x3 := x3) (gn := 0) (o := 0) rfl rfl
  · exact cqk (arg2 := arg2) (harg2 := harg2) (arg3 := arg3) (harg3 := harg3) (x0 := x0) (x1 := x1) (w := 0#32) rfl
  · exact clw arg19 (lseOf x7) (off := k0_off3 i) (hs4 c arg9 harg9 x7) (hc4 c arg9 harg9 x7) ⟨rfl, rfl, rfl⟩
  exact List.forall_mem_nil _

set_option maxHeartbeats 1000000 in
/-- Every store into the scaled queries' scratch holds the scaled queries. -/
theorem hs2 : ∀ p ∈ (kernelRun0_A.sl.HS2_20 (F := Ideal) c i arg2 harg2 arg5 harg5 x0 x3), ∀ x : p.1.shape.Idx, p.2 x = (ptOf (head i) x0 x1 x2 x3 x4 x5 x6 x8 x9 (lseOf x7)).c17 (p.1.emb x 0) (p.1.emb x 1) := by
  unfold kernelRun0_A.sl.HS2_20
  refine List.forall_mem_cons.2 ⟨spq (arg2 := arg2) (harg2 := harg2) (arg5 := arg5) (harg5 := harg5) (x0 := x0) (x3 := x3) (g := 3) (b := 4) (w := 24#32) (gn := 3) (o := 512) (on := 2432) (inb := inb_S96x2560_S96x128_0_2432) rfl rfl rfl rfl, ?_⟩
  refine List.forall_mem_cons.2 ⟨spq (arg2 := arg2) (harg2 := harg2) (arg5 := arg5) (harg5 := harg5) (x0 := x0) (x3 := x3) (g := 2) (b := 4) (w := 16#32) (gn := 2) (o := 512) (on := 2304) (inb := inb_S96x2560_S96x128_0_2304) rfl rfl rfl rfl, ?_⟩
  refine List.forall_mem_cons.2 ⟨spq (arg2 := arg2) (harg2 := harg2) (arg5 := arg5) (harg5 := harg5) (x0 := x0) (x3 := x3) (g := 1) (b := 4) (w := 8#32) (gn := 1) (o := 512) (on := 2176) (inb := inb_S96x2560_S96x128_0_2176) rfl rfl rfl rfl, ?_⟩
  refine List.forall_mem_cons.2 ⟨spq (arg2 := arg2) (harg2 := harg2) (arg5 := arg5) (harg5 := harg5) (x0 := x0) (x3 := x3) (g := 0) (b := 4) (w := 0#32) (gn := 0) (o := 512) (on := 2048) (inb := inb_S96x2560_S96x128_0_2048) rfl rfl rfl rfl, ?_⟩
  refine List.forall_mem_cons.2 ⟨spq (arg2 := arg2) (harg2 := harg2) (arg5 := arg5) (harg5 := harg5) (x0 := x0) (x3 := x3) (g := 3) (b := 3) (w := 24#32) (gn := 3) (o := 384) (on := 1920) (inb := inb_S96x2560_S96x128_0_1920) rfl rfl rfl rfl, ?_⟩
  refine List.forall_mem_cons.2 ⟨spq (arg2 := arg2) (harg2 := harg2) (arg5 := arg5) (harg5 := harg5) (x0 := x0) (x3 := x3) (g := 2) (b := 3) (w := 16#32) (gn := 2) (o := 384) (on := 1792) (inb := inb_S96x2560_S96x128_0_1792) rfl rfl rfl rfl, ?_⟩
  refine List.forall_mem_cons.2 ⟨spq (arg2 := arg2) (harg2 := harg2) (arg5 := arg5) (harg5 := harg5) (x0 := x0) (x3 := x3) (g := 1) (b := 3) (w := 8#32) (gn := 1) (o := 384) (on := 1664) (inb := inb_S96x2560_S96x128_0_1664) rfl rfl rfl rfl, ?_⟩
  refine List.forall_mem_cons.2 ⟨spq (arg2 := arg2) (harg2 := harg2) (arg5 := arg5) (harg5 := harg5) (x0 := x0) (x3 := x3) (g := 0) (b := 3) (w := 0#32) (gn := 0) (o := 384) (on := 1536) (inb := inb_S96x2560_S96x128_0_1536) rfl rfl rfl rfl, ?_⟩
  refine List.forall_mem_cons.2 ⟨spq (arg2 := arg2) (harg2 := harg2) (arg5 := arg5) (harg5 := harg5) (x0 := x0) (x3 := x3) (g := 3) (b := 2) (w := 24#32) (gn := 3) (o := 256) (on := 1408) (inb := inb_S96x2560_S96x128_0_1408) rfl rfl rfl rfl, ?_⟩
  refine List.forall_mem_cons.2 ⟨spq (arg2 := arg2) (harg2 := harg2) (arg5 := arg5) (harg5 := harg5) (x0 := x0) (x3 := x3) (g := 2) (b := 2) (w := 16#32) (gn := 2) (o := 256) (on := 1280) (inb := inb_S96x2560_S96x128_0_1280) rfl rfl rfl rfl, ?_⟩
  refine List.forall_mem_cons.2 ⟨spq (arg2 := arg2) (harg2 := harg2) (arg5 := arg5) (harg5 := harg5) (x0 := x0) (x3 := x3) (g := 1) (b := 2) (w := 8#32) (gn := 1) (o := 256) (on := 1152) (inb := inb_S96x2560_S96x128_0_1152) rfl rfl rfl rfl, ?_⟩
  refine List.forall_mem_cons.2 ⟨spq (arg2 := arg2) (harg2 := harg2) (arg5 := arg5) (harg5 := harg5) (x0 := x0) (x3 := x3) (g := 0) (b := 2) (w := 0#32) (gn := 0) (o := 256) (on := 1024) (inb := inb_S96x2560_S96x128_0_1024) rfl rfl rfl rfl, ?_⟩
  refine List.forall_mem_cons.2 ⟨spq (arg2 := arg2) (harg2 := harg2) (arg5 := arg5) (harg5 := harg5) (x0 := x0) (x3 := x3) (g := 3) (b := 1) (w := 24#32) (gn := 3) (o := 128) (on := 896) (inb := inb_S96x2560_S96x128_0_896) rfl rfl rfl rfl, ?_⟩
  refine List.forall_mem_cons.2 ⟨spq (arg2 := arg2) (harg2 := harg2) (arg5 := arg5) (harg5 := harg5) (x0 := x0) (x3 := x3) (g := 2) (b := 1) (w := 16#32) (gn := 2) (o := 128) (on := 768) (inb := inb_S96x2560_S96x128_0_768) rfl rfl rfl rfl, ?_⟩
  refine List.forall_mem_cons.2 ⟨spq (arg2 := arg2) (harg2 := harg2) (arg5 := arg5) (harg5 := harg5) (x0 := x0) (x3 := x3) (g := 1) (b := 1) (w := 8#32) (gn := 1) (o := 128) (on := 640) (inb := inb_S96x2560_S96x128_0_640) rfl rfl rfl rfl, ?_⟩
  refine List.forall_mem_cons.2 ⟨spq (arg2 := arg2) (harg2 := harg2) (arg5 := arg5) (harg5 := harg5) (x0 := x0) (x3 := x3) (g := 0) (b := 1) (w := 0#32) (gn := 0) (o := 128) (on := 512) (inb := inb_S96x2560_S96x128_0_512) rfl rfl rfl rfl, ?_⟩
  refine List.forall_mem_cons.2 ⟨spq (arg2 := arg2) (harg2 := harg2) (arg5 := arg5) (harg5 := harg5) (x0 := x0) (x3 := x3) (g := 3) (b := 0) (w := 24#32) (gn := 3) (o := 0) (on := 384) (inb := inb_S96x2560_S96x128_0_384) rfl rfl rfl rfl, ?_⟩
  refine List.forall_mem_cons.2 ⟨spq (arg2 := arg2) (harg2 := harg2) (arg5 := arg5) (harg5 := harg5) (x0 := x0) (x3 := x3) (g := 2) (b := 0) (w := 16#32) (gn := 2) (o := 0) (on := 256) (inb := inb_S96x2560_S96x128_0_256) rfl rfl rfl rfl, ?_⟩
  refine List.forall_mem_cons.2 ⟨spq (arg2 := arg2) (harg2 := harg2) (arg5 := arg5) (harg5 := harg5) (x0 := x0) (x3 := x3) (g := 1) (b := 0) (w := 8#32) (gn := 1) (o := 0) (on := 128) (inb := inb_S96x2560_S96x128_0_128) rfl rfl rfl rfl, ?_⟩
  refine List.forall_mem_cons.2 ⟨spq (arg2 := arg2) (harg2 := harg2) (arg5 := arg5) (harg5 := harg5) (x0 := x0) (x3 := x3) (g := 0) (b := 0) (w := 0#32) (gn := 0) (o := 0) (on := 0) (inb := inb_S96x2560_S96x128_0_0) rfl rfl rfl rfl, ?_⟩
  exact List.forall_mem_nil _

set_option maxHeartbeats 1000000 in
/-- Every store into the scaled output gradients' scratch holds them. -/
theorem hs3 : ∀ p ∈ (kernelRun0_A.sl.HS3_20 (F := Ideal) c arg10 harg10 arg11 harg11 x8 x9), ∀ x : p.1.shape.Idx, p.2 x = (ptOf (head i) x0 x1 x2 x3 x4 x5 x6 x8 x9 (lseOf x7)).c18 (p.1.emb x 0) (p.1.emb x 1) := by
  unfold kernelRun0_A.sl.HS3_20
  refine List.forall_mem_cons.2 ⟨spo (arg10 := arg10) (harg10 := harg10) (arg11 := arg11) (harg11 := harg11) (x8 := x8) (x9 := x9) (g := 3) (b := 4) (gn := 3) (o := 512) (on := 2432) (hdo := slices_S1x640_o0_512_S1x128) (inb := inb_S96x2560_S96x128_0_2432) rfl rfl rfl, ?_⟩
  refine List.forall_mem_cons.2 ⟨spo (arg10 := arg10) (harg10 := harg10) (arg11 := arg11) (harg11 := harg11) (x8 := x8) (x9 := x9) (g := 2) (b := 4) (gn := 2) (o := 512) (on := 2304) (hdo := slices_S1x640_o0_512_S1x128) (inb := inb_S96x2560_S96x128_0_2304) rfl rfl rfl, ?_⟩
  refine List.forall_mem_cons.2 ⟨spo (arg10 := arg10) (harg10 := harg10) (arg11 := arg11) (harg11 := harg11) (x8 := x8) (x9 := x9) (g := 1) (b := 4) (gn := 1) (o := 512) (on := 2176) (hdo := slices_S1x640_o0_512_S1x128) (inb := inb_S96x2560_S96x128_0_2176) rfl rfl rfl, ?_⟩
  refine List.forall_mem_cons.2 ⟨spo (arg10 := arg10) (harg10 := harg10) (arg11 := arg11) (harg11 := harg11) (x8 := x8) (x9 := x9) (g := 0) (b := 4) (gn := 0) (o := 512) (on := 2048) (hdo := slices_S1x640_o0_512_S1x128) (inb := inb_S96x2560_S96x128_0_2048) rfl rfl rfl, ?_⟩
  refine List.forall_mem_cons.2 ⟨spo (arg10 := arg10) (harg10 := harg10) (arg11 := arg11) (harg11 := harg11) (x8 := x8) (x9 := x9) (g := 3) (b := 3) (gn := 3) (o := 384) (on := 1920) (hdo := slices_S1x640_o0_384_S1x128) (inb := inb_S96x2560_S96x128_0_1920) rfl rfl rfl, ?_⟩
  refine List.forall_mem_cons.2 ⟨spo (arg10 := arg10) (harg10 := harg10) (arg11 := arg11) (harg11 := harg11) (x8 := x8) (x9 := x9) (g := 2) (b := 3) (gn := 2) (o := 384) (on := 1792) (hdo := slices_S1x640_o0_384_S1x128) (inb := inb_S96x2560_S96x128_0_1792) rfl rfl rfl, ?_⟩
  refine List.forall_mem_cons.2 ⟨spo (arg10 := arg10) (harg10 := harg10) (arg11 := arg11) (harg11 := harg11) (x8 := x8) (x9 := x9) (g := 1) (b := 3) (gn := 1) (o := 384) (on := 1664) (hdo := slices_S1x640_o0_384_S1x128) (inb := inb_S96x2560_S96x128_0_1664) rfl rfl rfl, ?_⟩
  refine List.forall_mem_cons.2 ⟨spo (arg10 := arg10) (harg10 := harg10) (arg11 := arg11) (harg11 := harg11) (x8 := x8) (x9 := x9) (g := 0) (b := 3) (gn := 0) (o := 384) (on := 1536) (hdo := slices_S1x640_o0_384_S1x128) (inb := inb_S96x2560_S96x128_0_1536) rfl rfl rfl, ?_⟩
  refine List.forall_mem_cons.2 ⟨spo (arg10 := arg10) (harg10 := harg10) (arg11 := arg11) (harg11 := harg11) (x8 := x8) (x9 := x9) (g := 3) (b := 2) (gn := 3) (o := 256) (on := 1408) (hdo := slices_S1x640_o0_256_S1x128) (inb := inb_S96x2560_S96x128_0_1408) rfl rfl rfl, ?_⟩
  refine List.forall_mem_cons.2 ⟨spo (arg10 := arg10) (harg10 := harg10) (arg11 := arg11) (harg11 := harg11) (x8 := x8) (x9 := x9) (g := 2) (b := 2) (gn := 2) (o := 256) (on := 1280) (hdo := slices_S1x640_o0_256_S1x128) (inb := inb_S96x2560_S96x128_0_1280) rfl rfl rfl, ?_⟩
  refine List.forall_mem_cons.2 ⟨spo (arg10 := arg10) (harg10 := harg10) (arg11 := arg11) (harg11 := harg11) (x8 := x8) (x9 := x9) (g := 1) (b := 2) (gn := 1) (o := 256) (on := 1152) (hdo := slices_S1x640_o0_256_S1x128) (inb := inb_S96x2560_S96x128_0_1152) rfl rfl rfl, ?_⟩
  refine List.forall_mem_cons.2 ⟨spo (arg10 := arg10) (harg10 := harg10) (arg11 := arg11) (harg11 := harg11) (x8 := x8) (x9 := x9) (g := 0) (b := 2) (gn := 0) (o := 256) (on := 1024) (hdo := slices_S1x640_o0_256_S1x128) (inb := inb_S96x2560_S96x128_0_1024) rfl rfl rfl, ?_⟩
  refine List.forall_mem_cons.2 ⟨spo (arg10 := arg10) (harg10 := harg10) (arg11 := arg11) (harg11 := harg11) (x8 := x8) (x9 := x9) (g := 3) (b := 1) (gn := 3) (o := 128) (on := 896) (hdo := slices_S1x640_o0_128_S1x128) (inb := inb_S96x2560_S96x128_0_896) rfl rfl rfl, ?_⟩
  refine List.forall_mem_cons.2 ⟨spo (arg10 := arg10) (harg10 := harg10) (arg11 := arg11) (harg11 := harg11) (x8 := x8) (x9 := x9) (g := 2) (b := 1) (gn := 2) (o := 128) (on := 768) (hdo := slices_S1x640_o0_128_S1x128) (inb := inb_S96x2560_S96x128_0_768) rfl rfl rfl, ?_⟩
  refine List.forall_mem_cons.2 ⟨spo (arg10 := arg10) (harg10 := harg10) (arg11 := arg11) (harg11 := harg11) (x8 := x8) (x9 := x9) (g := 1) (b := 1) (gn := 1) (o := 128) (on := 640) (hdo := slices_S1x640_o0_128_S1x128) (inb := inb_S96x2560_S96x128_0_640) rfl rfl rfl, ?_⟩
  refine List.forall_mem_cons.2 ⟨spo (arg10 := arg10) (harg10 := harg10) (arg11 := arg11) (harg11 := harg11) (x8 := x8) (x9 := x9) (g := 0) (b := 1) (gn := 0) (o := 128) (on := 512) (hdo := slices_S1x640_o0_128_S1x128) (inb := inb_S96x2560_S96x128_0_512) rfl rfl rfl, ?_⟩
  refine List.forall_mem_cons.2 ⟨spo (arg10 := arg10) (harg10 := harg10) (arg11 := arg11) (harg11 := harg11) (x8 := x8) (x9 := x9) (g := 3) (b := 0) (gn := 3) (o := 0) (on := 384) (hdo := slices_S1x640_o0_0_S1x128) (inb := inb_S96x2560_S96x128_0_384) rfl rfl rfl, ?_⟩
  refine List.forall_mem_cons.2 ⟨spo (arg10 := arg10) (harg10 := harg10) (arg11 := arg11) (harg11 := harg11) (x8 := x8) (x9 := x9) (g := 2) (b := 0) (gn := 2) (o := 0) (on := 256) (hdo := slices_S1x640_o0_0_S1x128) (inb := inb_S96x2560_S96x128_0_256) rfl rfl rfl, ?_⟩
  refine List.forall_mem_cons.2 ⟨spo (arg10 := arg10) (harg10 := harg10) (arg11 := arg11) (harg11 := harg11) (x8 := x8) (x9 := x9) (g := 1) (b := 0) (gn := 1) (o := 0) (on := 128) (hdo := slices_S1x640_o0_0_S1x128) (inb := inb_S96x2560_S96x128_0_128) rfl rfl rfl, ?_⟩
  refine List.forall_mem_cons.2 ⟨spo (arg10 := arg10) (harg10 := harg10) (arg11 := arg11) (harg11 := harg11) (x8 := x8) (x9 := x9) (g := 0) (b := 0) (gn := 0) (o := 0) (on := 0) (hdo := slices_S1x640_o0_0_S1x128) (inb := inb_S96x2560_S96x128_0_0) rfl rfl rfl, ?_⟩
  exact List.forall_mem_nil _

end Cert.KernelIdeal.RunA

end
-- ==== Proof.GradsA.lean ====
/- What the stores into the scratch buffer of score gradients hold, in one case of the body. -/
module

public import proofs.«01_k».proof.Proof.LseA

@[expose] public section

set_option maxRecDepth 16384

noncomputable section

namespace Cert.KernelIdeal.RunA

open Idealize.ShloMosaic Idealize.ShloMosaic.TcCoe Cert.KernelIdeal.Gen

variable (c : Dev nD) (i : grid0.Coords)
  (arg2 : Memref sig .tc .smem S32 .f32) (harg2 : arg2.IsWhole) (arg3 : Memref sig .tc .smem S8 .f32) (harg3 : arg3.IsWhole)
  (arg4 : Memref sig .tc .smem S8 .f32) (harg4 : arg4.IsWhole) (arg5 : Memref sig .tc .vmem S1x4x1x96x640 .fp8e4m3) (harg5 : arg5.IsWhole)
  (arg6 : Memref sig .tc .vmem S1x1x96x640 .fp8e4m3) (harg6 : arg6.IsWhole) (arg7 : Memref sig .tc .vmem S1x1x96x640 .fp8e4m3) (harg7 : arg7.IsWhole)
  (arg8 : Memref sig .tc .vmem S1x4x1x96x640 .bf16) (harg8 : arg8.IsWhole) (arg9 : Memref sig .tc .vmem S1x4x8x640 .f32) (harg9 : arg9.IsWhole)
  (arg10 : Memref sig .tc .vmem S1x4x1x96x640 .fp8e5m2) (harg10 : arg10.IsWhole)
  (arg11 : Memref sig .tc .vmem S1x1x640 .f32) (harg11 : arg11.IsWhole)
  (arg15 : Memref sig .tc .vmem S640x2560 .bf16) (harg15 : arg15.IsWhole) (arg16 : Memref sig .tc .vmem S640x2560 .bf16) (harg16 : arg16.IsWhole)
  (arg17 : Memref sig .tc .vmem S96x2560 .bf16) (harg17 : arg17.IsWhole) (arg18 : Memref sig .tc .vmem S96x2560 .bf16) (harg18 : arg18.IsWhole)
  (arg19 : Memref sig .tc .vmem S8x4x640 .f32) (harg19 : arg19.IsWhole)
  (x0 : Vec Ideal S32 .f32) (x1 x2 : Vec Ideal S8 .f32) (x3 : Vec Ideal S1x4x1x96x640 .fp8e4m3) (x4 x5 : Vec Ideal S1x1x96x640 .fp8e4m3)
  (x6 : Vec Ideal S1x4x1x96x640 .bf16) (x7 : Vec Ideal S1x4x8x640 .f32) (x8 : Vec Ideal S1x4x1x96x640 .fp8e5m2) (x9 : Vec Ideal S1x1x640 .f32)
  (xs0 xs1 : Vec Ideal S640x2560 .bf16) (xs4 : Vec Ideal S8x4x640 .f32)

set_option maxHeartbeats 1000000 in
/-- Every store into the score gradients' scratch up to block 0, but the first, which clears it, holds the score gradients. -/
theorem hs1_5 : ∀ p ∈ List.dropLast (kernelRun0_A.sl.HS1_5 (F := Ideal) c i arg2 harg2 arg3 harg3 arg4 harg4 arg5 harg5 arg6 harg6 arg7 harg7 arg8 harg8 arg9 harg9 arg10 harg10 arg11 harg11 arg19 x0 x1 x2 x3 x4 x5 x6 x7 x8 x9), ∀ x : p.1.shape.Idx, p.2 x = (ptOf (head i) x0 x1 x2 x3 x4 x5 x6 x8 x9 (lseOf x7)).c16 (p.1.emb x 0) (p.1.emb x 1) := by
  unfold kernelRun0_A.sl.HS1_5
  simp only [List.dropLast]
  refine List.forall_mem_cons.2 ⟨Blk.piece_d0 (o := 384) (inb := inb_S640x2560_S128x128_0_384) _ 3 0 rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 3) (o := 0) rfl rfl
  · exact cqk (arg2 := arg2) (harg2 := harg2) (arg3 := arg3) (harg3 := harg3) (x0 := x0) (x1 := x1) (w := 24#32) rfl
  · exact clw arg19 (lseOf x7) (off := k0_off6 i) (hs4 c arg9 harg9 x7) (hc4 c arg9 harg9 x7) ⟨rfl, rfl, rfl⟩
  · exact vs (arg7 := arg7) (harg7 := harg7) (x5 := x5)
  · exact cdO (arg10 := arg10) (harg10 := harg10) (x8 := x8) (gn := 3) (o := 0) rfl rfl
  · exact csv (arg4 := arg4) (harg4 := harg4) (arg11 := arg11) (harg11 := harg11) (x2 := x2) (x9 := x9) (o := 0) (hdo := slices_S1x640_o0_0_S1x128) rfl
  · exact cdl (arg8 := arg8) (harg8 := harg8) (arg10 := arg10) (harg10 := harg10) (arg11 := arg11) (harg11 := harg11) (x6 := x6) (x8 := x8) (x9 := x9) (gn := 3) (o := 0) (hdo := slices_S1x640_o0_0_S1x128) (hle := by decide) rfl rfl
  refine List.forall_mem_cons.2 ⟨Blk.piece_d0 (o := 256) (inb := inb_S640x2560_S128x128_0_256) _ 2 0 rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 2) (o := 0) rfl rfl
  · exact cqk (arg2 := arg2) (harg2 := harg2) (arg3 := arg3) (harg3 := harg3) (x0 := x0) (x1 := x1) (w := 16#32) rfl
  · exact clw arg19 (lseOf x7) (off := k0_off5 i) (hs4 c arg9 harg9 x7) (hc4 c arg9 harg9 x7) ⟨rfl, rfl, rfl⟩
  · exact vs (arg7 := arg7) (harg7 := harg7) (x5 := x5)
  · exact cdO (arg10 := arg10) (harg10 := harg10) (x8 := x8) (gn := 2) (o := 0) rfl rfl
  · exact csv (arg4 := arg4) (harg4 := harg4) (arg11 := arg11) (harg11 := harg11) (x2 := x2) (x9 := x9) (o := 0) (hdo := slices_S1x640_o0_0_S1x128) rfl
  · exact cdl (arg8 := arg8) (harg8 := harg8) (arg10 := arg10) (harg10 := harg10) (arg11 := arg11) (harg11 := harg11) (x6 := x6) (x8 := x8) (x9 := x9) (gn := 2) (o := 0) (hdo := slices_S1x640_o0_0_S1x128) (hle := by decide) rfl rfl
  refine List.forall_mem_cons.2 ⟨Blk.piece_d0 (o := 128) (inb := inb_S640x2560_S128x128_0_128) _ 1 0 rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 1) (o := 0) rfl rfl
  · exact cqk (arg2 := arg2) (harg2 := harg2) (arg3 := arg3) (harg3 := harg3) (x0 := x0) (x1 := x1) (w := 8#32) rfl
  · exact clw arg19 (lseOf x7) (off := k0_off4 i) (hs4 c arg9 harg9 x7) (hc4 c arg9 harg9 x7) ⟨rfl, rfl, rfl⟩
  · exact vs (arg7 := arg7) (harg7 := harg7) (x5 := x5)
  · exact cdO (arg10 := arg10) (harg10 := harg10) (x8 := x8) (gn := 1) (o := 0) rfl rfl
  · exact csv (arg4 := arg4) (harg4 := harg4) (arg11 := arg11) (harg11 := harg11) (x2 := x2) (x9 := x9) (o := 0) (hdo := slices_S1x640_o0_0_S1x128) rfl
  · exact cdl (arg8 := arg8) (harg8 := harg8) (arg10 := arg10) (harg10 := harg10) (arg11 := arg11) (harg11 := harg11) (x6 := x6) (x8 := x8) (x9 := x9) (gn := 1) (o := 0) (hdo := slices_S1x640_o0_0_S1x128) (hle := by decide) rfl rfl
  refine List.forall_mem_cons.2 ⟨Blk.piece_d0 (o := 0) (inb := inb_S640x2560_S128x128_0_0) _ 0 0 rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 0) (o := 0) rfl rfl
  · exact cqk (arg2 := arg2) (harg2 := harg2) (arg3 := arg3) (harg3 := harg3) (x0 := x0) (x1 := x1) (w := 0#32) rfl
  · exact clw arg19 (lseOf x7) (off := k0_off3 i) (hs4 c arg9 harg9 x7) (hc4 c arg9 harg9 x7) ⟨rfl, rfl, rfl⟩
  · exact vs (arg7 := arg7) (harg7 := harg7) (x5 := x5)
  · exact cdO (arg10 := arg10) (harg10 := harg10) (x8 := x8) (gn := 0) (o := 0) rfl rfl
  · exact csv (arg4 := arg4) (harg4 := harg4) (arg11 := arg11) (harg11 := harg11) (x2 := x2) (x9 := x9) (o := 0) (hdo := slices_S1x640_o0_0_S1x128) rfl
  · exact cdl (arg8 := arg8) (harg8 := harg8) (arg10 := arg10) (harg10 := harg10) (arg11 := arg11) (harg11 := harg11) (x6 := x6) (x8 := x8) (x9 := x9) (gn := 0) (o := 0) (hdo := slices_S1x640_o0_0_S1x128) (hle := by decide) rfl rfl
  exact List.forall_mem_nil _

set_option maxHeartbeats 1000000 in
/-- Every store into the score gradients' scratch up to block 1, but the first, which clears it, holds the score gradients. -/
theorem hs1_9 : ∀ p ∈ List.dropLast (kernelRun0_A.sl.HS1_9 (F := Ideal) c i arg2 harg2 arg3 harg3 arg4 harg4 arg5 harg5 arg6 harg6 arg7 harg7 arg8 harg8 arg9 harg9 arg10 harg10 arg11 harg11 arg19 x0 x1 x2 x3 x4 x5 x6 x7 x8 x9), ∀ x : p.1.shape.Idx, p.2 x = (ptOf (head i) x0 x1 x2 x3 x4 x5 x6 x8 x9 (lseOf x7)).c16 (p.1.emb x 0) (p.1.emb x 1) := by
  unfold kernelRun0_A.sl.HS1_9 kernelRun0_A.sl.HS1_5
  simp only [List.dropLast]
  refine List.forall_mem_cons.2 ⟨Blk.piece_d (n := 256) (m := 128) (o := 896) (inb := inb_S640x2560_S256x128_0_896) _ 3 1 rfl rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 3) (o := 128) rfl rfl
  · exact cqk (arg2 := arg2) (harg2 := harg2) (arg3 := arg3) (harg3 := harg3) (x0 := x0) (x1 := x1) (w := 24#32) rfl
  · exact clw arg19 (lseOf x7) (off := k0_off10 i) (hs4 c arg9 harg9 x7) (hc4 c arg9 harg9 x7) ⟨rfl, rfl, rfl⟩
  · exact vs (arg7 := arg7) (harg7 := harg7) (x5 := x5)
  · exact cdO (arg10 := arg10) (harg10 := harg10) (x8 := x8) (gn := 3) (o := 128) rfl rfl
  · exact csv (arg4 := arg4) (harg4 := harg4) (arg11 := arg11) (harg11 := harg11) (x2 := x2) (x9 := x9) (o := 128) (hdo := slices_S1x640_o0_128_S1x128) rfl
  · exact cdl (arg8 := arg8) (harg8 := harg8) (arg10 := arg10) (harg10 := harg10) (arg11 := arg11) (harg11 := harg11) (x6 := x6) (x8 := x8) (x9 := x9) (gn := 3) (o := 128) (hdo := slices_S1x640_o0_128_S1x128) (hle := by decide) rfl rfl
  refine List.forall_mem_cons.2 ⟨Blk.piece_d (n := 256) (m := 128) (o := 768) (inb := inb_S640x2560_S256x128_0_768) _ 2 1 rfl rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 2) (o := 128) rfl rfl
  · exact cqk (arg2 := arg2) (harg2 := harg2) (arg3 := arg3) (harg3 := harg3) (x0 := x0) (x1 := x1) (w := 16#32) rfl
  · exact clw arg19 (lseOf x7) (off := k0_off9 i) (hs4 c arg9 harg9 x7) (hc4 c arg9 harg9 x7) ⟨rfl, rfl, rfl⟩
  · exact vs (arg7 := arg7) (harg7 := harg7) (x5 := x5)
  · exact cdO (arg10 := arg10) (harg10 := harg10) (x8 := x8) (gn := 2) (o := 128) rfl rfl
  · exact csv (arg4 := arg4) (harg4 := harg4) (arg11 := arg11) (harg11 := harg11) (x2 := x2) (x9 := x9) (o := 128) (hdo := slices_S1x640_o0_128_S1x128) rfl
  · exact cdl (arg8 := arg8) (harg8 := harg8) (arg10 := arg10) (harg10 := harg10) (arg11 := arg11) (harg11 := harg11) (x6 := x6) (x8 := x8) (x9 := x9) (gn := 2) (o := 128) (hdo := slices_S1x640_o0_128_S1x128) (hle := by decide) rfl rfl
  refine List.forall_mem_cons.2 ⟨Blk.piece_d (n := 256) (m := 128) (o := 640) (inb := inb_S640x2560_S256x128_0_640) _ 1 1 rfl rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 1) (o := 128) rfl rfl
  · exact cqk (arg2 := arg2) (harg2 := harg2) (arg3 := arg3) (harg3 := harg3) (x0 := x0) (x1 := x1) (w := 8#32) rfl
  · exact clw arg19 (lseOf x7) (off := k0_off8 i) (hs4 c arg9 harg9 x7) (hc4 c arg9 harg9 x7) ⟨rfl, rfl, rfl⟩
  · exact vs (arg7 := arg7) (harg7 := harg7) (x5 := x5)
  · exact cdO (arg10 := arg10) (harg10 := harg10) (x8 := x8) (gn := 1) (o := 128) rfl rfl
  · exact csv (arg4 := arg4) (harg4 := harg4) (arg11 := arg11) (harg11 := harg11) (x2 := x2) (x9 := x9) (o := 128) (hdo := slices_S1x640_o0_128_S1x128) rfl
  · exact cdl (arg8 := arg8) (harg8 := harg8) (arg10 := arg10) (harg10 := harg10) (arg11 := arg11) (harg11 := harg11) (x6 := x6) (x8 := x8) (x9 := x9) (gn := 1) (o := 128) (hdo := slices_S1x640_o0_128_S1x128) (hle := by decide) rfl rfl
  refine List.forall_mem_cons.2 ⟨Blk.piece_d (n := 256) (m := 128) (o := 512) (inb := inb_S640x2560_S256x128_0_512) _ 0 1 rfl rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 0) (o := 128) rfl rfl
  · exact cqk (arg2 := arg2) (harg2 := harg2) (arg3 := arg3) (harg3 := harg3) (x0 := x0) (x1 := x1) (w := 0#32) rfl
  · exact clw arg19 (lseOf x7) (off := k0_off7 i) (hs4 c arg9 harg9 x7) (hc4 c arg9 harg9 x7) ⟨rfl, rfl, rfl⟩
  · exact vs (arg7 := arg7) (harg7 := harg7) (x5 := x5)
  · exact cdO (arg10 := arg10) (harg10 := harg10) (x8 := x8) (gn := 0) (o := 128) rfl rfl
  · exact csv (arg4 := arg4) (harg4 := harg4) (arg11 := arg11) (harg11 := harg11) (x2 := x2) (x9 := x9) (o := 128) (hdo := slices_S1x640_o0_128_S1x128) rfl
  · exact cdl (arg8 := arg8) (harg8 := harg8) (arg10 := arg10) (harg10 := harg10) (arg11 := arg11) (harg11 := harg11) (x6 := x6) (x8 := x8) (x9 := x9) (gn := 0) (o := 128) (hdo := slices_S1x640_o0_128_S1x128) (hle := by decide) rfl rfl
  exact hs1_5 c i arg2 harg2 arg3 harg3 arg4 harg4 arg5 harg5 arg6 harg6 arg7 harg7 arg8 harg8 arg9 harg9 arg10 harg10 arg11 harg11 arg19 x0 x1 x2 x3 x4 x5 x6 x7 x8 x9

set_option maxHeartbeats 1000000 in
/-- Every store into the score gradients' scratch up to block 2, but the first, which clears it, holds the score gradients. -/
theorem hs1_13 : ∀ p ∈ List.dropLast (kernelRun0_A.sl.HS1_13 (F := Ideal) c i arg2 harg2 arg3 harg3 arg4 harg4 arg5 harg5 arg6 harg6 arg7 harg7 arg8 harg8 arg9 harg9 arg10 harg10 arg11 harg11 arg19 x0 x1 x2 x3 x4 x5 x6 x7 x8 x9), ∀ x : p.1.shape.Idx, p.2 x = (ptOf (head i) x0 x1 x2 x3 x4 x5 x6 x8 x9 (lseOf x7)).c16 (p.1.emb x 0) (p.1.emb x 1) := by
  unfold kernelRun0_A.sl.HS1_13 kernelRun0_A.sl.HS1_9
  simp only [List.dropLast]
  refine List.forall_mem_cons.2 ⟨Blk.piece_d (n := 384) (m := 256) (o := 1408) (inb := inb_S640x2560_S384x128_0_1408) _ 3 2 rfl rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 3) (o := 256) rfl rfl
  · exact cqk (arg2 := arg2) (harg2 := harg2) (arg3 := arg3) (harg3 := harg3) (x0 := x0) (x1 := x1) (w := 24#32) rfl
  · exact clw arg19 (lseOf x7) (off := k0_off14 i) (hs4 c arg9 harg9 x7) (hc4 c arg9 harg9 x7) ⟨rfl, rfl, rfl⟩
  · exact vs (arg7 := arg7) (harg7 := harg7) (x5 := x5)
  · exact cdO (arg10 := arg10) (harg10 := harg10) (x8 := x8) (gn := 3) (o := 256) rfl rfl
  · exact csv (arg4 := arg4) (harg4 := harg4) (arg11 := arg11) (harg11 := harg11) (x2 := x2) (x9 := x9) (o := 256) (hdo := slices_S1x640_o0_256_S1x128) rfl
  · exact cdl (arg8 := arg8) (harg8 := harg8) (arg10 := arg10) (harg10 := harg10) (arg11 := arg11) (harg11 := harg11) (x6 := x6) (x8 := x8) (x9 := x9) (gn := 3) (o := 256) (hdo := slices_S1x640_o0_256_S1x128) (hle := by decide) rfl rfl
  refine List.forall_mem_cons.2 ⟨Blk.piece_d (n := 384) (m := 256) (o := 1280) (inb := inb_S640x2560_S384x128_0_1280) _ 2 2 rfl rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 2) (o := 256) rfl rfl
  · exact cqk (arg2 := arg2) (harg2 := harg2) (arg3 := arg3) (harg3 := harg3) (x0 := x0) (x1 := x1) (w := 16#32) rfl
  · exact clw arg19 (lseOf x7) (off := k0_off13 i) (hs4 c arg9 harg9 x7) (hc4 c arg9 harg9 x7) ⟨rfl, rfl, rfl⟩
  · exact vs (arg7 := arg7) (harg7 := harg7) (x5 := x5)
  · exact cdO (arg10 := arg10) (harg10 := harg10) (x8 := x8) (gn := 2) (o := 256) rfl rfl
  · exact csv (arg4 := arg4) (harg4 := harg4) (arg11 := arg11) (harg11 := harg11) (x2 := x2) (x9 := x9) (o := 256) (hdo := slices_S1x640_o0_256_S1x128) rfl
  · exact cdl (arg8 := arg8) (harg8 := harg8) (arg10 := arg10) (harg10 := harg10) (arg11 := arg11) (harg11 := harg11) (x6 := x6) (x8 := x8) (x9 := x9) (gn := 2) (o := 256) (hdo := slices_S1x640_o0_256_S1x128) (hle := by decide) rfl rfl
  refine List.forall_mem_cons.2 ⟨Blk.piece_d (n := 384) (m := 256) (o := 1152) (inb := inb_S640x2560_S384x128_0_1152) _ 1 2 rfl rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 1) (o := 256) rfl rfl
  · exact cqk (arg2 := arg2) (harg2 := harg2) (arg3 := arg3) (harg3 := harg3) (x0 := x0) (x1 := x1) (w := 8#32) rfl
  · exact clw arg19 (lseOf x7) (off := k0_off12 i) (hs4 c arg9 harg9 x7) (hc4 c arg9 harg9 x7) ⟨rfl, rfl, rfl⟩
  · exact vs (arg7 := arg7) (harg7 := harg7) (x5 := x5)
  · exact cdO (arg10 := arg10) (harg10 := harg10) (x8 := x8) (gn := 1) (o := 256) rfl rfl
  · exact csv (arg4 := arg4) (harg4 := harg4) (arg11 := arg11) (harg11 := harg11) (x2 := x2) (x9 := x9) (o := 256) (hdo := slices_S1x640_o0_256_S1x128) rfl
  · exact cdl (arg8 := arg8) (harg8 := harg8) (arg10 := arg10) (harg10 := harg10) (arg11 := arg11) (harg11 := harg11) (x6 := x6) (x8 := x8) (x9 := x9) (gn := 1) (o := 256) (hdo := slices_S1x640_o0_256_S1x128) (hle := by decide) rfl rfl
  refine List.forall_mem_cons.2 ⟨Blk.piece_d (n := 384) (m := 256) (o := 1024) (inb := inb_S640x2560_S384x128_0_1024) _ 0 2 rfl rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 0) (o := 256) rfl rfl
  · exact cqk (arg2 := arg2) (harg2 := harg2) (arg3 := arg3) (harg3 := harg3) (x0 := x0) (x1 := x1) (w := 0#32) rfl
  · exact clw arg19 (lseOf x7) (off := k0_off11 i) (hs4 c arg9 harg9 x7) (hc4 c arg9 harg9 x7) ⟨rfl, rfl, rfl⟩
  · exact vs (arg7 := arg7) (harg7 := harg7) (x5 := x5)
  · exact cdO (arg10 := arg10) (harg10 := harg10) (x8 := x8) (gn := 0) (o := 256) rfl rfl
  · exact csv (arg4 := arg4) (harg4 := harg4) (arg11 := arg11) (harg11 := harg11) (x2 := x2) (x9 := x9) (o := 256) (hdo := slices_S1x640_o0_256_S1x128) rfl
  · exact cdl (arg8 := arg8) (harg8 := harg8) (arg10 := arg10) (harg10 := harg10) (arg11 := arg11) (harg11 := harg11) (x6 := x6) (x8 := x8) (x9 := x9) (gn := 0) (o := 256) (hdo := slices_S1x640_o0_256_S1x128) (hle := by decide) rfl rfl
  exact hs1_9 c i arg2 harg2 arg3 harg3 arg4 harg4 arg5 harg5 arg6 harg6 arg7 harg7 arg8 harg8 arg9 harg9 arg10 harg10 arg11 harg11 arg19 x0 x1 x2 x3 x4 x5 x6 x7 x8 x9

set_option maxHeartbeats 1000000 in
/-- Every store into the score gradients' scratch up to block 3, but the first, which clears it, holds the score gradients. -/
theorem hs1_17 : ∀ p ∈ List.dropLast (kernelRun0_A.sl.HS1_17 (F := Ideal) c i arg2 harg2 arg3 harg3 arg4 harg4 arg5 harg5 arg6 harg6 arg7 harg7 arg8 harg8 arg9 harg9 arg10 harg10 arg11 harg11 arg19 x0 x1 x2 x3 x4 x5 x6 x7 x8 x9), ∀ x : p.1.shape.Idx, p.2 x = (ptOf (head i) x0 x1 x2 x3 x4 x5 x6 x8 x9 (lseOf x7)).c16 (p.1.emb x 0) (p.1.emb x 1) := by
  unfold kernelRun0_A.sl.HS1_17 kernelRun0_A.sl.HS1_13
  simp only [List.dropLast]
  refine List.forall_mem_cons.2 ⟨Blk.piece_d (n := 512) (m := 384) (o := 1920) (inb := inb_S640x2560_S512x128_0_1920) _ 3 3 rfl rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 3) (o := 384) rfl rfl
  · exact cqk (arg2 := arg2) (harg2 := harg2) (arg3 := arg3) (harg3 := harg3) (x0 := x0) (x1 := x1) (w := 24#32) rfl
  · exact clw arg19 (lseOf x7) (off := k0_off18 i) (hs4 c arg9 harg9 x7) (hc4 c arg9 harg9 x7) ⟨rfl, rfl, rfl⟩
  · exact vs (arg7 := arg7) (harg7 := harg7) (x5 := x5)
  · exact cdO (arg10 := arg10) (harg10 := harg10) (x8 := x8) (gn := 3) (o := 384) rfl rfl
  · exact csv (arg4 := arg4) (harg4 := harg4) (arg11 := arg11) (harg11 := harg11) (x2 := x2) (x9 := x9) (o := 384) (hdo := slices_S1x640_o0_384_S1x128) rfl
  · exact cdl (arg8 := arg8) (harg8 := harg8) (arg10 := arg10) (harg10 := harg10) (arg11 := arg11) (harg11 := harg11) (x6 := x6) (x8 := x8) (x9 := x9) (gn := 3) (o := 384) (hdo := slices_S1x640_o0_384_S1x128) (hle := by decide) rfl rfl
  refine List.forall_mem_cons.2 ⟨Blk.piece_d (n := 512) (m := 384) (o := 1792) (inb := inb_S640x2560_S512x128_0_1792) _ 2 3 rfl rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 2) (o := 384) rfl rfl
  · exact cqk (arg2 := arg2) (harg2 := harg2) (arg3 := arg3) (harg3 := harg3) (x0 := x0) (x1 := x1) (w := 16#32) rfl
  · exact clw arg19 (lseOf x7) (off := k0_off17 i) (hs4 c arg9 harg9 x7) (hc4 c arg9 harg9 x7) ⟨rfl, rfl, rfl⟩
  · exact vs (arg7 := arg7) (harg7 := harg7) (x5 := x5)
  · exact cdO (arg10 := arg10) (harg10 := harg10) (x8 := x8) (gn := 2) (o := 384) rfl rfl
  · exact csv (arg4 := arg4) (harg4 := harg4) (arg11 := arg11) (harg11 := harg11) (x2 := x2) (x9 := x9) (o := 384) (hdo := slices_S1x640_o0_384_S1x128) rfl
  · exact cdl (arg8 := arg8) (harg8 := harg8) (arg10 := arg10) (harg10 := harg10) (arg11 := arg11) (harg11 := harg11) (x6 := x6) (x8 := x8) (x9 := x9) (gn := 2) (o := 384) (hdo := slices_S1x640_o0_384_S1x128) (hle := by decide) rfl rfl
  refine List.forall_mem_cons.2 ⟨Blk.piece_d (n := 512) (m := 384) (o := 1664) (inb := inb_S640x2560_S512x128_0_1664) _ 1 3 rfl rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 1) (o := 384) rfl rfl
  · exact cqk (arg2 := arg2) (harg2 := harg2) (arg3 := arg3) (harg3 := harg3) (x0 := x0) (x1 := x1) (w := 8#32) rfl
  · exact clw arg19 (lseOf x7) (off := k0_off16 i) (hs4 c arg9 harg9 x7) (hc4 c arg9 harg9 x7) ⟨rfl, rfl, rfl⟩
  · exact vs (arg7 := arg7) (harg7 := harg7) (x5 := x5)
  · exact cdO (arg10 := arg10) (harg10 := harg10) (x8 := x8) (gn := 1) (o := 384) rfl rfl
  · exact csv (arg4 := arg4) (harg4 := harg4) (arg11 := arg11) (harg11 := harg11) (x2 := x2) (x9 := x9) (o := 384) (hdo := slices_S1x640_o0_384_S1x128) rfl
  · exact cdl (arg8 := arg8) (harg8 := harg8) (arg10 := arg10) (harg10 := harg10) (arg11 := arg11) (harg11 := harg11) (x6 := x6) (x8 := x8) (x9 := x9) (gn := 1) (o := 384) (hdo := slices_S1x640_o0_384_S1x128) (hle := by decide) rfl rfl
  refine List.forall_mem_cons.2 ⟨Blk.piece_d (n := 512) (m := 384) (o := 1536) (inb := inb_S640x2560_S512x128_0_1536) _ 0 3 rfl rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 0) (o := 384) rfl rfl
  · exact cqk (arg2 := arg2) (harg2 := harg2) (arg3 := arg3) (harg3 := harg3) (x0 := x0) (x1 := x1) (w := 0#32) rfl
  · exact clw arg19 (lseOf x7) (off := k0_off15 i) (hs4 c arg9 harg9 x7) (hc4 c arg9 harg9 x7) ⟨rfl, rfl, rfl⟩
  · exact vs (arg7 := arg7) (harg7 := harg7) (x5 := x5)
  · exact cdO (arg10 := arg10) (harg10 := harg10) (x8 := x8) (gn := 0) (o := 384) rfl rfl
  · exact csv (arg4 := arg4) (harg4 := harg4) (arg11 := arg11) (harg11 := harg11) (x2 := x2) (x9 := x9) (o := 384) (hdo := slices_S1x640_o0_384_S1x128) rfl
  · exact cdl (arg8 := arg8) (harg8 := harg8) (arg10 := arg10) (harg10 := harg10) (arg11 := arg11) (harg11 := harg11) (x6 := x6) (x8 := x8) (x9 := x9) (gn := 0) (o := 384) (hdo := slices_S1x640_o0_384_S1x128) (hle := by decide) rfl rfl
  exact hs1_13 c i arg2 harg2 arg3 harg3 arg4 harg4 arg5 harg5 arg6 harg6 arg7 harg7 arg8 harg8 arg9 harg9 arg10 harg10 arg11 harg11 arg19 x0 x1 x2 x3 x4 x5 x6 x7 x8 x9

set_option maxHeartbeats 1000000 in
/-- Every store into the score gradients' scratch up to block 4, but the first, which clears it, holds the score gradients. -/
theorem hs1_21 : ∀ p ∈ List.dropLast (kernelRun0_A.sl.HS1_21 (F := Ideal) c i arg2 harg2 arg3 harg3 arg4 harg4 arg5 harg5 arg6 harg6 arg7 harg7 arg8 harg8 arg9 harg9 arg10 harg10 arg11 harg11 arg19 x0 x1 x2 x3 x4 x5 x6 x7 x8 x9), ∀ x : p.1.shape.Idx, p.2 x = (ptOf (head i) x0 x1 x2 x3 x4 x5 x6 x8 x9 (lseOf x7)).c16 (p.1.emb x 0) (p.1.emb x 1) := by
  unfold kernelRun0_A.sl.HS1_21 kernelRun0_A.sl.HS1_20 kernelRun0_A.sl.HS1_17
  simp only [List.dropLast]
  refine List.forall_mem_cons.2 ⟨Blk.piece_d (n := 640) (m := 512) (o := 2432) (inb := inb_S640x2560_S640x128_0_2432) _ 3 4 rfl rfl rfl ⟨?_, ?_, ?_, ?_⟩ ⟨?_, ?_, ?_, ?_⟩, ?_⟩
  · exact kw (arg6 := arg6) (harg6 := harg6) (x4 := x4)
  · exact cq (arg5 := arg5) (harg5 := harg5) (x3 := x3) (gn := 3) (o := 512) rfl rfl
  · exact cqk (arg2 := arg2) (harg2 := harg2) (arg3 := arg3) (harg3 := harg3) (x0 := x0) (x1 := x1) (w := 24#32) rfl
  · exact clw arg19 (lseOf x7) (off := k0_off22 i) (hs4 c arg9 harg9 x7) (hc4 c arg9 harg9 x7) ⟨rfl, rfl, rfl⟩
  · exact vw (arg7 := arg7) (harg7 := harg7) (x5 := x5)
  · exact cdO (arg10 := arg10) (harg10 := harg10) (x8 := x8) (gn := 3) (o := 512) rfl rfl
  · exact csv (arg4 := arg4) (harg4 := harg4) (arg11 := arg11) (harg11 := harg11) (x2 := x2) (x9 := x9) (o := 512) (hdo := slices_S1x640_o0_512_S1x128) rfl
  · exact cdl (arg8 := arg8) (harg8 := harg8) (arg10 := arg10) (harg10 := harg10) (arg11 := arg11) (harg11 := harg11) (x6 := x6) (x8 := x8) (x9 := x9) (gn := 3) (o := 512) (hdo := slices_S1x640_o0_512_S1x128) (hle := by decide) rfl rfl
  refine List.forall_mem_cons.2 ⟨Blk.piece_d (n := 640) (m := 512) (o := 2304) (inb := inb_S640x2560_S640x128_0_2304) _ 2 4 rfl rfl rfl ⟨?_, ?_, ?_, ?_⟩ ⟨?_, ?_, ?_, ?_⟩, ?_⟩
  · exact kw (arg6 := arg6) (harg6 := harg6) (x4 := x4)
  · exact cq (arg5 := arg5) (harg5 := harg5) (x3 := x3) (gn := 2) (o := 512) rfl rfl
  · exact cqk (arg2 := arg2) (harg2 := harg2) (arg3 := arg3) (harg3 := harg3) (x0 := x0) (x1 := x1) (w := 16#32) rfl
  · exact clw arg19 (lseOf x7) (off := k0_off21 i) (hs4 c arg9 harg9 x7) (hc4 c arg9 harg9 x7) ⟨rfl, rfl, rfl⟩
  · exact vw (arg7 := arg7) (harg7 := harg7) (x5 := x5)
  · exact cdO (arg10 := arg10) (harg10 := harg10) (x8 := x8) (gn := 2) (o := 512) rfl rfl
  · exact csv (arg4 := arg4) (harg4 := harg4) (arg11 := arg11) (harg11 := harg11) (x2 := x2) (x9 := x9) (o := 512) (hdo := slices_S1x640_o0_512_S1x128) rfl
  · exact cdl (arg8 := arg8) (harg8 := harg8) (arg10 := arg10) (harg10 := harg10) (arg11 := arg11) (harg11 := harg11) (x6 := x6) (x8 := x8) (x9 := x9) (gn := 2) (o := 512) (hdo := slices_S1x640_o0_512_S1x128) (hle := by decide) rfl rfl
  refine List.forall_mem_cons.2 ⟨Blk.piece_d (n := 640) (m := 512) (o := 2176) (inb := inb_S640x2560_S640x128_0_2176) _ 1 4 rfl rfl rfl ⟨?_, ?_, ?_, ?_⟩ ⟨?_, ?_, ?_, ?_⟩, ?_⟩
  · exact kw (arg6 := arg6) (harg6 := harg6) (x4 := x4)
  · exact cq (arg5 := arg5) (harg5 := harg5) (x3 := x3) (gn := 1) (o := 512) rfl rfl
  · exact cqk (arg2 := arg2) (harg2 := harg2) (arg3 := arg3) (harg3 := harg3) (x0 := x0) (x1 := x1) (w := 8#32) rfl
  · exact clw arg19 (lseOf x7) (off := k0_off20 i) (hs4 c arg9 harg9 x7) (hc4 c arg9 harg9 x7) ⟨rfl, rfl, rfl⟩
  · exact vw (arg7 := arg7) (harg7 := harg7) (x5 := x5)
  · exact cdO (arg10 := arg10) (harg10 := harg10) (x8 := x8) (gn := 1) (o := 512) rfl rfl
  · exact csv (arg4 := arg4) (harg4 := harg4) (arg11 := arg11) (harg11 := harg11) (x2 := x2) (x9 := x9) (o := 512) (hdo := slices_S1x640_o0_512_S1x128) rfl
  · exact cdl (arg8 := arg8) (harg8 := harg8) (arg10 := arg10) (harg10 := harg10) (arg11 := arg11) (harg11 := harg11) (x6 := x6) (x8 := x8) (x9 := x9) (gn := 1) (o := 512) (hdo := slices_S1x640_o0_512_S1x128) (hle := by decide) rfl rfl
  refine List.forall_mem_cons.2 ⟨Blk.piece_d (n := 640) (m := 512) (o := 2048) (inb := inb_S640x2560_S640x128_0_2048) _ 0 4 rfl rfl rfl ⟨?_, ?_, ?_, ?_⟩ ⟨?_, ?_, ?_, ?_⟩, ?_⟩
  · exact kw (arg6 := arg6) (harg6 := harg6) (x4 := x4)
  · exact cq (arg5 := arg5) (harg5 := harg5) (x3 := x3) (gn := 0) (o := 512) rfl rfl
  · exact cqk (arg2 := arg2) (harg2 := harg2) (arg3 := arg3) (harg3 := harg3) (x0 := x0) (x1 := x1) (w := 0#32) rfl
  · exact clw arg19 (lseOf x7) (off := k0_off19 i) (hs4 c arg9 harg9 x7) (hc4 c arg9 harg9 x7) ⟨rfl, rfl, rfl⟩
  · exact vw (arg7 := arg7) (harg7 := harg7) (x5 := x5)
  · exact cdO (arg10 := arg10) (harg10 := harg10) (x8 := x8) (gn := 0) (o := 512) rfl rfl
  · exact csv (arg4 := arg4) (harg4 := harg4) (arg11 := arg11) (harg11 := harg11) (x2 := x2) (x9 := x9) (o := 512) (hdo := slices_S1x640_o0_512_S1x128) rfl
  · exact cdl (arg8 := arg8) (harg8 := harg8) (arg10 := arg10) (harg10 := harg10) (arg11 := arg11) (harg11 := harg11) (x6 := x6) (x8 := x8) (x9 := x9) (gn := 0) (o := 512) (hdo := slices_S1x640_o0_512_S1x128) (hle := by decide) rfl rfl
  exact hs1_17 c i arg2 harg2 arg3 harg3 arg4 harg4 arg5 harg5 arg6 harg6 arg7 harg7 arg8 harg8 arg9 harg9 arg10 harg10 arg11 harg11 arg19 x0 x1 x2 x3 x4 x5 x6 x7 x8 x9

end Cert.KernelIdeal.RunA

end
-- ==== Proof.Cover.lean ====
/- What the scratch buffers hold after a grid point's stores, and the results' blocks computed from them. -/
module

public import proofs.«01_k».proof.Proof.Reads

@[expose] public section

set_option maxRecDepth 16384

noncomputable section

namespace Cert.KernelIdeal

open Idealize.ShloMosaic

/-- A sum whose tail is zero. -/
theorem sum_head {n N : ℕ} (h : n ≤ N) (f : Fin N → EReal) (hf : ∀ r, n ≤ r.val → f r = 0) : ∑ r : Fin n, f ⟨r.val, by omega⟩ = ∑ r, f r := by
  obtain ⟨m, rfl⟩ := Nat.exists_eq_add_of_le h
  rw [Fin.sum_univ_add, Finset.sum_eq_zero (s := Finset.univ) (f := fun i : Fin m => f (Fin.natAdd n i)) (fun i _ => hf _ (by simp)), add_zero]
  rfl

/-- A sum whose head is zero. -/
theorem sum_tail {c n N : ℕ} (h : c + n = N) (f : Fin N → EReal) (hf : ∀ r, r.val < c → f r = 0) : ∑ j : Fin n, f ⟨c + j.val, by omega⟩ = ∑ r, f r := by
  subst h
  rw [Fin.sum_univ_add, Finset.sum_eq_zero (s := Finset.univ) (f := fun i : Fin c => f (Fin.castAdd n i)) (fun i _ => hf _ (by simp)), zero_add]
  rfl

theorem inbA (b : Fin 5) (g : Fin 4) : ∀ a, (![0, 512 * b.val + 128 * g.val] : Fin 2 → ℕ) a + (![128 * (b.val + 1), 128] : Fin 2 → ℕ) a ≤ S640x2560.size a := by
  intro a
  match a with
  | ⟨0, _⟩ => show 0 + 128 * (b.val + 1) ≤ 640; omega
  | ⟨1, _⟩ => show 512 * b.val + 128 * g.val + 128 ≤ 2560; omega

/-- The `k`-th store of a list is the one of head `g` of block `b`. -/
def At (L : List (View.Piece (Elt Ideal) S640x2560 .bf16)) (b : Fin 5) (g : Fin 4) (k : ℕ) : Prop :=
  (L[k]?).map Sigma.fst = some (Rect.unit (s := S640x2560) ![0, 512 * b.val + 128 * g.val] ![128 * (b.val + 1), 128] (inbA b g))

section cov
variable (v : View sig .tc .vmem S640x2560 .bf16) {L : List (View.Piece (Elt Ideal) S640x2560 .bf16)} {c : Fin 640 → Fin 2560 → EReal}
  (f : v.ty.Contents (Elt Ideal))

theorem cov_of_at {b : Fin 5} {g : Fin 4} {k : ℕ} (h : At L b g k) {r : Fin 640} {w : Fin 2560} (hr : r.val < 128 * (b.val + 1)) (hw : 512 * b.val + 128 * g.val ≤ w.val)
    (hw' : w.val < 512 * b.val + 128 * g.val + 128) : ∃ p ∈ L, (ix2 r w : S640x2560.Idx) ∈ p.1.set := by
  unfold At at h
  obtain ⟨p, hp, e⟩ := Option.map_eq_some_iff.1 h
  refine ⟨p, List.mem_of_getElem? hp, ?_⟩
  rw [e, Rect.mem_set_unit]
  intro a
  match a with
  | ⟨0, _⟩ => exact ⟨Nat.zero_le _, by show r.val < 0 + 128 * (b.val + 1); omega⟩
  | ⟨1, _⟩ => exact ⟨hw, hw'⟩

/-- A block of the scratch after the stores that cover it. -/
theorem blk (hp : ∀ p ∈ L, ∀ x : p.1.shape.Idx, p.2 x = c (p.1.emb x 0) (p.1.emb x 1)) {b : Fin 5} (hA : ∀ g : Fin 4, At L b g (3 - g.val))
    {r : Fin 640} {w : Fin 2560} (hr : r.val < 128 * (b.val + 1)) (hw : w.val / 512 = b.val) : v.read (Elt Ideal) (v.writes (Elt Ideal) f L) (ix2 r w) = c r w :=
  View.read_writes_apply_of_pieces v f (fun y => c (y 0) (y 1)) L hp (ix2 r w)
    (cov_of_at (hA ⟨w.val % 512 / 128, by omega⟩) hr (by show _ + 128 * (w.val % 512 / 128) ≤ _; omega) (by show _ < _ + 128 * (w.val % 512 / 128) + 128; omega))

/-- The scratch after all the stores of a point, when what they leave out is zero already. -/
theorem full (hp : ∀ p ∈ L, ∀ x : p.1.shape.Idx, p.2 x = c (p.1.emb x 0) (p.1.emb x 1)) (hA : ∀ (b : Fin 5) (g : Fin 4), At L b g (19 - (4 * b.val + g.val)))
    (hc : ∀ (r : Fin 640) (w : Fin 2560), (pos w).val < r.val → c r w = 0)
    (hf : ∀ (r : Fin 640) (w : Fin 2560), (pos w).val < r.val → v.read (Elt Ideal) f (ix2 r w) = 0)
    (r : Fin 640) (w : Fin 2560) : v.read (Elt Ideal) (v.writes (Elt Ideal) f L) (ix2 r w) = c r w := by
  by_cases h : ∃ p ∈ L, (ix2 r w : S640x2560.Idx) ∈ p.1.set
  · exact View.read_writes_apply_of_pieces v f (fun y => c (y 0) (y 1)) L hp (ix2 r w) h
  · have hlt : (pos w).val < r.val := by
      by_contra hr
      refine h (cov_of_at (hA ⟨w.val / 512, by omega⟩ ⟨w.val % 512 / 128, by omega⟩) ?_ ?_ ?_)
      · have : (pos w).val = w.val / 512 * 128 + w.val % 128 := rfl
        show r.val < 128 * (w.val / 512 + 1); omega
      · show 512 * (w.val / 512) + 128 * (w.val % 512 / 128) ≤ _; omega
      · show _ < 512 * (w.val / 512) + 128 * (w.val % 512 / 128) + 128; omega
    rw [View.read_writes_apply_of_forall_not_mem _ _ _ _ (fun p hp hy => h ⟨p, hp, hy⟩), hf r w hlt, hc r w hlt]

/-- The first store of a list, at its end, comes first. -/
theorem wr_last (h : L ≠ []) : v.writes (Elt Ideal) f L = v.writes (Elt Ideal) (v.writes (Elt Ideal) f [L.getLast h]) L.dropLast := by
  rw [← View.writes_append, List.dropLast_append_getLast]

/-- A first store of zeroes to the whole buffer. -/
theorem zero_last {p : View.Piece (Elt Ideal) S640x2560 .bf16} {inb : ∀ a, (![0, 0] : Fin 2 → ℕ) a + S640x2560.size a ≤ S640x2560.size a}
    {pay : S640x2560.Idx → EReal} (e : p = ⟨Rect.unit (s := S640x2560) ![0, 0] S640x2560.size inb, pay⟩) (hz : ∀ x, pay x = 0) (y : S640x2560.Idx) :
    v.read (Elt Ideal) (v.writes (Elt Ideal) f [p]) y = 0 := by
  subst e
  refine View.read_writes_apply_of_pieces v f (fun _ => (0 : EReal)) _ (List.forall_mem_singleton.2 fun x => hz x) y ⟨_, List.mem_singleton.2 rfl, ?_⟩
  rw [Rect.mem_set_unit]
  intro a
  match a with
  | ⟨0, _⟩ => exact ⟨Nat.zero_le _, by show (y 0).val < 0 + 640; have := (y 0).isLt; simpa using this⟩
  | ⟨1, _⟩ => exact ⟨Nat.zero_le _, by show (y 1).val < 0 + 2560; have := (y 1).isLt; simpa using this⟩

end cov

/-- A load of a block of a scratch buffer. -/
theorem rdS {R C : ℕ} {e : EltTy} {arg : Memref sig .tc .vmem (Blk.M2 R C) e} (f : arg.view.ty.Contents (Elt Ideal)) {m n r0 w0 : ℕ}
    {inb : ∀ a, (![r0, w0] : Fin 2 → ℕ) a + (Blk.M2 m n).size a ≤ (Blk.M2 R C).size a} (r : Fin m) (j : Fin n) (r' : Fin R) (w : Fin C) (hr : r'.val = r0 + r.val) (hw : w.val = w0 + j.val) :
    View.readAt (Elt Ideal) arg.view (Rect.unit (s := Blk.M2 R C) ![r0, w0] (Blk.M2 m n).size inb).toLoadRect f (ix2 r j) = arg.view.read (Elt Ideal) f (ix2 r' w) := by
  rw [View.readAt_apply]
  congr 1
  funext a
  apply Fin.ext
  match a with
  | ⟨0, _⟩ => show r0 + 1 * r.val = r'.val; omega
  | ⟨1, _⟩ => show w0 + 1 * j.val = w.val; omega

namespace Blk

/-- One head's block of the queries' gradient is the closed form on its rectangle. -/
theorem piece_dq {n o on gn : ℕ} (P : Pt) (g : Fin 4) (i : Fin 5) (hn : n = 128 * (i.val + 1)) (hg : gn = g.val) (ho : o = 128 * g.val) (hon : on = 128 * i.val)
    {hl' : FTy.bf16.bits < FTy.f32.bits} {hs : (M2 96 512).Slices ![0, o] (M2 96 128)} {hc : (M2 96 128).ShapeCasts Q5}
    (K : FVec Ideal (M2 96 n) .bf16) (D : FVec Ideal (M2 n 512) .bf16) (s : Ideal .f32)
    (hK : ∀ (d : Fin 96) (r : Fin n) (r' : Fin 640), r'.val = r.val → K (ix2 d r) = P.k d r')
    (hD : ∀ (r : Fin n) (c : Fin 512) (r' : Fin 640) (w : Fin 2560), r'.val = r.val → w.val = 512 * i.val + c.val → D (ix2 r c) = P.c16 r' w)
    (hsc : s = P.ks * smK)
    {inb : ∀ a, (![0, gn, 0, 0, on] : Fin 5 → ℕ) a + S1x1x1x96x128.size a ≤ S1x4x1x96x640.size a} :
    ∀ x : (Rect.unit (s := S1x4x1x96x640) ![0, gn, 0, 0, on] S1x1x1x96x128.size inb).shape.Idx,
      dq o hl' hs hc K D s x = P.dq ((Rect.unit (s := S1x4x1x96x640) ![0, gn, 0, 0, on] S1x1x1x96x128.size inb).emb x 1)
        ((Rect.unit (s := S1x4x1x96x640) ![0, gn, 0, 0, on] S1x1x1x96x128.size inb).emb x 3) ((Rect.unit (s := S1x4x1x96x640) ![0, gn, 0, 0, on] S1x1x1x96x128.size inb).emb x 4) := by
  intro (x : S1x1x1x96x128.Idx)
  obtain ⟨a, b, e, d, c, rfl⟩ : ∃ (a b e : Fin 1) (d : Fin 96) (c : Fin 128), x = ix5 a b e d c :=
    ⟨x 0, x 1, x 2, x 3, x 4, by funext k; match k with | ⟨0, _⟩ => rfl | ⟨1, _⟩ => rfl | ⟨2, _⟩ => rfl | ⟨3, _⟩ => rfl | ⟨4, _⟩ => rfl⟩
  obtain rfl : a = 0 := Subsingleton.elim _ _
  obtain rfl : b = 0 := Subsingleton.elim _ _
  obtain rfl : e = 0 := Subsingleton.elim _ _
  have e1 : (Rect.unit (s := S1x4x1x96x640) ![0, gn, 0, 0, on] S1x1x1x96x128.size inb).emb (ix5 0 0 0 d c) 1 = g := Fin.ext (by show gn + 1 * 0 = _; omega)
  have e3 : (Rect.unit (s := S1x4x1x96x640) ![0, gn, 0, 0, on] S1x1x1x96x128.size inb).emb (ix5 0 0 0 d c) 3 = d := Fin.ext (by show 0 + 1 * d.val = _; omega)
  have e4 : (Rect.unit (s := S1x4x1x96x640) ![0, gn, 0, 0, on] S1x1x1x96x128.size inb).emb (ix5 0 0 0 d c) 4 = qp i c := Fin.ext (by show on + 1 * c.val = i.val * 128 + c.val; omega)
  refine Eq.trans ?_ (congr (congr (congrArg P.dq e1.symm) e3.symm) e4.symm)
  rw [dq_apply o (by omega), hsc]
  unfold Pt.dq
  congr 1
  have hle : n ≤ 640 := by omega
  refine Eq.trans ?_ (sum_head hle (fun r => P.k d r * P.dS g r (qp i c)) fun r hr => ?_)
  · refine Finset.sum_congr rfl fun r _ => ?_
    have hr : r.val < 640 := by omega
    have hw : o + c.val < 512 := by omega
    rw [hK d r ⟨r.val, hr⟩ rfl, hD r ⟨o + c.val, hw⟩ ⟨r.val, hr⟩ ⟨512 * i.val + (o + c.val), by omega⟩ rfl rfl]
    unfold Pt.c16
    rw [grp_at i g c _ (by show 512 * i.val + (o + c.val) = _; omega), pos_at i g c _ (by show 512 * i.val + (o + c.val) = _; omega)]
  · rw [P.dS_of_lt (by show i.val * 128 + c.val < r.val; omega), mul_zero]

section dkv
variable {m n k0 c0 : ℕ} (P : Pt) (b : ℕ) (hk : k0 = 128 * b) (hc0 : c0 = 4 * k0) (hn : c0 + n = 2560) (hm : k0 + m ≤ 640)
include hk hc0 hn hm

theorem pos_lt {w : Fin 2560} (h : w.val < c0) : (pos w).val < k0 := by
  show w.val / 512 * 128 + w.val % 128 < k0
  omega

/-- A block of columns of the keys' gradient is the closed form on its rectangle. -/
theorem piece_dk {hl' : FTy.bf16.bits < FTy.f32.bits} {hc : (M2 96 m).ShapeCasts ⟨4, ![1, 1, 96, m]⟩} (W : FVec Ideal (M2 96 n) .bf16) (X : FVec Ideal (M2 m n) .bf16) (s : Ideal .f32)
    (e : ∀ (x : FVec Ideal (M2 96 m) .f32) (d : Fin 96) (c : Fin m), shapeCast ⟨4, ![1, 1, 96, m]⟩ (truncf .bf16 x hl') hc (ix4 0 0 d c) = x (ix2 d c))
    (hW : ∀ (d : Fin 96) (j : Fin n) (w : Fin 2560), w.val = c0 + j.val → W (ix2 d j) = P.c17 d w)
    (hX : ∀ (r : Fin m) (j : Fin n) (r' : Fin 640) (w : Fin 2560), r'.val = k0 + r.val → w.val = c0 + j.val → X (ix2 r j) = P.c16 r' w) (hs : s = smK)
    {inb : ∀ a, (![0, 0, 0, k0] : Fin 4 → ℕ) a + (⟨4, ![1, 1, 96, m]⟩ : Shape).size a ≤ S1x1x96x640.size a} :
    ∀ x : (Rect.unit (s := S1x1x96x640) ![0, 0, 0, k0] (⟨4, ![1, 1, 96, m]⟩ : Shape).size inb).shape.Idx,
      dk hl' hc W X s x = P.dk ((Rect.unit (s := S1x1x96x640) ![0, 0, 0, k0] (⟨4, ![1, 1, 96, m]⟩ : Shape).size inb).emb x 2)
        ((Rect.unit (s := S1x1x96x640) ![0, 0, 0, k0] (⟨4, ![1, 1, 96, m]⟩ : Shape).size inb).emb x 3) := by
  intro (x : (⟨4, ![1, 1, 96, m]⟩ : Shape).Idx)
  obtain ⟨a, b', d, c, rfl⟩ : ∃ (a b' : Fin 1) (d : Fin 96) (c : Fin m), x = ix4 a b' d c :=
    ⟨x 0, x 1, x 2, x 3, by funext k; match k with | ⟨0, _⟩ => rfl | ⟨1, _⟩ => rfl | ⟨2, _⟩ => rfl | ⟨3, _⟩ => rfl⟩
  obtain rfl : a = 0 := Subsingleton.elim _ _
  obtain rfl : b' = 0 := Subsingleton.elim _ _
  have hlt : k0 + c.val < 640 := by omega
  have e2 : (Rect.unit (s := S1x1x96x640) ![0, 0, 0, k0] (⟨4, ![1, 1, 96, m]⟩ : Shape).size inb).emb (ix4 0 0 d c) 2 = d := Fin.ext (by show 0 + 1 * d.val = _; omega)
  have e3 : (Rect.unit (s := S1x1x96x640) ![0, 0, 0, k0] (⟨4, ![1, 1, 96, m]⟩ : Shape).size inb).emb (ix4 0 0 d c) 3 = (⟨k0 + c.val, hlt⟩ : Fin 640) := Fin.ext (by show k0 + 1 * c.val = k0 + c.val; omega)
  refine Eq.trans ?_ (congr (congrArg P.dk e2.symm) e3.symm)
  rw [dk_apply hl' hc W X s e, hs]
  unfold Pt.dk
  congr 1
  refine Eq.trans ?_ (sum_tail hn (fun w => P.c17 d w * P.c16 ⟨k0 + c.val, hlt⟩ w) fun w hw => ?_)
  · refine Finset.sum_congr rfl fun j _ => ?_
    have hw : c0 + j.val < 2560 := by omega
    rw [hW d j ⟨c0 + j.val, hw⟩ rfl, hX c j ⟨k0 + c.val, hlt⟩ ⟨c0 + j.val, hw⟩ rfl rfl]
  · have := pos_lt b hk hc0 hn hm hw
    rw [show P.c16 ⟨k0 + c.val, hlt⟩ w = 0 from P.dS_of_lt (by show _ < k0 + c.val; omega), mul_zero]

/-- A block of columns of the values' gradient is the closed form on its rectangle. -/
theorem piece_dv {hl' : FTy.bf16.bits < FTy.f32.bits} {hc : (M2 96 m).ShapeCasts ⟨4, ![1, 1, 96, m]⟩} (W : FVec Ideal (M2 96 n) .bf16) (X : FVec Ideal (M2 m n) .bf16)
    (e : ∀ (x : FVec Ideal (M2 96 m) .f32) (d : Fin 96) (c : Fin m), shapeCast ⟨4, ![1, 1, 96, m]⟩ (truncf .bf16 x hl') hc (ix4 0 0 d c) = x (ix2 d c))
    (hW : ∀ (d : Fin 96) (j : Fin n) (w : Fin 2560), w.val = c0 + j.val → W (ix2 d j) = P.c18 d w)
    (hX : ∀ (r : Fin m) (j : Fin n) (r' : Fin 640) (w : Fin 2560), r'.val = k0 + r.val → w.val = c0 + j.val → X (ix2 r j) = P.c15 r' w)
    {inb : ∀ a, (![0, 0, 0, k0] : Fin 4 → ℕ) a + (⟨4, ![1, 1, 96, m]⟩ : Shape).size a ≤ S1x1x96x640.size a} :
    ∀ x : (Rect.unit (s := S1x1x96x640) ![0, 0, 0, k0] (⟨4, ![1, 1, 96, m]⟩ : Shape).size inb).shape.Idx,
      dv hl' hc W X x = P.dv ((Rect.unit (s := S1x1x96x640) ![0, 0, 0, k0] (⟨4, ![1, 1, 96, m]⟩ : Shape).size inb).emb x 2)
        ((Rect.unit (s := S1x1x96x640) ![0, 0, 0, k0] (⟨4, ![1, 1, 96, m]⟩ : Shape).size inb).emb x 3) := by
  intro (x : (⟨4, ![1, 1, 96, m]⟩ : Shape).Idx)
  obtain ⟨a, b', d, c, rfl⟩ : ∃ (a b' : Fin 1) (d : Fin 96) (c : Fin m), x = ix4 a b' d c :=
    ⟨x 0, x 1, x 2, x 3, by funext k; match k with | ⟨0, _⟩ => rfl | ⟨1, _⟩ => rfl | ⟨2, _⟩ => rfl | ⟨3, _⟩ => rfl⟩
  obtain rfl : a = 0 := Subsingleton.elim _ _
  obtain rfl : b' = 0 := Subsingleton.elim _ _
  have hlt : k0 + c.val < 640 := by omega
  have e2 : (Rect.unit (s := S1x1x96x640) ![0, 0, 0, k0] (⟨4, ![1, 1, 96, m]⟩ : Shape).size inb).emb (ix4 0 0 d c) 2 = d := Fin.ext (by show 0 + 1 * d.val = _; omega)
  have e3 : (Rect.unit (s := S1x1x96x640) ![0, 0, 0, k0] (⟨4, ![1, 1, 96, m]⟩ : Shape).size inb).emb (ix4 0 0 d c) 3 = (⟨k0 + c.val, hlt⟩ : Fin 640) := Fin.ext (by show k0 + 1 * c.val = k0 + c.val; omega)
  refine Eq.trans ?_ (congr (congrArg P.dv e2.symm) e3.symm)
  rw [dv_apply hl' hc W X e]
  unfold Pt.dv
  refine Eq.trans ?_ (sum_tail hn (fun w => P.c18 d w * P.c15 ⟨k0 + c.val, hlt⟩ w) fun w hw => ?_)
  · refine Finset.sum_congr rfl fun j _ => ?_
    have hw : c0 + j.val < 2560 := by omega
    rw [hW d j ⟨c0 + j.val, hw⟩ rfl, hX c j ⟨k0 + c.val, hlt⟩ ⟨c0 + j.val, hw⟩ rfl rfl]
  · have := pos_lt b hk hc0 hn hm hw
    rw [show P.c15 ⟨k0 + c.val, hlt⟩ w = 0 from P.p_of_lt (by show _ < k0 + c.val; omega), mul_zero]

end dkv

/-- The first columns of the key head's block. -/
theorem kc {arg6 : Memref sig .tc .vmem S1x1x96x640 .fp8e4m3} {harg6 : arg6.IsWhole} {x4 : Vec Ideal S1x1x96x640 .fp8e4m3}
    {inb4 : ∀ a, (![0, 0, 0, 0] : Fin 4 → ℕ) a + S1x1x96x640.size a ≤ S1x1x96x640.size a} {n : ℕ}
    {h4 : H4.ShapeCasts (M2 96 640)} {hl : FTy.fp8e4m3.bits < FTy.bf16.bits} {hs : (M2 96 640).Slices ![0, 0] (M2 96 n)} (d : Fin 96) (r : Fin n) (r' : Fin 640) (e : r'.val = r.val) :
    extractStridedSlice (M2 96 n) ![0, 0] (extf (F := Ideal) .bf16 (shapeCast (M2 96 640) (View.readAt (Elt Ideal) arg6.view (Rect.unit (s := S1x1x96x640) ![0, 0, 0, 0] S1x1x96x640.size inb4).toLoadRect (harg6.unread x4)) h4) hl) hs (ix2 d r)
      = x4 (ix4 0 0 d r') := by
  have br : r.val < 640 := by omega
  obtain rfl : r' = ⟨r.val, br⟩ := Fin.ext e
  have hn : n ≤ 640 := by have h := hs.2 1; change 0 + n ≤ 640 at h; omega
  rw [cols_apply hn h4 hl hs]
  exact rd4 harg6 x4 d ⟨r.val, br⟩

theorem kc' {arg6 : Memref sig .tc .vmem S1x1x96x640 .fp8e4m3} {harg6 : arg6.IsWhole} {x4 : Vec Ideal S1x1x96x640 .fp8e4m3}
    {inb4 : ∀ a, (![0, 0, 0, 0] : Fin 4 → ℕ) a + S1x1x96x640.size a ≤ S1x1x96x640.size a}
    {h4 : H4.ShapeCasts (M2 96 640)} {hl : FTy.fp8e4m3.bits < FTy.bf16.bits} (d : Fin 96) (r r' : Fin 640) (e : r'.val = r.val) :
    extf (F := Ideal) .bf16 (shapeCast (M2 96 640) (View.readAt (Elt Ideal) arg6.view (Rect.unit (s := S1x1x96x640) ![0, 0, 0, 0] S1x1x96x640.size inb4).toLoadRect (harg6.unread x4)) h4) hl (ix2 d r)
      = x4 (ix4 0 0 d r') := by
  obtain rfl : r' = r := Fin.ext e
  rw [cols_apply' h4 hl]
  exact rd4 harg6 x4 d r'

/-- The scalar of the queries' gradient. -/
theorem csm {arg3 : Memref sig .tc .smem S8 .f32} {harg3 : arg3.IsWhole} {x1 : Vec Ideal S8 .f32} {i : grid0.Coords}
    {inb : ∀ a, k0_off1 i a + S1.size a ≤ S8.size a} {hz : 0 < (Rect.unit (s := S8) (k0_off1 i) S1.size inb).toLoadRect.shape.numel} :
    Scalar.mulf (F := Ideal) (φ := .f32) (View.readAt (Elt Ideal) arg3.view (Rect.unit (s := S8) (k0_off1 i) S1.size inb).toLoadRect (harg3.unread x1) (Shape.Idx.first hz))
      (Named.named (F := Ideal) κ "sm" (0x3DD105EC#32 : BitVec FTy.f32.bits)) = x1 (ix1 (head i)) * smK :=
  congrArg (· * smK) (rd1 harg3 x1 i)

end Blk

end Cert.KernelIdeal

end
-- ==== Proof.OutsA.lean ====
/- What one case of the body leaves in the results' staging buffers and in the scratch it carries. -/
module

public import proofs.«01_k».proof.Proof.StoresA
public import proofs.«01_k».proof.Proof.GradsA
public import proofs.«01_k».proof.Proof.Cover

@[expose] public section

set_option maxRecDepth 16384

noncomputable section

namespace Cert.KernelIdeal.RunA

open Idealize.ShloMosaic Idealize.ShloMosaic.TcCoe Cert.KernelIdeal.Gen

variable (c : Dev nD) (i : grid0.Coords)
  (arg2 : Memref sig .tc .smem S32 .f32) (harg2 : arg2.IsWhole) (arg3 : Memref sig .tc .smem S8 .f32) (harg3 : arg3.IsWhole)
  (arg4 : Memref sig .tc .smem S8 .f32) (harg4 : arg4.IsWhole) (arg5 : Memref sig .tc .vmem S1x4x1x96x640 .fp8e4m3) (harg5 : arg5.IsWhole)
  (arg6 : Memref sig .tc .vmem S1x1x96x640 .fp8e4m3) (harg6 : arg6.IsWhole) (arg7 : Memref sig .tc .vmem S1x1x96x640 .fp8e4m3) (harg7 : arg7.IsWhole)
  (arg8 : Memref sig .tc .vmem S1x4x1x96x640 .bf16) (harg8 : arg8.IsWhole) (arg9 : Memref sig .tc .vmem S1x4x8x640 .f32) (harg9 : arg9.IsWhole)
  (arg10 : Memref sig .tc .vmem S1x4x1x96x640 .fp8e5m2) (harg10 : arg10.IsWhole)
  (arg11 : Memref sig .tc .vmem S1x1x640 .f32) (harg11 : arg11.IsWhole)
  (arg12 : Memref sig .tc .vmem S1x4x1x96x640 .bf16) (harg12 : arg12.IsWhole) (arg13 : Memref sig .tc .vmem S1x1x96x640 .bf16) (harg13 : arg13.IsWhole)
  (arg14 : Memref sig .tc .vmem S1x1x96x640 .bf16) (harg14 : arg14.IsWhole)
  (arg15 : Memref sig .tc .vmem S640x2560 .bf16) (harg15 : arg15.IsWhole) (arg16 : Memref sig .tc .vmem S640x2560 .bf16) (harg16 : arg16.IsWhole)
  (arg17 : Memref sig .tc .vmem S96x2560 .bf16) (harg17 : arg17.IsWhole) (arg18 : Memref sig .tc .vmem S96x2560 .bf16) (harg18 : arg18.IsWhole)
  (arg19 : Memref sig .tc .vmem S8x4x640 .f32) (harg19 : arg19.IsWhole)
  (x0 : Vec Ideal S32 .f32) (x1 x2 : Vec Ideal S8 .f32) (x3 : Vec Ideal S1x4x1x96x640 .fp8e4m3) (x4 x5 : Vec Ideal S1x1x96x640 .fp8e4m3)
  (x6 : Vec Ideal S1x4x1x96x640 .bf16) (x7 : Vec Ideal S1x4x8x640 .f32) (x8 : Vec Ideal S1x4x1x96x640 .fp8e5m2) (x9 : Vec Ideal S1x1x640 .f32)
  (xs0 xs1 : Vec Ideal S640x2560 .bf16) (xs4 : Vec Ideal S8x4x640 .f32)
  (hc0 : cond0_0 i) (hc1 : cond0_1 i)
  (v : View sig .tc .vmem S640x2560 .bf16) (f : v.ty.Contents (Elt Ideal)) (v' : View sig .tc .vmem S96x2560 .bf16) (f' : v'.ty.Contents (Elt Ideal))

/-- Block 0 of the scratch holds its closed form once it is stored. -/
theorem b16_0 {r : Fin 640} {w : Fin 2560} (hr : r.val < 128) (hw : w.val / 512 = 0) :
    v.read (Elt Ideal) (v.writes (Elt Ideal) f (kernelRun0_A.sl.HS1_5 (F := Ideal) c i arg2 harg2 arg3 harg3 arg4 harg4 arg5 harg5 arg6 harg6 arg7 harg7 arg8 harg8 arg9 harg9 arg10 harg10 arg11 harg11 arg19 x0 x1 x2 x3 x4 x5 x6 x7 x8 x9)) (ix2 r w) = (ptOf (head i) x0 x1 x2 x3 x4 x5 x6 x8 x9 (lseOf x7)).c16 r w := by
  rw [wr_last v f (show (kernelRun0_A.sl.HS1_5 (F := Ideal) c i arg2 harg2 arg3 harg3 arg4 harg4 arg5 harg5 arg6 harg6 arg7 harg7 arg8 harg8 arg9 harg9 arg10 harg10 arg11 harg11 arg19 x0 x1 x2 x3 x4 x5 x6 x7 x8 x9) ≠ [] from List.cons_ne_nil _ _)]
  exact blk v (L := List.dropLast (kernelRun0_A.sl.HS1_5 (F := Ideal) c i arg2 harg2 arg3 harg3 arg4 harg4 arg5 harg5 arg6 harg6 arg7 harg7 arg8 harg8 arg9 harg9 arg10 harg10 arg11 harg11 arg19 x0 x1 x2 x3 x4 x5 x6 x7 x8 x9)) _ (hs1_5 c i arg2 harg2 arg3 harg3 arg4 harg4 arg5 harg5 arg6 harg6 arg7 harg7 arg8 harg8 arg9 harg9 arg10 harg10 arg11 harg11 arg19 x0 x1 x2 x3 x4 x5 x6 x7 x8 x9) (b := 0) (fun g => match g with | ⟨0, _⟩ => rfl | ⟨1, _⟩ => rfl | ⟨2, _⟩ => rfl | ⟨3, _⟩ => rfl) hr hw

/-- Block 1 of the scratch holds its closed form once it is stored. -/
theorem b16_1 {r : Fin 640} {w : Fin 2560} (hr : r.val < 256) (hw : w.val / 512 = 1) :
    v.read (Elt Ideal) (v.writes (Elt Ideal) f (kernelRun0_A.sl.HS1_9 (F := Ideal) c i arg2 harg2 arg3 harg3 arg4 harg4 arg5 harg5 arg6 harg6 arg7 harg7 arg8 harg8 arg9 harg9 arg10 harg10 arg11 harg11 arg19 x0 x1 x2 x3 x4 x5 x6 x7 x8 x9)) (ix2 r w) = (ptOf (head i) x0 x1 x2 x3 x4 x5 x6 x8 x9 (lseOf x7)).c16 r w := by
  rw [wr_last v f (show (kernelRun0_A.sl.HS1_9 (F := Ideal) c i arg2 harg2 arg3 harg3 arg4 harg4 arg5 harg5 arg6 harg6 arg7 harg7 arg8 harg8 arg9 harg9 arg10 harg10 arg11 harg11 arg19 x0 x1 x2 x3 x4 x5 x6 x7 x8 x9) ≠ [] from List.cons_ne_nil _ _)]
  exact blk v (L := List.dropLast (kernelRun0_A.sl.HS1_9 (F := Ideal) c i arg2 harg2 arg3 harg3 arg4 harg4 arg5 harg5 arg6 harg6 arg7 harg7 arg8 harg8 arg9 harg9 arg10 harg10 arg11 harg11 arg19 x0 x1 x2 x3 x4 x5 x6 x7 x8 x9)) _ (hs1_9 c i arg2 harg2 arg3 harg3 arg4 harg4 arg5 harg5 arg6 harg6 arg7 harg7 arg8 harg8 arg9 harg9 arg10 harg10 arg11 harg11 arg19 x0 x1 x2 x3 x4 x5 x6 x7 x8 x9) (b := 1) (fun g => match g with | ⟨0, _⟩ => rfl | ⟨1, _⟩ => rfl | ⟨2, _⟩ => rfl | ⟨3, _⟩ => rfl) hr hw

/-- Block 2 of the scratch holds its closed form once it is stored. -/
theorem b16_2 {r : Fin 640} {w : Fin 2560} (hr : r.val < 384) (hw : w.val / 512 = 2) :
    v.read (Elt Ideal) (v.writes (Elt Ideal) f (kernelRun0_A.sl.HS1_13 (F := Ideal) c i arg2 harg2 arg3 harg3 arg4 harg4 arg5 harg5 arg6 harg6 arg7 harg7 arg8 harg8 arg9 harg9 arg10 harg10 arg11 harg11 arg19 x0 x1 x2 x3 x4 x5 x6 x7 x8 x9)) (ix2 r w) = (ptOf (head i) x0 x1 x2 x3 x4 x5 x6 x8 x9 (lseOf x7)).c16 r w := by
  rw [wr_last v f (show (kernelRun0_A.sl.HS1_13 (F := Ideal) c i arg2 harg2 arg3 harg3 arg4 harg4 arg5 harg5 arg6 harg6 arg7 harg7 arg8 harg8 arg9 harg9 arg10 harg10 arg11 harg11 arg19 x0 x1 x2 x3 x4 x5 x6 x7 x8 x9) ≠ [] from List.cons_ne_nil _ _)]
  exact blk v (L := List.dropLast (kernelRun0_A.sl.HS1_13 (F := Ideal) c i arg2 harg2 arg3 harg3 arg4 harg4 arg5 harg5 arg6 harg6 arg7 harg7 arg8 harg8 arg9 harg9 arg10 harg10 arg11 harg11 arg19 x0 x1 x2 x3 x4 x5 x6 x7 x8 x9)) _ (hs1_13 c i arg2 harg2 arg3 harg3 arg4 harg4 arg5 harg5 arg6 harg6 arg7 harg7 arg8 harg8 arg9 harg9 arg10 harg10 arg11 harg11 arg19 x0 x1 x2 x3 x4 x5 x6 x7 x8 x9) (b := 2) (fun g => match g with | ⟨0, _⟩ => rfl | ⟨1, _⟩ => rfl | ⟨2, _⟩ => rfl | ⟨3, _⟩ => rfl) hr hw

/-- Block 3 of the scratch holds its closed form once it is stored. -/
theorem b16_3 {r : Fin 640} {w : Fin 2560} (hr : r.val < 512) (hw : w.val / 512 = 3) :
    v.read (Elt Ideal) (v.writes (Elt Ideal) f (kernelRun0_A.sl.HS1_17 (F := Ideal) c i arg2 harg2 arg3 harg3 arg4 harg4 arg5 harg5 arg6 harg6 arg7 harg7 arg8 harg8 arg9 harg9 arg10 harg10 arg11 harg11 arg19 x0 x1 x2 x3 x4 x5 x6 x7 x8 x9)) (ix2 r w) = (ptOf (head i) x0 x1 x2 x3 x4 x5 x6 x8 x9 (lseOf x7)).c16 r w := by
  rw [wr_last v f (show (kernelRun0_A.sl.HS1_17 (F := Ideal) c i arg2 harg2 arg3 harg3 arg4 harg4 arg5 harg5 arg6 harg6 arg7 harg7 arg8 harg8 arg9 harg9 arg10 harg10 arg11 harg11 arg19 x0 x1 x2 x3 x4 x5 x6 x7 x8 x9) ≠ [] from List.cons_ne_nil _ _)]
  exact blk v (L := List.dropLast (kernelRun0_A.sl.HS1_17 (F := Ideal) c i arg2 harg2 arg3 harg3 arg4 harg4 arg5 harg5 arg6 harg6 arg7 harg7 arg8 harg8 arg9 harg9 arg10 harg10 arg11 harg11 arg19 x0 x1 x2 x3 x4 x5 x6 x7 x8 x9)) _ (hs1_17 c i arg2 harg2 arg3 harg3 arg4 harg4 arg5 harg5 arg6 harg6 arg7 harg7 arg8 harg8 arg9 harg9 arg10 harg10 arg11 harg11 arg19 x0 x1 x2 x3 x4 x5 x6 x7 x8 x9) (b := 3) (fun g => match g with | ⟨0, _⟩ => rfl | ⟨1, _⟩ => rfl | ⟨2, _⟩ => rfl | ⟨3, _⟩ => rfl) hr hw

/-- Block 4 of the scratch holds its closed form once it is stored. -/
theorem b16_4 {r : Fin 640} {w : Fin 2560} (hr : r.val < 640) (hw : w.val / 512 = 4) :
    v.read (Elt Ideal) (v.writes (Elt Ideal) f (kernelRun0_A.sl.HS1_21 (F := Ideal) c i arg2 harg2 arg3 harg3 arg4 harg4 arg5 harg5 arg6 harg6 arg7 harg7 arg8 harg8 arg9 harg9 arg10 harg10 arg11 harg11 arg19 x0 x1 x2 x3 x4 x5 x6 x7 x8 x9)) (ix2 r w) = (ptOf (head i) x0 x1 x2 x3 x4 x5 x6 x8 x9 (lseOf x7)).c16 r w := by
  rw [wr_last v f (show (kernelRun0_A.sl.HS1_21 (F := Ideal) c i arg2 harg2 arg3 harg3 arg4 harg4 arg5 harg5 arg6 harg6 arg7 harg7 arg8 harg8 arg9 harg9 arg10 harg10 arg11 harg11 arg19 x0 x1 x2 x3 x4 x5 x6 x7 x8 x9) ≠ [] from List.cons_ne_nil _ _)]
  exact blk v (L := List.dropLast (kernelRun0_A.sl.HS1_21 (F := Ideal) c i arg2 harg2 arg3 harg3 arg4 harg4 arg5 harg5 arg6 harg6 arg7 harg7 arg8 harg8 arg9 harg9 arg10 harg10 arg11 harg11 arg19 x0 x1 x2 x3 x4 x5 x6 x7 x8 x9)) _ (hs1_21 c i arg2 harg2 arg3 harg3 arg4 harg4 arg5 harg5 arg6 harg6 arg7 harg7 arg8 harg8 arg9 harg9 arg10 harg10 arg11 harg11 arg19 x0 x1 x2 x3 x4 x5 x6 x7 x8 x9) (b := 4) (fun g => match g with | ⟨0, _⟩ => rfl | ⟨1, _⟩ => rfl | ⟨2, _⟩ => rfl | ⟨3, _⟩ => rfl) hr hw

/-- Block 4 of the scratch holds its closed form once it is stored. -/
theorem b15_4 {r : Fin 640} {w : Fin 2560} (hr : r.val < 640) (hw : w.val / 512 = 4) :
    v.read (Elt Ideal) (v.writes (Elt Ideal) f (kernelRun0_A.sl.HS0_21 (F := Ideal) c i arg2 harg2 arg3 harg3 arg5 harg5 arg6 harg6 arg9 harg9 arg19 x0 x1 x3 x4 x7)) (ix2 r w) = (ptOf (head i) x0 x1 x2 x3 x4 x5 x6 x8 x9 (lseOf x7)).c15 r w := by
  rw [wr_last v f (show (kernelRun0_A.sl.HS0_21 (F := Ideal) c i arg2 harg2 arg3 harg3 arg5 harg5 arg6 harg6 arg9 harg9 arg19 x0 x1 x3 x4 x7) ≠ [] from List.cons_ne_nil _ _)]
  exact blk v (L := List.dropLast (kernelRun0_A.sl.HS0_21 (F := Ideal) c i arg2 harg2 arg3 harg3 arg5 harg5 arg6 harg6 arg9 harg9 arg19 x0 x1 x3 x4 x7)) _ (hs0 c i arg2 harg2 arg3 harg3 arg5 harg5 arg6 harg6 arg9 harg9 arg19 x0 x1 x2 x3 x4 x5 x6 x7 x8 x9) (b := 4) (fun g => match g with | ⟨0, _⟩ => rfl | ⟨1, _⟩ => rfl | ⟨2, _⟩ => rfl | ⟨3, _⟩ => rfl) hr hw

/-- The whole scratch holds its closed form after the point. -/
theorem f16 (r : Fin 640) (w : Fin 2560) :
    v.read (Elt Ideal) (v.writes (Elt Ideal) f (kernelRun0_A.sl.HS1_21 (F := Ideal) c i arg2 harg2 arg3 harg3 arg4 harg4 arg5 harg5 arg6 harg6 arg7 harg7 arg8 harg8 arg9 harg9 arg10 harg10 arg11 harg11 arg19 x0 x1 x2 x3 x4 x5 x6 x7 x8 x9)) (ix2 r w) = (ptOf (head i) x0 x1 x2 x3 x4 x5 x6 x8 x9 (lseOf x7)).c16 r w := by
  rw [wr_last v f (show (kernelRun0_A.sl.HS1_21 (F := Ideal) c i arg2 harg2 arg3 harg3 arg4 harg4 arg5 harg5 arg6 harg6 arg7 harg7 arg8 harg8 arg9 harg9 arg10 harg10 arg11 harg11 arg19 x0 x1 x2 x3 x4 x5 x6 x7 x8 x9) ≠ [] from List.cons_ne_nil _ _)]
  exact full v (L := List.dropLast (kernelRun0_A.sl.HS1_21 (F := Ideal) c i arg2 harg2 arg3 harg3 arg4 harg4 arg5 harg5 arg6 harg6 arg7 harg7 arg8 harg8 arg9 harg9 arg10 harg10 arg11 harg11 arg19 x0 x1 x2 x3 x4 x5 x6 x7 x8 x9)) _ (hs1_21 c i arg2 harg2 arg3 harg3 arg4 harg4 arg5 harg5 arg6 harg6 arg7 harg7 arg8 harg8 arg9 harg9 arg10 harg10 arg11 harg11 arg19 x0 x1 x2 x3 x4 x5 x6 x7 x8 x9) (fun b g => match b, g with | ⟨0, _⟩, ⟨0, _⟩ => rfl | ⟨0, _⟩, ⟨1, _⟩ => rfl | ⟨0, _⟩, ⟨2, _⟩ => rfl | ⟨0, _⟩, ⟨3, _⟩ => rfl | ⟨1, _⟩, ⟨0, _⟩ => rfl | ⟨1, _⟩, ⟨1, _⟩ => rfl | ⟨1, _⟩, ⟨2, _⟩ => rfl | ⟨1, _⟩, ⟨3, _⟩ => rfl | ⟨2, _⟩, ⟨0, _⟩ => rfl | ⟨2, _⟩, ⟨1, _⟩ => rfl | ⟨2, _⟩, ⟨2, _⟩ => rfl | ⟨2, _⟩, ⟨3, _⟩ => rfl | ⟨3, _⟩, ⟨0, _⟩ => rfl | ⟨3, _⟩, ⟨1, _⟩ => rfl | ⟨3, _⟩, ⟨2, _⟩ => rfl | ⟨3, _⟩, ⟨3, _⟩ => rfl | ⟨4, _⟩, ⟨0, _⟩ => rfl | ⟨4, _⟩, ⟨1, _⟩ => rfl | ⟨4, _⟩, ⟨2, _⟩ => rfl | ⟨4, _⟩, ⟨3, _⟩ => rfl) (fun r w h => Pt.dS_of_lt _ h) (fun r w _ => zero_last v f (inb := inb_S640x2560_S640x2560_0_0) (pay := k0_pay40 (F := Ideal)) rfl (fun x => by unfold k0_pay40; pointwise) (ix2 r w)) r w

/-- The whole scratch holds its closed form after the point. -/
theorem f15 (r : Fin 640) (w : Fin 2560) :
    v.read (Elt Ideal) (v.writes (Elt Ideal) f (kernelRun0_A.sl.HS0_21 (F := Ideal) c i arg2 harg2 arg3 harg3 arg5 harg5 arg6 harg6 arg9 harg9 arg19 x0 x1 x3 x4 x7)) (ix2 r w) = (ptOf (head i) x0 x1 x2 x3 x4 x5 x6 x8 x9 (lseOf x7)).c15 r w := by
  rw [wr_last v f (show (kernelRun0_A.sl.HS0_21 (F := Ideal) c i arg2 harg2 arg3 harg3 arg5 harg5 arg6 harg6 arg9 harg9 arg19 x0 x1 x3 x4 x7) ≠ [] from List.cons_ne_nil _ _)]
  exact full v (L := List.dropLast (kernelRun0_A.sl.HS0_21 (F := Ideal) c i arg2 harg2 arg3 harg3 arg5 harg5 arg6 harg6 arg9 harg9 arg19 x0 x1 x3 x4 x7)) _ (hs0 c i arg2 harg2 arg3 harg3 arg5 harg5 arg6 harg6 arg9 harg9 arg19 x0 x1 x2 x3 x4 x5 x6 x7 x8 x9) (fun b g => match b, g with | ⟨0, _⟩, ⟨0, _⟩ => rfl | ⟨0, _⟩, ⟨1, _⟩ => rfl | ⟨0, _⟩, ⟨2, _⟩ => rfl | ⟨0, _⟩, ⟨3, _⟩ => rfl | ⟨1, _⟩, ⟨0, _⟩ => rfl | ⟨1, _⟩, ⟨1, _⟩ => rfl | ⟨1, _⟩, ⟨2, _⟩ => rfl | ⟨1, _⟩, ⟨3, _⟩ => rfl | ⟨2, _⟩, ⟨0, _⟩ => rfl | ⟨2, _⟩, ⟨1, _⟩ => rfl | ⟨2, _⟩, ⟨2, _⟩ => rfl | ⟨2, _⟩, ⟨3, _⟩ => rfl | ⟨3, _⟩, ⟨0, _⟩ => rfl | ⟨3, _⟩, ⟨1, _⟩ => rfl | ⟨3, _⟩, ⟨2, _⟩ => rfl | ⟨3, _⟩, ⟨3, _⟩ => rfl | ⟨4, _⟩, ⟨0, _⟩ => rfl | ⟨4, _⟩, ⟨1, _⟩ => rfl | ⟨4, _⟩, ⟨2, _⟩ => rfl | ⟨4, _⟩, ⟨3, _⟩ => rfl) (fun r w h => Pt.p_of_lt _ h) (fun r w _ => zero_last v f (inb := inb_S640x2560_S640x2560_0_0) (pay := k0_pay39 (F := Ideal)) rfl (fun x => by unfold k0_pay39; pointwise) (ix2 r w)) r w

/-- The whole scratch holds its closed form after the point. -/
theorem f17 (d : Fin 96) (w : Fin 2560) :
    v'.read (Elt Ideal) (v'.writes (Elt Ideal) f' (kernelRun0_A.sl.HS2_20 (F := Ideal) c i arg2 harg2 arg5 harg5 x0 x3)) (ix2 d w) = (ptOf (head i) x0 x1 x2 x3 x4 x5 x6 x8 x9 (lseOf x7)).c17 d w :=
  View.read_writes_apply_of_pieces v' f' (fun y => (ptOf (head i) x0 x1 x2 x3 x4 x5 x6 x8 x9 (lseOf x7)).c17 (y 0) (y 1)) _ (hs2 c i arg2 harg2 arg5 harg5 x0 x1 x2 x3 x4 x5 x6 x7 x8 x9) (ix2 d w)
    (View.cover_of_tiledL (kernelRun0_A.sl.HS2_20 (F := Ideal) c i arg2 harg2 arg5 harg5 x0 x3) S96x128.size (by sl_kernel_rfl) (ix2 d w))

/-- The whole scratch holds its closed form after the point. -/
theorem f18 (d : Fin 96) (w : Fin 2560) :
    v'.read (Elt Ideal) (v'.writes (Elt Ideal) f' (kernelRun0_A.sl.HS3_20 (F := Ideal) c arg10 harg10 arg11 harg11 x8 x9)) (ix2 d w) = (ptOf (head i) x0 x1 x2 x3 x4 x5 x6 x8 x9 (lseOf x7)).c18 d w :=
  View.read_writes_apply_of_pieces v' f' (fun y => (ptOf (head i) x0 x1 x2 x3 x4 x5 x6 x8 x9 (lseOf x7)).c18 (y 0) (y 1)) _ (hs3 c i arg10 harg10 arg11 harg11 x0 x1 x2 x3 x4 x5 x6 x7 x8 x9) (ix2 d w)
    (View.cover_of_tiledL (kernelRun0_A.sl.HS3_20 (F := Ideal) c arg10 harg10 arg11 harg11 x8 x9) S96x128.size (by sl_kernel_rfl) (ix2 d w))

/-- Every store into the queries' gradient holds it. -/
theorem hq : ∀ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).1, ∀ x : p.1.shape.Idx, p.2 x = (ptOf (head i) x0 x1 x2 x3 x4 x5 x6 x8 x9 (lseOf x7)).dq (p.1.emb x 1) (p.1.emb x 3) (p.1.emb x 4) := by
  refine List.forall_mem_cons.2 ⟨Blk.piece_dq (n := 640) (o := 384) (on := 512) (gn := 3) (inb := inb_S1x4x1x96x640_S1x1x1x96x128_0_3_0_0_512) _ 3 4 rfl rfl rfl rfl _ _ _ ?_ ?_ ?_, ?_⟩
  · exact Blk.kc' (arg6 := arg6) (harg6 := harg6) (x4 := x4)
  · exact fun r j r' w hr hw => (rdS (arg := arg16) _ r j r' w (by omega) hw).trans (b16_4 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  refine List.forall_mem_cons.2 ⟨Blk.piece_dq (n := 640) (o := 256) (on := 512) (gn := 2) (inb := inb_S1x4x1x96x640_S1x1x1x96x128_0_2_0_0_512) _ 2 4 rfl rfl rfl rfl _ _ _ ?_ ?_ ?_, ?_⟩
  · exact Blk.kc' (arg6 := arg6) (harg6 := harg6) (x4 := x4)
  · exact fun r j r' w hr hw => (rdS (arg := arg16) _ r j r' w (by omega) hw).trans (b16_4 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  refine List.forall_mem_cons.2 ⟨Blk.piece_dq (n := 640) (o := 128) (on := 512) (gn := 1) (inb := inb_S1x4x1x96x640_S1x1x1x96x128_0_1_0_0_512) _ 1 4 rfl rfl rfl rfl _ _ _ ?_ ?_ ?_, ?_⟩
  · exact Blk.kc' (arg6 := arg6) (harg6 := harg6) (x4 := x4)
  · exact fun r j r' w hr hw => (rdS (arg := arg16) _ r j r' w (by omega) hw).trans (b16_4 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  refine List.forall_mem_cons.2 ⟨Blk.piece_dq (n := 640) (o := 0) (on := 512) (gn := 0) (inb := inb_S1x4x1x96x640_S1x1x1x96x128_0_0_0_0_512) _ 0 4 rfl rfl rfl rfl _ _ _ ?_ ?_ ?_, ?_⟩
  · exact Blk.kc' (arg6 := arg6) (harg6 := harg6) (x4 := x4)
  · exact fun r j r' w hr hw => (rdS (arg := arg16) _ r j r' w (by omega) hw).trans (b16_4 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  refine List.forall_mem_cons.2 ⟨Blk.piece_dq (n := 512) (o := 384) (on := 384) (gn := 3) (inb := inb_S1x4x1x96x640_S1x1x1x96x128_0_3_0_0_384) _ 3 3 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_3 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  refine List.forall_mem_cons.2 ⟨Blk.piece_dq (n := 512) (o := 256) (on := 384) (gn := 2) (inb := inb_S1x4x1x96x640_S1x1x1x96x128_0_2_0_0_384) _ 2 3 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_3 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  refine List.forall_mem_cons.2 ⟨Blk.piece_dq (n := 512) (o := 128) (on := 384) (gn := 1) (inb := inb_S1x4x1x96x640_S1x1x1x96x128_0_1_0_0_384) _ 1 3 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_3 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  refine List.forall_mem_cons.2 ⟨Blk.piece_dq (n := 512) (o := 0) (on := 384) (gn := 0) (inb := inb_S1x4x1x96x640_S1x1x1x96x128_0_0_0_0_384) _ 0 3 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_3 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  refine List.forall_mem_cons.2 ⟨Blk.piece_dq (n := 384) (o := 384) (on := 256) (gn := 3) (inb := inb_S1x4x1x96x640_S1x1x1x96x128_0_3_0_0_256) _ 3 2 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_2 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  refine List.forall_mem_cons.2 ⟨Blk.piece_dq (n := 384) (o := 256) (on := 256) (gn := 2) (inb := inb_S1x4x1x96x640_S1x1x1x96x128_0_2_0_0_256) _ 2 2 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_2 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  refine List.forall_mem_cons.2 ⟨Blk.piece_dq (n := 384) (o := 128) (on := 256) (gn := 1) (inb := inb_S1x4x1x96x640_S1x1x1x96x128_0_1_0_0_256) _ 1 2 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_2 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  refine List.forall_mem_cons.2 ⟨Blk.piece_dq (n := 384) (o := 0) (on := 256) (gn := 0) (inb := inb_S1x4x1x96x640_S1x1x1x96x128_0_0_0_0_256) _ 0 2 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_2 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  refine List.forall_mem_cons.2 ⟨Blk.piece_dq (n := 256) (o := 384) (on := 128) (gn := 3) (inb := inb_S1x4x1x96x640_S1x1x1x96x128_0_3_0_0_128) _ 3 1 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_1 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  refine List.forall_mem_cons.2 ⟨Blk.piece_dq (n := 256) (o := 256) (on := 128) (gn := 2) (inb := inb_S1x4x1x96x640_S1x1x1x96x128_0_2_0_0_128) _ 2 1 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_1 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  refine List.forall_mem_cons.2 ⟨Blk.piece_dq (n := 256) (o := 128) (on := 128) (gn := 1) (inb := inb_S1x4x1x96x640_S1x1x1x96x128_0_1_0_0_128) _ 1 1 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_1 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  refine List.forall_mem_cons.2 ⟨Blk.piece_dq (n := 256) (o := 0) (on := 128) (gn := 0) (inb := inb_S1x4x1x96x640_S1x1x1x96x128_0_0_0_0_128) _ 0 1 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_1 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  refine List.forall_mem_cons.2 ⟨Blk.piece_dq (n := 128) (o := 384) (on := 0) (gn := 3) (inb := inb_S1x4x1x96x640_S1x1x1x96x128_0_3_0_0_0) _ 3 0 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_0 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  refine List.forall_mem_cons.2 ⟨Blk.piece_dq (n := 128) (o := 256) (on := 0) (gn := 2) (inb := inb_S1x4x1x96x640_S1x1x1x96x128_0_2_0_0_0) _ 2 0 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_0 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  refine List.forall_mem_cons.2 ⟨Blk.piece_dq (n := 128) (o := 128) (on := 0) (gn := 1) (inb := inb_S1x4x1x96x640_S1x1x1x96x128_0_1_0_0_0) _ 1 0 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_0 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  refine List.forall_mem_cons.2 ⟨Blk.piece_dq (n := 128) (o := 0) (on := 0) (gn := 0) (inb := inb_S1x4x1x96x640_S1x1x1x96x128_0_0_0_0_0) _ 0 0 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_0 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  exact List.forall_mem_nil _

/-- Every store into the keys' gradient holds it. -/
theorem hk : ∀ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.1, ∀ x : p.1.shape.Idx, p.2 x = (ptOf (head i) x0 x1 x2 x3 x4 x5 x6 x8 x9 (lseOf x7)).dk (p.1.emb x 2) (p.1.emb x 3) := by
  refine List.forall_mem_cons.2 ⟨Blk.piece_dk (m := 128) (n := 512) (k0 := 512) (c0 := 2048) (inb := inb_S1x1x96x640_S1x1x96x128_0_0_0_512) _ 4 rfl rfl rfl (by decide) _ _ _ (Blk.cast128 _ _) ?_ ?_ rfl, ?_⟩
  · exact fun d j w hw => (rdS (arg := arg17) _ d j d w (by omega) hw).trans (f17 c i arg2 harg2 arg5 harg5 x0 x1 x2 x3 x4 x5 x6 x7 x8 x9 arg17.view _ d w)
  · exact fun r j r' w hr hw => (rdS (arg := arg16) _ r j r' w hr hw).trans (b16_4 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  refine List.forall_mem_cons.2 ⟨Blk.piece_dk (m := 256) (n := 1536) (k0 := 256) (c0 := 1024) (inb := inb_S1x1x96x640_S1x1x96x256_0_0_0_256) _ 2 rfl rfl rfl (by decide) _ _ _ (Blk.cast256 _ _) ?_ ?_ rfl, ?_⟩
  · exact fun d j w hw => (rdS (arg := arg17) _ d j d w (by omega) hw).trans (f17 c i arg2 harg2 arg5 harg5 x0 x1 x2 x3 x4 x5 x6 x7 x8 x9 arg17.view _ d w)
  · exact fun r j r' w hr hw => (rdS (arg := arg16) _ r j r' w hr hw).trans (f16 c i arg2 harg2 arg3 harg3 arg4 harg4 arg5 harg5 arg6 harg6 arg7 harg7 arg8 harg8 arg9 harg9 arg10 harg10 arg11 harg11 arg19 x0 x1 x2 x3 x4 x5 x6 x7 x8 x9 arg16.view _ _ _)
  refine List.forall_mem_cons.2 ⟨Blk.piece_dk (m := 256) (n := 2560) (k0 := 0) (c0 := 0) (inb := inb_S1x1x96x640_S1x1x96x256_0_0_0_0) _ 0 rfl rfl rfl (by decide) _ _ _ (Blk.cast256 _ _) ?_ ?_ rfl, ?_⟩
  · exact fun d j w hw => (rdS (arg := arg17) _ d j d w (by omega) hw).trans (f17 c i arg2 harg2 arg5 harg5 x0 x1 x2 x3 x4 x5 x6 x7 x8 x9 arg17.view _ d w)
  · exact fun r j r' w hr hw => (rdS (arg := arg16) _ r j r' w hr hw).trans (f16 c i arg2 harg2 arg3 harg3 arg4 harg4 arg5 harg5 arg6 harg6 arg7 harg7 arg8 harg8 arg9 harg9 arg10 harg10 arg11 harg11 arg19 x0 x1 x2 x3 x4 x5 x6 x7 x8 x9 arg16.view _ _ _)
  exact List.forall_mem_nil _

/-- Every store into the values' gradient holds it. -/
theorem hv : ∀ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.2.1, ∀ x : p.1.shape.Idx, p.2 x = (ptOf (head i) x0 x1 x2 x3 x4 x5 x6 x8 x9 (lseOf x7)).dv (p.1.emb x 2) (p.1.emb x 3) := by
  refine List.forall_mem_cons.2 ⟨Blk.piece_dv (m := 128) (n := 512) (k0 := 512) (c0 := 2048) (inb := inb_S1x1x96x640_S1x1x96x128_0_0_0_512) _ 4 rfl rfl rfl (by decide) _ _ (Blk.cast128 _ _) ?_ ?_, ?_⟩
  · exact fun d j w hw => (rdS (arg := arg18) _ d j d w (by omega) hw).trans (f18 c i arg10 harg10 arg11 harg11 x0 x1 x2 x3 x4 x5 x6 x7 x8 x9 arg18.view _ d w)
  · exact fun r j r' w hr hw => (rdS (arg := arg15) _ r j r' w hr hw).trans (b15_4 c i arg2 harg2 arg3 harg3 arg5 harg5 arg6 harg6 arg9 harg9 arg19 x0 x1 x2 x3 x4 x5 x6 x7 x8 x9 arg15.view _ (by omega) (by omega))
  refine List.forall_mem_cons.2 ⟨Blk.piece_dv (m := 256) (n := 1536) (k0 := 256) (c0 := 1024) (inb := inb_S1x1x96x640_S1x1x96x256_0_0_0_256) _ 2 rfl rfl rfl (by decide) _ _ (Blk.cast256 _ _) ?_ ?_, ?_⟩
  · exact fun d j w hw => (rdS (arg := arg18) _ d j d w (by omega) hw).trans (f18 c i arg10 harg10 arg11 harg11 x0 x1 x2 x3 x4 x5 x6 x7 x8 x9 arg18.view _ d w)
  · exact fun r j r' w hr hw => (rdS (arg := arg15) _ r j r' w hr hw).trans (f15 c i arg2 harg2 arg3 harg3 arg5 harg5 arg6 harg6 arg9 harg9 arg19 x0 x1 x2 x3 x4 x5 x6 x7 x8 x9 arg15.view _ _ _)
  refine List.forall_mem_cons.2 ⟨Blk.piece_dv (m := 256) (n := 2560) (k0 := 0) (c0 := 0) (inb := inb_S1x1x96x640_S1x1x96x256_0_0_0_0) _ 0 rfl rfl rfl (by decide) _ _ (Blk.cast256 _ _) ?_ ?_, ?_⟩
  · exact fun d j w hw => (rdS (arg := arg18) _ d j d w (by omega) hw).trans (f18 c i arg10 harg10 arg11 harg11 x0 x1 x2 x3 x4 x5 x6 x7 x8 x9 arg18.view _ d w)
  · exact fun r j r' w hr hw => (rdS (arg := arg15) _ r j r' w hr hw).trans (f15 c i arg2 harg2 arg3 harg3 arg5 harg5 arg6 harg6 arg9 harg9 arg19 x0 x1 x2 x3 x4 x5 x6 x7 x8 x9 arg15.view _ _ _)
  exact List.forall_mem_nil _

/-- What this case leaves in the staging buffer of a result. -/
theorem o10 (g : Fin 4) (d : Fin 96) (t : Fin 640) : out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 (ix5 0 g 0 d t) = (ptOf (head i) x0 x1 x2 x3 x4 x5 x6 x8 x9 (lseOf x7)).dq g d t := by
  unfold out0_A_10
  exact View.read_writes_apply_of_pieces _ _ (fun y => (ptOf (head i) x0 x1 x2 x3 x4 x5 x6 x8 x9 (lseOf x7)).dq (y 1) (y 3) (y 4)) _ (hq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 hc0 hc1) _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 _)

/-- What this case leaves in the staging buffer of a result. -/
theorem o11 (d : Fin 96) (t : Fin 640) : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 (ix4 0 0 d t) = (ptOf (head i) x0 x1 x2 x3 x4 x5 x6 x8 x9 (lseOf x7)).dk d t := by
  unfold out0_A_11
  exact View.read_writes_apply_of_pieces _ _ (fun y => (ptOf (head i) x0 x1 x2 x3 x4 x5 x6 x8 x9 (lseOf x7)).dk (y 2) (y 3)) _ (hk c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 hc0 hc1) _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 _)

/-- What this case leaves in the staging buffer of a result. -/
theorem o12 (d : Fin 96) (t : Fin 640) : out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 (ix4 0 0 d t) = (ptOf (head i) x0 x1 x2 x3 x4 x5 x6 x8 x9 (lseOf x7)).dv d t := by
  unfold out0_A_12
  exact View.read_writes_apply_of_pieces _ _ (fun y => (ptOf (head i) x0 x1 x2 x3 x4 x5 x6 x8 x9 (lseOf x7)).dv (y 2) (y 3)) _ (hv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 hc0 hc1) _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 _)

/-- What this case leaves in the carried scratch. -/
theorem s0 (r : Fin 640) (w : Fin 2560) : sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 (ix2 r w) = (ptOf (head i) x0 x1 x2 x3 x4 x5 x6 x8 x9 (lseOf x7)).c15 r w := by
  unfold sout0_A_0
  exact f15 c i arg2 harg2 arg3 harg3 arg5 harg5 arg6 harg6 arg9 harg9 arg19 x0 x1 x2 x3 x4 x5 x6 x7 x8 x9 _ _ r w

/-- What this case leaves in the carried scratch. -/
theorem s1 (r : Fin 640) (w : Fin 2560) : sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 (ix2 r w) = (ptOf (head i) x0 x1 x2 x3 x4 x5 x6 x8 x9 (lseOf x7)).c16 r w := by
  unfold sout0_A_1
  exact f16 c i arg2 harg2 arg3 harg3 arg4 harg4 arg5 harg5 arg6 harg6 arg7 harg7 arg8 harg8 arg9 harg9 arg10 harg10 arg11 harg11 arg19 x0 x1 x2 x3 x4 x5 x6 x7 x8 x9 _ _ r w

/-- What this case leaves in the scratch rows of scaled log-sum-exps. -/
theorem s4 : sout0_A_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 = lseOf x7 := by
  unfold sout0_A_4
  exact funext fun y => View.read_writes_apply_of_pieces _ _ (lseOf x7) _ (hs4 c arg9 harg9 x7) y (hc4 c arg9 harg9 x7 y)

end Cert.KernelIdeal.RunA

end
-- ==== Proof.StoresB.lean ====
/- What the stores into the scratch buffers of probabilities, scaled queries and scaled output gradients hold, in one case of the body. -/
module

public import proofs.«01_k».proof.Proof.Gen.KernelIdeal.Frame
public import proofs.«01_k».proof.Proof.Reads

@[expose] public section

set_option maxRecDepth 16384

noncomputable section

namespace Cert.KernelIdeal.RunB

open Idealize.ShloMosaic Idealize.ShloMosaic.TcCoe Cert.KernelIdeal.Gen

variable (c : Dev nD) (i : grid0.Coords)
  (arg2 : Memref sig .tc .smem S32 .f32) (harg2 : arg2.IsWhole) (arg3 : Memref sig .tc .smem S8 .f32) (harg3 : arg3.IsWhole)
  (arg4 : Memref sig .tc .smem S8 .f32) (harg4 : arg4.IsWhole) (arg5 : Memref sig .tc .vmem S1x4x1x96x640 .fp8e4m3) (harg5 : arg5.IsWhole)
  (arg6 : Memref sig .tc .vmem S1x1x96x640 .fp8e4m3) (harg6 : arg6.IsWhole) (arg7 : Memref sig .tc .vmem S1x1x96x640 .fp8e4m3) (harg7 : arg7.IsWhole)
  (arg8 : Memref sig .tc .vmem S1x4x1x96x640 .bf16) (harg8 : arg8.IsWhole) (arg9 : Memref sig .tc .vmem S1x4x8x640 .f32) (harg9 : arg9.IsWhole)
  (arg10 : Memref sig .tc .vmem S1x4x1x96x640 .fp8e5m2) (harg10 : arg10.IsWhole)
  (arg11 : Memref sig .tc .vmem S1x1x640 .f32) (harg11 : arg11.IsWhole)
  (arg15 : Memref sig .tc .vmem S640x2560 .bf16) (harg15 : arg15.IsWhole) (arg16 : Memref sig .tc .vmem S640x2560 .bf16) (harg16 : arg16.IsWhole)
  (arg17 : Memref sig .tc .vmem S96x2560 .bf16) (harg17 : arg17.IsWhole) (arg18 : Memref sig .tc .vmem S96x2560 .bf16) (harg18 : arg18.IsWhole)
  (arg19 : Memref sig .tc .vmem S8x4x640 .f32) (harg19 : arg19.IsWhole)
  (x0 : Vec Ideal S32 .f32) (x1 x2 : Vec Ideal S8 .f32) (x3 : Vec Ideal S1x4x1x96x640 .fp8e4m3) (x4 x5 : Vec Ideal S1x1x96x640 .fp8e4m3)
  (x6 : Vec Ideal S1x4x1x96x640 .bf16) (x7 : Vec Ideal S1x4x8x640 .f32) (x8 : Vec Ideal S1x4x1x96x640 .fp8e5m2) (x9 : Vec Ideal S1x1x640 .f32)
  (xs0 xs1 : Vec Ideal S640x2560 .bf16) (xs4 : Vec Ideal S8x4x640 .f32)

set_option maxHeartbeats 1000000 in
/-- Every store into the probabilities' scratch holds the probabilities. -/
theorem hs0 : ∀ p ∈ (kernelRun0_B.sl.HS0_20 (F := Ideal) c i arg2 harg2 arg3 harg3 arg5 harg5 arg6 harg6 arg19 harg19 x0 x1 x3 x4 xs4), ∀ x : p.1.shape.Idx, p.2 x = (ptOf (head i) x0 x1 x2 x3 x4 x5 x6 x8 x9 xs4).c15 (p.1.emb x 0) (p.1.emb x 1) := by
  unfold kernelRun0_B.sl.HS0_20
  refine List.forall_mem_cons.2 ⟨Blk.piece_p (n := 640) (m := 512) (o := 2432) (inb := inb_S640x2560_S640x128_0_2432) _ 3 4 rfl rfl rfl ⟨?_, ?_, ?_, ?_⟩, ?_⟩
  · exact kw (arg6 := arg6) (harg6 := harg6) (x4 := x4)
  · exact cq (arg5 := arg5) (harg5 := harg5) (x3 := x3) (gn := 3) (o := 512) rfl rfl
  · exact cqk (arg2 := arg2) (harg2 := harg2) (arg3 := arg3) (harg3 := harg3) (x0 := x0) (x1 := x1) (w := 24#32) rfl
  · exact cl (arg19 := arg19) (harg19 := harg19) (L := xs4) (off := k0_off22 i) ⟨rfl, rfl, rfl⟩
  refine List.forall_mem_cons.2 ⟨Blk.piece_p (n := 640) (m := 512) (o := 2304) (inb := inb_S640x2560_S640x128_0_2304) _ 2 4 rfl rfl rfl ⟨?_, ?_, ?_, ?_⟩, ?_⟩
  · exact kw (arg6 := arg6) (harg6 := harg6) (x4 := x4)
  · exact cq (arg5 := arg5) (harg5 := harg5) (x3 := x3) (gn := 2) (o := 512) rfl rfl
  · exact cqk (arg2 := arg2) (harg2 := harg2) (arg3 := arg3) (harg3 := harg3) (x0 := x0) (x1 := x1) (w := 16#32) rfl
  · exact cl (arg19 := arg19) (harg19 := harg19) (L := xs4) (off := k0_off21 i) ⟨rfl, rfl, rfl⟩
  refine List.forall_mem_cons.2 ⟨Blk.piece_p (n := 640) (m := 512) (o := 2176) (inb := inb_S640x2560_S640x128_0_2176) _ 1 4 rfl rfl rfl ⟨?_, ?_, ?_, ?_⟩, ?_⟩
  · exact kw (arg6 := arg6) (harg6 := harg6) (x4 := x4)
  · exact cq (arg5 := arg5) (harg5 := harg5) (x3 := x3) (gn := 1) (o := 512) rfl rfl
  · exact cqk (arg2 := arg2) (harg2 := harg2) (arg3 := arg3) (harg3 := harg3) (x0 := x0) (x1 := x1) (w := 8#32) rfl
  · exact cl (arg19 := arg19) (harg19 := harg19) (L := xs4) (off := k0_off20 i) ⟨rfl, rfl, rfl⟩
  refine List.forall_mem_cons.2 ⟨Blk.piece_p (n := 640) (m := 512) (o := 2048) (inb := inb_S640x2560_S640x128_0_2048) _ 0 4 rfl rfl rfl ⟨?_, ?_, ?_, ?_⟩, ?_⟩
  · exact kw (arg6 := arg6) (harg6 := harg6) (x4 := x4)
  · exact cq (arg5 := arg5) (harg5 := harg5) (x3 := x3) (gn := 0) (o := 512) rfl rfl
  · exact cqk (arg2 := arg2) (harg2 := harg2) (arg3 := arg3) (harg3 := harg3) (x0 := x0) (x1 := x1) (w := 0#32) rfl
  · exact cl (arg19 := arg19) (harg19 := harg19) (L := xs4) (off := k0_off19 i) ⟨rfl, rfl, rfl⟩
  refine List.forall_mem_cons.2 ⟨Blk.piece_p (n := 512) (m := 384) (o := 1920) (inb := inb_S640x2560_S512x128_0_1920) _ 3 3 rfl rfl rfl ⟨?_, ?_, ?_, ?_⟩, ?_⟩
  · exact ks (arg6 := arg6) (harg6 := harg6) (x4 := x4)
  · exact cq (arg5 := arg5) (harg5 := harg5) (x3 := x3) (gn := 3) (o := 384) rfl rfl
  · exact cqk (arg2 := arg2) (harg2 := harg2) (arg3 := arg3) (harg3 := harg3) (x0 := x0) (x1 := x1) (w := 24#32) rfl
  · exact cl (arg19 := arg19) (harg19 := harg19) (L := xs4) (off := k0_off18 i) ⟨rfl, rfl, rfl⟩
  refine List.forall_mem_cons.2 ⟨Blk.piece_p (n := 512) (m := 384) (o := 1792) (inb := inb_S640x2560_S512x128_0_1792) _ 2 3 rfl rfl rfl ⟨?_, ?_, ?_, ?_⟩, ?_⟩
  · exact ks (arg6 := arg6) (harg6 := harg6) (x4 := x4)
  · exact cq (arg5 := arg5) (harg5 := harg5) (x3 := x3) (gn := 2) (o := 384) rfl rfl
  · exact cqk (arg2 := arg2) (harg2 := harg2) (arg3 := arg3) (harg3 := harg3) (x0 := x0) (x1 := x1) (w := 16#32) rfl
  · exact cl (arg19 := arg19) (harg19 := harg19) (L := xs4) (off := k0_off17 i) ⟨rfl, rfl, rfl⟩
  refine List.forall_mem_cons.2 ⟨Blk.piece_p (n := 512) (m := 384) (o := 1664) (inb := inb_S640x2560_S512x128_0_1664) _ 1 3 rfl rfl rfl ⟨?_, ?_, ?_, ?_⟩, ?_⟩
  · exact ks (arg6 := arg6) (harg6 := harg6) (x4 := x4)
  · exact cq (arg5 := arg5) (harg5 := harg5) (x3 := x3) (gn := 1) (o := 384) rfl rfl
  · exact cqk (arg2 := arg2) (harg2 := harg2) (arg3 := arg3) (harg3 := harg3) (x0 := x0) (x1 := x1) (w := 8#32) rfl
  · exact cl (arg19 := arg19) (harg19 := harg19) (L := xs4) (off := k0_off16 i) ⟨rfl, rfl, rfl⟩
  refine List.forall_mem_cons.2 ⟨Blk.piece_p (n := 512) (m := 384) (o := 1536) (inb := inb_S640x2560_S512x128_0_1536) _ 0 3 rfl rfl rfl ⟨?_, ?_, ?_, ?_⟩, ?_⟩
  · exact ks (arg6 := arg6) (harg6 := harg6) (x4 := x4)
  · exact cq (arg5 := arg5) (harg5 := harg5) (x3 := x3) (gn := 0) (o := 384) rfl rfl
  · exact cqk (arg2 := arg2) (harg2 := harg2) (arg3 := arg3) (harg3 := harg3) (x0 := x0) (x1 := x1) (w := 0#32) rfl
  · exact cl (arg19 := arg19) (harg19 := harg19) (L := xs4) (off := k0_off15 i) ⟨rfl, rfl, rfl⟩
  refine List.forall_mem_cons.2 ⟨Blk.piece_p (n := 384) (m := 256) (o := 1408) (inb := inb_S640x2560_S384x128_0_1408) _ 3 2 rfl rfl rfl ⟨?_, ?_, ?_, ?_⟩, ?_⟩
  · exact ks (arg6 := arg6) (harg6 := harg6) (x4 := x4)
  · exact cq (arg5 := arg5) (harg5 := harg5) (x3 := x3) (gn := 3) (o := 256) rfl rfl
  · exact cqk (arg2 := arg2) (harg2 := harg2) (arg3 := arg3) (harg3 := harg3) (x0 := x0) (x1 := x1) (w := 24#32) rfl
  · exact cl (arg19 := arg19) (harg19 := harg19) (L := xs4) (off := k0_off14 i) ⟨rfl, rfl, rfl⟩
  refine List.forall_mem_cons.2 ⟨Blk.piece_p (n := 384) (m := 256) (o := 1280) (inb := inb_S640x2560_S384x128_0_1280) _ 2 2 rfl rfl rfl ⟨?_, ?_, ?_, ?_⟩, ?_⟩
  · exact ks (arg6 := arg6) (harg6 := harg6) (x4 := x4)
  · exact cq (arg5 := arg5) (harg5 := harg5) (x3 := x3) (gn := 2) (o := 256) rfl rfl
  · exact cqk (arg2 := arg2) (harg2 := harg2) (arg3 := arg3) (harg3 := harg3) (x0 := x0) (x1 := x1) (w := 16#32) rfl
  · exact cl (arg19 := arg19) (harg19 := harg19) (L := xs4) (off := k0_off13 i) ⟨rfl, rfl, rfl⟩
  refine List.forall_mem_cons.2 ⟨Blk.piece_p (n := 384) (m := 256) (o := 1152) (inb := inb_S640x2560_S384x128_0_1152) _ 1 2 rfl rfl rfl ⟨?_, ?_, ?_, ?_⟩, ?_⟩
  · exact ks (arg6 := arg6) (harg6 := harg6) (x4 := x4)
  · exact cq (arg5 := arg5) (harg5 := harg5) (x3 := x3) (gn := 1) (o := 256) rfl rfl
  · exact cqk (arg2 := arg2) (harg2 := harg2) (arg3 := arg3) (harg3 := harg3) (x0 := x0) (x1 := x1) (w := 8#32) rfl
  · exact cl (arg19 := arg19) (harg19 := harg19) (L := xs4) (off := k0_off12 i) ⟨rfl, rfl, rfl⟩
  refine List.forall_mem_cons.2 ⟨Blk.piece_p (n := 384) (m := 256) (o := 1024) (inb := inb_S640x2560_S384x128_0_1024) _ 0 2 rfl rfl rfl ⟨?_, ?_, ?_, ?_⟩, ?_⟩
  · exact ks (arg6 := arg6) (harg6 := harg6) (x4 := x4)
  · exact cq (arg5 := arg5) (harg5 := harg5) (x3 := x3) (gn := 0) (o := 256) rfl rfl
  · exact cqk (arg2 := arg2) (harg2 := harg2) (arg3 := arg3) (harg3 := harg3) (x0 := x0) (x1 := x1) (w := 0#32) rfl
  · exact cl (arg19 := arg19) (harg19 := harg19) (L := xs4) (off := k0_off11 i) ⟨rfl, rfl, rfl⟩
  refine List.forall_mem_cons.2 ⟨Blk.piece_p (n := 256) (m := 128) (o := 896) (inb := inb_S640x2560_S256x128_0_896) _ 3 1 rfl rfl rfl ⟨?_, ?_, ?_, ?_⟩, ?_⟩
  · exact ks (arg6 := arg6) (harg6 := harg6) (x4 := x4)
  · exact cq (arg5 := arg5) (harg5 := harg5) (x3 := x3) (gn := 3) (o := 128) rfl rfl
  · exact cqk (arg2 := arg2) (harg2 := harg2) (arg3 := arg3) (harg3 := harg3) (x0 := x0) (x1 := x1) (w := 24#32) rfl
  · exact cl (arg19 := arg19) (harg19 := harg19) (L := xs4) (off := k0_off10 i) ⟨rfl, rfl, rfl⟩
  refine List.forall_mem_cons.2 ⟨Blk.piece_p (n := 256) (m := 128) (o := 768) (inb := inb_S640x2560_S256x128_0_768) _ 2 1 rfl rfl rfl ⟨?_, ?_, ?_, ?_⟩, ?_⟩
  · exact ks (arg6 := arg6) (harg6 := harg6) (x4 := x4)
  · exact cq (arg5 := arg5) (harg5 := harg5) (x3 := x3) (gn := 2) (o := 128) rfl rfl
  · exact cqk (arg2 := arg2) (harg2 := harg2) (arg3 := arg3) (harg3 := harg3) (x0 := x0) (x1 := x1) (w := 16#32) rfl
  · exact cl (arg19 := arg19) (harg19 := harg19) (L := xs4) (off := k0_off9 i) ⟨rfl, rfl, rfl⟩
  refine List.forall_mem_cons.2 ⟨Blk.piece_p (n := 256) (m := 128) (o := 640) (inb := inb_S640x2560_S256x128_0_640) _ 1 1 rfl rfl rfl ⟨?_, ?_, ?_, ?_⟩, ?_⟩
  · exact ks (arg6 := arg6) (harg6 := harg6) (x4 := x4)
  · exact cq (arg5 := arg5) (harg5 := harg5) (x3 := x3) (gn := 1) (o := 128) rfl rfl
  · exact cqk (arg2 := arg2) (harg2 := harg2) (arg3 := arg3) (harg3 := harg3) (x0 := x0) (x1 := x1) (w := 8#32) rfl
  · exact cl (arg19 := arg19) (harg19 := harg19) (L := xs4) (off := k0_off8 i) ⟨rfl, rfl, rfl⟩
  refine List.forall_mem_cons.2 ⟨Blk.piece_p (n := 256) (m := 128) (o := 512) (inb := inb_S640x2560_S256x128_0_512) _ 0 1 rfl rfl rfl ⟨?_, ?_, ?_, ?_⟩, ?_⟩
  · exact ks (arg6 := arg6) (harg6 := harg6) (x4 := x4)
  · exact cq (arg5 := arg5) (harg5 := harg5) (x3 := x3) (gn := 0) (o := 128) rfl rfl
  · exact cqk (arg2 := arg2) (harg2 := harg2) (arg3 := arg3) (harg3 := harg3) (x0 := x0) (x1 := x1) (w := 0#32) rfl
  · exact cl (arg19 := arg19) (harg19 := harg19) (L := xs4) (off := k0_off7 i) ⟨rfl, rfl, rfl⟩
  refine List.forall_mem_cons.2 ⟨Blk.piece_p0 (o := 384) (inb := inb_S640x2560_S128x128_0_384) _ 3 0 rfl rfl ⟨?_, ?_, ?_, ?_⟩, ?_⟩
  · exact ks (arg6 := arg6) (harg6 := harg6) (x4 := x4)
  · exact cq (arg5 := arg5) (harg5 := harg5) (x3 := x3) (gn := 3) (o := 0) rfl rfl
  · exact cqk (arg2 := arg2) (harg2 := harg2) (arg3 := arg3) (harg3 := harg3) (x0 := x0) (x1 := x1) (w := 24#32) rfl
  · exact cl (arg19 := arg19) (harg19 := harg19) (L := xs4) (off := k0_off6 i) ⟨rfl, rfl, rfl⟩
  refine List.forall_mem_cons.2 ⟨Blk.piece_p0 (o := 256) (inb := inb_S640x2560_S128x128_0_256) _ 2 0 rfl rfl ⟨?_, ?_, ?_, ?_⟩, ?_⟩
  · exact ks (arg6 := arg6) (harg6 := harg6) (x4 := x4)
  · exact cq (arg5 := arg5) (harg5 := harg5) (x3 := x3) (gn := 2) (o := 0) rfl rfl
  · exact cqk (arg2 := arg2) (harg2 := harg2) (arg3 := arg3) (harg3 := harg3) (x0 := x0) (x1 := x1) (w := 16#32) rfl
  · exact cl (arg19 := arg19) (harg19 := harg19) (L := xs4) (off := k0_off5 i) ⟨rfl, rfl, rfl⟩
  refine List.forall_mem_cons.2 ⟨Blk.piece_p0 (o := 128) (inb := inb_S640x2560_S128x128_0_128) _ 1 0 rfl rfl ⟨?_, ?_, ?_, ?_⟩, ?_⟩
  · exact ks (arg6 := arg6) (harg6 := harg6) (x4 := x4)
  · exact cq (arg5 := arg5) (harg5 := harg5) (x3 := x3) (gn := 1) (o := 0) rfl rfl
  · exact cqk (arg2 := arg2) (harg2 := harg2) (arg3 := arg3) (harg3 := harg3) (x0 := x0) (x1 := x1) (w := 8#32) rfl
  · exact cl (arg19 := arg19) (harg19 := harg19) (L := xs4) (off := k0_off4 i) ⟨rfl, rfl, rfl⟩
  refine List.forall_mem_cons.2 ⟨Blk.piece_p0 (o := 0) (inb := inb_S640x2560_S128x128_0_0) _ 0 0 rfl rfl ⟨?_, ?_, ?_, ?_⟩, ?_⟩
  · exact ks (arg6 := arg6) (harg6 := harg6) (x4 := x4)
  · exact cq (arg5 := arg5) (harg5 := harg5) (x3 := x3) (gn := 0) (o := 0) rfl rfl
  · exact cqk (arg2 := arg2) (harg2 := harg2) (arg3 := arg3) (harg3 := harg3) (x0 := x0) (x1 := x1) (w := 0#32) rfl
  · exact cl (arg19 := arg19) (harg19 := harg19) (L := xs4) (off := k0_off3 i) ⟨rfl, rfl, rfl⟩
  exact List.forall_mem_nil _

set_option maxHeartbeats 1000000 in
/-- Every store into the scaled queries' scratch holds the scaled queries. -/
theorem hs2 : ∀ p ∈ (kernelRun0_B.sl.HS2_20 (F := Ideal) c i arg2 harg2 arg5 harg5 x0 x3), ∀ x : p.1.shape.Idx, p.2 x = (ptOf (head i) x0 x1 x2 x3 x4 x5 x6 x8 x9 xs4).c17 (p.1.emb x 0) (p.1.emb x 1) := by
  unfold kernelRun0_B.sl.HS2_20
  refine List.forall_mem_cons.2 ⟨spq (arg2 := arg2) (harg2 := harg2) (arg5 := arg5) (harg5 := harg5) (x0 := x0) (x3 := x3) (g := 3) (b := 4) (w := 24#32) (gn := 3) (o := 512) (on := 2432) (inb := inb_S96x2560_S96x128_0_2432) rfl rfl rfl rfl, ?_⟩
  refine List.forall_mem_cons.2 ⟨spq (arg2 := arg2) (harg2 := harg2) (arg5 := arg5) (harg5 := harg5) (x0 := x0) (x3 := x3) (g := 2) (b := 4) (w := 16#32) (gn := 2) (o := 512) (on := 2304) (inb := inb_S96x2560_S96x128_0_2304) rfl rfl rfl rfl, ?_⟩
  refine List.forall_mem_cons.2 ⟨spq (arg2 := arg2) (harg2 := harg2) (arg5 := arg5) (harg5 := harg5) (x0 := x0) (x3 := x3) (g := 1) (b := 4) (w := 8#32) (gn := 1) (o := 512) (on := 2176) (inb := inb_S96x2560_S96x128_0_2176) rfl rfl rfl rfl, ?_⟩
  refine List.forall_mem_cons.2 ⟨spq (arg2 := arg2) (harg2 := harg2) (arg5 := arg5) (harg5 := harg5) (x0 := x0) (x3 := x3) (g := 0) (b := 4) (w := 0#32) (gn := 0) (o := 512) (on := 2048) (inb := inb_S96x2560_S96x128_0_2048) rfl rfl rfl rfl, ?_⟩
  refine List.forall_mem_cons.2 ⟨spq (arg2 := arg2) (harg2 := harg2) (arg5 := arg5) (harg5 := harg5) (x0 := x0) (x3 := x3) (g := 3) (b := 3) (w := 24#32) (gn := 3) (o := 384) (on := 1920) (inb := inb_S96x2560_S96x128_0_1920) rfl rfl rfl rfl, ?_⟩
  refine List.forall_mem_cons.2 ⟨spq (arg2 := arg2) (harg2 := harg2) (arg5 := arg5) (harg5 := harg5) (x0 := x0) (x3 := x3) (g := 2) (b := 3) (w := 16#32) (gn := 2) (o := 384) (on := 1792) (inb := inb_S96x2560_S96x128_0_1792) rfl rfl rfl rfl, ?_⟩
  refine List.forall_mem_cons.2 ⟨spq (arg2 := arg2) (harg2 := harg2) (arg5 := arg5) (harg5 := harg5) (x0 := x0) (x3 := x3) (g := 1) (b := 3) (w := 8#32) (gn := 1) (o := 384) (on := 1664) (inb := inb_S96x2560_S96x128_0_1664) rfl rfl rfl rfl, ?_⟩
  refine List.forall_mem_cons.2 ⟨spq (arg2 := arg2) (harg2 := harg2) (arg5 := arg5) (harg5 := harg5) (x0 := x0) (x3 := x3) (g := 0) (b := 3) (w := 0#32) (gn := 0) (o := 384) (on := 1536) (inb := inb_S96x2560_S96x128_0_1536) rfl rfl rfl rfl, ?_⟩
  refine List.forall_mem_cons.2 ⟨spq (arg2 := arg2) (harg2 := harg2) (arg5 := arg5) (harg5 := harg5) (x0 := x0) (x3 := x3) (g := 3) (b := 2) (w := 24#32) (gn := 3) (o := 256) (on := 1408) (inb := inb_S96x2560_S96x128_0_1408) rfl rfl rfl rfl, ?_⟩
  refine List.forall_mem_cons.2 ⟨spq (arg2 := arg2) (harg2 := harg2) (arg5 := arg5) (harg5 := harg5) (x0 := x0) (x3 := x3) (g := 2) (b := 2) (w := 16#32) (gn := 2) (o := 256) (on := 1280) (inb := inb_S96x2560_S96x128_0_1280) rfl rfl rfl rfl, ?_⟩
  refine List.forall_mem_cons.2 ⟨spq (arg2 := arg2) (harg2 := harg2) (arg5 := arg5) (harg5 := harg5) (x0 := x0) (x3 := x3) (g := 1) (b := 2) (w := 8#32) (gn := 1) (o := 256) (on := 1152) (inb := inb_S96x2560_S96x128_0_1152) rfl rfl rfl rfl, ?_⟩
  refine List.forall_mem_cons.2 ⟨spq (arg2 := arg2) (harg2 := harg2) (arg5 := arg5) (harg5 := harg5) (x0 := x0) (x3 := x3) (g := 0) (b := 2) (w := 0#32) (gn := 0) (o := 256) (on := 1024) (inb := inb_S96x2560_S96x128_0_1024) rfl rfl rfl rfl, ?_⟩
  refine List.forall_mem_cons.2 ⟨spq (arg2 := arg2) (harg2 := harg2) (arg5 := arg5) (harg5 := harg5) (x0 := x0) (x3 := x3) (g := 3) (b := 1) (w := 24#32) (gn := 3) (o := 128) (on := 896) (inb := inb_S96x2560_S96x128_0_896) rfl rfl rfl rfl, ?_⟩
  refine List.forall_mem_cons.2 ⟨spq (arg2 := arg2) (harg2 := harg2) (arg5 := arg5) (harg5 := harg5) (x0 := x0) (x3 := x3) (g := 2) (b := 1) (w := 16#32) (gn := 2) (o := 128) (on := 768) (inb := inb_S96x2560_S96x128_0_768) rfl rfl rfl rfl, ?_⟩
  refine List.forall_mem_cons.2 ⟨spq (arg2 := arg2) (harg2 := harg2) (arg5 := arg5) (harg5 := harg5) (x0 := x0) (x3 := x3) (g := 1) (b := 1) (w := 8#32) (gn := 1) (o := 128) (on := 640) (inb := inb_S96x2560_S96x128_0_640) rfl rfl rfl rfl, ?_⟩
  refine List.forall_mem_cons.2 ⟨spq (arg2 := arg2) (harg2 := harg2) (arg5 := arg5) (harg5 := harg5) (x0 := x0) (x3 := x3) (g := 0) (b := 1) (w := 0#32) (gn := 0) (o := 128) (on := 512) (inb := inb_S96x2560_S96x128_0_512) rfl rfl rfl rfl, ?_⟩
  refine List.forall_mem_cons.2 ⟨spq (arg2 := arg2) (harg2 := harg2) (arg5 := arg5) (harg5 := harg5) (x0 := x0) (x3 := x3) (g := 3) (b := 0) (w := 24#32) (gn := 3) (o := 0) (on := 384) (inb := inb_S96x2560_S96x128_0_384) rfl rfl rfl rfl, ?_⟩
  refine List.forall_mem_cons.2 ⟨spq (arg2 := arg2) (harg2 := harg2) (arg5 := arg5) (harg5 := harg5) (x0 := x0) (x3 := x3) (g := 2) (b := 0) (w := 16#32) (gn := 2) (o := 0) (on := 256) (inb := inb_S96x2560_S96x128_0_256) rfl rfl rfl rfl, ?_⟩
  refine List.forall_mem_cons.2 ⟨spq (arg2 := arg2) (harg2 := harg2) (arg5 := arg5) (harg5 := harg5) (x0 := x0) (x3 := x3) (g := 1) (b := 0) (w := 8#32) (gn := 1) (o := 0) (on := 128) (inb := inb_S96x2560_S96x128_0_128) rfl rfl rfl rfl, ?_⟩
  refine List.forall_mem_cons.2 ⟨spq (arg2 := arg2) (harg2 := harg2) (arg5 := arg5) (harg5 := harg5) (x0 := x0) (x3 := x3) (g := 0) (b := 0) (w := 0#32) (gn := 0) (o := 0) (on := 0) (inb := inb_S96x2560_S96x128_0_0) rfl rfl rfl rfl, ?_⟩
  exact List.forall_mem_nil _

set_option maxHeartbeats 1000000 in
/-- Every store into the scaled output gradients' scratch holds them. -/
theorem hs3 : ∀ p ∈ (kernelRun0_B.sl.HS3_20 (F := Ideal) c arg10 harg10 arg11 harg11 x8 x9), ∀ x : p.1.shape.Idx, p.2 x = (ptOf (head i) x0 x1 x2 x3 x4 x5 x6 x8 x9 xs4).c18 (p.1.emb x 0) (p.1.emb x 1) := by
  unfold kernelRun0_B.sl.HS3_20
  refine List.forall_mem_cons.2 ⟨spo (arg10 := arg10) (harg10 := harg10) (arg11 := arg11) (harg11 := harg11) (x8 := x8) (x9 := x9) (g := 3) (b := 4) (gn := 3) (o := 512) (on := 2432) (hdo := slices_S1x640_o0_512_S1x128) (inb := inb_S96x2560_S96x128_0_2432) rfl rfl rfl, ?_⟩
  refine List.forall_mem_cons.2 ⟨spo (arg10 := arg10) (harg10 := harg10) (arg11 := arg11) (harg11 := harg11) (x8 := x8) (x9 := x9) (g := 2) (b := 4) (gn := 2) (o := 512) (on := 2304) (hdo := slices_S1x640_o0_512_S1x128) (inb := inb_S96x2560_S96x128_0_2304) rfl rfl rfl, ?_⟩
  refine List.forall_mem_cons.2 ⟨spo (arg10 := arg10) (harg10 := harg10) (arg11 := arg11) (harg11 := harg11) (x8 := x8) (x9 := x9) (g := 1) (b := 4) (gn := 1) (o := 512) (on := 2176) (hdo := slices_S1x640_o0_512_S1x128) (inb := inb_S96x2560_S96x128_0_2176) rfl rfl rfl, ?_⟩
  refine List.forall_mem_cons.2 ⟨spo (arg10 := arg10) (harg10 := harg10) (arg11 := arg11) (harg11 := harg11) (x8 := x8) (x9 := x9) (g := 0) (b := 4) (gn := 0) (o := 512) (on := 2048) (hdo := slices_S1x640_o0_512_S1x128) (inb := inb_S96x2560_S96x128_0_2048) rfl rfl rfl, ?_⟩
  refine List.forall_mem_cons.2 ⟨spo (arg10 := arg10) (harg10 := harg10) (arg11 := arg11) (harg11 := harg11) (x8 := x8) (x9 := x9) (g := 3) (b := 3) (gn := 3) (o := 384) (on := 1920) (hdo := slices_S1x640_o0_384_S1x128) (inb := inb_S96x2560_S96x128_0_1920) rfl rfl rfl, ?_⟩
  refine List.forall_mem_cons.2 ⟨spo (arg10 := arg10) (harg10 := harg10) (arg11 := arg11) (harg11 := harg11) (x8 := x8) (x9 := x9) (g := 2) (b := 3) (gn := 2) (o := 384) (on := 1792) (hdo := slices_S1x640_o0_384_S1x128) (inb := inb_S96x2560_S96x128_0_1792) rfl rfl rfl, ?_⟩
  refine List.forall_mem_cons.2 ⟨spo (arg10 := arg10) (harg10 := harg10) (arg11 := arg11) (harg11 := harg11) (x8 := x8) (x9 := x9) (g := 1) (b := 3) (gn := 1) (o := 384) (on := 1664) (hdo := slices_S1x640_o0_384_S1x128) (inb := inb_S96x2560_S96x128_0_1664) rfl rfl rfl, ?_⟩
  refine List.forall_mem_cons.2 ⟨spo (arg10 := arg10) (harg10 := harg10) (arg11 := arg11) (harg11 := harg11) (x8 := x8) (x9 := x9) (g := 0) (b := 3) (gn := 0) (o := 384) (on := 1536) (hdo := slices_S1x640_o0_384_S1x128) (inb := inb_S96x2560_S96x128_0_1536) rfl rfl rfl, ?_⟩
  refine List.forall_mem_cons.2 ⟨spo (arg10 := arg10) (harg10 := harg10) (arg11 := arg11) (harg11 := harg11) (x8 := x8) (x9 := x9) (g := 3) (b := 2) (gn := 3) (o := 256) (on := 1408) (hdo := slices_S1x640_o0_256_S1x128) (inb := inb_S96x2560_S96x128_0_1408) rfl rfl rfl, ?_⟩
  refine List.forall_mem_cons.2 ⟨spo (arg10 := arg10) (harg10 := harg10) (arg11 := arg11) (harg11 := harg11) (x8 := x8) (x9 := x9) (g := 2) (b := 2) (gn := 2) (o := 256) (on := 1280) (hdo := slices_S1x640_o0_256_S1x128) (inb := inb_S96x2560_S96x128_0_1280) rfl rfl rfl, ?_⟩
  refine List.forall_mem_cons.2 ⟨spo (arg10 := arg10) (harg10 := harg10) (arg11 := arg11) (harg11 := harg11) (x8 := x8) (x9 := x9) (g := 1) (b := 2) (gn := 1) (o := 256) (on := 1152) (hdo := slices_S1x640_o0_256_S1x128) (inb := inb_S96x2560_S96x128_0_1152) rfl rfl rfl, ?_⟩
  refine List.forall_mem_cons.2 ⟨spo (arg10 := arg10) (harg10 := harg10) (arg11 := arg11) (harg11 := harg11) (x8 := x8) (x9 := x9) (g := 0) (b := 2) (gn := 0) (o := 256) (on := 1024) (hdo := slices_S1x640_o0_256_S1x128) (inb := inb_S96x2560_S96x128_0_1024) rfl rfl rfl, ?_⟩
  refine List.forall_mem_cons.2 ⟨spo (arg10 := arg10) (harg10 := harg10) (arg11 := arg11) (harg11 := harg11) (x8 := x8) (x9 := x9) (g := 3) (b := 1) (gn := 3) (o := 128) (on := 896) (hdo := slices_S1x640_o0_128_S1x128) (inb := inb_S96x2560_S96x128_0_896) rfl rfl rfl, ?_⟩
  refine List.forall_mem_cons.2 ⟨spo (arg10 := arg10) (harg10 := harg10) (arg11 := arg11) (harg11 := harg11) (x8 := x8) (x9 := x9) (g := 2) (b := 1) (gn := 2) (o := 128) (on := 768) (hdo := slices_S1x640_o0_128_S1x128) (inb := inb_S96x2560_S96x128_0_768) rfl rfl rfl, ?_⟩
  refine List.forall_mem_cons.2 ⟨spo (arg10 := arg10) (harg10 := harg10) (arg11 := arg11) (harg11 := harg11) (x8 := x8) (x9 := x9) (g := 1) (b := 1) (gn := 1) (o := 128) (on := 640) (hdo := slices_S1x640_o0_128_S1x128) (inb := inb_S96x2560_S96x128_0_640) rfl rfl rfl, ?_⟩
  refine List.forall_mem_cons.2 ⟨spo (arg10 := arg10) (harg10 := harg10) (arg11 := arg11) (harg11 := harg11) (x8 := x8) (x9 := x9) (g := 0) (b := 1) (gn := 0) (o := 128) (on := 512) (hdo := slices_S1x640_o0_128_S1x128) (inb := inb_S96x2560_S96x128_0_512) rfl rfl rfl, ?_⟩
  refine List.forall_mem_cons.2 ⟨spo (arg10 := arg10) (harg10 := harg10) (arg11 := arg11) (harg11 := harg11) (x8 := x8) (x9 := x9) (g := 3) (b := 0) (gn := 3) (o := 0) (on := 384) (hdo := slices_S1x640_o0_0_S1x128) (inb := inb_S96x2560_S96x128_0_384) rfl rfl rfl, ?_⟩
  refine List.forall_mem_cons.2 ⟨spo (arg10 := arg10) (harg10 := harg10) (arg11 := arg11) (harg11 := harg11) (x8 := x8) (x9 := x9) (g := 2) (b := 0) (gn := 2) (o := 0) (on := 256) (hdo := slices_S1x640_o0_0_S1x128) (inb := inb_S96x2560_S96x128_0_256) rfl rfl rfl, ?_⟩
  refine List.forall_mem_cons.2 ⟨spo (arg10 := arg10) (harg10 := harg10) (arg11 := arg11) (harg11 := harg11) (x8 := x8) (x9 := x9) (g := 1) (b := 0) (gn := 1) (o := 0) (on := 128) (hdo := slices_S1x640_o0_0_S1x128) (inb := inb_S96x2560_S96x128_0_128) rfl rfl rfl, ?_⟩
  refine List.forall_mem_cons.2 ⟨spo (arg10 := arg10) (harg10 := harg10) (arg11 := arg11) (harg11 := harg11) (x8 := x8) (x9 := x9) (g := 0) (b := 0) (gn := 0) (o := 0) (on := 0) (hdo := slices_S1x640_o0_0_S1x128) (inb := inb_S96x2560_S96x128_0_0) rfl rfl rfl, ?_⟩
  exact List.forall_mem_nil _

end Cert.KernelIdeal.RunB

end
-- ==== Proof.GradsB.lean ====
/- What the stores into the scratch buffer of score gradients hold, in one case of the body. -/
module

public import proofs.«01_k».proof.Proof.Gen.KernelIdeal.Frame
public import proofs.«01_k».proof.Proof.Reads

@[expose] public section

set_option maxRecDepth 16384

noncomputable section

namespace Cert.KernelIdeal.RunB

open Idealize.ShloMosaic Idealize.ShloMosaic.TcCoe Cert.KernelIdeal.Gen

variable (c : Dev nD) (i : grid0.Coords)
  (arg2 : Memref sig .tc .smem S32 .f32) (harg2 : arg2.IsWhole) (arg3 : Memref sig .tc .smem S8 .f32) (harg3 : arg3.IsWhole)
  (arg4 : Memref sig .tc .smem S8 .f32) (harg4 : arg4.IsWhole) (arg5 : Memref sig .tc .vmem S1x4x1x96x640 .fp8e4m3) (harg5 : arg5.IsWhole)
  (arg6 : Memref sig .tc .vmem S1x1x96x640 .fp8e4m3) (harg6 : arg6.IsWhole) (arg7 : Memref sig .tc .vmem S1x1x96x640 .fp8e4m3) (harg7 : arg7.IsWhole)
  (arg8 : Memref sig .tc .vmem S1x4x1x96x640 .bf16) (harg8 : arg8.IsWhole) (arg9 : Memref sig .tc .vmem S1x4x8x640 .f32) (harg9 : arg9.IsWhole)
  (arg10 : Memref sig .tc .vmem S1x4x1x96x640 .fp8e5m2) (harg10 : arg10.IsWhole)
  (arg11 : Memref sig .tc .vmem S1x1x640 .f32) (harg11 : arg11.IsWhole)
  (arg15 : Memref sig .tc .vmem S640x2560 .bf16) (harg15 : arg15.IsWhole) (arg16 : Memref sig .tc .vmem S640x2560 .bf16) (harg16 : arg16.IsWhole)
  (arg17 : Memref sig .tc .vmem S96x2560 .bf16) (harg17 : arg17.IsWhole) (arg18 : Memref sig .tc .vmem S96x2560 .bf16) (harg18 : arg18.IsWhole)
  (arg19 : Memref sig .tc .vmem S8x4x640 .f32) (harg19 : arg19.IsWhole)
  (x0 : Vec Ideal S32 .f32) (x1 x2 : Vec Ideal S8 .f32) (x3 : Vec Ideal S1x4x1x96x640 .fp8e4m3) (x4 x5 : Vec Ideal S1x1x96x640 .fp8e4m3)
  (x6 : Vec Ideal S1x4x1x96x640 .bf16) (x7 : Vec Ideal S1x4x8x640 .f32) (x8 : Vec Ideal S1x4x1x96x640 .fp8e5m2) (x9 : Vec Ideal S1x1x640 .f32)
  (xs0 xs1 : Vec Ideal S640x2560 .bf16) (xs4 : Vec Ideal S8x4x640 .f32)

set_option maxHeartbeats 1000000 in
/-- Every store into the score gradients' scratch up to block 0 holds the score gradients. -/
theorem hs1_4 : ∀ p ∈ (kernelRun0_B.sl.HS1_4 (F := Ideal) c i arg2 harg2 arg3 harg3 arg4 harg4 arg5 harg5 arg6 harg6 arg7 harg7 arg8 harg8 arg10 harg10 arg11 harg11 arg19 harg19 x0 x1 x2 x3 x4 x5 x6 x8 x9 xs4), ∀ x : p.1.shape.Idx, p.2 x = (ptOf (head i) x0 x1 x2 x3 x4 x5 x6 x8 x9 xs4).c16 (p.1.emb x 0) (p.1.emb x 1) := by
  unfold kernelRun0_B.sl.HS1_4
  refine List.forall_mem_cons.2 ⟨Blk.piece_d0 (o := 384) (inb := inb_S640x2560_S128x128_0_384) _ 3 0 rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 3) (o := 0) rfl rfl
  · exact cqk (arg2 := arg2) (harg2 := harg2) (arg3 := arg3) (harg3 := harg3) (x0 := x0) (x1 := x1) (w := 24#32) rfl
  · exact cl (arg19 := arg19) (harg19 := harg19) (L := xs4) (off := k0_off6 i) ⟨rfl, rfl, rfl⟩
  · exact vs (arg7 := arg7) (harg7 := harg7) (x5 := x5)
  · exact cdO (arg10 := arg10) (harg10 := harg10) (x8 := x8) (gn := 3) (o := 0) rfl rfl
  · exact csv (arg4 := arg4) (harg4 := harg4) (arg11 := arg11) (harg11 := harg11) (x2 := x2) (x9 := x9) (o := 0) (hdo := slices_S1x640_o0_0_S1x128) rfl
  · exact cdl (arg8 := arg8) (harg8 := harg8) (arg10 := arg10) (harg10 := harg10) (arg11 := arg11) (harg11 := harg11) (x6 := x6) (x8 := x8) (x9 := x9) (gn := 3) (o := 0) (hdo := slices_S1x640_o0_0_S1x128) (hle := by decide) rfl rfl
  refine List.forall_mem_cons.2 ⟨Blk.piece_d0 (o := 256) (inb := inb_S640x2560_S128x128_0_256) _ 2 0 rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 2) (o := 0) rfl rfl
  · exact cqk (arg2 := arg2) (harg2 := harg2) (arg3 := arg3) (harg3 := harg3) (x0 := x0) (x1 := x1) (w := 16#32) rfl
  · exact cl (arg19 := arg19) (harg19 := harg19) (L := xs4) (off := k0_off5 i) ⟨rfl, rfl, rfl⟩
  · exact vs (arg7 := arg7) (harg7 := harg7) (x5 := x5)
  · exact cdO (arg10 := arg10) (harg10 := harg10) (x8 := x8) (gn := 2) (o := 0) rfl rfl
  · exact csv (arg4 := arg4) (harg4 := harg4) (arg11 := arg11) (harg11 := harg11) (x2 := x2) (x9 := x9) (o := 0) (hdo := slices_S1x640_o0_0_S1x128) rfl
  · exact cdl (arg8 := arg8) (harg8 := harg8) (arg10 := arg10) (harg10 := harg10) (arg11 := arg11) (harg11 := harg11) (x6 := x6) (x8 := x8) (x9 := x9) (gn := 2) (o := 0) (hdo := slices_S1x640_o0_0_S1x128) (hle := by decide) rfl rfl
  refine List.forall_mem_cons.2 ⟨Blk.piece_d0 (o := 128) (inb := inb_S640x2560_S128x128_0_128) _ 1 0 rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 1) (o := 0) rfl rfl
  · exact cqk (arg2 := arg2) (harg2 := harg2) (arg3 := arg3) (harg3 := harg3) (x0 := x0) (x1 := x1) (w := 8#32) rfl
  · exact cl (arg19 := arg19) (harg19 := harg19) (L := xs4) (off := k0_off4 i) ⟨rfl, rfl, rfl⟩
  · exact vs (arg7 := arg7) (harg7 := harg7) (x5 := x5)
  · exact cdO (arg10 := arg10) (harg10 := harg10) (x8 := x8) (gn := 1) (o := 0) rfl rfl
  · exact csv (arg4 := arg4) (harg4 := harg4) (arg11 := arg11) (harg11 := harg11) (x2 := x2) (x9 := x9) (o := 0) (hdo := slices_S1x640_o0_0_S1x128) rfl
  · exact cdl (arg8 := arg8) (harg8 := harg8) (arg10 := arg10) (harg10 := harg10) (arg11 := arg11) (harg11 := harg11) (x6 := x6) (x8 := x8) (x9 := x9) (gn := 1) (o := 0) (hdo := slices_S1x640_o0_0_S1x128) (hle := by decide) rfl rfl
  refine List.forall_mem_cons.2 ⟨Blk.piece_d0 (o := 0) (inb := inb_S640x2560_S128x128_0_0) _ 0 0 rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 0) (o := 0) rfl rfl
  · exact cqk (arg2 := arg2) (harg2 := harg2) (arg3 := arg3) (harg3 := harg3) (x0 := x0) (x1 := x1) (w := 0#32) rfl
  · exact cl (arg19 := arg19) (harg19 := harg19) (L := xs4) (off := k0_off3 i) ⟨rfl, rfl, rfl⟩
  · exact vs (arg7 := arg7) (harg7 := harg7) (x5 := x5)
  · exact cdO (arg10 := arg10) (harg10 := harg10) (x8 := x8) (gn := 0) (o := 0) rfl rfl
  · exact csv (arg4 := arg4) (harg4 := harg4) (arg11 := arg11) (harg11 := harg11) (x2 := x2) (x9 := x9) (o := 0) (hdo := slices_S1x640_o0_0_S1x128) rfl
  · exact cdl (arg8 := arg8) (harg8 := harg8) (arg10 := arg10) (harg10 := harg10) (arg11 := arg11) (harg11 := harg11) (x6 := x6) (x8 := x8) (x9 := x9) (gn := 0) (o := 0) (hdo := slices_S1x640_o0_0_S1x128) (hle := by decide) rfl rfl
  exact List.forall_mem_nil _

set_option maxHeartbeats 1000000 in
/-- Every store into the score gradients' scratch up to block 1 holds the score gradients. -/
theorem hs1_8 : ∀ p ∈ (kernelRun0_B.sl.HS1_8 (F := Ideal) c i arg2 harg2 arg3 harg3 arg4 harg4 arg5 harg5 arg6 harg6 arg7 harg7 arg8 harg8 arg10 harg10 arg11 harg11 arg19 harg19 x0 x1 x2 x3 x4 x5 x6 x8 x9 xs4), ∀ x : p.1.shape.Idx, p.2 x = (ptOf (head i) x0 x1 x2 x3 x4 x5 x6 x8 x9 xs4).c16 (p.1.emb x 0) (p.1.emb x 1) := by
  unfold kernelRun0_B.sl.HS1_8
  refine List.forall_mem_cons.2 ⟨Blk.piece_d (n := 256) (m := 128) (o := 896) (inb := inb_S640x2560_S256x128_0_896) _ 3 1 rfl rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 3) (o := 128) rfl rfl
  · exact cqk (arg2 := arg2) (harg2 := harg2) (arg3 := arg3) (harg3 := harg3) (x0 := x0) (x1 := x1) (w := 24#32) rfl
  · exact cl (arg19 := arg19) (harg19 := harg19) (L := xs4) (off := k0_off10 i) ⟨rfl, rfl, rfl⟩
  · exact vs (arg7 := arg7) (harg7 := harg7) (x5 := x5)
  · exact cdO (arg10 := arg10) (harg10 := harg10) (x8 := x8) (gn := 3) (o := 128) rfl rfl
  · exact csv (arg4 := arg4) (harg4 := harg4) (arg11 := arg11) (harg11 := harg11) (x2 := x2) (x9 := x9) (o := 128) (hdo := slices_S1x640_o0_128_S1x128) rfl
  · exact cdl (arg8 := arg8) (harg8 := harg8) (arg10 := arg10) (harg10 := harg10) (arg11 := arg11) (harg11 := harg11) (x6 := x6) (x8 := x8) (x9 := x9) (gn := 3) (o := 128) (hdo := slices_S1x640_o0_128_S1x128) (hle := by decide) rfl rfl
  refine List.forall_mem_cons.2 ⟨Blk.piece_d (n := 256) (m := 128) (o := 768) (inb := inb_S640x2560_S256x128_0_768) _ 2 1 rfl rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 2) (o := 128) rfl rfl
  · exact cqk (arg2 := arg2) (harg2 := harg2) (arg3 := arg3) (harg3 := harg3) (x0 := x0) (x1 := x1) (w := 16#32) rfl
  · exact cl (arg19 := arg19) (harg19 := harg19) (L := xs4) (off := k0_off9 i) ⟨rfl, rfl, rfl⟩
  · exact vs (arg7 := arg7) (harg7 := harg7) (x5 := x5)
  · exact cdO (arg10 := arg10) (harg10 := harg10) (x8 := x8) (gn := 2) (o := 128) rfl rfl
  · exact csv (arg4 := arg4) (harg4 := harg4) (arg11 := arg11) (harg11 := harg11) (x2 := x2) (x9 := x9) (o := 128) (hdo := slices_S1x640_o0_128_S1x128) rfl
  · exact cdl (arg8 := arg8) (harg8 := harg8) (arg10 := arg10) (harg10 := harg10) (arg11 := arg11) (harg11 := harg11) (x6 := x6) (x8 := x8) (x9 := x9) (gn := 2) (o := 128) (hdo := slices_S1x640_o0_128_S1x128) (hle := by decide) rfl rfl
  refine List.forall_mem_cons.2 ⟨Blk.piece_d (n := 256) (m := 128) (o := 640) (inb := inb_S640x2560_S256x128_0_640) _ 1 1 rfl rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 1) (o := 128) rfl rfl
  · exact cqk (arg2 := arg2) (harg2 := harg2) (arg3 := arg3) (harg3 := harg3) (x0 := x0) (x1 := x1) (w := 8#32) rfl
  · exact cl (arg19 := arg19) (harg19 := harg19) (L := xs4) (off := k0_off8 i) ⟨rfl, rfl, rfl⟩
  · exact vs (arg7 := arg7) (harg7 := harg7) (x5 := x5)
  · exact cdO (arg10 := arg10) (harg10 := harg10) (x8 := x8) (gn := 1) (o := 128) rfl rfl
  · exact csv (arg4 := arg4) (harg4 := harg4) (arg11 := arg11) (harg11 := harg11) (x2 := x2) (x9 := x9) (o := 128) (hdo := slices_S1x640_o0_128_S1x128) rfl
  · exact cdl (arg8 := arg8) (harg8 := harg8) (arg10 := arg10) (harg10 := harg10) (arg11 := arg11) (harg11 := harg11) (x6 := x6) (x8 := x8) (x9 := x9) (gn := 1) (o := 128) (hdo := slices_S1x640_o0_128_S1x128) (hle := by decide) rfl rfl
  refine List.forall_mem_cons.2 ⟨Blk.piece_d (n := 256) (m := 128) (o := 512) (inb := inb_S640x2560_S256x128_0_512) _ 0 1 rfl rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 0) (o := 128) rfl rfl
  · exact cqk (arg2 := arg2) (harg2 := harg2) (arg3 := arg3) (harg3 := harg3) (x0 := x0) (x1 := x1) (w := 0#32) rfl
  · exact cl (arg19 := arg19) (harg19 := harg19) (L := xs4) (off := k0_off7 i) ⟨rfl, rfl, rfl⟩
  · exact vs (arg7 := arg7) (harg7 := harg7) (x5 := x5)
  · exact cdO (arg10 := arg10) (harg10 := harg10) (x8 := x8) (gn := 0) (o := 128) rfl rfl
  · exact csv (arg4 := arg4) (harg4 := harg4) (arg11 := arg11) (harg11 := harg11) (x2 := x2) (x9 := x9) (o := 128) (hdo := slices_S1x640_o0_128_S1x128) rfl
  · exact cdl (arg8 := arg8) (harg8 := harg8) (arg10 := arg10) (harg10 := harg10) (arg11 := arg11) (harg11 := harg11) (x6 := x6) (x8 := x8) (x9 := x9) (gn := 0) (o := 128) (hdo := slices_S1x640_o0_128_S1x128) (hle := by decide) rfl rfl
  exact hs1_4 c i arg2 harg2 arg3 harg3 arg4 harg4 arg5 harg5 arg6 harg6 arg7 harg7 arg8 harg8 arg10 harg10 arg11 harg11 arg19 harg19 x0 x1 x2 x3 x4 x5 x6 x8 x9 xs4

set_option maxHeartbeats 1000000 in
/-- Every store into the score gradients' scratch up to block 2 holds the score gradients. -/
theorem hs1_12 : ∀ p ∈ (kernelRun0_B.sl.HS1_12 (F := Ideal) c i arg2 harg2 arg3 harg3 arg4 harg4 arg5 harg5 arg6 harg6 arg7 harg7 arg8 harg8 arg10 harg10 arg11 harg11 arg19 harg19 x0 x1 x2 x3 x4 x5 x6 x8 x9 xs4), ∀ x : p.1.shape.Idx, p.2 x = (ptOf (head i) x0 x1 x2 x3 x4 x5 x6 x8 x9 xs4).c16 (p.1.emb x 0) (p.1.emb x 1) := by
  unfold kernelRun0_B.sl.HS1_12
  refine List.forall_mem_cons.2 ⟨Blk.piece_d (n := 384) (m := 256) (o := 1408) (inb := inb_S640x2560_S384x128_0_1408) _ 3 2 rfl rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 3) (o := 256) rfl rfl
  · exact cqk (arg2 := arg2) (harg2 := harg2) (arg3 := arg3) (harg3 := harg3) (x0 := x0) (x1 := x1) (w := 24#32) rfl
  · exact cl (arg19 := arg19) (harg19 := harg19) (L := xs4) (off := k0_off14 i) ⟨rfl, rfl, rfl⟩
  · exact vs (arg7 := arg7) (harg7 := harg7) (x5 := x5)
  · exact cdO (arg10 := arg10) (harg10 := harg10) (x8 := x8) (gn := 3) (o := 256) rfl rfl
  · exact csv (arg4 := arg4) (harg4 := harg4) (arg11 := arg11) (harg11 := harg11) (x2 := x2) (x9 := x9) (o := 256) (hdo := slices_S1x640_o0_256_S1x128) rfl
  · exact cdl (arg8 := arg8) (harg8 := harg8) (arg10 := arg10) (harg10 := harg10) (arg11 := arg11) (harg11 := harg11) (x6 := x6) (x8 := x8) (x9 := x9) (gn := 3) (o := 256) (hdo := slices_S1x640_o0_256_S1x128) (hle := by decide) rfl rfl
  refine List.forall_mem_cons.2 ⟨Blk.piece_d (n := 384) (m := 256) (o := 1280) (inb := inb_S640x2560_S384x128_0_1280) _ 2 2 rfl rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 2) (o := 256) rfl rfl
  · exact cqk (arg2 := arg2) (harg2 := harg2) (arg3 := arg3) (harg3 := harg3) (x0 := x0) (x1 := x1) (w := 16#32) rfl
  · exact cl (arg19 := arg19) (harg19 := harg19) (L := xs4) (off := k0_off13 i) ⟨rfl, rfl, rfl⟩
  · exact vs (arg7 := arg7) (harg7 := harg7) (x5 := x5)
  · exact cdO (arg10 := arg10) (harg10 := harg10) (x8 := x8) (gn := 2) (o := 256) rfl rfl
  · exact csv (arg4 := arg4) (harg4 := harg4) (arg11 := arg11) (harg11 := harg11) (x2 := x2) (x9 := x9) (o := 256) (hdo := slices_S1x640_o0_256_S1x128) rfl
  · exact cdl (arg8 := arg8) (harg8 := harg8) (arg10 := arg10) (harg10 := harg10) (arg11 := arg11) (harg11 := harg11) (x6 := x6) (x8 := x8) (x9 := x9) (gn := 2) (o := 256) (hdo := slices_S1x640_o0_256_S1x128) (hle := by decide) rfl rfl
  refine List.forall_mem_cons.2 ⟨Blk.piece_d (n := 384) (m := 256) (o := 1152) (inb := inb_S640x2560_S384x128_0_1152) _ 1 2 rfl rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 1) (o := 256) rfl rfl
  · exact cqk (arg2 := arg2) (harg2 := harg2) (arg3 := arg3) (harg3 := harg3) (x0 := x0) (x1 := x1) (w := 8#32) rfl
  · exact cl (arg19 := arg19) (harg19 := harg19) (L := xs4) (off := k0_off12 i) ⟨rfl, rfl, rfl⟩
  · exact vs (arg7 := arg7) (harg7 := harg7) (x5 := x5)
  · exact cdO (arg10 := arg10) (harg10 := harg10) (x8 := x8) (gn := 1) (o := 256) rfl rfl
  · exact csv (arg4 := arg4) (harg4 := harg4) (arg11 := arg11) (harg11 := harg11) (x2 := x2) (x9 := x9) (o := 256) (hdo := slices_S1x640_o0_256_S1x128) rfl
  · exact cdl (arg8 := arg8) (harg8 := harg8) (arg10 := arg10) (harg10 := harg10) (arg11 := arg11) (harg11 := harg11) (x6 := x6) (x8 := x8) (x9 := x9) (gn := 1) (o := 256) (hdo := slices_S1x640_o0_256_S1x128) (hle := by decide) rfl rfl
  refine List.forall_mem_cons.2 ⟨Blk.piece_d (n := 384) (m := 256) (o := 1024) (inb := inb_S640x2560_S384x128_0_1024) _ 0 2 rfl rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 0) (o := 256) rfl rfl
  · exact cqk (arg2 := arg2) (harg2 := harg2) (arg3 := arg3) (harg3 := harg3) (x0 := x0) (x1 := x1) (w := 0#32) rfl
  · exact cl (arg19 := arg19) (harg19 := harg19) (L := xs4) (off := k0_off11 i) ⟨rfl, rfl, rfl⟩
  · exact vs (arg7 := arg7) (harg7 := harg7) (x5 := x5)
  · exact cdO (arg10 := arg10) (harg10 := harg10) (x8 := x8) (gn := 0) (o := 256) rfl rfl
  · exact csv (arg4 := arg4) (harg4 := harg4) (arg11 := arg11) (harg11 := harg11) (x2 := x2) (x9 := x9) (o := 256) (hdo := slices_S1x640_o0_256_S1x128) rfl
  · exact cdl (arg8 := arg8) (harg8 := harg8) (arg10 := arg10) (harg10 := harg10) (arg11 := arg11) (harg11 := harg11) (x6 := x6) (x8 := x8) (x9 := x9) (gn := 0) (o := 256) (hdo := slices_S1x640_o0_256_S1x128) (hle := by decide) rfl rfl
  exact hs1_8 c i arg2 harg2 arg3 harg3 arg4 harg4 arg5 harg5 arg6 harg6 arg7 harg7 arg8 harg8 arg10 harg10 arg11 harg11 arg19 harg19 x0 x1 x2 x3 x4 x5 x6 x8 x9 xs4

set_option maxHeartbeats 1000000 in
/-- Every store into the score gradients' scratch up to block 3 holds the score gradients. -/
theorem hs1_16 : ∀ p ∈ (kernelRun0_B.sl.HS1_16 (F := Ideal) c i arg2 harg2 arg3 harg3 arg4 harg4 arg5 harg5 arg6 harg6 arg7 harg7 arg8 harg8 arg10 harg10 arg11 harg11 arg19 harg19 x0 x1 x2 x3 x4 x5 x6 x8 x9 xs4), ∀ x : p.1.shape.Idx, p.2 x = (ptOf (head i) x0 x1 x2 x3 x4 x5 x6 x8 x9 xs4).c16 (p.1.emb x 0) (p.1.emb x 1) := by
  unfold kernelRun0_B.sl.HS1_16
  refine List.forall_mem_cons.2 ⟨Blk.piece_d (n := 512) (m := 384) (o := 1920) (inb := inb_S640x2560_S512x128_0_1920) _ 3 3 rfl rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 3) (o := 384) rfl rfl
  · exact cqk (arg2 := arg2) (harg2 := harg2) (arg3 := arg3) (harg3 := harg3) (x0 := x0) (x1 := x1) (w := 24#32) rfl
  · exact cl (arg19 := arg19) (harg19 := harg19) (L := xs4) (off := k0_off18 i) ⟨rfl, rfl, rfl⟩
  · exact vs (arg7 := arg7) (harg7 := harg7) (x5 := x5)
  · exact cdO (arg10 := arg10) (harg10 := harg10) (x8 := x8) (gn := 3) (o := 384) rfl rfl
  · exact csv (arg4 := arg4) (harg4 := harg4) (arg11 := arg11) (harg11 := harg11) (x2 := x2) (x9 := x9) (o := 384) (hdo := slices_S1x640_o0_384_S1x128) rfl
  · exact cdl (arg8 := arg8) (harg8 := harg8) (arg10 := arg10) (harg10 := harg10) (arg11 := arg11) (harg11 := harg11) (x6 := x6) (x8 := x8) (x9 := x9) (gn := 3) (o := 384) (hdo := slices_S1x640_o0_384_S1x128) (hle := by decide) rfl rfl
  refine List.forall_mem_cons.2 ⟨Blk.piece_d (n := 512) (m := 384) (o := 1792) (inb := inb_S640x2560_S512x128_0_1792) _ 2 3 rfl rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 2) (o := 384) rfl rfl
  · exact cqk (arg2 := arg2) (harg2 := harg2) (arg3 := arg3) (harg3 := harg3) (x0 := x0) (x1 := x1) (w := 16#32) rfl
  · exact cl (arg19 := arg19) (harg19 := harg19) (L := xs4) (off := k0_off17 i) ⟨rfl, rfl, rfl⟩
  · exact vs (arg7 := arg7) (harg7 := harg7) (x5 := x5)
  · exact cdO (arg10 := arg10) (harg10 := harg10) (x8 := x8) (gn := 2) (o := 384) rfl rfl
  · exact csv (arg4 := arg4) (harg4 := harg4) (arg11 := arg11) (harg11 := harg11) (x2 := x2) (x9 := x9) (o := 384) (hdo := slices_S1x640_o0_384_S1x128) rfl
  · exact cdl (arg8 := arg8) (harg8 := harg8) (arg10 := arg10) (harg10 := harg10) (arg11 := arg11) (harg11 := harg11) (x6 := x6) (x8 := x8) (x9 := x9) (gn := 2) (o := 384) (hdo := slices_S1x640_o0_384_S1x128) (hle := by decide) rfl rfl
  refine List.forall_mem_cons.2 ⟨Blk.piece_d (n := 512) (m := 384) (o := 1664) (inb := inb_S640x2560_S512x128_0_1664) _ 1 3 rfl rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 1) (o := 384) rfl rfl
  · exact cqk (arg2 := arg2) (harg2 := harg2) (arg3 := arg3) (harg3 := harg3) (x0 := x0) (x1 := x1) (w := 8#32) rfl
  · exact cl (arg19 := arg19) (harg19 := harg19) (L := xs4) (off := k0_off16 i) ⟨rfl, rfl, rfl⟩
  · exact vs (arg7 := arg7) (harg7 := harg7) (x5 := x5)
  · exact cdO (arg10 := arg10) (harg10 := harg10) (x8 := x8) (gn := 1) (o := 384) rfl rfl
  · exact csv (arg4 := arg4) (harg4 := harg4) (arg11 := arg11) (harg11 := harg11) (x2 := x2) (x9 := x9) (o := 384) (hdo := slices_S1x640_o0_384_S1x128) rfl
  · exact cdl (arg8 := arg8) (harg8 := harg8) (arg10 := arg10) (harg10 := harg10) (arg11 := arg11) (harg11 := harg11) (x6 := x6) (x8 := x8) (x9 := x9) (gn := 1) (o := 384) (hdo := slices_S1x640_o0_384_S1x128) (hle := by decide) rfl rfl
  refine List.forall_mem_cons.2 ⟨Blk.piece_d (n := 512) (m := 384) (o := 1536) (inb := inb_S640x2560_S512x128_0_1536) _ 0 3 rfl rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 0) (o := 384) rfl rfl
  · exact cqk (arg2 := arg2) (harg2 := harg2) (arg3 := arg3) (harg3 := harg3) (x0 := x0) (x1 := x1) (w := 0#32) rfl
  · exact cl (arg19 := arg19) (harg19 := harg19) (L := xs4) (off := k0_off15 i) ⟨rfl, rfl, rfl⟩
  · exact vs (arg7 := arg7) (harg7 := harg7) (x5 := x5)
  · exact cdO (arg10 := arg10) (harg10 := harg10) (x8 := x8) (gn := 0) (o := 384) rfl rfl
  · exact csv (arg4 := arg4) (harg4 := harg4) (arg11 := arg11) (harg11 := harg11) (x2 := x2) (x9 := x9) (o := 384) (hdo := slices_S1x640_o0_384_S1x128) rfl
  · exact cdl (arg8 := arg8) (harg8 := harg8) (arg10 := arg10) (harg10 := harg10) (arg11 := arg11) (harg11 := harg11) (x6 := x6) (x8 := x8) (x9 := x9) (gn := 0) (o := 384) (hdo := slices_S1x640_o0_384_S1x128) (hle := by decide) rfl rfl
  exact hs1_12 c i arg2 harg2 arg3 harg3 arg4 harg4 arg5 harg5 arg6 harg6 arg7 harg7 arg8 harg8 arg10 harg10 arg11 harg11 arg19 harg19 x0 x1 x2 x3 x4 x5 x6 x8 x9 xs4

set_option maxHeartbeats 1000000 in
/-- Every store into the score gradients' scratch up to block 4 holds the score gradients. -/
theorem hs1_20 : ∀ p ∈ (kernelRun0_B.sl.HS1_20 (F := Ideal) c i arg2 harg2 arg3 harg3 arg4 harg4 arg5 harg5 arg6 harg6 arg7 harg7 arg8 harg8 arg10 harg10 arg11 harg11 arg19 harg19 x0 x1 x2 x3 x4 x5 x6 x8 x9 xs4), ∀ x : p.1.shape.Idx, p.2 x = (ptOf (head i) x0 x1 x2 x3 x4 x5 x6 x8 x9 xs4).c16 (p.1.emb x 0) (p.1.emb x 1) := by
  unfold kernelRun0_B.sl.HS1_20
  refine List.forall_mem_cons.2 ⟨Blk.piece_d (n := 640) (m := 512) (o := 2432) (inb := inb_S640x2560_S640x128_0_2432) _ 3 4 rfl rfl rfl ⟨?_, ?_, ?_, ?_⟩ ⟨?_, ?_, ?_, ?_⟩, ?_⟩
  · exact kw (arg6 := arg6) (harg6 := harg6) (x4 := x4)
  · exact cq (arg5 := arg5) (harg5 := harg5) (x3 := x3) (gn := 3) (o := 512) rfl rfl
  · exact cqk (arg2 := arg2) (harg2 := harg2) (arg3 := arg3) (harg3 := harg3) (x0 := x0) (x1 := x1) (w := 24#32) rfl
  · exact cl (arg19 := arg19) (harg19 := harg19) (L := xs4) (off := k0_off22 i) ⟨rfl, rfl, rfl⟩
  · exact vw (arg7 := arg7) (harg7 := harg7) (x5 := x5)
  · exact cdO (arg10 := arg10) (harg10 := harg10) (x8 := x8) (gn := 3) (o := 512) rfl rfl
  · exact csv (arg4 := arg4) (harg4 := harg4) (arg11 := arg11) (harg11 := harg11) (x2 := x2) (x9 := x9) (o := 512) (hdo := slices_S1x640_o0_512_S1x128) rfl
  · exact cdl (arg8 := arg8) (harg8 := harg8) (arg10 := arg10) (harg10 := harg10) (arg11 := arg11) (harg11 := harg11) (x6 := x6) (x8 := x8) (x9 := x9) (gn := 3) (o := 512) (hdo := slices_S1x640_o0_512_S1x128) (hle := by decide) rfl rfl
  refine List.forall_mem_cons.2 ⟨Blk.piece_d (n := 640) (m := 512) (o := 2304) (inb := inb_S640x2560_S640x128_0_2304) _ 2 4 rfl rfl rfl ⟨?_, ?_, ?_, ?_⟩ ⟨?_, ?_, ?_, ?_⟩, ?_⟩
  · exact kw (arg6 := arg6) (harg6 := harg6) (x4 := x4)
  · exact cq (arg5 := arg5) (harg5 := harg5) (x3 := x3) (gn := 2) (o := 512) rfl rfl
  · exact cqk (arg2 := arg2) (harg2 := harg2) (arg3 := arg3) (harg3 := harg3) (x0 := x0) (x1 := x1) (w := 16#32) rfl
  · exact cl (arg19 := arg19) (harg19 := harg19) (L := xs4) (off := k0_off21 i) ⟨rfl, rfl, rfl⟩
  · exact vw (arg7 := arg7) (harg7 := harg7) (x5 := x5)
  · exact cdO (arg10 := arg10) (harg10 := harg10) (x8 := x8) (gn := 2) (o := 512) rfl rfl
  · exact csv (arg4 := arg4) (harg4 := harg4) (arg11 := arg11) (harg11 := harg11) (x2 := x2) (x9 := x9) (o := 512) (hdo := slices_S1x640_o0_512_S1x128) rfl
  · exact cdl (arg8 := arg8) (harg8 := harg8) (arg10 := arg10) (harg10 := harg10) (arg11 := arg11) (harg11 := harg11) (x6 := x6) (x8 := x8) (x9 := x9) (gn := 2) (o := 512) (hdo := slices_S1x640_o0_512_S1x128) (hle := by decide) rfl rfl
  refine List.forall_mem_cons.2 ⟨Blk.piece_d (n := 640) (m := 512) (o := 2176) (inb := inb_S640x2560_S640x128_0_2176) _ 1 4 rfl rfl rfl ⟨?_, ?_, ?_, ?_⟩ ⟨?_, ?_, ?_, ?_⟩, ?_⟩
  · exact kw (arg6 := arg6) (harg6 := harg6) (x4 := x4)
  · exact cq (arg5 := arg5) (harg5 := harg5) (x3 := x3) (gn := 1) (o := 512) rfl rfl
  · exact cqk (arg2 := arg2) (harg2 := harg2) (arg3 := arg3) (harg3 := harg3) (x0 := x0) (x1 := x1) (w := 8#32) rfl
  · exact cl (arg19 := arg19) (harg19 := harg19) (L := xs4) (off := k0_off20 i) ⟨rfl, rfl, rfl⟩
  · exact vw (arg7 := arg7) (harg7 := harg7) (x5 := x5)
  · exact cdO (arg10 := arg10) (harg10 := harg10) (x8 := x8) (gn := 1) (o := 512) rfl rfl
  · exact csv (arg4 := arg4) (harg4 := harg4) (arg11 := arg11) (harg11 := harg11) (x2 := x2) (x9 := x9) (o := 512) (hdo := slices_S1x640_o0_512_S1x128) rfl
  · exact cdl (arg8 := arg8) (harg8 := harg8) (arg10 := arg10) (harg10 := harg10) (arg11 := arg11) (harg11 := harg11) (x6 := x6) (x8 := x8) (x9 := x9) (gn := 1) (o := 512) (hdo := slices_S1x640_o0_512_S1x128) (hle := by decide) rfl rfl
  refine List.forall_mem_cons.2 ⟨Blk.piece_d (n := 640) (m := 512) (o := 2048) (inb := inb_S640x2560_S640x128_0_2048) _ 0 4 rfl rfl rfl ⟨?_, ?_, ?_, ?_⟩ ⟨?_, ?_, ?_, ?_⟩, ?_⟩
  · exact kw (arg6 := arg6) (harg6 := harg6) (x4 := x4)
  · exact cq (arg5 := arg5) (harg5 := harg5) (x3 := x3) (gn := 0) (o := 512) rfl rfl
  · exact cqk (arg2 := arg2) (harg2 := harg2) (arg3 := arg3) (harg3 := harg3) (x0 := x0) (x1 := x1) (w := 0#32) rfl
  · exact cl (arg19 := arg19) (harg19 := harg19) (L := xs4) (off := k0_off19 i) ⟨rfl, rfl, rfl⟩
  · exact vw (arg7 := arg7) (harg7 := harg7) (x5 := x5)
  · exact cdO (arg10 := arg10) (harg10 := harg10) (x8 := x8) (gn := 0) (o := 512) rfl rfl
  · exact csv (arg4 := arg4) (harg4 := harg4) (arg11 := arg11) (harg11 := harg11) (x2 := x2) (x9 := x9) (o := 512) (hdo := slices_S1x640_o0_512_S1x128) rfl
  · exact cdl (arg8 := arg8) (harg8 := harg8) (arg10 := arg10) (harg10 := harg10) (arg11 := arg11) (harg11 := harg11) (x6 := x6) (x8 := x8) (x9 := x9) (gn := 0) (o := 512) (hdo := slices_S1x640_o0_512_S1x128) (hle := by decide) rfl rfl
  exact hs1_16 c i arg2 harg2 arg3 harg3 arg4 harg4 arg5 harg5 arg6 harg6 arg7 harg7 arg8 harg8 arg10 harg10 arg11 harg11 arg19 harg19 x0 x1 x2 x3 x4 x5 x6 x8 x9 xs4

end Cert.KernelIdeal.RunB

end
-- ==== Proof.OutsB.lean ====
/- What one case of the body leaves in the results' staging buffers and in the scratch it carries. -/
module

public import proofs.«01_k».proof.Proof.StoresB
public import proofs.«01_k».proof.Proof.GradsB
public import proofs.«01_k».proof.Proof.Cover

@[expose] public section

set_option maxRecDepth 16384

noncomputable section

namespace Cert.KernelIdeal.RunB

open Idealize.ShloMosaic Idealize.ShloMosaic.TcCoe Cert.KernelIdeal.Gen

variable (c : Dev nD) (i : grid0.Coords)
  (arg2 : Memref sig .tc .smem S32 .f32) (harg2 : arg2.IsWhole) (arg3 : Memref sig .tc .smem S8 .f32) (harg3 : arg3.IsWhole)
  (arg4 : Memref sig .tc .smem S8 .f32) (harg4 : arg4.IsWhole) (arg5 : Memref sig .tc .vmem S1x4x1x96x640 .fp8e4m3) (harg5 : arg5.IsWhole)
  (arg6 : Memref sig .tc .vmem S1x1x96x640 .fp8e4m3) (harg6 : arg6.IsWhole) (arg7 : Memref sig .tc .vmem S1x1x96x640 .fp8e4m3) (harg7 : arg7.IsWhole)
  (arg8 : Memref sig .tc .vmem S1x4x1x96x640 .bf16) (harg8 : arg8.IsWhole) (arg9 : Memref sig .tc .vmem S1x4x8x640 .f32) (harg9 : arg9.IsWhole)
  (arg10 : Memref sig .tc .vmem S1x4x1x96x640 .fp8e5m2) (harg10 : arg10.IsWhole)
  (arg11 : Memref sig .tc .vmem S1x1x640 .f32) (harg11 : arg11.IsWhole)
  (arg12 : Memref sig .tc .vmem S1x4x1x96x640 .bf16) (harg12 : arg12.IsWhole) (arg13 : Memref sig .tc .vmem S1x1x96x640 .bf16) (harg13 : arg13.IsWhole)
  (arg14 : Memref sig .tc .vmem S1x1x96x640 .bf16) (harg14 : arg14.IsWhole)
  (arg15 : Memref sig .tc .vmem S640x2560 .bf16) (harg15 : arg15.IsWhole) (arg16 : Memref sig .tc .vmem S640x2560 .bf16) (harg16 : arg16.IsWhole)
  (arg17 : Memref sig .tc .vmem S96x2560 .bf16) (harg17 : arg17.IsWhole) (arg18 : Memref sig .tc .vmem S96x2560 .bf16) (harg18 : arg18.IsWhole)
  (arg19 : Memref sig .tc .vmem S8x4x640 .f32) (harg19 : arg19.IsWhole)
  (x0 : Vec Ideal S32 .f32) (x1 x2 : Vec Ideal S8 .f32) (x3 : Vec Ideal S1x4x1x96x640 .fp8e4m3) (x4 x5 : Vec Ideal S1x1x96x640 .fp8e4m3)
  (x6 : Vec Ideal S1x4x1x96x640 .bf16) (x7 : Vec Ideal S1x4x8x640 .f32) (x8 : Vec Ideal S1x4x1x96x640 .fp8e5m2) (x9 : Vec Ideal S1x1x640 .f32)
  (xs0 xs1 : Vec Ideal S640x2560 .bf16) (xs4 : Vec Ideal S8x4x640 .f32)
  (hc0 : ¬cond0_0 i) (hc1 : ¬cond0_1 i)
  (v : View sig .tc .vmem S640x2560 .bf16) (f : v.ty.Contents (Elt Ideal)) (v' : View sig .tc .vmem S96x2560 .bf16) (f' : v'.ty.Contents (Elt Ideal))

/-- Block 0 of the scratch holds its closed form once it is stored. -/
theorem b16_0 {r : Fin 640} {w : Fin 2560} (hr : r.val < 128) (hw : w.val / 512 = 0) :
    v.read (Elt Ideal) (v.writes (Elt Ideal) f (kernelRun0_B.sl.HS1_4 (F := Ideal) c i arg2 harg2 arg3 harg3 arg4 harg4 arg5 harg5 arg6 harg6 arg7 harg7 arg8 harg8 arg10 harg10 arg11 harg11 arg19 harg19 x0 x1 x2 x3 x4 x5 x6 x8 x9 xs4)) (ix2 r w) = (ptOf (head i) x0 x1 x2 x3 x4 x5 x6 x8 x9 xs4).c16 r w := by
  exact blk v (L := (kernelRun0_B.sl.HS1_4 (F := Ideal) c i arg2 harg2 arg3 harg3 arg4 harg4 arg5 harg5 arg6 harg6 arg7 harg7 arg8 harg8 arg10 harg10 arg11 harg11 arg19 harg19 x0 x1 x2 x3 x4 x5 x6 x8 x9 xs4)) _ (hs1_4 c i arg2 harg2 arg3 harg3 arg4 harg4 arg5 harg5 arg6 harg6 arg7 harg7 arg8 harg8 arg10 harg10 arg11 harg11 arg19 harg19 x0 x1 x2 x3 x4 x5 x6 x8 x9 xs4) (b := 0) (fun g => match g with | ⟨0, _⟩ => rfl | ⟨1, _⟩ => rfl | ⟨2, _⟩ => rfl | ⟨3, _⟩ => rfl) hr hw

/-- Block 1 of the scratch holds its closed form once it is stored. -/
theorem b16_1 {r : Fin 640} {w : Fin 2560} (hr : r.val < 256) (hw : w.val / 512 = 1) :
    v.read (Elt Ideal) (v.writes (Elt Ideal) f (kernelRun0_B.sl.HS1_8 (F := Ideal) c i arg2 harg2 arg3 harg3 arg4 harg4 arg5 harg5 arg6 harg6 arg7 harg7 arg8 harg8 arg10 harg10 arg11 harg11 arg19 harg19 x0 x1 x2 x3 x4 x5 x6 x8 x9 xs4)) (ix2 r w) = (ptOf (head i) x0 x1 x2 x3 x4 x5 x6 x8 x9 xs4).c16 r w := by
  exact blk v (L := (kernelRun0_B.sl.HS1_8 (F := Ideal) c i arg2 harg2 arg3 harg3 arg4 harg4 arg5 harg5 arg6 harg6 arg7 harg7 arg8 harg8 arg10 harg10 arg11 harg11 arg19 harg19 x0 x1 x2 x3 x4 x5 x6 x8 x9 xs4)) _ (hs1_8 c i arg2 harg2 arg3 harg3 arg4 harg4 arg5 harg5 arg6 harg6 arg7 harg7 arg8 harg8 arg10 harg10 arg11 harg11 arg19 harg19 x0 x1 x2 x3 x4 x5 x6 x8 x9 xs4) (b := 1) (fun g => match g with | ⟨0, _⟩ => rfl | ⟨1, _⟩ => rfl | ⟨2, _⟩ => rfl | ⟨3, _⟩ => rfl) hr hw

/-- Block 2 of the scratch holds its closed form once it is stored. -/
theorem b16_2 {r : Fin 640} {w : Fin 2560} (hr : r.val < 384) (hw : w.val / 512 = 2) :
    v.read (Elt Ideal) (v.writes (Elt Ideal) f (kernelRun0_B.sl.HS1_12 (F := Ideal) c i arg2 harg2 arg3 harg3 arg4 harg4 arg5 harg5 arg6 harg6 arg7 harg7 arg8 harg8 arg10 harg10 arg11 harg11 arg19 harg19 x0 x1 x2 x3 x4 x5 x6 x8 x9 xs4)) (ix2 r w) = (ptOf (head i) x0 x1 x2 x3 x4 x5 x6 x8 x9 xs4).c16 r w := by
  exact blk v (L := (kernelRun0_B.sl.HS1_12 (F := Ideal) c i arg2 harg2 arg3 harg3 arg4 harg4 arg5 harg5 arg6 harg6 arg7 harg7 arg8 harg8 arg10 harg10 arg11 harg11 arg19 harg19 x0 x1 x2 x3 x4 x5 x6 x8 x9 xs4)) _ (hs1_12 c i arg2 harg2 arg3 harg3 arg4 harg4 arg5 harg5 arg6 harg6 arg7 harg7 arg8 harg8 arg10 harg10 arg11 harg11 arg19 harg19 x0 x1 x2 x3 x4 x5 x6 x8 x9 xs4) (b := 2) (fun g => match g with | ⟨0, _⟩ => rfl | ⟨1, _⟩ => rfl | ⟨2, _⟩ => rfl | ⟨3, _⟩ => rfl) hr hw

/-- Block 3 of the scratch holds its closed form once it is stored. -/
theorem b16_3 {r : Fin 640} {w : Fin 2560} (hr : r.val < 512) (hw : w.val / 512 = 3) :
    v.read (Elt Ideal) (v.writes (Elt Ideal) f (kernelRun0_B.sl.HS1_16 (F := Ideal) c i arg2 harg2 arg3 harg3 arg4 harg4 arg5 harg5 arg6 harg6 arg7 harg7 arg8 harg8 arg10 harg10 arg11 harg11 arg19 harg19 x0 x1 x2 x3 x4 x5 x6 x8 x9 xs4)) (ix2 r w) = (ptOf (head i) x0 x1 x2 x3 x4 x5 x6 x8 x9 xs4).c16 r w := by
  exact blk v (L := (kernelRun0_B.sl.HS1_16 (F := Ideal) c i arg2 harg2 arg3 harg3 arg4 harg4 arg5 harg5 arg6 harg6 arg7 harg7 arg8 harg8 arg10 harg10 arg11 harg11 arg19 harg19 x0 x1 x2 x3 x4 x5 x6 x8 x9 xs4)) _ (hs1_16 c i arg2 harg2 arg3 harg3 arg4 harg4 arg5 harg5 arg6 harg6 arg7 harg7 arg8 harg8 arg10 harg10 arg11 harg11 arg19 harg19 x0 x1 x2 x3 x4 x5 x6 x8 x9 xs4) (b := 3) (fun g => match g with | ⟨0, _⟩ => rfl | ⟨1, _⟩ => rfl | ⟨2, _⟩ => rfl | ⟨3, _⟩ => rfl) hr hw

/-- Block 4 of the scratch holds its closed form once it is stored. -/
theorem b16_4 {r : Fin 640} {w : Fin 2560} (hr : r.val < 640) (hw : w.val / 512 = 4) :
    v.read (Elt Ideal) (v.writes (Elt Ideal) f (kernelRun0_B.sl.HS1_20 (F := Ideal) c i arg2 harg2 arg3 harg3 arg4 harg4 arg5 harg5 arg6 harg6 arg7 harg7 arg8 harg8 arg10 harg10 arg11 harg11 arg19 harg19 x0 x1 x2 x3 x4 x5 x6 x8 x9 xs4)) (ix2 r w) = (ptOf (head i) x0 x1 x2 x3 x4 x5 x6 x8 x9 xs4).c16 r w := by
  exact blk v (L := (kernelRun0_B.sl.HS1_20 (F := Ideal) c i arg2 harg2 arg3 harg3 arg4 harg4 arg5 harg5 arg6 harg6 arg7 harg7 arg8 harg8 arg10 harg10 arg11 harg11 arg19 harg19 x0 x1 x2 x3 x4 x5 x6 x8 x9 xs4)) _ (hs1_20 c i arg2 harg2 arg3 harg3 arg4 harg4 arg5 harg5 arg6 harg6 arg7 harg7 arg8 harg8 arg10 harg10 arg11 harg11 arg19 harg19 x0 x1 x2 x3 x4 x5 x6 x8 x9 xs4) (b := 4) (fun g => match g with | ⟨0, _⟩ => rfl | ⟨1, _⟩ => rfl | ⟨2, _⟩ => rfl | ⟨3, _⟩ => rfl) hr hw

/-- Block 4 of the scratch holds its closed form once it is stored. -/
theorem b15_4 {r : Fin 640} {w : Fin 2560} (hr : r.val < 640) (hw : w.val / 512 = 4) :
    v.read (Elt Ideal) (v.writes (Elt Ideal) f (kernelRun0_B.sl.HS0_20 (F := Ideal) c i arg2 harg2 arg3 harg3 arg5 harg5 arg6 harg6 arg19 harg19 x0 x1 x3 x4 xs4)) (ix2 r w) = (ptOf (head i) x0 x1 x2 x3 x4 x5 x6 x8 x9 xs4).c15 r w := by
  exact blk v (L := (kernelRun0_B.sl.HS0_20 (F := Ideal) c i arg2 harg2 arg3 harg3 arg5 harg5 arg6 harg6 arg19 harg19 x0 x1 x3 x4 xs4)) _ (hs0 c i arg2 harg2 arg3 harg3 arg5 harg5 arg6 harg6 arg19 harg19 x0 x1 x2 x3 x4 x5 x6 x8 x9 xs4) (b := 4) (fun g => match g with | ⟨0, _⟩ => rfl | ⟨1, _⟩ => rfl | ⟨2, _⟩ => rfl | ⟨3, _⟩ => rfl) hr hw

/-- The whole scratch holds its closed form after the point. -/
theorem f16 (hf : ∀ (r : Fin 640) (w : Fin 2560), (pos w).val < r.val → v.read (Elt Ideal) f (ix2 r w) = 0) (r : Fin 640) (w : Fin 2560) :
    v.read (Elt Ideal) (v.writes (Elt Ideal) f (kernelRun0_B.sl.HS1_20 (F := Ideal) c i arg2 harg2 arg3 harg3 arg4 harg4 arg5 harg5 arg6 harg6 arg7 harg7 arg8 harg8 arg10 harg10 arg11 harg11 arg19 harg19 x0 x1 x2 x3 x4 x5 x6 x8 x9 xs4)) (ix2 r w) = (ptOf (head i) x0 x1 x2 x3 x4 x5 x6 x8 x9 xs4).c16 r w := by
  exact full v (L := (kernelRun0_B.sl.HS1_20 (F := Ideal) c i arg2 harg2 arg3 harg3 arg4 harg4 arg5 harg5 arg6 harg6 arg7 harg7 arg8 harg8 arg10 harg10 arg11 harg11 arg19 harg19 x0 x1 x2 x3 x4 x5 x6 x8 x9 xs4)) _ (hs1_20 c i arg2 harg2 arg3 harg3 arg4 harg4 arg5 harg5 arg6 harg6 arg7 harg7 arg8 harg8 arg10 harg10 arg11 harg11 arg19 harg19 x0 x1 x2 x3 x4 x5 x6 x8 x9 xs4) (fun b g => match b, g with | ⟨0, _⟩, ⟨0, _⟩ => rfl | ⟨0, _⟩, ⟨1, _⟩ => rfl | ⟨0, _⟩, ⟨2, _⟩ => rfl | ⟨0, _⟩, ⟨3, _⟩ => rfl | ⟨1, _⟩, ⟨0, _⟩ => rfl | ⟨1, _⟩, ⟨1, _⟩ => rfl | ⟨1, _⟩, ⟨2, _⟩ => rfl | ⟨1, _⟩, ⟨3, _⟩ => rfl | ⟨2, _⟩, ⟨0, _⟩ => rfl | ⟨2, _⟩, ⟨1, _⟩ => rfl | ⟨2, _⟩, ⟨2, _⟩ => rfl | ⟨2, _⟩, ⟨3, _⟩ => rfl | ⟨3, _⟩, ⟨0, _⟩ => rfl | ⟨3, _⟩, ⟨1, _⟩ => rfl | ⟨3, _⟩, ⟨2, _⟩ => rfl | ⟨3, _⟩, ⟨3, _⟩ => rfl | ⟨4, _⟩, ⟨0, _⟩ => rfl | ⟨4, _⟩, ⟨1, _⟩ => rfl | ⟨4, _⟩, ⟨2, _⟩ => rfl | ⟨4, _⟩, ⟨3, _⟩ => rfl) (fun r w h => Pt.dS_of_lt _ h) hf r w

/-- The whole scratch holds its closed form after the point. -/
theorem f15 (hf : ∀ (r : Fin 640) (w : Fin 2560), (pos w).val < r.val → v.read (Elt Ideal) f (ix2 r w) = 0) (r : Fin 640) (w : Fin 2560) :
    v.read (Elt Ideal) (v.writes (Elt Ideal) f (kernelRun0_B.sl.HS0_20 (F := Ideal) c i arg2 harg2 arg3 harg3 arg5 harg5 arg6 harg6 arg19 harg19 x0 x1 x3 x4 xs4)) (ix2 r w) = (ptOf (head i) x0 x1 x2 x3 x4 x5 x6 x8 x9 xs4).c15 r w := by
  exact full v (L := (kernelRun0_B.sl.HS0_20 (F := Ideal) c i arg2 harg2 arg3 harg3 arg5 harg5 arg6 harg6 arg19 harg19 x0 x1 x3 x4 xs4)) _ (hs0 c i arg2 harg2 arg3 harg3 arg5 harg5 arg6 harg6 arg19 harg19 x0 x1 x2 x3 x4 x5 x6 x8 x9 xs4) (fun b g => match b, g with | ⟨0, _⟩, ⟨0, _⟩ => rfl | ⟨0, _⟩, ⟨1, _⟩ => rfl | ⟨0, _⟩, ⟨2, _⟩ => rfl | ⟨0, _⟩, ⟨3, _⟩ => rfl | ⟨1, _⟩, ⟨0, _⟩ => rfl | ⟨1, _⟩, ⟨1, _⟩ => rfl | ⟨1, _⟩, ⟨2, _⟩ => rfl | ⟨1, _⟩, ⟨3, _⟩ => rfl | ⟨2, _⟩, ⟨0, _⟩ => rfl | ⟨2, _⟩, ⟨1, _⟩ => rfl | ⟨2, _⟩, ⟨2, _⟩ => rfl | ⟨2, _⟩, ⟨3, _⟩ => rfl | ⟨3, _⟩, ⟨0, _⟩ => rfl | ⟨3, _⟩, ⟨1, _⟩ => rfl | ⟨3, _⟩, ⟨2, _⟩ => rfl | ⟨3, _⟩, ⟨3, _⟩ => rfl | ⟨4, _⟩, ⟨0, _⟩ => rfl | ⟨4, _⟩, ⟨1, _⟩ => rfl | ⟨4, _⟩, ⟨2, _⟩ => rfl | ⟨4, _⟩, ⟨3, _⟩ => rfl) (fun r w h => Pt.p_of_lt _ h) hf r w

/-- The whole scratch holds its closed form after the point. -/
theorem f17 (d : Fin 96) (w : Fin 2560) :
    v'.read (Elt Ideal) (v'.writes (Elt Ideal) f' (kernelRun0_B.sl.HS2_20 (F := Ideal) c i arg2 harg2 arg5 harg5 x0 x3)) (ix2 d w) = (ptOf (head i) x0 x1 x2 x3 x4 x5 x6 x8 x9 xs4).c17 d w :=
  View.read_writes_apply_of_pieces v' f' (fun y => (ptOf (head i) x0 x1 x2 x3 x4 x5 x6 x8 x9 xs4).c17 (y 0) (y 1)) _ (hs2 c i arg2 harg2 arg5 harg5 x0 x1 x2 x3 x4 x5 x6 x8 x9 xs4) (ix2 d w)
    (View.cover_of_tiledL (kernelRun0_B.sl.HS2_20 (F := Ideal) c i arg2 harg2 arg5 harg5 x0 x3) S96x128.size (by sl_kernel_rfl) (ix2 d w))

/-- The whole scratch holds its closed form after the point. -/
theorem f18 (d : Fin 96) (w : Fin 2560) :
    v'.read (Elt Ideal) (v'.writes (Elt Ideal) f' (kernelRun0_B.sl.HS3_20 (F := Ideal) c arg10 harg10 arg11 harg11 x8 x9)) (ix2 d w) = (ptOf (head i) x0 x1 x2 x3 x4 x5 x6 x8 x9 xs4).c18 d w :=
  View.read_writes_apply_of_pieces v' f' (fun y => (ptOf (head i) x0 x1 x2 x3 x4 x5 x6 x8 x9 xs4).c18 (y 0) (y 1)) _ (hs3 c i arg10 harg10 arg11 harg11 x0 x1 x2 x3 x4 x5 x6 x8 x9 xs4) (ix2 d w)
    (View.cover_of_tiledL (kernelRun0_B.sl.HS3_20 (F := Ideal) c arg10 harg10 arg11 harg11 x8 x9) S96x128.size (by sl_kernel_rfl) (ix2 d w))

/-- Every store into the queries' gradient holds it. -/
theorem hq : ∀ p ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs4).1, ∀ x : p.1.shape.Idx, p.2 x = (ptOf (head i) x0 x1 x2 x3 x4 x5 x6 x8 x9 xs4).dq (p.1.emb x 1) (p.1.emb x 3) (p.1.emb x 4) := by
  refine List.forall_mem_cons.2 ⟨Blk.piece_dq (n := 640) (o := 384) (on := 512) (gn := 3) (inb := inb_S1x4x1x96x640_S1x1x1x96x128_0_3_0_0_512) _ 3 4 rfl rfl rfl rfl _ _ _ ?_ ?_ ?_, ?_⟩
  · exact Blk.kc' (arg6 := arg6) (harg6 := harg6) (x4 := x4)
  · exact fun r j r' w hr hw => (rdS (arg := arg16) _ r j r' w (by omega) hw).trans (b16_4 c i arg2 harg2 arg3 harg3 arg4 harg4 arg5 harg5 arg6 harg6 arg7 harg7 arg8 harg8 arg10 harg10 arg11 harg11 arg19 harg19 x0 x1 x2 x3 x4 x5 x6 x8 x9 xs4 arg16.view _ (by omega) (by omega))
  · exact Blk.csm (arg3 := arg3) (harg3 := harg3) (x1 := x1)
  refine List.forall_mem_cons.2 ⟨Blk.piece_dq (n := 640) (o := 256) (on := 512) (gn := 2) (inb := inb_S1x4x1x96x640_S1x1x1x96x128_0_2_0_0_512) _ 2 4 rfl rfl rfl rfl _ _ _ ?_ ?_ ?_, ?_⟩
  · exact Blk.kc' (arg6 := arg6) (harg6 := harg6) (x4 := x4)
  · exact fun r j r' w hr hw => (rdS (arg := arg16) _ r j r' w (by omega) hw).trans (b16_4 c i arg2 harg2 arg3 harg3 arg4 harg4 arg5 harg5 arg6 harg6 arg7 harg7 arg8 harg8 arg10 harg10 arg11 harg11 arg19 harg19 x0 x1 x2 x3 x4 x5 x6 x8 x9 xs4 arg16.view _ (by omega) (by omega))
  · exact Blk.csm (arg3 := arg3) (harg3 := harg3) (x1 := x1)
  refine List.forall_mem_cons.2 ⟨Blk.piece_dq (n := 640) (o := 128) (on := 512) (gn := 1) (inb := inb_S1x4x1x96x640_S1x1x1x96x128_0_1_0_0_512) _ 1 4 rfl rfl rfl rfl _ _ _ ?_ ?_ ?_, ?_⟩
  · exact Blk.kc' (arg6 := arg6) (harg6 := harg6) (x4 := x4)
  · exact fun r j r' w hr hw => (rdS (arg := arg16) _ r j r' w (by omega) hw).trans (b16_4 c i arg2 harg2 arg3 harg3 arg4 harg4 arg5 harg5 arg6 harg6 arg7 harg7 arg8 harg8 arg10 harg10 arg11 harg11 arg19 harg19 x0 x1 x2 x3 x4 x5 x6 x8 x9 xs4 arg16.view _ (by omega) (by omega))
  · exact Blk.csm (arg3 := arg3) (harg3 := harg3) (x1 := x1)
  refine List.forall_mem_cons.2 ⟨Blk.piece_dq (n := 640) (o := 0) (on := 512) (gn := 0) (inb := inb_S1x4x1x96x640_S1x1x1x96x128_0_0_0_0_512) _ 0 4 rfl rfl rfl rfl _ _ _ ?_ ?_ ?_, ?_⟩
  · exact Blk.kc' (arg6 := arg6) (harg6 := harg6) (x4 := x4)
  · exact fun r j r' w hr hw => (rdS (arg := arg16) _ r j r' w (by omega) hw).trans (b16_4 c i arg2 harg2 arg3 harg3 arg4 harg4 arg5 harg5 arg6 harg6 arg7 harg7 arg8 harg8 arg10 harg10 arg11 harg11 arg19 harg19 x0 x1 x2 x3 x4 x5 x6 x8 x9 xs4 arg16.view _ (by omega) (by omega))
  · exact Blk.csm (arg3 := arg3) (harg3 := harg3) (x1 := x1)
  refine List.forall_mem_cons.2 ⟨Blk.piece_dq (n := 512) (o := 384) (on := 384) (gn := 3) (inb := inb_S1x4x1x96x640_S1x1x1x96x128_0_3_0_0_384) _ 3 3 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_3 c i arg2 harg2 arg3 harg3 arg4 harg4 arg5 harg5 arg6 harg6 arg7 harg7 arg8 harg8 arg10 harg10 arg11 harg11 arg19 harg19 x0 x1 x2 x3 x4 x5 x6 x8 x9 xs4 arg16.view _ (by omega) (by omega))
  · exact Blk.csm (arg3 := arg3) (harg3 := harg3) (x1 := x1)
  refine List.forall_mem_cons.2 ⟨Blk.piece_dq (n := 512) (o := 256) (on := 384) (gn := 2) (inb := inb_S1x4x1x96x640_S1x1x1x96x128_0_2_0_0_384) _ 2 3 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_3 c i arg2 harg2 arg3 harg3 arg4 harg4 arg5 harg5 arg6 harg6 arg7 harg7 arg8 harg8 arg10 harg10 arg11 harg11 arg19 harg19 x0 x1 x2 x3 x4 x5 x6 x8 x9 xs4 arg16.view _ (by omega) (by omega))
  · exact Blk.csm (arg3 := arg3) (harg3 := harg3) (x1 := x1)
  refine List.forall_mem_cons.2 ⟨Blk.piece_dq (n := 512) (o := 128) (on := 384) (gn := 1) (inb := inb_S1x4x1x96x640_S1x1x1x96x128_0_1_0_0_384) _ 1 3 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_3 c i arg2 harg2 arg3 harg3 arg4 harg4 arg5 harg5 arg6 harg6 arg7 harg7 arg8 harg8 arg10 harg10 arg11 harg11 arg19 harg19 x0 x1 x2 x3 x4 x5 x6 x8 x9 xs4 arg16.view _ (by omega) (by omega))
  · exact Blk.csm (arg3 := arg3) (harg3 := harg3) (x1 := x1)
  refine List.forall_mem_cons.2 ⟨Blk.piece_dq (n := 512) (o := 0) (on := 384) (gn := 0) (inb := inb_S1x4x1x96x640_S1x1x1x96x128_0_0_0_0_384) _ 0 3 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_3 c i arg2 harg2 arg3 harg3 arg4 harg4 arg5 harg5 arg6 harg6 arg7 harg7 arg8 harg8 arg10 harg10 arg11 harg11 arg19 harg19 x0 x1 x2 x3 x4 x5 x6 x8 x9 xs4 arg16.view _ (by omega) (by omega))
  · exact Blk.csm (arg3 := arg3) (harg3 := harg3) (x1 := x1)
  refine List.forall_mem_cons.2 ⟨Blk.piece_dq (n := 384) (o := 384) (on := 256) (gn := 3) (inb := inb_S1x4x1x96x640_S1x1x1x96x128_0_3_0_0_256) _ 3 2 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_2 c i arg2 harg2 arg3 harg3 arg4 harg4 arg5 harg5 arg6 harg6 arg7 harg7 arg8 harg8 arg10 harg10 arg11 harg11 arg19 harg19 x0 x1 x2 x3 x4 x5 x6 x8 x9 xs4 arg16.view _ (by omega) (by omega))
  · exact Blk.csm (arg3 := arg3) (harg3 := harg3) (x1 := x1)
  refine List.forall_mem_cons.2 ⟨Blk.piece_dq (n := 384) (o := 256) (on := 256) (gn := 2) (inb := inb_S1x4x1x96x640_S1x1x1x96x128_0_2_0_0_256) _ 2 2 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_2 c i arg2 harg2 arg3 harg3 arg4 harg4 arg5 harg5 arg6 harg6 arg7 harg7 arg8 harg8 arg10 harg10 arg11 harg11 arg19 harg19 x0 x1 x2 x3 x4 x5 x6 x8 x9 xs4 arg16.view _ (by omega) (by omega))
  · exact Blk.csm (arg3 := arg3) (harg3 := harg3) (x1 := x1)
  refine List.forall_mem_cons.2 ⟨Blk.piece_dq (n := 384) (o := 128) (on := 256) (gn := 1) (inb := inb_S1x4x1x96x640_S1x1x1x96x128_0_1_0_0_256) _ 1 2 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_2 c i arg2 harg2 arg3 harg3 arg4 harg4 arg5 harg5 arg6 harg6 arg7 harg7 arg8 harg8 arg10 harg10 arg11 harg11 arg19 harg19 x0 x1 x2 x3 x4 x5 x6 x8 x9 xs4 arg16.view _ (by omega) (by omega))
  · exact Blk.csm (arg3 := arg3) (harg3 := harg3) (x1 := x1)
  refine List.forall_mem_cons.2 ⟨Blk.piece_dq (n := 384) (o := 0) (on := 256) (gn := 0) (inb := inb_S1x4x1x96x640_S1x1x1x96x128_0_0_0_0_256) _ 0 2 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_2 c i arg2 harg2 arg3 harg3 arg4 harg4 arg5 harg5 arg6 harg6 arg7 harg7 arg8 harg8 arg10 harg10 arg11 harg11 arg19 harg19 x0 x1 x2 x3 x4 x5 x6 x8 x9 xs4 arg16.view _ (by omega) (by omega))
  · exact Blk.csm (arg3 := arg3) (harg3 := harg3) (x1 := x1)
  refine List.forall_mem_cons.2 ⟨Blk.piece_dq (n := 256) (o := 384) (on := 128) (gn := 3) (inb := inb_S1x4x1x96x640_S1x1x1x96x128_0_3_0_0_128) _ 3 1 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_1 c i arg2 harg2 arg3 harg3 arg4 harg4 arg5 harg5 arg6 harg6 arg7 harg7 arg8 harg8 arg10 harg10 arg11 harg11 arg19 harg19 x0 x1 x2 x3 x4 x5 x6 x8 x9 xs4 arg16.view _ (by omega) (by omega))
  · exact Blk.csm (arg3 := arg3) (harg3 := harg3) (x1 := x1)
  refine List.forall_mem_cons.2 ⟨Blk.piece_dq (n := 256) (o := 256) (on := 128) (gn := 2) (inb := inb_S1x4x1x96x640_S1x1x1x96x128_0_2_0_0_128) _ 2 1 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_1 c i arg2 harg2 arg3 harg3 arg4 harg4 arg5 harg5 arg6 harg6 arg7 harg7 arg8 harg8 arg10 harg10 arg11 harg11 arg19 harg19 x0 x1 x2 x3 x4 x5 x6 x8 x9 xs4 arg16.view _ (by omega) (by omega))
  · exact Blk.csm (arg3 := arg3) (harg3 := harg3) (x1 := x1)
  refine List.forall_mem_cons.2 ⟨Blk.piece_dq (n := 256) (o := 128) (on := 128) (gn := 1) (inb := inb_S1x4x1x96x640_S1x1x1x96x128_0_1_0_0_128) _ 1 1 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_1 c i arg2 harg2 arg3 harg3 arg4 harg4 arg5 harg5 arg6 harg6 arg7 harg7 arg8 harg8 arg10 harg10 arg11 harg11 arg19 harg19 x0 x1 x2 x3 x4 x5 x6 x8 x9 xs4 arg16.view _ (by omega) (by omega))
  · exact Blk.csm (arg3 := arg3) (harg3 := harg3) (x1 := x1)
  refine List.forall_mem_cons.2 ⟨Blk.piece_dq (n := 256) (o := 0) (on := 128) (gn := 0) (inb := inb_S1x4x1x96x640_S1x1x1x96x128_0_0_0_0_128) _ 0 1 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_1 c i arg2 harg2 arg3 harg3 arg4 harg4 arg5 harg5 arg6 harg6 arg7 harg7 arg8 harg8 arg10 harg10 arg11 harg11 arg19 harg19 x0 x1 x2 x3 x4 x5 x6 x8 x9 xs4 arg16.view _ (by omega) (by omega))
  · exact Blk.csm (arg3 := arg3) (harg3 := harg3) (x1 := x1)
  refine List.forall_mem_cons.2 ⟨Blk.piece_dq (n := 128) (o := 384) (on := 0) (gn := 3) (inb := inb_S1x4x1x96x640_S1x1x1x96x128_0_3_0_0_0) _ 3 0 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_0 c i arg2 harg2 arg3 harg3 arg4 harg4 arg5 harg5 arg6 harg6 arg7 harg7 arg8 harg8 arg10 harg10 arg11 harg11 arg19 harg19 x0 x1 x2 x3 x4 x5 x6 x8 x9 xs4 arg16.view _ (by omega) (by omega))
  · exact Blk.csm (arg3 := arg3) (harg3 := harg3) (x1 := x1)
  refine List.forall_mem_cons.2 ⟨Blk.piece_dq (n := 128) (o := 256) (on := 0) (gn := 2) (inb := inb_S1x4x1x96x640_S1x1x1x96x128_0_2_0_0_0) _ 2 0 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_0 c i arg2 harg2 arg3 harg3 arg4 harg4 arg5 harg5 arg6 harg6 arg7 harg7 arg8 harg8 arg10 harg10 arg11 harg11 arg19 harg19 x0 x1 x2 x3 x4 x5 x6 x8 x9 xs4 arg16.view _ (by omega) (by omega))
  · exact Blk.csm (arg3 := arg3) (harg3 := harg3) (x1 := x1)
  refine List.forall_mem_cons.2 ⟨Blk.piece_dq (n := 128) (o := 128) (on := 0) (gn := 1) (inb := inb_S1x4x1x96x640_S1x1x1x96x128_0_1_0_0_0) _ 1 0 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_0 c i arg2 harg2 arg3 harg3 arg4 harg4 arg5 harg5 arg6 harg6 arg7 harg7 arg8 harg8 arg10 harg10 arg11 harg11 arg19 harg19 x0 x1 x2 x3 x4 x5 x6 x8 x9 xs4 arg16.view _ (by omega) (by omega))
  · exact Blk.csm (arg3 := arg3) (harg3 := harg3) (x1 := x1)
  refine List.forall_mem_cons.2 ⟨Blk.piece_dq (n := 128) (o := 0) (on := 0) (gn := 0) (inb := inb_S1x4x1x96x640_S1x1x1x96x128_0_0_0_0_0) _ 0 0 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_0 c i arg2 harg2 arg3 harg3 arg4 harg4 arg5 harg5 arg6 harg6 arg7 harg7 arg8 harg8 arg10 harg10 arg11 harg11 arg19 harg19 x0 x1 x2 x3 x4 x5 x6 x8 x9 xs4 arg16.view _ (by omega) (by omega))
  · exact Blk.csm (arg3 := arg3) (harg3 := harg3) (x1 := x1)
  exact List.forall_mem_nil _

/-- Every store into the keys' gradient holds it. -/
theorem hk (h15 : ∀ (r : Fin 640) (w : Fin 2560), (pos w).val < r.val → xs0 (ix2 r w) = 0) (h16 : ∀ (r : Fin 640) (w : Fin 2560), (pos w).val < r.val → xs1 (ix2 r w) = 0) : ∀ p ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs4).2.1, ∀ x : p.1.shape.Idx, p.2 x = (ptOf (head i) x0 x1 x2 x3 x4 x5 x6 x8 x9 xs4).dk (p.1.emb x 2) (p.1.emb x 3) := by
  refine List.forall_mem_cons.2 ⟨Blk.piece_dk (m := 128) (n := 512) (k0 := 512) (c0 := 2048) (inb := inb_S1x1x96x640_S1x1x96x128_0_0_0_512) _ 4 rfl rfl rfl (by decide) _ _ _ (Blk.cast128 _ _) ?_ ?_ rfl, ?_⟩
  · exact fun d j w hw => (rdS (arg := arg17) _ d j d w (by omega) hw).trans (f17 c i arg2 harg2 arg5 harg5 x0 x1 x2 x3 x4 x5 x6 x8 x9 xs4 arg17.view _ d w)
  · exact fun r j r' w hr hw => (rdS (arg := arg16) _ r j r' w hr hw).trans (b16_4 c i arg2 harg2 arg3 harg3 arg4 harg4 arg5 harg5 arg6 harg6 arg7 harg7 arg8 harg8 arg10 harg10 arg11 harg11 arg19 harg19 x0 x1 x2 x3 x4 x5 x6 x8 x9 xs4 arg16.view _ (by omega) (by omega))
  refine List.forall_mem_cons.2 ⟨Blk.piece_dk (m := 256) (n := 1536) (k0 := 256) (c0 := 1024) (inb := inb_S1x1x96x640_S1x1x96x256_0_0_0_256) _ 2 rfl rfl rfl (by decide) _ _ _ (Blk.cast256 _ _) ?_ ?_ rfl, ?_⟩
  · exact fun d j w hw => (rdS (arg := arg17) _ d j d w (by omega) hw).trans (f17 c i arg2 harg2 arg5 harg5 x0 x1 x2 x3 x4 x5 x6 x8 x9 xs4 arg17.view _ d w)
  · exact fun r j r' w hr hw => (rdS (arg := arg16) _ r j r' w hr hw).trans (f16 c i arg2 harg2 arg3 harg3 arg4 harg4 arg5 harg5 arg6 harg6 arg7 harg7 arg8 harg8 arg10 harg10 arg11 harg11 arg19 harg19 x0 x1 x2 x3 x4 x5 x6 x8 x9 xs4 arg16.view _ (fun r w h => (congrFun (harg16.read_unread xs1) (ix2 r w)).trans (h16 r w h)) _ _)
  refine List.forall_mem_cons.2 ⟨Blk.piece_dk (m := 256) (n := 2560) (k0 := 0) (c0 := 0) (inb := inb_S1x1x96x640_S1x1x96x256_0_0_0_0) _ 0 rfl rfl rfl (by decide) _ _ _ (Blk.cast256 _ _) ?_ ?_ rfl, ?_⟩
  · exact fun d j w hw => (rdS (arg := arg17) _ d j d w (by omega) hw).trans (f17 c i arg2 harg2 arg5 harg5 x0 x1 x2 x3 x4 x5 x6 x8 x9 xs4 arg17.view _ d w)
  · exact fun r j r' w hr hw => (rdS (arg := arg16) _ r j r' w hr hw).trans (f16 c i arg2 harg2 arg3 harg3 arg4 harg4 arg5 harg5 arg6 harg6 arg7 harg7 arg8 harg8 arg10 harg10 arg11 harg11 arg19 harg19 x0 x1 x2 x3 x4 x5 x6 x8 x9 xs4 arg16.view _ (fun r w h => (congrFun (harg16.read_unread xs1) (ix2 r w)).trans (h16 r w h)) _ _)
  exact List.forall_mem_nil _

/-- Every store into the values' gradient holds it. -/
theorem hv (h15 : ∀ (r : Fin 640) (w : Fin 2560), (pos w).val < r.val → xs0 (ix2 r w) = 0) (h16 : ∀ (r : Fin 640) (w : Fin 2560), (pos w).val < r.val → xs1 (ix2 r w) = 0) : ∀ p ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs4).2.2.1, ∀ x : p.1.shape.Idx, p.2 x = (ptOf (head i) x0 x1 x2 x3 x4 x5 x6 x8 x9 xs4).dv (p.1.emb x 2) (p.1.emb x 3) := by
  refine List.forall_mem_cons.2 ⟨Blk.piece_dv (m := 128) (n := 512) (k0 := 512) (c0 := 2048) (inb := inb_S1x1x96x640_S1x1x96x128_0_0_0_512) _ 4 rfl rfl rfl (by decide) _ _ (Blk.cast128 _ _) ?_ ?_, ?_⟩
  · exact fun d j w hw => (rdS (arg := arg18) _ d j d w (by omega) hw).trans (f18 c i arg10 harg10 arg11 harg11 x0 x1 x2 x3 x4 x5 x6 x8 x9 xs4 arg18.view _ d w)
  · exact fun r j r' w hr hw => (rdS (arg := arg15) _ r j r' w hr hw).trans (b15_4 c i arg2 harg2 arg3 harg3 arg5 harg5 arg6 harg6 arg19 harg19 x0 x1 x2 x3 x4 x5 x6 x8 x9 xs4 arg15.view _ (by omega) (by omega))
  refine List.forall_mem_cons.2 ⟨Blk.piece_dv (m := 256) (n := 1536) (k0 := 256) (c0 := 1024) (inb := inb_S1x1x96x640_S1x1x96x256_0_0_0_256) _ 2 rfl rfl rfl (by decide) _ _ (Blk.cast256 _ _) ?_ ?_, ?_⟩
  · exact fun d j w hw => (rdS (arg := arg18) _ d j d w (by omega) hw).trans (f18 c i arg10 harg10 arg11 harg11 x0 x1 x2 x3 x4 x5 x6 x8 x9 xs4 arg18.view _ d w)
  · exact fun r j r' w hr hw => (rdS (arg := arg15) _ r j r' w hr hw).trans (f15 c i arg2 harg2 arg3 harg3 arg5 harg5 arg6 harg6 arg19 harg19 x0 x1 x2 x3 x4 x5 x6 x8 x9 xs4 arg15.view _ (fun r w h => (congrFun (harg15.read_unread xs0) (ix2 r w)).trans (h15 r w h)) _ _)
  refine List.forall_mem_cons.2 ⟨Blk.piece_dv (m := 256) (n := 2560) (k0 := 0) (c0 := 0) (inb := inb_S1x1x96x640_S1x1x96x256_0_0_0_0) _ 0 rfl rfl rfl (by decide) _ _ (Blk.cast256 _ _) ?_ ?_, ?_⟩
  · exact fun d j w hw => (rdS (arg := arg18) _ d j d w (by omega) hw).trans (f18 c i arg10 harg10 arg11 harg11 x0 x1 x2 x3 x4 x5 x6 x8 x9 xs4 arg18.view _ d w)
  · exact fun r j r' w hr hw => (rdS (arg := arg15) _ r j r' w hr hw).trans (f15 c i arg2 harg2 arg3 harg3 arg5 harg5 arg6 harg6 arg19 harg19 x0 x1 x2 x3 x4 x5 x6 x8 x9 xs4 arg15.view _ (fun r w h => (congrFun (harg15.read_unread xs0) (ix2 r w)).trans (h15 r w h)) _ _)
  exact List.forall_mem_nil _

/-- What this case leaves in the staging buffer of a result. -/
theorem o10 (g : Fin 4) (d : Fin 96) (t : Fin 640) : out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs4 (ix5 0 g 0 d t) = (ptOf (head i) x0 x1 x2 x3 x4 x5 x6 x8 x9 xs4).dq g d t := by
  unfold out0_B_10
  exact View.read_writes_apply_of_pieces _ _ (fun y => (ptOf (head i) x0 x1 x2 x3 x4 x5 x6 x8 x9 xs4).dq (y 1) (y 3) (y 4)) _ (hq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 xs0 xs1 xs4 hc0 hc1) _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs4 _)

/-- What this case leaves in the staging buffer of a result. -/
theorem o11 (h15 : ∀ (r : Fin 640) (w : Fin 2560), (pos w).val < r.val → xs0 (ix2 r w) = 0) (h16 : ∀ (r : Fin 640) (w : Fin 2560), (pos w).val < r.val → xs1 (ix2 r w) = 0) (d : Fin 96) (t : Fin 640) : out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs4 (ix4 0 0 d t) = (ptOf (head i) x0 x1 x2 x3 x4 x5 x6 x8 x9 xs4).dk d t := by
  unfold out0_B_11
  exact View.read_writes_apply_of_pieces _ _ (fun y => (ptOf (head i) x0 x1 x2 x3 x4 x5 x6 x8 x9 xs4).dk (y 2) (y 3)) _ (hk c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 xs0 xs1 xs4 hc0 hc1 h15 h16) _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs4 _)

/-- What this case leaves in the staging buffer of a result. -/
theorem o12 (h15 : ∀ (r : Fin 640) (w : Fin 2560), (pos w).val < r.val → xs0 (ix2 r w) = 0) (h16 : ∀ (r : Fin 640) (w : Fin 2560), (pos w).val < r.val → xs1 (ix2 r w) = 0) (d : Fin 96) (t : Fin 640) : out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs4 (ix4 0 0 d t) = (ptOf (head i) x0 x1 x2 x3 x4 x5 x6 x8 x9 xs4).dv d t := by
  unfold out0_B_12
  exact View.read_writes_apply_of_pieces _ _ (fun y => (ptOf (head i) x0 x1 x2 x3 x4 x5 x6 x8 x9 xs4).dv (y 2) (y 3)) _ (hv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 xs0 xs1 xs4 hc0 hc1 h15 h16) _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs4 _)

/-- What this case leaves in the carried scratch. -/
theorem s0 (h : ∀ (r : Fin 640) (w : Fin 2560), (pos w).val < r.val → xs0 (ix2 r w) = 0) (r : Fin 640) (w : Fin 2560) : sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs4 (ix2 r w) = (ptOf (head i) x0 x1 x2 x3 x4 x5 x6 x8 x9 xs4).c15 r w := by
  unfold sout0_B_0
  exact f15 c i arg2 harg2 arg3 harg3 arg5 harg5 arg6 harg6 arg19 harg19 x0 x1 x2 x3 x4 x5 x6 x8 x9 xs4 arg15.view _ (fun r w e => (congrFun (harg15.read_unread xs0) (ix2 r w)).trans (h r w e)) r w

/-- What this case leaves in the carried scratch. -/
theorem s1 (h : ∀ (r : Fin 640) (w : Fin 2560), (pos w).val < r.val → xs1 (ix2 r w) = 0) (r : Fin 640) (w : Fin 2560) : sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs4 (ix2 r w) = (ptOf (head i) x0 x1 x2 x3 x4 x5 x6 x8 x9 xs4).c16 r w := by
  unfold sout0_B_1
  exact f16 c i arg2 harg2 arg3 harg3 arg4 harg4 arg5 harg5 arg6 harg6 arg7 harg7 arg8 harg8 arg10 harg10 arg11 harg11 arg19 harg19 x0 x1 x2 x3 x4 x5 x6 x8 x9 xs4 arg16.view _ (fun r w e => (congrFun (harg16.read_unread xs1) (ix2 r w)).trans (h r w e)) r w

end Cert.KernelIdeal.RunB

end
-- ==== Proof.LseC.lean ====
/- What the stores into the scratch rows of scaled log-sum-exps hold, in one case of the body. -/
module

public import proofs.«01_k».proof.Proof.Gen.KernelIdeal.Frame
public import proofs.«01_k».proof.Proof.Reads

@[expose] public section

set_option maxRecDepth 16384

noncomputable section

namespace Cert.KernelIdeal.RunC

open Idealize.ShloMosaic Idealize.ShloMosaic.TcCoe Cert.KernelIdeal.Gen

variable (c : Dev nD) (i : grid0.Coords)
  (arg2 : Memref sig .tc .smem S32 .f32) (harg2 : arg2.IsWhole) (arg3 : Memref sig .tc .smem S8 .f32) (harg3 : arg3.IsWhole)
  (arg4 : Memref sig .tc .smem S8 .f32) (harg4 : arg4.IsWhole) (arg5 : Memref sig .tc .vmem S1x4x1x96x640 .fp8e4m3) (harg5 : arg5.IsWhole)
  (arg6 : Memref sig .tc .vmem S1x1x96x640 .fp8e4m3) (harg6 : arg6.IsWhole) (arg7 : Memref sig .tc .vmem S1x1x96x640 .fp8e4m3) (harg7 : arg7.IsWhole)
  (arg8 : Memref sig .tc .vmem S1x4x1x96x640 .bf16) (harg8 : arg8.IsWhole) (arg9 : Memref sig .tc .vmem S1x4x8x640 .f32) (harg9 : arg9.IsWhole)
  (arg10 : Memref sig .tc .vmem S1x4x1x96x640 .fp8e5m2) (harg10 : arg10.IsWhole)
  (arg11 : Memref sig .tc .vmem S1x1x640 .f32) (harg11 : arg11.IsWhole)
  (arg15 : Memref sig .tc .vmem S640x2560 .bf16) (harg15 : arg15.IsWhole) (arg16 : Memref sig .tc .vmem S640x2560 .bf16) (harg16 : arg16.IsWhole)
  (arg17 : Memref sig .tc .vmem S96x2560 .bf16) (harg17 : arg17.IsWhole) (arg18 : Memref sig .tc .vmem S96x2560 .bf16) (harg18 : arg18.IsWhole)
  (arg19 : Memref sig .tc .vmem S8x4x640 .f32) (harg19 : arg19.IsWhole)
  (x0 : Vec Ideal S32 .f32) (x1 x2 : Vec Ideal S8 .f32) (x3 : Vec Ideal S1x4x1x96x640 .fp8e4m3) (x4 x5 : Vec Ideal S1x1x96x640 .fp8e4m3)
  (x6 : Vec Ideal S1x4x1x96x640 .bf16) (x7 : Vec Ideal S1x4x8x640 .f32) (x8 : Vec Ideal S1x4x1x96x640 .fp8e5m2) (x9 : Vec Ideal S1x1x640 .f32)
  (xs0 xs1 : Vec Ideal S640x2560 .bf16) (xs4 : Vec Ideal S8x4x640 .f32)

/-- Every store into the scratch rows holds the scaled log-sum-exps. -/
theorem hs4 : ∀ p ∈ (kernelRun0_C.sl.HS4_32 (F := Ideal) c arg9 harg9 x7), ∀ x : p.1.shape.Idx, p.2 x = lseOf x7 (p.1.emb x) := by
  unfold kernelRun0_C.sl.HS4_32
  refine List.forall_mem_cons.2 ⟨lseP arg9 harg9 x7 7 3 (by decide) (by decide) (inbo := inb_S8x4x640_S1x1x640_7_3_0), ?_⟩
  refine List.forall_mem_cons.2 ⟨lseP arg9 harg9 x7 7 2 (by decide) (by decide) (inbo := inb_S8x4x640_S1x1x640_7_2_0), ?_⟩
  refine List.forall_mem_cons.2 ⟨lseP arg9 harg9 x7 7 1 (by decide) (by decide) (inbo := inb_S8x4x640_S1x1x640_7_1_0), ?_⟩
  refine List.forall_mem_cons.2 ⟨lseP arg9 harg9 x7 7 0 (by decide) (by decide) (inbo := inb_S8x4x640_S1x1x640_7_0_0), ?_⟩
  refine List.forall_mem_cons.2 ⟨lseP arg9 harg9 x7 6 3 (by decide) (by decide) (inbo := inb_S8x4x640_S1x1x640_6_3_0), ?_⟩
  refine List.forall_mem_cons.2 ⟨lseP arg9 harg9 x7 6 2 (by decide) (by decide) (inbo := inb_S8x4x640_S1x1x640_6_2_0), ?_⟩
  refine List.forall_mem_cons.2 ⟨lseP arg9 harg9 x7 6 1 (by decide) (by decide) (inbo := inb_S8x4x640_S1x1x640_6_1_0), ?_⟩
  refine List.forall_mem_cons.2 ⟨lseP arg9 harg9 x7 6 0 (by decide) (by decide) (inbo := inb_S8x4x640_S1x1x640_6_0_0), ?_⟩
  refine List.forall_mem_cons.2 ⟨lseP arg9 harg9 x7 5 3 (by decide) (by decide) (inbo := inb_S8x4x640_S1x1x640_5_3_0), ?_⟩
  refine List.forall_mem_cons.2 ⟨lseP arg9 harg9 x7 5 2 (by decide) (by decide) (inbo := inb_S8x4x640_S1x1x640_5_2_0), ?_⟩
  refine List.forall_mem_cons.2 ⟨lseP arg9 harg9 x7 5 1 (by decide) (by decide) (inbo := inb_S8x4x640_S1x1x640_5_1_0), ?_⟩
  refine List.forall_mem_cons.2 ⟨lseP arg9 harg9 x7 5 0 (by decide) (by decide) (inbo := inb_S8x4x640_S1x1x640_5_0_0), ?_⟩
  refine List.forall_mem_cons.2 ⟨lseP arg9 harg9 x7 4 3 (by decide) (by decide) (inbo := inb_S8x4x640_S1x1x640_4_3_0), ?_⟩
  refine List.forall_mem_cons.2 ⟨lseP arg9 harg9 x7 4 2 (by decide) (by decide) (inbo := inb_S8x4x640_S1x1x640_4_2_0), ?_⟩
  refine List.forall_mem_cons.2 ⟨lseP arg9 harg9 x7 4 1 (by decide) (by decide) (inbo := inb_S8x4x640_S1x1x640_4_1_0), ?_⟩
  refine List.forall_mem_cons.2 ⟨lseP arg9 harg9 x7 4 0 (by decide) (by decide) (inbo := inb_S8x4x640_S1x1x640_4_0_0), ?_⟩
  refine List.forall_mem_cons.2 ⟨lseP arg9 harg9 x7 3 3 (by decide) (by decide) (inbo := inb_S8x4x640_S1x1x640_3_3_0), ?_⟩
  refine List.forall_mem_cons.2 ⟨lseP arg9 harg9 x7 3 2 (by decide) (by decide) (inbo := inb_S8x4x640_S1x1x640_3_2_0), ?_⟩
  refine List.forall_mem_cons.2 ⟨lseP arg9 harg9 x7 3 1 (by decide) (by decide) (inbo := inb_S8x4x640_S1x1x640_3_1_0), ?_⟩
  refine List.forall_mem_cons.2 ⟨lseP arg9 harg9 x7 3 0 (by decide) (by decide) (inbo := inb_S8x4x640_S1x1x640_3_0_0), ?_⟩
  refine List.forall_mem_cons.2 ⟨lseP arg9 harg9 x7 2 3 (by decide) (by decide) (inbo := inb_S8x4x640_S1x1x640_2_3_0), ?_⟩
  refine List.forall_mem_cons.2 ⟨lseP arg9 harg9 x7 2 2 (by decide) (by decide) (inbo := inb_S8x4x640_S1x1x640_2_2_0), ?_⟩
  refine List.forall_mem_cons.2 ⟨lseP arg9 harg9 x7 2 1 (by decide) (by decide) (inbo := inb_S8x4x640_S1x1x640_2_1_0), ?_⟩
  refine List.forall_mem_cons.2 ⟨lseP arg9 harg9 x7 2 0 (by decide) (by decide) (inbo := inb_S8x4x640_S1x1x640_2_0_0), ?_⟩
  refine List.forall_mem_cons.2 ⟨lseP arg9 harg9 x7 1 3 (by decide) (by decide) (inbo := inb_S8x4x640_S1x1x640_1_3_0), ?_⟩
  refine List.forall_mem_cons.2 ⟨lseP arg9 harg9 x7 1 2 (by decide) (by decide) (inbo := inb_S8x4x640_S1x1x640_1_2_0), ?_⟩
  refine List.forall_mem_cons.2 ⟨lseP arg9 harg9 x7 1 1 (by decide) (by decide) (inbo := inb_S8x4x640_S1x1x640_1_1_0), ?_⟩
  refine List.forall_mem_cons.2 ⟨lseP arg9 harg9 x7 1 0 (by decide) (by decide) (inbo := inb_S8x4x640_S1x1x640_1_0_0), ?_⟩
  refine List.forall_mem_cons.2 ⟨lseP arg9 harg9 x7 0 3 (by decide) (by decide) (inbo := inb_S8x4x640_S1x1x640_0_3_0), ?_⟩
  refine List.forall_mem_cons.2 ⟨lseP arg9 harg9 x7 0 2 (by decide) (by decide) (inbo := inb_S8x4x640_S1x1x640_0_2_0), ?_⟩
  refine List.forall_mem_cons.2 ⟨lseP arg9 harg9 x7 0 1 (by decide) (by decide) (inbo := inb_S8x4x640_S1x1x640_0_1_0), ?_⟩
  refine List.forall_mem_cons.2 ⟨lseP arg9 harg9 x7 0 0 (by decide) (by decide) (inbo := inb_S8x4x640_S1x1x640_0_0_0), ?_⟩
  exact List.forall_mem_nil _

/-- The stores cover the scratch rows. -/
theorem hc4 : ∀ y : S8x4x640.Idx, ∃ p ∈ (kernelRun0_C.sl.HS4_32 (F := Ideal) c arg9 harg9 x7), y ∈ p.1.set := fun y =>
  View.cover_of_tiledL (kernelRun0_C.sl.HS4_32 (F := Ideal) c arg9 harg9 x7) S1x1x640.size (by sl_kernel_rfl) y

end Cert.KernelIdeal.RunC

end
-- ==== Proof.StoresC.lean ====
/- What the stores into the scratch buffers of probabilities, scaled queries and scaled output gradients hold, in one case of the body. -/
module

public import proofs.«01_k».proof.Proof.LseC

@[expose] public section

set_option maxRecDepth 16384

noncomputable section

namespace Cert.KernelIdeal.RunC

open Idealize.ShloMosaic Idealize.ShloMosaic.TcCoe Cert.KernelIdeal.Gen

variable (c : Dev nD) (i : grid0.Coords)
  (arg2 : Memref sig .tc .smem S32 .f32) (harg2 : arg2.IsWhole) (arg3 : Memref sig .tc .smem S8 .f32) (harg3 : arg3.IsWhole)
  (arg4 : Memref sig .tc .smem S8 .f32) (harg4 : arg4.IsWhole) (arg5 : Memref sig .tc .vmem S1x4x1x96x640 .fp8e4m3) (harg5 : arg5.IsWhole)
  (arg6 : Memref sig .tc .vmem S1x1x96x640 .fp8e4m3) (harg6 : arg6.IsWhole) (arg7 : Memref sig .tc .vmem S1x1x96x640 .fp8e4m3) (harg7 : arg7.IsWhole)
  (arg8 : Memref sig .tc .vmem S1x4x1x96x640 .bf16) (harg8 : arg8.IsWhole) (arg9 : Memref sig .tc .vmem S1x4x8x640 .f32) (harg9 : arg9.IsWhole)
  (arg10 : Memref sig .tc .vmem S1x4x1x96x640 .fp8e5m2) (harg10 : arg10.IsWhole)
  (arg11 : Memref sig .tc .vmem S1x1x640 .f32) (harg11 : arg11.IsWhole)
  (arg15 : Memref sig .tc .vmem S640x2560 .bf16) (harg15 : arg15.IsWhole) (arg16 : Memref sig .tc .vmem S640x2560 .bf16) (harg16 : arg16.IsWhole)
  (arg17 : Memref sig .tc .vmem S96x2560 .bf16) (harg17 : arg17.IsWhole) (arg18 : Memref sig .tc .vmem S96x2560 .bf16) (harg18 : arg18.IsWhole)
  (arg19 : Memref sig .tc .vmem S8x4x640 .f32) (harg19 : arg19.IsWhole)
  (x0 : Vec Ideal S32 .f32) (x1 x2 : Vec Ideal S8 .f32) (x3 : Vec Ideal S1x4x1x96x640 .fp8e4m3) (x4 x5 : Vec Ideal S1x1x96x640 .fp8e4m3)
  (x6 : Vec Ideal S1x4x1x96x640 .bf16) (x7 : Vec Ideal S1x4x8x640 .f32) (x8 : Vec Ideal S1x4x1x96x640 .fp8e5m2) (x9 : Vec Ideal S1x1x640 .f32)
  (xs0 xs1 : Vec Ideal S640x2560 .bf16) (xs4 : Vec Ideal S8x4x640 .f32)

set_option maxHeartbeats 1000000 in
/-- Every store into the probabilities' scratch holds the probabilities. -/
theorem hs0 : ∀ p ∈ (kernelRun0_C.sl.HS0_20 (F := Ideal) c i arg2 harg2 arg3 harg3 arg5 harg5 arg6 harg6 arg9 harg9 arg19 x0 x1 x3 x4 x7), ∀ x : p.1.shape.Idx, p.2 x = (ptOf (head i) x0 x1 x2 x3 x4 x5 x6 x8 x9 (lseOf x7)).c15 (p.1.emb x 0) (p.1.emb x 1) := by
  unfold kernelRun0_C.sl.HS0_20
  refine List.forall_mem_cons.2 ⟨Blk.piece_p (n := 640) (m := 512) (o := 2432) (inb := inb_S640x2560_S640x128_0_2432) _ 3 4 rfl rfl rfl ⟨?_, ?_, ?_, ?_⟩, ?_⟩
  · exact kw (arg6 := arg6) (harg6 := harg6) (x4 := x4)
  · exact cq (arg5 := arg5) (harg5 := harg5) (x3 := x3) (gn := 3) (o := 512) rfl rfl
  · exact cqk (arg2 := arg2) (harg2 := harg2) (arg3 := arg3) (harg3 := harg3) (x0 := x0) (x1 := x1) (w := 24#32) rfl
  · exact clw arg19 (lseOf x7) (off := k0_off22 i) (hs4 c arg9 harg9 x7) (hc4 c arg9 harg9 x7) ⟨rfl, rfl, rfl⟩
  refine List.forall_mem_cons.2 ⟨Blk.piece_p (n := 640) (m := 512) (o := 2304) (inb := inb_S640x2560_S640x128_0_2304) _ 2 4 rfl rfl rfl ⟨?_, ?_, ?_, ?_⟩, ?_⟩
  · exact kw (arg6 := arg6) (harg6 := harg6) (x4 := x4)
  · exact cq (arg5 := arg5) (harg5 := harg5) (x3 := x3) (gn := 2) (o := 512) rfl rfl
  · exact cqk (arg2 := arg2) (harg2 := harg2) (arg3 := arg3) (harg3 := harg3) (x0 := x0) (x1 := x1) (w := 16#32) rfl
  · exact clw arg19 (lseOf x7) (off := k0_off21 i) (hs4 c arg9 harg9 x7) (hc4 c arg9 harg9 x7) ⟨rfl, rfl, rfl⟩
  refine List.forall_mem_cons.2 ⟨Blk.piece_p (n := 640) (m := 512) (o := 2176) (inb := inb_S640x2560_S640x128_0_2176) _ 1 4 rfl rfl rfl ⟨?_, ?_, ?_, ?_⟩, ?_⟩
  · exact kw (arg6 := arg6) (harg6 := harg6) (x4 := x4)
  · exact cq (arg5 := arg5) (harg5 := harg5) (x3 := x3) (gn := 1) (o := 512) rfl rfl
  · exact cqk (arg2 := arg2) (harg2 := harg2) (arg3 := arg3) (harg3 := harg3) (x0 := x0) (x1 := x1) (w := 8#32) rfl
  · exact clw arg19 (lseOf x7) (off := k0_off20 i) (hs4 c arg9 harg9 x7) (hc4 c arg9 harg9 x7) ⟨rfl, rfl, rfl⟩
  refine List.forall_mem_cons.2 ⟨Blk.piece_p (n := 640) (m := 512) (o := 2048) (inb := inb_S640x2560_S640x128_0_2048) _ 0 4 rfl rfl rfl ⟨?_, ?_, ?_, ?_⟩, ?_⟩
  · exact kw (arg6 := arg6) (harg6 := harg6) (x4 := x4)
  · exact cq (arg5 := arg5) (harg5 := harg5) (x3 := x3) (gn := 0) (o := 512) rfl rfl
  · exact cqk (arg2 := arg2) (harg2 := harg2) (arg3 := arg3) (harg3 := harg3) (x0 := x0) (x1 := x1) (w := 0#32) rfl
  · exact clw arg19 (lseOf x7) (off := k0_off19 i) (hs4 c arg9 harg9 x7) (hc4 c arg9 harg9 x7) ⟨rfl, rfl, rfl⟩
  refine List.forall_mem_cons.2 ⟨Blk.piece_p (n := 512) (m := 384) (o := 1920) (inb := inb_S640x2560_S512x128_0_1920) _ 3 3 rfl rfl rfl ⟨?_, ?_, ?_, ?_⟩, ?_⟩
  · exact ks (arg6 := arg6) (harg6 := harg6) (x4 := x4)
  · exact cq (arg5 := arg5) (harg5 := harg5) (x3 := x3) (gn := 3) (o := 384) rfl rfl
  · exact cqk (arg2 := arg2) (harg2 := harg2) (arg3 := arg3) (harg3 := harg3) (x0 := x0) (x1 := x1) (w := 24#32) rfl
  · exact clw arg19 (lseOf x7) (off := k0_off18 i) (hs4 c arg9 harg9 x7) (hc4 c arg9 harg9 x7) ⟨rfl, rfl, rfl⟩
  refine List.forall_mem_cons.2 ⟨Blk.piece_p (n := 512) (m := 384) (o := 1792) (inb := inb_S640x2560_S512x128_0_1792) _ 2 3 rfl rfl rfl ⟨?_, ?_, ?_, ?_⟩, ?_⟩
  · exact ks (arg6 := arg6) (harg6 := harg6) (x4 := x4)
  · exact cq (arg5 := arg5) (harg5 := harg5) (x3 := x3) (gn := 2) (o := 384) rfl rfl
  · exact cqk (arg2 := arg2) (harg2 := harg2) (arg3 := arg3) (harg3 := harg3) (x0 := x0) (x1 := x1) (w := 16#32) rfl
  · exact clw arg19 (lseOf x7) (off := k0_off17 i) (hs4 c arg9 harg9 x7) (hc4 c arg9 harg9 x7) ⟨rfl, rfl, rfl⟩
  refine List.forall_mem_cons.2 ⟨Blk.piece_p (n := 512) (m := 384) (o := 1664) (inb := inb_S640x2560_S512x128_0_1664) _ 1 3 rfl rfl rfl ⟨?_, ?_, ?_, ?_⟩, ?_⟩
  · exact ks (arg6 := arg6) (harg6 := harg6) (x4 := x4)
  · exact cq (arg5 := arg5) (harg5 := harg5) (x3 := x3) (gn := 1) (o := 384) rfl rfl
  · exact cqk (arg2 := arg2) (harg2 := harg2) (arg3 := arg3) (harg3 := harg3) (x0 := x0) (x1 := x1) (w := 8#32) rfl
  · exact clw arg19 (lseOf x7) (off := k0_off16 i) (hs4 c arg9 harg9 x7) (hc4 c arg9 harg9 x7) ⟨rfl, rfl, rfl⟩
  refine List.forall_mem_cons.2 ⟨Blk.piece_p (n := 512) (m := 384) (o := 1536) (inb := inb_S640x2560_S512x128_0_1536) _ 0 3 rfl rfl rfl ⟨?_, ?_, ?_, ?_⟩, ?_⟩
  · exact ks (arg6 := arg6) (harg6 := harg6) (x4 := x4)
  · exact cq (arg5 := arg5) (harg5 := harg5) (x3 := x3) (gn := 0) (o := 384) rfl rfl
  · exact cqk (arg2 := arg2) (harg2 := harg2) (arg3 := arg3) (harg3 := harg3) (x0 := x0) (x1 := x1) (w := 0#32) rfl
  · exact clw arg19 (lseOf x7) (off := k0_off15 i) (hs4 c arg9 harg9 x7) (hc4 c arg9 harg9 x7) ⟨rfl, rfl, rfl⟩
  refine List.forall_mem_cons.2 ⟨Blk.piece_p (n := 384) (m := 256) (o := 1408) (inb := inb_S640x2560_S384x128_0_1408) _ 3 2 rfl rfl rfl ⟨?_, ?_, ?_, ?_⟩, ?_⟩
  · exact ks (arg6 := arg6) (harg6 := harg6) (x4 := x4)
  · exact cq (arg5 := arg5) (harg5 := harg5) (x3 := x3) (gn := 3) (o := 256) rfl rfl
  · exact cqk (arg2 := arg2) (harg2 := harg2) (arg3 := arg3) (harg3 := harg3) (x0 := x0) (x1 := x1) (w := 24#32) rfl
  · exact clw arg19 (lseOf x7) (off := k0_off14 i) (hs4 c arg9 harg9 x7) (hc4 c arg9 harg9 x7) ⟨rfl, rfl, rfl⟩
  refine List.forall_mem_cons.2 ⟨Blk.piece_p (n := 384) (m := 256) (o := 1280) (inb := inb_S640x2560_S384x128_0_1280) _ 2 2 rfl rfl rfl ⟨?_, ?_, ?_, ?_⟩, ?_⟩
  · exact ks (arg6 := arg6) (harg6 := harg6) (x4 := x4)
  · exact cq (arg5 := arg5) (harg5 := harg5) (x3 := x3) (gn := 2) (o := 256) rfl rfl
  · exact cqk (arg2 := arg2) (harg2 := harg2) (arg3 := arg3) (harg3 := harg3) (x0 := x0) (x1 := x1) (w := 16#32) rfl
  · exact clw arg19 (lseOf x7) (off := k0_off13 i) (hs4 c arg9 harg9 x7) (hc4 c arg9 harg9 x7) ⟨rfl, rfl, rfl⟩
  refine List.forall_mem_cons.2 ⟨Blk.piece_p (n := 384) (m := 256) (o := 1152) (inb := inb_S640x2560_S384x128_0_1152) _ 1 2 rfl rfl rfl ⟨?_, ?_, ?_, ?_⟩, ?_⟩
  · exact ks (arg6 := arg6) (harg6 := harg6) (x4 := x4)
  · exact cq (arg5 := arg5) (harg5 := harg5) (x3 := x3) (gn := 1) (o := 256) rfl rfl
  · exact cqk (arg2 := arg2) (harg2 := harg2) (arg3 := arg3) (harg3 := harg3) (x0 := x0) (x1 := x1) (w := 8#32) rfl
  · exact clw arg19 (lseOf x7) (off := k0_off12 i) (hs4 c arg9 harg9 x7) (hc4 c arg9 harg9 x7) ⟨rfl, rfl, rfl⟩
  refine List.forall_mem_cons.2 ⟨Blk.piece_p (n := 384) (m := 256) (o := 1024) (inb := inb_S640x2560_S384x128_0_1024) _ 0 2 rfl rfl rfl ⟨?_, ?_, ?_, ?_⟩, ?_⟩
  · exact ks (arg6 := arg6) (harg6 := harg6) (x4 := x4)
  · exact cq (arg5 := arg5) (harg5 := harg5) (x3 := x3) (gn := 0) (o := 256) rfl rfl
  · exact cqk (arg2 := arg2) (harg2 := harg2) (arg3 := arg3) (harg3 := harg3) (x0 := x0) (x1 := x1) (w := 0#32) rfl
  · exact clw arg19 (lseOf x7) (off := k0_off11 i) (hs4 c arg9 harg9 x7) (hc4 c arg9 harg9 x7) ⟨rfl, rfl, rfl⟩
  refine List.forall_mem_cons.2 ⟨Blk.piece_p (n := 256) (m := 128) (o := 896) (inb := inb_S640x2560_S256x128_0_896) _ 3 1 rfl rfl rfl ⟨?_, ?_, ?_, ?_⟩, ?_⟩
  · exact ks (arg6 := arg6) (harg6 := harg6) (x4 := x4)
  · exact cq (arg5 := arg5) (harg5 := harg5) (x3 := x3) (gn := 3) (o := 128) rfl rfl
  · exact cqk (arg2 := arg2) (harg2 := harg2) (arg3 := arg3) (harg3 := harg3) (x0 := x0) (x1 := x1) (w := 24#32) rfl
  · exact clw arg19 (lseOf x7) (off := k0_off10 i) (hs4 c arg9 harg9 x7) (hc4 c arg9 harg9 x7) ⟨rfl, rfl, rfl⟩
  refine List.forall_mem_cons.2 ⟨Blk.piece_p (n := 256) (m := 128) (o := 768) (inb := inb_S640x2560_S256x128_0_768) _ 2 1 rfl rfl rfl ⟨?_, ?_, ?_, ?_⟩, ?_⟩
  · exact ks (arg6 := arg6) (harg6 := harg6) (x4 := x4)
  · exact cq (arg5 := arg5) (harg5 := harg5) (x3 := x3) (gn := 2) (o := 128) rfl rfl
  · exact cqk (arg2 := arg2) (harg2 := harg2) (arg3 := arg3) (harg3 := harg3) (x0 := x0) (x1 := x1) (w := 16#32) rfl
  · exact clw arg19 (lseOf x7) (off := k0_off9 i) (hs4 c arg9 harg9 x7) (hc4 c arg9 harg9 x7) ⟨rfl, rfl, rfl⟩
  refine List.forall_mem_cons.2 ⟨Blk.piece_p (n := 256) (m := 128) (o := 640) (inb := inb_S640x2560_S256x128_0_640) _ 1 1 rfl rfl rfl ⟨?_, ?_, ?_, ?_⟩, ?_⟩
  · exact ks (arg6 := arg6) (harg6 := harg6) (x4 := x4)
  · exact cq (arg5 := arg5) (harg5 := harg5) (x3 := x3) (gn := 1) (o := 128) rfl rfl
  · exact cqk (arg2 := arg2) (harg2 := harg2) (arg3 := arg3) (harg3 := harg3) (x0 := x0) (x1 := x1) (w := 8#32) rfl
  · exact clw arg19 (lseOf x7) (off := k0_off8 i) (hs4 c arg9 harg9 x7) (hc4 c arg9 harg9 x7) ⟨rfl, rfl, rfl⟩
  refine List.forall_mem_cons.2 ⟨Blk.piece_p (n := 256) (m := 128) (o := 512) (inb := inb_S640x2560_S256x128_0_512) _ 0 1 rfl rfl rfl ⟨?_, ?_, ?_, ?_⟩, ?_⟩
  · exact ks (arg6 := arg6) (harg6 := harg6) (x4 := x4)
  · exact cq (arg5 := arg5) (harg5 := harg5) (x3 := x3) (gn := 0) (o := 128) rfl rfl
  · exact cqk (arg2 := arg2) (harg2 := harg2) (arg3 := arg3) (harg3 := harg3) (x0 := x0) (x1 := x1) (w := 0#32) rfl
  · exact clw arg19 (lseOf x7) (off := k0_off7 i) (hs4 c arg9 harg9 x7) (hc4 c arg9 harg9 x7) ⟨rfl, rfl, rfl⟩
  refine List.forall_mem_cons.2 ⟨Blk.piece_p0 (o := 384) (inb := inb_S640x2560_S128x128_0_384) _ 3 0 rfl rfl ⟨?_, ?_, ?_, ?_⟩, ?_⟩
  · exact ks (arg6 := arg6) (harg6 := harg6) (x4 := x4)
  · exact cq (arg5 := arg5) (harg5 := harg5) (x3 := x3) (gn := 3) (o := 0) rfl rfl
  · exact cqk (arg2 := arg2) (harg2 := harg2) (arg3 := arg3) (harg3 := harg3) (x0 := x0) (x1 := x1) (w := 24#32) rfl
  · exact clw arg19 (lseOf x7) (off := k0_off6 i) (hs4 c arg9 harg9 x7) (hc4 c arg9 harg9 x7) ⟨rfl, rfl, rfl⟩
  refine List.forall_mem_cons.2 ⟨Blk.piece_p0 (o := 256) (inb := inb_S640x2560_S128x128_0_256) _ 2 0 rfl rfl ⟨?_, ?_, ?_, ?_⟩, ?_⟩
  · exact ks (arg6 := arg6) (harg6 := harg6) (x4 := x4)
  · exact cq (arg5 := arg5) (harg5 := harg5) (x3 := x3) (gn := 2) (o := 0) rfl rfl
  · exact cqk (arg2 := arg2) (harg2 := harg2) (arg3 := arg3) (harg3 := harg3) (x0 := x0) (x1 := x1) (w := 16#32) rfl
  · exact clw arg19 (lseOf x7) (off := k0_off5 i) (hs4 c arg9 harg9 x7) (hc4 c arg9 harg9 x7) ⟨rfl, rfl, rfl⟩
  refine List.forall_mem_cons.2 ⟨Blk.piece_p0 (o := 128) (inb := inb_S640x2560_S128x128_0_128) _ 1 0 rfl rfl ⟨?_, ?_, ?_, ?_⟩, ?_⟩
  · exact ks (arg6 := arg6) (harg6 := harg6) (x4 := x4)
  · exact cq (arg5 := arg5) (harg5 := harg5) (x3 := x3) (gn := 1) (o := 0) rfl rfl
  · exact cqk (arg2 := arg2) (harg2 := harg2) (arg3 := arg3) (harg3 := harg3) (x0 := x0) (x1 := x1) (w := 8#32) rfl
  · exact clw arg19 (lseOf x7) (off := k0_off4 i) (hs4 c arg9 harg9 x7) (hc4 c arg9 harg9 x7) ⟨rfl, rfl, rfl⟩
  refine List.forall_mem_cons.2 ⟨Blk.piece_p0 (o := 0) (inb := inb_S640x2560_S128x128_0_0) _ 0 0 rfl rfl ⟨?_, ?_, ?_, ?_⟩, ?_⟩
  · exact ks (arg6 := arg6) (harg6 := harg6) (x4 := x4)
  · exact cq (arg5 := arg5) (harg5 := harg5) (x3 := x3) (gn := 0) (o := 0) rfl rfl
  · exact cqk (arg2 := arg2) (harg2 := harg2) (arg3 := arg3) (harg3 := harg3) (x0 := x0) (x1 := x1) (w := 0#32) rfl
  · exact clw arg19 (lseOf x7) (off := k0_off3 i) (hs4 c arg9 harg9 x7) (hc4 c arg9 harg9 x7) ⟨rfl, rfl, rfl⟩
  exact List.forall_mem_nil _

set_option maxHeartbeats 1000000 in
/-- Every store into the scaled queries' scratch holds the scaled queries. -/
theorem hs2 : ∀ p ∈ (kernelRun0_C.sl.HS2_20 (F := Ideal) c i arg2 harg2 arg5 harg5 x0 x3), ∀ x : p.1.shape.Idx, p.2 x = (ptOf (head i) x0 x1 x2 x3 x4 x5 x6 x8 x9 (lseOf x7)).c17 (p.1.emb x 0) (p.1.emb x 1) := by
  unfold kernelRun0_C.sl.HS2_20
  refine List.forall_mem_cons.2 ⟨spq (arg2 := arg2) (harg2 := harg2) (arg5 := arg5) (harg5 := harg5) (x0 := x0) (x3 := x3) (g := 3) (b := 4) (w := 24#32) (gn := 3) (o := 512) (on := 2432) (inb := inb_S96x2560_S96x128_0_2432) rfl rfl rfl rfl, ?_⟩
  refine List.forall_mem_cons.2 ⟨spq (arg2 := arg2) (harg2 := harg2) (arg5 := arg5) (harg5 := harg5) (x0 := x0) (x3 := x3) (g := 2) (b := 4) (w := 16#32) (gn := 2) (o := 512) (on := 2304) (inb := inb_S96x2560_S96x128_0_2304) rfl rfl rfl rfl, ?_⟩
  refine List.forall_mem_cons.2 ⟨spq (arg2 := arg2) (harg2 := harg2) (arg5 := arg5) (harg5 := harg5) (x0 := x0) (x3 := x3) (g := 1) (b := 4) (w := 8#32) (gn := 1) (o := 512) (on := 2176) (inb := inb_S96x2560_S96x128_0_2176) rfl rfl rfl rfl, ?_⟩
  refine List.forall_mem_cons.2 ⟨spq (arg2 := arg2) (harg2 := harg2) (arg5 := arg5) (harg5 := harg5) (x0 := x0) (x3 := x3) (g := 0) (b := 4) (w := 0#32) (gn := 0) (o := 512) (on := 2048) (inb := inb_S96x2560_S96x128_0_2048) rfl rfl rfl rfl, ?_⟩
  refine List.forall_mem_cons.2 ⟨spq (arg2 := arg2) (harg2 := harg2) (arg5 := arg5) (harg5 := harg5) (x0 := x0) (x3 := x3) (g := 3) (b := 3) (w := 24#32) (gn := 3) (o := 384) (on := 1920) (inb := inb_S96x2560_S96x128_0_1920) rfl rfl rfl rfl, ?_⟩
  refine List.forall_mem_cons.2 ⟨spq (arg2 := arg2) (harg2 := harg2) (arg5 := arg5) (harg5 := harg5) (x0 := x0) (x3 := x3) (g := 2) (b := 3) (w := 16#32) (gn := 2) (o := 384) (on := 1792) (inb := inb_S96x2560_S96x128_0_1792) rfl rfl rfl rfl, ?_⟩
  refine List.forall_mem_cons.2 ⟨spq (arg2 := arg2) (harg2 := harg2) (arg5 := arg5) (harg5 := harg5) (x0 := x0) (x3 := x3) (g := 1) (b := 3) (w := 8#32) (gn := 1) (o := 384) (on := 1664) (inb := inb_S96x2560_S96x128_0_1664) rfl rfl rfl rfl, ?_⟩
  refine List.forall_mem_cons.2 ⟨spq (arg2 := arg2) (harg2 := harg2) (arg5 := arg5) (harg5 := harg5) (x0 := x0) (x3 := x3) (g := 0) (b := 3) (w := 0#32) (gn := 0) (o := 384) (on := 1536) (inb := inb_S96x2560_S96x128_0_1536) rfl rfl rfl rfl, ?_⟩
  refine List.forall_mem_cons.2 ⟨spq (arg2 := arg2) (harg2 := harg2) (arg5 := arg5) (harg5 := harg5) (x0 := x0) (x3 := x3) (g := 3) (b := 2) (w := 24#32) (gn := 3) (o := 256) (on := 1408) (inb := inb_S96x2560_S96x128_0_1408) rfl rfl rfl rfl, ?_⟩
  refine List.forall_mem_cons.2 ⟨spq (arg2 := arg2) (harg2 := harg2) (arg5 := arg5) (harg5 := harg5) (x0 := x0) (x3 := x3) (g := 2) (b := 2) (w := 16#32) (gn := 2) (o := 256) (on := 1280) (inb := inb_S96x2560_S96x128_0_1280) rfl rfl rfl rfl, ?_⟩
  refine List.forall_mem_cons.2 ⟨spq (arg2 := arg2) (harg2 := harg2) (arg5 := arg5) (harg5 := harg5) (x0 := x0) (x3 := x3) (g := 1) (b := 2) (w := 8#32) (gn := 1) (o := 256) (on := 1152) (inb := inb_S96x2560_S96x128_0_1152) rfl rfl rfl rfl, ?_⟩
  refine List.forall_mem_cons.2 ⟨spq (arg2 := arg2) (harg2 := harg2) (arg5 := arg5) (harg5 := harg5) (x0 := x0) (x3 := x3) (g := 0) (b := 2) (w := 0#32) (gn := 0) (o := 256) (on := 1024) (inb := inb_S96x2560_S96x128_0_1024) rfl rfl rfl rfl, ?_⟩
  refine List.forall_mem_cons.2 ⟨spq (arg2 := arg2) (harg2 := harg2) (arg5 := arg5) (harg5 := harg5) (x0 := x0) (x3 := x3) (g := 3) (b := 1) (w := 24#32) (gn := 3) (o := 128) (on := 896) (inb := inb_S96x2560_S96x128_0_896) rfl rfl rfl rfl, ?_⟩
  refine List.forall_mem_cons.2 ⟨spq (arg2 := arg2) (harg2 := harg2) (arg5 := arg5) (harg5 := harg5) (x0 := x0) (x3 := x3) (g := 2) (b := 1) (w := 16#32) (gn := 2) (o := 128) (on := 768) (inb := inb_S96x2560_S96x128_0_768) rfl rfl rfl rfl, ?_⟩
  refine List.forall_mem_cons.2 ⟨spq (arg2 := arg2) (harg2 := harg2) (arg5 := arg5) (harg5 := harg5) (x0 := x0) (x3 := x3) (g := 1) (b := 1) (w := 8#32) (gn := 1) (o := 128) (on := 640) (inb := inb_S96x2560_S96x128_0_640) rfl rfl rfl rfl, ?_⟩
  refine List.forall_mem_cons.2 ⟨spq (arg2 := arg2) (harg2 := harg2) (arg5 := arg5) (harg5 := harg5) (x0 := x0) (x3 := x3) (g := 0) (b := 1) (w := 0#32) (gn := 0) (o := 128) (on := 512) (inb := inb_S96x2560_S96x128_0_512) rfl rfl rfl rfl, ?_⟩
  refine List.forall_mem_cons.2 ⟨spq (arg2 := arg2) (harg2 := harg2) (arg5 := arg5) (harg5 := harg5) (x0 := x0) (x3 := x3) (g := 3) (b := 0) (w := 24#32) (gn := 3) (o := 0) (on := 384) (inb := inb_S96x2560_S96x128_0_384) rfl rfl rfl rfl, ?_⟩
  refine List.forall_mem_cons.2 ⟨spq (arg2 := arg2) (harg2 := harg2) (arg5 := arg5) (harg5 := harg5) (x0 := x0) (x3 := x3) (g := 2) (b := 0) (w := 16#32) (gn := 2) (o := 0) (on := 256) (inb := inb_S96x2560_S96x128_0_256) rfl rfl rfl rfl, ?_⟩
  refine List.forall_mem_cons.2 ⟨spq (arg2 := arg2) (harg2 := harg2) (arg5 := arg5) (harg5 := harg5) (x0 := x0) (x3 := x3) (g := 1) (b := 0) (w := 8#32) (gn := 1) (o := 0) (on := 128) (inb := inb_S96x2560_S96x128_0_128) rfl rfl rfl rfl, ?_⟩
  refine List.forall_mem_cons.2 ⟨spq (arg2 := arg2) (harg2 := harg2) (arg5 := arg5) (harg5 := harg5) (x0 := x0) (x3 := x3) (g := 0) (b := 0) (w := 0#32) (gn := 0) (o := 0) (on := 0) (inb := inb_S96x2560_S96x128_0_0) rfl rfl rfl rfl, ?_⟩
  exact List.forall_mem_nil _

set_option maxHeartbeats 1000000 in
/-- Every store into the scaled output gradients' scratch holds them. -/
theorem hs3 : ∀ p ∈ (kernelRun0_C.sl.HS3_20 (F := Ideal) c arg10 harg10 arg11 harg11 x8 x9), ∀ x : p.1.shape.Idx, p.2 x = (ptOf (head i) x0 x1 x2 x3 x4 x5 x6 x8 x9 (lseOf x7)).c18 (p.1.emb x 0) (p.1.emb x 1) := by
  unfold kernelRun0_C.sl.HS3_20
  refine List.forall_mem_cons.2 ⟨spo (arg10 := arg10) (harg10 := harg10) (arg11 := arg11) (harg11 := harg11) (x8 := x8) (x9 := x9) (g := 3) (b := 4) (gn := 3) (o := 512) (on := 2432) (hdo := slices_S1x640_o0_512_S1x128) (inb := inb_S96x2560_S96x128_0_2432) rfl rfl rfl, ?_⟩
  refine List.forall_mem_cons.2 ⟨spo (arg10 := arg10) (harg10 := harg10) (arg11 := arg11) (harg11 := harg11) (x8 := x8) (x9 := x9) (g := 2) (b := 4) (gn := 2) (o := 512) (on := 2304) (hdo := slices_S1x640_o0_512_S1x128) (inb := inb_S96x2560_S96x128_0_2304) rfl rfl rfl, ?_⟩
  refine List.forall_mem_cons.2 ⟨spo (arg10 := arg10) (harg10 := harg10) (arg11 := arg11) (harg11 := harg11) (x8 := x8) (x9 := x9) (g := 1) (b := 4) (gn := 1) (o := 512) (on := 2176) (hdo := slices_S1x640_o0_512_S1x128) (inb := inb_S96x2560_S96x128_0_2176) rfl rfl rfl, ?_⟩
  refine List.forall_mem_cons.2 ⟨spo (arg10 := arg10) (harg10 := harg10) (arg11 := arg11) (harg11 := harg11) (x8 := x8) (x9 := x9) (g := 0) (b := 4) (gn := 0) (o := 512) (on := 2048) (hdo := slices_S1x640_o0_512_S1x128) (inb := inb_S96x2560_S96x128_0_2048) rfl rfl rfl, ?_⟩
  refine List.forall_mem_cons.2 ⟨spo (arg10 := arg10) (harg10 := harg10) (arg11 := arg11) (harg11 := harg11) (x8 := x8) (x9 := x9) (g := 3) (b := 3) (gn := 3) (o := 384) (on := 1920) (hdo := slices_S1x640_o0_384_S1x128) (inb := inb_S96x2560_S96x128_0_1920) rfl rfl rfl, ?_⟩
  refine List.forall_mem_cons.2 ⟨spo (arg10 := arg10) (harg10 := harg10) (arg11 := arg11) (harg11 := harg11) (x8 := x8) (x9 := x9) (g := 2) (b := 3) (gn := 2) (o := 384) (on := 1792) (hdo := slices_S1x640_o0_384_S1x128) (inb := inb_S96x2560_S96x128_0_1792) rfl rfl rfl, ?_⟩
  refine List.forall_mem_cons.2 ⟨spo (arg10 := arg10) (harg10 := harg10) (arg11 := arg11) (harg11 := harg11) (x8 := x8) (x9 := x9) (g := 1) (b := 3) (gn := 1) (o := 384) (on := 1664) (hdo := slices_S1x640_o0_384_S1x128) (inb := inb_S96x2560_S96x128_0_1664) rfl rfl rfl, ?_⟩
  refine List.forall_mem_cons.2 ⟨spo (arg10 := arg10) (harg10 := harg10) (arg11 := arg11) (harg11 := harg11) (x8 := x8) (x9 := x9) (g := 0) (b := 3) (gn := 0) (o := 384) (on := 1536) (hdo := slices_S1x640_o0_384_S1x128) (inb := inb_S96x2560_S96x128_0_1536) rfl rfl rfl, ?_⟩
  refine List.forall_mem_cons.2 ⟨spo (arg10 := arg10) (harg10 := harg10) (arg11 := arg11) (harg11 := harg11) (x8 := x8) (x9 := x9) (g := 3) (b := 2) (gn := 3) (o := 256) (on := 1408) (hdo := slices_S1x640_o0_256_S1x128) (inb := inb_S96x2560_S96x128_0_1408) rfl rfl rfl, ?_⟩
  refine List.forall_mem_cons.2 ⟨spo (arg10 := arg10) (harg10 := harg10) (arg11 := arg11) (harg11 := harg11) (x8 := x8) (x9 := x9) (g := 2) (b := 2) (gn := 2) (o := 256) (on := 1280) (hdo := slices_S1x640_o0_256_S1x128) (inb := inb_S96x2560_S96x128_0_1280) rfl rfl rfl, ?_⟩
  refine List.forall_mem_cons.2 ⟨spo (arg10 := arg10) (harg10 := harg10) (arg11 := arg11) (harg11 := harg11) (x8 := x8) (x9 := x9) (g := 1) (b := 2) (gn := 1) (o := 256) (on := 1152) (hdo := slices_S1x640_o0_256_S1x128) (inb := inb_S96x2560_S96x128_0_1152) rfl rfl rfl, ?_⟩
  refine List.forall_mem_cons.2 ⟨spo (arg10 := arg10) (harg10 := harg10) (arg11 := arg11) (harg11 := harg11) (x8 := x8) (x9 := x9) (g := 0) (b := 2) (gn := 0) (o := 256) (on := 1024) (hdo := slices_S1x640_o0_256_S1x128) (inb := inb_S96x2560_S96x128_0_1024) rfl rfl rfl, ?_⟩
  refine List.forall_mem_cons.2 ⟨spo (arg10 := arg10) (harg10 := harg10) (arg11 := arg11) (harg11 := harg11) (x8 := x8) (x9 := x9) (g := 3) (b := 1) (gn := 3) (o := 128) (on := 896) (hdo := slices_S1x640_o0_128_S1x128) (inb := inb_S96x2560_S96x128_0_896) rfl rfl rfl, ?_⟩
  refine List.forall_mem_cons.2 ⟨spo (arg10 := arg10) (harg10 := harg10) (arg11 := arg11) (harg11 := harg11) (x8 := x8) (x9 := x9) (g := 2) (b := 1) (gn := 2) (o := 128) (on := 768) (hdo := slices_S1x640_o0_128_S1x128) (inb := inb_S96x2560_S96x128_0_768) rfl rfl rfl, ?_⟩
  refine List.forall_mem_cons.2 ⟨spo (arg10 := arg10) (harg10 := harg10) (arg11 := arg11) (harg11 := harg11) (x8 := x8) (x9 := x9) (g := 1) (b := 1) (gn := 1) (o := 128) (on := 640) (hdo := slices_S1x640_o0_128_S1x128) (inb := inb_S96x2560_S96x128_0_640) rfl rfl rfl, ?_⟩
  refine List.forall_mem_cons.2 ⟨spo (arg10 := arg10) (harg10 := harg10) (arg11 := arg11) (harg11 := harg11) (x8 := x8) (x9 := x9) (g := 0) (b := 1) (gn := 0) (o := 128) (on := 512) (hdo := slices_S1x640_o0_128_S1x128) (inb := inb_S96x2560_S96x128_0_512) rfl rfl rfl, ?_⟩
  refine List.forall_mem_cons.2 ⟨spo (arg10 := arg10) (harg10 := harg10) (arg11 := arg11) (harg11 := harg11) (x8 := x8) (x9 := x9) (g := 3) (b := 0) (gn := 3) (o := 0) (on := 384) (hdo := slices_S1x640_o0_0_S1x128) (inb := inb_S96x2560_S96x128_0_384) rfl rfl rfl, ?_⟩
  refine List.forall_mem_cons.2 ⟨spo (arg10 := arg10) (harg10 := harg10) (arg11 := arg11) (harg11 := harg11) (x8 := x8) (x9 := x9) (g := 2) (b := 0) (gn := 2) (o := 0) (on := 256) (hdo := slices_S1x640_o0_0_S1x128) (inb := inb_S96x2560_S96x128_0_256) rfl rfl rfl, ?_⟩
  refine List.forall_mem_cons.2 ⟨spo (arg10 := arg10) (harg10 := harg10) (arg11 := arg11) (harg11 := harg11) (x8 := x8) (x9 := x9) (g := 1) (b := 0) (gn := 1) (o := 0) (on := 128) (hdo := slices_S1x640_o0_0_S1x128) (inb := inb_S96x2560_S96x128_0_128) rfl rfl rfl, ?_⟩
  refine List.forall_mem_cons.2 ⟨spo (arg10 := arg10) (harg10 := harg10) (arg11 := arg11) (harg11 := harg11) (x8 := x8) (x9 := x9) (g := 0) (b := 0) (gn := 0) (o := 0) (on := 0) (hdo := slices_S1x640_o0_0_S1x128) (inb := inb_S96x2560_S96x128_0_0) rfl rfl rfl, ?_⟩
  exact List.forall_mem_nil _

end Cert.KernelIdeal.RunC

end
-- ==== Proof.GradsC.lean ====
/- What the stores into the scratch buffer of score gradients hold, in one case of the body. -/
module

public import proofs.«01_k».proof.Proof.LseC

@[expose] public section

set_option maxRecDepth 16384

noncomputable section

namespace Cert.KernelIdeal.RunC

open Idealize.ShloMosaic Idealize.ShloMosaic.TcCoe Cert.KernelIdeal.Gen

variable (c : Dev nD) (i : grid0.Coords)
  (arg2 : Memref sig .tc .smem S32 .f32) (harg2 : arg2.IsWhole) (arg3 : Memref sig .tc .smem S8 .f32) (harg3 : arg3.IsWhole)
  (arg4 : Memref sig .tc .smem S8 .f32) (harg4 : arg4.IsWhole) (arg5 : Memref sig .tc .vmem S1x4x1x96x640 .fp8e4m3) (harg5 : arg5.IsWhole)
  (arg6 : Memref sig .tc .vmem S1x1x96x640 .fp8e4m3) (harg6 : arg6.IsWhole) (arg7 : Memref sig .tc .vmem S1x1x96x640 .fp8e4m3) (harg7 : arg7.IsWhole)
  (arg8 : Memref sig .tc .vmem S1x4x1x96x640 .bf16) (harg8 : arg8.IsWhole) (arg9 : Memref sig .tc .vmem S1x4x8x640 .f32) (harg9 : arg9.IsWhole)
  (arg10 : Memref sig .tc .vmem S1x4x1x96x640 .fp8e5m2) (harg10 : arg10.IsWhole)
  (arg11 : Memref sig .tc .vmem S1x1x640 .f32) (harg11 : arg11.IsWhole)
  (arg15 : Memref sig .tc .vmem S640x2560 .bf16) (harg15 : arg15.IsWhole) (arg16 : Memref sig .tc .vmem S640x2560 .bf16) (harg16 : arg16.IsWhole)
  (arg17 : Memref sig .tc .vmem S96x2560 .bf16) (harg17 : arg17.IsWhole) (arg18 : Memref sig .tc .vmem S96x2560 .bf16) (harg18 : arg18.IsWhole)
  (arg19 : Memref sig .tc .vmem S8x4x640 .f32) (harg19 : arg19.IsWhole)
  (x0 : Vec Ideal S32 .f32) (x1 x2 : Vec Ideal S8 .f32) (x3 : Vec Ideal S1x4x1x96x640 .fp8e4m3) (x4 x5 : Vec Ideal S1x1x96x640 .fp8e4m3)
  (x6 : Vec Ideal S1x4x1x96x640 .bf16) (x7 : Vec Ideal S1x4x8x640 .f32) (x8 : Vec Ideal S1x4x1x96x640 .fp8e5m2) (x9 : Vec Ideal S1x1x640 .f32)
  (xs0 xs1 : Vec Ideal S640x2560 .bf16) (xs4 : Vec Ideal S8x4x640 .f32)

set_option maxHeartbeats 1000000 in
/-- Every store into the score gradients' scratch up to block 0 holds the score gradients. -/
theorem hs1_4 : ∀ p ∈ (kernelRun0_C.sl.HS1_4 (F := Ideal) c i arg2 harg2 arg3 harg3 arg4 harg4 arg5 harg5 arg6 harg6 arg7 harg7 arg8 harg8 arg9 harg9 arg10 harg10 arg11 harg11 arg19 x0 x1 x2 x3 x4 x5 x6 x7 x8 x9), ∀ x : p.1.shape.Idx, p.2 x = (ptOf (head i) x0 x1 x2 x3 x4 x5 x6 x8 x9 (lseOf x7)).c16 (p.1.emb x 0) (p.1.emb x 1) := by
  unfold kernelRun0_C.sl.HS1_4
  refine List.forall_mem_cons.2 ⟨Blk.piece_d0 (o := 384) (inb := inb_S640x2560_S128x128_0_384) _ 3 0 rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 3) (o := 0) rfl rfl
  · exact cqk (arg2 := arg2) (harg2 := harg2) (arg3 := arg3) (harg3 := harg3) (x0 := x0) (x1 := x1) (w := 24#32) rfl
  · exact clw arg19 (lseOf x7) (off := k0_off6 i) (hs4 c arg9 harg9 x7) (hc4 c arg9 harg9 x7) ⟨rfl, rfl, rfl⟩
  · exact vs (arg7 := arg7) (harg7 := harg7) (x5 := x5)
  · exact cdO (arg10 := arg10) (harg10 := harg10) (x8 := x8) (gn := 3) (o := 0) rfl rfl
  · exact csv (arg4 := arg4) (harg4 := harg4) (arg11 := arg11) (harg11 := harg11) (x2 := x2) (x9 := x9) (o := 0) (hdo := slices_S1x640_o0_0_S1x128) rfl
  · exact cdl (arg8 := arg8) (harg8 := harg8) (arg10 := arg10) (harg10 := harg10) (arg11 := arg11) (harg11 := harg11) (x6 := x6) (x8 := x8) (x9 := x9) (gn := 3) (o := 0) (hdo := slices_S1x640_o0_0_S1x128) (hle := by decide) rfl rfl
  refine List.forall_mem_cons.2 ⟨Blk.piece_d0 (o := 256) (inb := inb_S640x2560_S128x128_0_256) _ 2 0 rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 2) (o := 0) rfl rfl
  · exact cqk (arg2 := arg2) (harg2 := harg2) (arg3 := arg3) (harg3 := harg3) (x0 := x0) (x1 := x1) (w := 16#32) rfl
  · exact clw arg19 (lseOf x7) (off := k0_off5 i) (hs4 c arg9 harg9 x7) (hc4 c arg9 harg9 x7) ⟨rfl, rfl, rfl⟩
  · exact vs (arg7 := arg7) (harg7 := harg7) (x5 := x5)
  · exact cdO (arg10 := arg10) (harg10 := harg10) (x8 := x8) (gn := 2) (o := 0) rfl rfl
  · exact csv (arg4 := arg4) (harg4 := harg4) (arg11 := arg11) (harg11 := harg11) (x2 := x2) (x9 := x9) (o := 0) (hdo := slices_S1x640_o0_0_S1x128) rfl
  · exact cdl (arg8 := arg8) (harg8 := harg8) (arg10 := arg10) (harg10 := harg10) (arg11 := arg11) (harg11 := harg11) (x6 := x6) (x8 := x8) (x9 := x9) (gn := 2) (o := 0) (hdo := slices_S1x640_o0_0_S1x128) (hle := by decide) rfl rfl
  refine List.forall_mem_cons.2 ⟨Blk.piece_d0 (o := 128) (inb := inb_S640x2560_S128x128_0_128) _ 1 0 rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 1) (o := 0) rfl rfl
  · exact cqk (arg2 := arg2) (harg2 := harg2) (arg3 := arg3) (harg3 := harg3) (x0 := x0) (x1 := x1) (w := 8#32) rfl
  · exact clw arg19 (lseOf x7) (off := k0_off4 i) (hs4 c arg9 harg9 x7) (hc4 c arg9 harg9 x7) ⟨rfl, rfl, rfl⟩
  · exact vs (arg7 := arg7) (harg7 := harg7) (x5 := x5)
  · exact cdO (arg10 := arg10) (harg10 := harg10) (x8 := x8) (gn := 1) (o := 0) rfl rfl
  · exact csv (arg4 := arg4) (harg4 := harg4) (arg11 := arg11) (harg11 := harg11) (x2 := x2) (x9 := x9) (o := 0) (hdo := slices_S1x640_o0_0_S1x128) rfl
  · exact cdl (arg8 := arg8) (harg8 := harg8) (arg10 := arg10) (harg10 := harg10) (arg11 := arg11) (harg11 := harg11) (x6 := x6) (x8 := x8) (x9 := x9) (gn := 1) (o := 0) (hdo := slices_S1x640_o0_0_S1x128) (hle := by decide) rfl rfl
  refine List.forall_mem_cons.2 ⟨Blk.piece_d0 (o := 0) (inb := inb_S640x2560_S128x128_0_0) _ 0 0 rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 0) (o := 0) rfl rfl
  · exact cqk (arg2 := arg2) (harg2 := harg2) (arg3 := arg3) (harg3 := harg3) (x0 := x0) (x1 := x1) (w := 0#32) rfl
  · exact clw arg19 (lseOf x7) (off := k0_off3 i) (hs4 c arg9 harg9 x7) (hc4 c arg9 harg9 x7) ⟨rfl, rfl, rfl⟩
  · exact vs (arg7 := arg7) (harg7 := harg7) (x5 := x5)
  · exact cdO (arg10 := arg10) (harg10 := harg10) (x8 := x8) (gn := 0) (o := 0) rfl rfl
  · exact csv (arg4 := arg4) (harg4 := harg4) (arg11 := arg11) (harg11 := harg11) (x2 := x2) (x9 := x9) (o := 0) (hdo := slices_S1x640_o0_0_S1x128) rfl
  · exact cdl (arg8 := arg8) (harg8 := harg8) (arg10 := arg10) (harg10 := harg10) (arg11 := arg11) (harg11 := harg11) (x6 := x6) (x8 := x8) (x9 := x9) (gn := 0) (o := 0) (hdo := slices_S1x640_o0_0_S1x128) (hle := by decide) rfl rfl
  exact List.forall_mem_nil _

set_option maxHeartbeats 1000000 in
/-- Every store into the score gradients' scratch up to block 1 holds the score gradients. -/
theorem hs1_8 : ∀ p ∈ (kernelRun0_C.sl.HS1_8 (F := Ideal) c i arg2 harg2 arg3 harg3 arg4 harg4 arg5 harg5 arg6 harg6 arg7 harg7 arg8 harg8 arg9 harg9 arg10 harg10 arg11 harg11 arg19 x0 x1 x2 x3 x4 x5 x6 x7 x8 x9), ∀ x : p.1.shape.Idx, p.2 x = (ptOf (head i) x0 x1 x2 x3 x4 x5 x6 x8 x9 (lseOf x7)).c16 (p.1.emb x 0) (p.1.emb x 1) := by
  unfold kernelRun0_C.sl.HS1_8
  refine List.forall_mem_cons.2 ⟨Blk.piece_d (n := 256) (m := 128) (o := 896) (inb := inb_S640x2560_S256x128_0_896) _ 3 1 rfl rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 3) (o := 128) rfl rfl
  · exact cqk (arg2 := arg2) (harg2 := harg2) (arg3 := arg3) (harg3 := harg3) (x0 := x0) (x1 := x1) (w := 24#32) rfl
  · exact clw arg19 (lseOf x7) (off := k0_off10 i) (hs4 c arg9 harg9 x7) (hc4 c arg9 harg9 x7) ⟨rfl, rfl, rfl⟩
  · exact vs (arg7 := arg7) (harg7 := harg7) (x5 := x5)
  · exact cdO (arg10 := arg10) (harg10 := harg10) (x8 := x8) (gn := 3) (o := 128) rfl rfl
  · exact csv (arg4 := arg4) (harg4 := harg4) (arg11 := arg11) (harg11 := harg11) (x2 := x2) (x9 := x9) (o := 128) (hdo := slices_S1x640_o0_128_S1x128) rfl
  · exact cdl (arg8 := arg8) (harg8 := harg8) (arg10 := arg10) (harg10 := harg10) (arg11 := arg11) (harg11 := harg11) (x6 := x6) (x8 := x8) (x9 := x9) (gn := 3) (o := 128) (hdo := slices_S1x640_o0_128_S1x128) (hle := by decide) rfl rfl
  refine List.forall_mem_cons.2 ⟨Blk.piece_d (n := 256) (m := 128) (o := 768) (inb := inb_S640x2560_S256x128_0_768) _ 2 1 rfl rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 2) (o := 128) rfl rfl
  · exact cqk (arg2 := arg2) (harg2 := harg2) (arg3 := arg3) (harg3 := harg3) (x0 := x0) (x1 := x1) (w := 16#32) rfl
  · exact clw arg19 (lseOf x7) (off := k0_off9 i) (hs4 c arg9 harg9 x7) (hc4 c arg9 harg9 x7) ⟨rfl, rfl, rfl⟩
  · exact vs (arg7 := arg7) (harg7 := harg7) (x5 := x5)
  · exact cdO (arg10 := arg10) (harg10 := harg10) (x8 := x8) (gn := 2) (o := 128) rfl rfl
  · exact csv (arg4 := arg4) (harg4 := harg4) (arg11 := arg11) (harg11 := harg11) (x2 := x2) (x9 := x9) (o := 128) (hdo := slices_S1x640_o0_128_S1x128) rfl
  · exact cdl (arg8 := arg8) (harg8 := harg8) (arg10 := arg10) (harg10 := harg10) (arg11 := arg11) (harg11 := harg11) (x6 := x6) (x8 := x8) (x9 := x9) (gn := 2) (o := 128) (hdo := slices_S1x640_o0_128_S1x128) (hle := by decide) rfl rfl
  refine List.forall_mem_cons.2 ⟨Blk.piece_d (n := 256) (m := 128) (o := 640) (inb := inb_S640x2560_S256x128_0_640) _ 1 1 rfl rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 1) (o := 128) rfl rfl
  · exact cqk (arg2 := arg2) (harg2 := harg2) (arg3 := arg3) (harg3 := harg3) (x0 := x0) (x1 := x1) (w := 8#32) rfl
  · exact clw arg19 (lseOf x7) (off := k0_off8 i) (hs4 c arg9 harg9 x7) (hc4 c arg9 harg9 x7) ⟨rfl, rfl, rfl⟩
  · exact vs (arg7 := arg7) (harg7 := harg7) (x5 := x5)
  · exact cdO (arg10 := arg10) (harg10 := harg10) (x8 := x8) (gn := 1) (o := 128) rfl rfl
  · exact csv (arg4 := arg4) (harg4 := harg4) (arg11 := arg11) (harg11 := harg11) (x2 := x2) (x9 := x9) (o := 128) (hdo := slices_S1x640_o0_128_S1x128) rfl
  · exact cdl (arg8 := arg8) (harg8 := harg8) (arg10 := arg10) (harg10 := harg10) (arg11 := arg11) (harg11 := harg11) (x6 := x6) (x8 := x8) (x9 := x9) (gn := 1) (o := 128) (hdo := slices_S1x640_o0_128_S1x128) (hle := by decide) rfl rfl
  refine List.forall_mem_cons.2 ⟨Blk.piece_d (n := 256) (m := 128) (o := 512) (inb := inb_S640x2560_S256x128_0_512) _ 0 1 rfl rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 0) (o := 128) rfl rfl
  · exact cqk (arg2 := arg2) (harg2 := harg2) (arg3 := arg3) (harg3 := harg3) (x0 := x0) (x1 := x1) (w := 0#32) rfl
  · exact clw arg19 (lseOf x7) (off := k0_off7 i) (hs4 c arg9 harg9 x7) (hc4 c arg9 harg9 x7) ⟨rfl, rfl, rfl⟩
  · exact vs (arg7 := arg7) (harg7 := harg7) (x5 := x5)
  · exact cdO (arg10 := arg10) (harg10 := harg10) (x8 := x8) (gn := 0) (o := 128) rfl rfl
  · exact csv (arg4 := arg4) (harg4 := harg4) (arg11 := arg11) (harg11 := harg11) (x2 := x2) (x9 := x9) (o := 128) (hdo := slices_S1x640_o0_128_S1x128) rfl
  · exact cdl (arg8 := arg8) (harg8 := harg8) (arg10 := arg10) (harg10 := harg10) (arg11 := arg11) (harg11 := harg11) (x6 := x6) (x8 := x8) (x9 := x9) (gn := 0) (o := 128) (hdo := slices_S1x640_o0_128_S1x128) (hle := by decide) rfl rfl
  exact hs1_4 c i arg2 harg2 arg3 harg3 arg4 harg4 arg5 harg5 arg6 harg6 arg7 harg7 arg8 harg8 arg9 harg9 arg10 harg10 arg11 harg11 arg19 x0 x1 x2 x3 x4 x5 x6 x7 x8 x9

set_option maxHeartbeats 1000000 in
/-- Every store into the score gradients' scratch up to block 2 holds the score gradients. -/
theorem hs1_12 : ∀ p ∈ (kernelRun0_C.sl.HS1_12 (F := Ideal) c i arg2 harg2 arg3 harg3 arg4 harg4 arg5 harg5 arg6 harg6 arg7 harg7 arg8 harg8 arg9 harg9 arg10 harg10 arg11 harg11 arg19 x0 x1 x2 x3 x4 x5 x6 x7 x8 x9), ∀ x : p.1.shape.Idx, p.2 x = (ptOf (head i) x0 x1 x2 x3 x4 x5 x6 x8 x9 (lseOf x7)).c16 (p.1.emb x 0) (p.1.emb x 1) := by
  unfold kernelRun0_C.sl.HS1_12
  refine List.forall_mem_cons.2 ⟨Blk.piece_d (n := 384) (m := 256) (o := 1408) (inb := inb_S640x2560_S384x128_0_1408) _ 3 2 rfl rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 3) (o := 256) rfl rfl
  · exact cqk (arg2 := arg2) (harg2 := harg2) (arg3 := arg3) (harg3 := harg3) (x0 := x0) (x1 := x1) (w := 24#32) rfl
  · exact clw arg19 (lseOf x7) (off := k0_off14 i) (hs4 c arg9 harg9 x7) (hc4 c arg9 harg9 x7) ⟨rfl, rfl, rfl⟩
  · exact vs (arg7 := arg7) (harg7 := harg7) (x5 := x5)
  · exact cdO (arg10 := arg10) (harg10 := harg10) (x8 := x8) (gn := 3) (o := 256) rfl rfl
  · exact csv (arg4 := arg4) (harg4 := harg4) (arg11 := arg11) (harg11 := harg11) (x2 := x2) (x9 := x9) (o := 256) (hdo := slices_S1x640_o0_256_S1x128) rfl
  · exact cdl (arg8 := arg8) (harg8 := harg8) (arg10 := arg10) (harg10 := harg10) (arg11 := arg11) (harg11 := harg11) (x6 := x6) (x8 := x8) (x9 := x9) (gn := 3) (o := 256) (hdo := slices_S1x640_o0_256_S1x128) (hle := by decide) rfl rfl
  refine List.forall_mem_cons.2 ⟨Blk.piece_d (n := 384) (m := 256) (o := 1280) (inb := inb_S640x2560_S384x128_0_1280) _ 2 2 rfl rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 2) (o := 256) rfl rfl
  · exact cqk (arg2 := arg2) (harg2 := harg2) (arg3 := arg3) (harg3 := harg3) (x0 := x0) (x1 := x1) (w := 16#32) rfl
  · exact clw arg19 (lseOf x7) (off := k0_off13 i) (hs4 c arg9 harg9 x7) (hc4 c arg9 harg9 x7) ⟨rfl, rfl, rfl⟩
  · exact vs (arg7 := arg7) (harg7 := harg7) (x5 := x5)
  · exact cdO (arg10 := arg10) (harg10 := harg10) (x8 := x8) (gn := 2) (o := 256) rfl rfl
  · exact csv (arg4 := arg4) (harg4 := harg4) (arg11 := arg11) (harg11 := harg11) (x2 := x2) (x9 := x9) (o := 256) (hdo := slices_S1x640_o0_256_S1x128) rfl
  · exact cdl (arg8 := arg8) (harg8 := harg8) (arg10 := arg10) (harg10 := harg10) (arg11 := arg11) (harg11 := harg11) (x6 := x6) (x8 := x8) (x9 := x9) (gn := 2) (o := 256) (hdo := slices_S1x640_o0_256_S1x128) (hle := by decide) rfl rfl
  refine List.forall_mem_cons.2 ⟨Blk.piece_d (n := 384) (m := 256) (o := 1152) (inb := inb_S640x2560_S384x128_0_1152) _ 1 2 rfl rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 1) (o := 256) rfl rfl
  · exact cqk (arg2 := arg2) (harg2 := harg2) (arg3 := arg3) (harg3 := harg3) (x0 := x0) (x1 := x1) (w := 8#32) rfl
  · exact clw arg19 (lseOf x7) (off := k0_off12 i) (hs4 c arg9 harg9 x7) (hc4 c arg9 harg9 x7) ⟨rfl, rfl, rfl⟩
  · exact vs (arg7 := arg7) (harg7 := harg7) (x5 := x5)
  · exact cdO (arg10 := arg10) (harg10 := harg10) (x8 := x8) (gn := 1) (o := 256) rfl rfl
  · exact csv (arg4 := arg4) (harg4 := harg4) (arg11 := arg11) (harg11 := harg11) (x2 := x2) (x9 := x9) (o := 256) (hdo := slices_S1x640_o0_256_S1x128) rfl
  · exact cdl (arg8 := arg8) (harg8 := harg8) (arg10 := arg10) (harg10 := harg10) (arg11 := arg11) (harg11 := harg11) (x6 := x6) (x8 := x8) (x9 := x9) (gn := 1) (o := 256) (hdo := slices_S1x640_o0_256_S1x128) (hle := by decide) rfl rfl
  refine List.forall_mem_cons.2 ⟨Blk.piece_d (n := 384) (m := 256) (o := 1024) (inb := inb_S640x2560_S384x128_0_1024) _ 0 2 rfl rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 0) (o := 256) rfl rfl
  · exact cqk (arg2 := arg2) (harg2 := harg2) (arg3 := arg3) (harg3 := harg3) (x0 := x0) (x1 := x1) (w := 0#32) rfl
  · exact clw arg19 (lseOf x7) (off := k0_off11 i) (hs4 c arg9 harg9 x7) (hc4 c arg9 harg9 x7) ⟨rfl, rfl, rfl⟩
  · exact vs (arg7 := arg7) (harg7 := harg7) (x5 := x5)
  · exact cdO (arg10 := arg10) (harg10 := harg10) (x8 := x8) (gn := 0) (o := 256) rfl rfl
  · exact csv (arg4 := arg4) (harg4 := harg4) (arg11 := arg11) (harg11 := harg11) (x2 := x2) (x9 := x9) (o := 256) (hdo := slices_S1x640_o0_256_S1x128) rfl
  · exact cdl (arg8 := arg8) (harg8 := harg8) (arg10 := arg10) (harg10 := harg10) (arg11 := arg11) (harg11 := harg11) (x6 := x6) (x8 := x8) (x9 := x9) (gn := 0) (o := 256) (hdo := slices_S1x640_o0_256_S1x128) (hle := by decide) rfl rfl
  exact hs1_8 c i arg2 harg2 arg3 harg3 arg4 harg4 arg5 harg5 arg6 harg6 arg7 harg7 arg8 harg8 arg9 harg9 arg10 harg10 arg11 harg11 arg19 x0 x1 x2 x3 x4 x5 x6 x7 x8 x9

set_option maxHeartbeats 1000000 in
/-- Every store into the score gradients' scratch up to block 3 holds the score gradients. -/
theorem hs1_16 : ∀ p ∈ (kernelRun0_C.sl.HS1_16 (F := Ideal) c i arg2 harg2 arg3 harg3 arg4 harg4 arg5 harg5 arg6 harg6 arg7 harg7 arg8 harg8 arg9 harg9 arg10 harg10 arg11 harg11 arg19 x0 x1 x2 x3 x4 x5 x6 x7 x8 x9), ∀ x : p.1.shape.Idx, p.2 x = (ptOf (head i) x0 x1 x2 x3 x4 x5 x6 x8 x9 (lseOf x7)).c16 (p.1.emb x 0) (p.1.emb x 1) := by
  unfold kernelRun0_C.sl.HS1_16
  refine List.forall_mem_cons.2 ⟨Blk.piece_d (n := 512) (m := 384) (o := 1920) (inb := inb_S640x2560_S512x128_0_1920) _ 3 3 rfl rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 3) (o := 384) rfl rfl
  · exact cqk (arg2 := arg2) (harg2 := harg2) (arg3 := arg3) (harg3 := harg3) (x0 := x0) (x1 := x1) (w := 24#32) rfl
  · exact clw arg19 (lseOf x7) (off := k0_off18 i) (hs4 c arg9 harg9 x7) (hc4 c arg9 harg9 x7) ⟨rfl, rfl, rfl⟩
  · exact vs (arg7 := arg7) (harg7 := harg7) (x5 := x5)
  · exact cdO (arg10 := arg10) (harg10 := harg10) (x8 := x8) (gn := 3) (o := 384) rfl rfl
  · exact csv (arg4 := arg4) (harg4 := harg4) (arg11 := arg11) (harg11 := harg11) (x2 := x2) (x9 := x9) (o := 384) (hdo := slices_S1x640_o0_384_S1x128) rfl
  · exact cdl (arg8 := arg8) (harg8 := harg8) (arg10 := arg10) (harg10 := harg10) (arg11 := arg11) (harg11 := harg11) (x6 := x6) (x8 := x8) (x9 := x9) (gn := 3) (o := 384) (hdo := slices_S1x640_o0_384_S1x128) (hle := by decide) rfl rfl
  refine List.forall_mem_cons.2 ⟨Blk.piece_d (n := 512) (m := 384) (o := 1792) (inb := inb_S640x2560_S512x128_0_1792) _ 2 3 rfl rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 2) (o := 384) rfl rfl
  · exact cqk (arg2 := arg2) (harg2 := harg2) (arg3 := arg3) (harg3 := harg3) (x0 := x0) (x1 := x1) (w := 16#32) rfl
  · exact clw arg19 (lseOf x7) (off := k0_off17 i) (hs4 c arg9 harg9 x7) (hc4 c arg9 harg9 x7) ⟨rfl, rfl, rfl⟩
  · exact vs (arg7 := arg7) (harg7 := harg7) (x5 := x5)
  · exact cdO (arg10 := arg10) (harg10 := harg10) (x8 := x8) (gn := 2) (o := 384) rfl rfl
  · exact csv (arg4 := arg4) (harg4 := harg4) (arg11 := arg11) (harg11 := harg11) (x2 := x2) (x9 := x9) (o := 384) (hdo := slices_S1x640_o0_384_S1x128) rfl
  · exact cdl (arg8 := arg8) (harg8 := harg8) (arg10 := arg10) (harg10 := harg10) (arg11 := arg11) (harg11 := harg11) (x6 := x6) (x8 := x8) (x9 := x9) (gn := 2) (o := 384) (hdo := slices_S1x640_o0_384_S1x128) (hle := by decide) rfl rfl
  refine List.forall_mem_cons.2 ⟨Blk.piece_d (n := 512) (m := 384) (o := 1664) (inb := inb_S640x2560_S512x128_0_1664) _ 1 3 rfl rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 1) (o := 384) rfl rfl
  · exact cqk (arg2 := arg2) (harg2 := harg2) (arg3 := arg3) (harg3 := harg3) (x0 := x0) (x1 := x1) (w := 8#32) rfl
  · exact clw arg19 (lseOf x7) (off := k0_off16 i) (hs4 c arg9 harg9 x7) (hc4 c arg9 harg9 x7) ⟨rfl, rfl, rfl⟩
  · exact vs (arg7 := arg7) (harg7 := harg7) (x5 := x5)
  · exact cdO (arg10 := arg10) (harg10 := harg10) (x8 := x8) (gn := 1) (o := 384) rfl rfl
  · exact csv (arg4 := arg4) (harg4 := harg4) (arg11 := arg11) (harg11 := harg11) (x2 := x2) (x9 := x9) (o := 384) (hdo := slices_S1x640_o0_384_S1x128) rfl
  · exact cdl (arg8 := arg8) (harg8 := harg8) (arg10 := arg10) (harg10 := harg10) (arg11 := arg11) (harg11 := harg11) (x6 := x6) (x8 := x8) (x9 := x9) (gn := 1) (o := 384) (hdo := slices_S1x640_o0_384_S1x128) (hle := by decide) rfl rfl
  refine List.forall_mem_cons.2 ⟨Blk.piece_d (n := 512) (m := 384) (o := 1536) (inb := inb_S640x2560_S512x128_0_1536) _ 0 3 rfl rfl rfl ⟨?_, ?_, ?_, ?_⟩ ⟨?_, ?_, ?_, ?_⟩, ?_⟩
  · exact ks (arg6 := arg6) (harg6 := harg6) (x4 := x4)
  · exact cq (arg5 := arg5) (harg5 := harg5) (x3 := x3) (gn := 0) (o := 384) rfl rfl
  · exact cqk (arg2 := arg2) (harg2 := harg2) (arg3 := arg3) (harg3 := harg3) (x0 := x0) (x1 := x1) (w := 0#32) rfl
  · exact clw arg19 (lseOf x7) (off := k0_off15 i) (hs4 c arg9 harg9 x7) (hc4 c arg9 harg9 x7) ⟨rfl, rfl, rfl⟩
  · exact vs (arg7 := arg7) (harg7 := harg7) (x5 := x5)
  · exact cdO (arg10 := arg10) (harg10 := harg10) (x8 := x8) (gn := 0) (o := 384) rfl rfl
  · exact csv (arg4 := arg4) (harg4 := harg4) (arg11 := arg11) (harg11 := harg11) (x2 := x2) (x9 := x9) (o := 384) (hdo := slices_S1x640_o0_384_S1x128) rfl
  · exact cdl (arg8 := arg8) (harg8 := harg8) (arg10 := arg10) (harg10 := harg10) (arg11 := arg11) (harg11 := harg11) (x6 := x6) (x8 := x8) (x9 := x9) (gn := 0) (o := 384) (hdo := slices_S1x640_o0_384_S1x128) (hle := by decide) rfl rfl
  exact hs1_12 c i arg2 harg2 arg3 harg3 arg4 harg4 arg5 harg5 arg6 harg6 arg7 harg7 arg8 harg8 arg9 harg9 arg10 harg10 arg11 harg11 arg19 x0 x1 x2 x3 x4 x5 x6 x7 x8 x9

set_option maxHeartbeats 1000000 in
/-- Every store into the score gradients' scratch up to block 4 holds the score gradients. -/
theorem hs1_20 : ∀ p ∈ (kernelRun0_C.sl.HS1_20 (F := Ideal) c i arg2 harg2 arg3 harg3 arg4 harg4 arg5 harg5 arg6 harg6 arg7 harg7 arg8 harg8 arg9 harg9 arg10 harg10 arg11 harg11 arg19 x0 x1 x2 x3 x4 x5 x6 x7 x8 x9), ∀ x : p.1.shape.Idx, p.2 x = (ptOf (head i) x0 x1 x2 x3 x4 x5 x6 x8 x9 (lseOf x7)).c16 (p.1.emb x 0) (p.1.emb x 1) := by
  unfold kernelRun0_C.sl.HS1_20
  refine List.forall_mem_cons.2 ⟨Blk.piece_d (n := 640) (m := 512) (o := 2432) (inb := inb_S640x2560_S640x128_0_2432) _ 3 4 rfl rfl rfl ⟨?_, ?_, ?_, ?_⟩ ⟨?_, ?_, ?_, ?_⟩, ?_⟩
  · exact kw (arg6 := arg6) (harg6 := harg6) (x4 := x4)
  · exact cq (arg5 := arg5) (harg5 := harg5) (x3 := x3) (gn := 3) (o := 512) rfl rfl
  · exact cqk (arg2 := arg2) (harg2 := harg2) (arg3 := arg3) (harg3 := harg3) (x0 := x0) (x1 := x1) (w := 24#32) rfl
  · exact clw arg19 (lseOf x7) (off := k0_off22 i) (hs4 c arg9 harg9 x7) (hc4 c arg9 harg9 x7) ⟨rfl, rfl, rfl⟩
  · exact vw (arg7 := arg7) (harg7 := harg7) (x5 := x5)
  · exact cdO (arg10 := arg10) (harg10 := harg10) (x8 := x8) (gn := 3) (o := 512) rfl rfl
  · exact csv (arg4 := arg4) (harg4 := harg4) (arg11 := arg11) (harg11 := harg11) (x2 := x2) (x9 := x9) (o := 512) (hdo := slices_S1x640_o0_512_S1x128) rfl
  · exact cdl (arg8 := arg8) (harg8 := harg8) (arg10 := arg10) (harg10 := harg10) (arg11 := arg11) (harg11 := harg11) (x6 := x6) (x8 := x8) (x9 := x9) (gn := 3) (o := 512) (hdo := slices_S1x640_o0_512_S1x128) (hle := by decide) rfl rfl
  refine List.forall_mem_cons.2 ⟨Blk.piece_d (n := 640) (m := 512) (o := 2304) (inb := inb_S640x2560_S640x128_0_2304) _ 2 4 rfl rfl rfl ⟨?_, ?_, ?_, ?_⟩ ⟨?_, ?_, ?_, ?_⟩, ?_⟩
  · exact kw (arg6 := arg6) (harg6 := harg6) (x4 := x4)
  · exact cq (arg5 := arg5) (harg5 := harg5) (x3 := x3) (gn := 2) (o := 512) rfl rfl
  · exact cqk (arg2 := arg2) (harg2 := harg2) (arg3 := arg3) (harg3 := harg3) (x0 := x0) (x1 := x1) (w := 16#32) rfl
  · exact clw arg19 (lseOf x7) (off := k0_off21 i) (hs4 c arg9 harg9 x7) (hc4 c arg9 harg9 x7) ⟨rfl, rfl, rfl⟩
  · exact vw (arg7 := arg7) (harg7 := harg7) (x5 := x5)
  · exact cdO (arg10 := arg10) (harg10 := harg10) (x8 := x8) (gn := 2) (o := 512) rfl rfl
  · exact csv (arg4 := arg4) (harg4 := harg4) (arg11 := arg11) (harg11 := harg11) (x2 := x2) (x9 := x9) (o := 512) (hdo := slices_S1x640_o0_512_S1x128) rfl
  · exact cdl (arg8 := arg8) (harg8 := harg8) (arg10 := arg10) (harg10 := harg10) (arg11 := arg11) (harg11 := harg11) (x6 := x6) (x8 := x8) (x9 := x9) (gn := 2) (o := 512) (hdo := slices_S1x640_o0_512_S1x128) (hle := by decide) rfl rfl
  refine List.forall_mem_cons.2 ⟨Blk.piece_d (n := 640) (m := 512) (o := 2176) (inb := inb_S640x2560_S640x128_0_2176) _ 1 4 rfl rfl rfl ⟨?_, ?_, ?_, ?_⟩ ⟨?_, ?_, ?_, ?_⟩, ?_⟩
  · exact kw (arg6 := arg6) (harg6 := harg6) (x4 := x4)
  · exact cq (arg5 := arg5) (harg5 := harg5) (x3 := x3) (gn := 1) (o := 512) rfl rfl
  · exact cqk (arg2 := arg2) (harg2 := harg2) (arg3 := arg3) (harg3 := harg3) (x0 := x0) (x1 := x1) (w := 8#32) rfl
  · exact clw arg19 (lseOf x7) (off := k0_off20 i) (hs4 c arg9 harg9 x7) (hc4 c arg9 harg9 x7) ⟨rfl, rfl, rfl⟩
  · exact vw (arg7 := arg7) (harg7 := harg7) (x5 := x5)
  · exact cdO (arg10 := arg10) (harg10 := harg10) (x8 := x8) (gn := 1) (o := 512) rfl rfl
  · exact csv (arg4 := arg4) (harg4 := harg4) (arg11 := arg11) (harg11 := harg11) (x2 := x2) (x9 := x9) (o := 512) (hdo := slices_S1x640_o0_512_S1x128) rfl
  · exact cdl (arg8 := arg8) (harg8 := harg8) (arg10 := arg10) (harg10 := harg10) (arg11 := arg11) (harg11 := harg11) (x6 := x6) (x8 := x8) (x9 := x9) (gn := 1) (o := 512) (hdo := slices_S1x640_o0_512_S1x128) (hle := by decide) rfl rfl
  refine List.forall_mem_cons.2 ⟨Blk.piece_d (n := 640) (m := 512) (o := 2048) (inb := inb_S640x2560_S640x128_0_2048) _ 0 4 rfl rfl rfl ⟨?_, ?_, ?_, ?_⟩ ⟨?_, ?_, ?_, ?_⟩, ?_⟩
  · exact kw (arg6 := arg6) (harg6 := harg6) (x4 := x4)
  · exact cq (arg5 := arg5) (harg5 := harg5) (x3 := x3) (gn := 0) (o := 512) rfl rfl
  · exact cqk (arg2 := arg2) (harg2 := harg2) (arg3 := arg3) (harg3 := harg3) (x0 := x0) (x1 := x1) (w := 0#32) rfl
  · exact clw arg19 (lseOf x7) (off := k0_off19 i) (hs4 c arg9 harg9 x7) (hc4 c arg9 harg9 x7) ⟨rfl, rfl, rfl⟩
  · exact vw (arg7 := arg7) (harg7 := harg7) (x5 := x5)
  · exact cdO (arg10 := arg10) (harg10 := harg10) (x8 := x8) (gn := 0) (o := 512) rfl rfl
  · exact csv (arg4 := arg4) (harg4 := harg4) (arg11 := arg11) (harg11 := harg11) (x2 := x2) (x9 := x9) (o := 512) (hdo := slices_S1x640_o0_512_S1x128) rfl
  · exact cdl (arg8 := arg8) (harg8 := harg8) (arg10 := arg10) (harg10 := harg10) (arg11 := arg11) (harg11 := harg11) (x6 := x6) (x8 := x8) (x9 := x9) (gn := 0) (o := 512) (hdo := slices_S1x640_o0_512_S1x128) (hle := by decide) rfl rfl
  exact hs1_16 c i arg2 harg2 arg3 harg3 arg4 harg4 arg5 harg5 arg6 harg6 arg7 harg7 arg8 harg8 arg9 harg9 arg10 harg10 arg11 harg11 arg19 x0 x1 x2 x3 x4 x5 x6 x7 x8 x9

end Cert.KernelIdeal.RunC

end
-- ==== Proof.OutsC.lean ====
/- What one case of the body leaves in the results' staging buffers and in the scratch it carries. -/
module

public import proofs.«01_k».proof.Proof.StoresC
public import proofs.«01_k».proof.Proof.GradsC
public import proofs.«01_k».proof.Proof.Cover

@[expose] public section

set_option maxRecDepth 16384

noncomputable section

namespace Cert.KernelIdeal.RunC

open Idealize.ShloMosaic Idealize.ShloMosaic.TcCoe Cert.KernelIdeal.Gen

variable (c : Dev nD) (i : grid0.Coords)
  (arg2 : Memref sig .tc .smem S32 .f32) (harg2 : arg2.IsWhole) (arg3 : Memref sig .tc .smem S8 .f32) (harg3 : arg3.IsWhole)
  (arg4 : Memref sig .tc .smem S8 .f32) (harg4 : arg4.IsWhole) (arg5 : Memref sig .tc .vmem S1x4x1x96x640 .fp8e4m3) (harg5 : arg5.IsWhole)
  (arg6 : Memref sig .tc .vmem S1x1x96x640 .fp8e4m3) (harg6 : arg6.IsWhole) (arg7 : Memref sig .tc .vmem S1x1x96x640 .fp8e4m3) (harg7 : arg7.IsWhole)
  (arg8 : Memref sig .tc .vmem S1x4x1x96x640 .bf16) (harg8 : arg8.IsWhole) (arg9 : Memref sig .tc .vmem S1x4x8x640 .f32) (harg9 : arg9.IsWhole)
  (arg10 : Memref sig .tc .vmem S1x4x1x96x640 .fp8e5m2) (harg10 : arg10.IsWhole)
  (arg11 : Memref sig .tc .vmem S1x1x640 .f32) (harg11 : arg11.IsWhole)
  (arg12 : Memref sig .tc .vmem S1x4x1x96x640 .bf16) (harg12 : arg12.IsWhole) (arg13 : Memref sig .tc .vmem S1x1x96x640 .bf16) (harg13 : arg13.IsWhole)
  (arg14 : Memref sig .tc .vmem S1x1x96x640 .bf16) (harg14 : arg14.IsWhole)
  (arg15 : Memref sig .tc .vmem S640x2560 .bf16) (harg15 : arg15.IsWhole) (arg16 : Memref sig .tc .vmem S640x2560 .bf16) (harg16 : arg16.IsWhole)
  (arg17 : Memref sig .tc .vmem S96x2560 .bf16) (harg17 : arg17.IsWhole) (arg18 : Memref sig .tc .vmem S96x2560 .bf16) (harg18 : arg18.IsWhole)
  (arg19 : Memref sig .tc .vmem S8x4x640 .f32) (harg19 : arg19.IsWhole)
  (x0 : Vec Ideal S32 .f32) (x1 x2 : Vec Ideal S8 .f32) (x3 : Vec Ideal S1x4x1x96x640 .fp8e4m3) (x4 x5 : Vec Ideal S1x1x96x640 .fp8e4m3)
  (x6 : Vec Ideal S1x4x1x96x640 .bf16) (x7 : Vec Ideal S1x4x8x640 .f32) (x8 : Vec Ideal S1x4x1x96x640 .fp8e5m2) (x9 : Vec Ideal S1x1x640 .f32)
  (xs0 xs1 : Vec Ideal S640x2560 .bf16) (xs4 : Vec Ideal S8x4x640 .f32)
  (hc0 : ¬cond0_0 i) (hc1 : cond0_1 i)
  (v : View sig .tc .vmem S640x2560 .bf16) (f : v.ty.Contents (Elt Ideal)) (v' : View sig .tc .vmem S96x2560 .bf16) (f' : v'.ty.Contents (Elt Ideal))

/-- Block 0 of the scratch holds its closed form once it is stored. -/
theorem b16_0 {r : Fin 640} {w : Fin 2560} (hr : r.val < 128) (hw : w.val / 512 = 0) :
    v.read (Elt Ideal) (v.writes (Elt Ideal) f (kernelRun0_C.sl.HS1_4 (F := Ideal) c i arg2 harg2 arg3 harg3 arg4 harg4 arg5 harg5 arg6 harg6 arg7 harg7 arg8 harg8 arg9 harg9 arg10 harg10 arg11 harg11 arg19 x0 x1 x2 x3 x4 x5 x6 x7 x8 x9)) (ix2 r w) = (ptOf (head i) x0 x1 x2 x3 x4 x5 x6 x8 x9 (lseOf x7)).c16 r w := by
  exact blk v (L := (kernelRun0_C.sl.HS1_4 (F := Ideal) c i arg2 harg2 arg3 harg3 arg4 harg4 arg5 harg5 arg6 harg6 arg7 harg7 arg8 harg8 arg9 harg9 arg10 harg10 arg11 harg11 arg19 x0 x1 x2 x3 x4 x5 x6 x7 x8 x9)) _ (hs1_4 c i arg2 harg2 arg3 harg3 arg4 harg4 arg5 harg5 arg6 harg6 arg7 harg7 arg8 harg8 arg9 harg9 arg10 harg10 arg11 harg11 arg19 x0 x1 x2 x3 x4 x5 x6 x7 x8 x9) (b := 0) (fun g => match g with | ⟨0, _⟩ => rfl | ⟨1, _⟩ => rfl | ⟨2, _⟩ => rfl | ⟨3, _⟩ => rfl) hr hw

/-- Block 1 of the scratch holds its closed form once it is stored. -/
theorem b16_1 {r : Fin 640} {w : Fin 2560} (hr : r.val < 256) (hw : w.val / 512 = 1) :
    v.read (Elt Ideal) (v.writes (Elt Ideal) f (kernelRun0_C.sl.HS1_8 (F := Ideal) c i arg2 harg2 arg3 harg3 arg4 harg4 arg5 harg5 arg6 harg6 arg7 harg7 arg8 harg8 arg9 harg9 arg10 harg10 arg11 harg11 arg19 x0 x1 x2 x3 x4 x5 x6 x7 x8 x9)) (ix2 r w) = (ptOf (head i) x0 x1 x2 x3 x4 x5 x6 x8 x9 (lseOf x7)).c16 r w := by
  exact blk v (L := (kernelRun0_C.sl.HS1_8 (F := Ideal) c i arg2 harg2 arg3 harg3 arg4 harg4 arg5 harg5 arg6 harg6 arg7 harg7 arg8 harg8 arg9 harg9 arg10 harg10 arg11 harg11 arg19 x0 x1 x2 x3 x4 x5 x6 x7 x8 x9)) _ (hs1_8 c i arg2 harg2 arg3 harg3 arg4 harg4 arg5 harg5 arg6 harg6 arg7 harg7 arg8 harg8 arg9 harg9 arg10 harg10 arg11 harg11 arg19 x0 x1 x2 x3 x4 x5 x6 x7 x8 x9) (b := 1) (fun g => match g with | ⟨0, _⟩ => rfl | ⟨1, _⟩ => rfl | ⟨2, _⟩ => rfl | ⟨3, _⟩ => rfl) hr hw

/-- Block 2 of the scratch holds its closed form once it is stored. -/
theorem b16_2 {r : Fin 640} {w : Fin 2560} (hr : r.val < 384) (hw : w.val / 512 = 2) :
    v.read (Elt Ideal) (v.writes (Elt Ideal) f (kernelRun0_C.sl.HS1_12 (F := Ideal) c i arg2 harg2 arg3 harg3 arg4 harg4 arg5 harg5 arg6 harg6 arg7 harg7 arg8 harg8 arg9 harg9 arg10 harg10 arg11 harg11 arg19 x0 x1 x2 x3 x4 x5 x6 x7 x8 x9)) (ix2 r w) = (ptOf (head i) x0 x1 x2 x3 x4 x5 x6 x8 x9 (lseOf x7)).c16 r w := by
  exact blk v (L := (kernelRun0_C.sl.HS1_12 (F := Ideal) c i arg2 harg2 arg3 harg3 arg4 harg4 arg5 harg5 arg6 harg6 arg7 harg7 arg8 harg8 arg9 harg9 arg10 harg10 arg11 harg11 arg19 x0 x1 x2 x3 x4 x5 x6 x7 x8 x9)) _ (hs1_12 c i arg2 harg2 arg3 harg3 arg4 harg4 arg5 harg5 arg6 harg6 arg7 harg7 arg8 harg8 arg9 harg9 arg10 harg10 arg11 harg11 arg19 x0 x1 x2 x3 x4 x5 x6 x7 x8 x9) (b := 2) (fun g => match g with | ⟨0, _⟩ => rfl | ⟨1, _⟩ => rfl | ⟨2, _⟩ => rfl | ⟨3, _⟩ => rfl) hr hw

/-- Block 3 of the scratch holds its closed form once it is stored. -/
theorem b16_3 {r : Fin 640} {w : Fin 2560} (hr : r.val < 512) (hw : w.val / 512 = 3) :
    v.read (Elt Ideal) (v.writes (Elt Ideal) f (kernelRun0_C.sl.HS1_16 (F := Ideal) c i arg2 harg2 arg3 harg3 arg4 harg4 arg5 harg5 arg6 harg6 arg7 harg7 arg8 harg8 arg9 harg9 arg10 harg10 arg11 harg11 arg19 x0 x1 x2 x3 x4 x5 x6 x7 x8 x9)) (ix2 r w) = (ptOf (head i) x0 x1 x2 x3 x4 x5 x6 x8 x9 (lseOf x7)).c16 r w := by
  exact blk v (L := (kernelRun0_C.sl.HS1_16 (F := Ideal) c i arg2 harg2 arg3 harg3 arg4 harg4 arg5 harg5 arg6 harg6 arg7 harg7 arg8 harg8 arg9 harg9 arg10 harg10 arg11 harg11 arg19 x0 x1 x2 x3 x4 x5 x6 x7 x8 x9)) _ (hs1_16 c i arg2 harg2 arg3 harg3 arg4 harg4 arg5 harg5 arg6 harg6 arg7 harg7 arg8 harg8 arg9 harg9 arg10 harg10 arg11 harg11 arg19 x0 x1 x2 x3 x4 x5 x6 x7 x8 x9) (b := 3) (fun g => match g with | ⟨0, _⟩ => rfl | ⟨1, _⟩ => rfl | ⟨2, _⟩ => rfl | ⟨3, _⟩ => rfl) hr hw

/-- Block 4 of the scratch holds its closed form once it is stored. -/
theorem b16_4 {r : Fin 640} {w : Fin 2560} (hr : r.val < 640) (hw : w.val / 512 = 4) :
    v.read (Elt Ideal) (v.writes (Elt Ideal) f (kernelRun0_C.sl.HS1_20 (F := Ideal) c i arg2 harg2 arg3 harg3 arg4 harg4 arg5 harg5 arg6 harg6 arg7 harg7 arg8 harg8 arg9 harg9 arg10 harg10 arg11 harg11 arg19 x0 x1 x2 x3 x4 x5 x6 x7 x8 x9)) (ix2 r w) = (ptOf (head i) x0 x1 x2 x3 x4 x5 x6 x8 x9 (lseOf x7)).c16 r w := by
  exact blk v (L := (kernelRun0_C.sl.HS1_20 (F := Ideal) c i arg2 harg2 arg3 harg3 arg4 harg4 arg5 harg5 arg6 harg6 arg7 harg7 arg8 harg8 arg9 harg9 arg10 harg10 arg11 harg11 arg19 x0 x1 x2 x3 x4 x5 x6 x7 x8 x9)) _ (hs1_20 c i arg2 harg2 arg3 harg3 arg4 harg4 arg5 harg5 arg6 harg6 arg7 harg7 arg8 harg8 arg9 harg9 arg10 harg10 arg11 harg11 arg19 x0 x1 x2 x3 x4 x5 x6 x7 x8 x9) (b := 4) (fun g => match g with | ⟨0, _⟩ => rfl | ⟨1, _⟩ => rfl | ⟨2, _⟩ => rfl | ⟨3, _⟩ => rfl) hr hw

/-- Block 4 of the scratch holds its closed form once it is stored. -/
theorem b15_4 {r : Fin 640} {w : Fin 2560} (hr : r.val < 640) (hw : w.val / 512 = 4) :
    v.read (Elt Ideal) (v.writes (Elt Ideal) f (kernelRun0_C.sl.HS0_20 (F := Ideal) c i arg2 harg2 arg3 harg3 arg5 harg5 arg6 harg6 arg9 harg9 arg19 x0 x1 x3 x4 x7)) (ix2 r w) = (ptOf (head i) x0 x1 x2 x3 x4 x5 x6 x8 x9 (lseOf x7)).c15 r w := by
  exact blk v (L := (kernelRun0_C.sl.HS0_20 (F := Ideal) c i arg2 harg2 arg3 harg3 arg5 harg5 arg6 harg6 arg9 harg9 arg19 x0 x1 x3 x4 x7)) _ (hs0 c i arg2 harg2 arg3 harg3 arg5 harg5 arg6 harg6 arg9 harg9 arg19 x0 x1 x2 x3 x4 x5 x6 x7 x8 x9) (b := 4) (fun g => match g with | ⟨0, _⟩ => rfl | ⟨1, _⟩ => rfl | ⟨2, _⟩ => rfl | ⟨3, _⟩ => rfl) hr hw

/-- The whole scratch holds its closed form after the point. -/
theorem f16 (hf : ∀ (r : Fin 640) (w : Fin 2560), (pos w).val < r.val → v.read (Elt Ideal) f (ix2 r w) = 0) (r : Fin 640) (w : Fin 2560) :
    v.read (Elt Ideal) (v.writes (Elt Ideal) f (kernelRun0_C.sl.HS1_20 (F := Ideal) c i arg2 harg2 arg3 harg3 arg4 harg4 arg5 harg5 arg6 harg6 arg7 harg7 arg8 harg8 arg9 harg9 arg10 harg10 arg11 harg11 arg19 x0 x1 x2 x3 x4 x5 x6 x7 x8 x9)) (ix2 r w) = (ptOf (head i) x0 x1 x2 x3 x4 x5 x6 x8 x9 (lseOf x7)).c16 r w := by
  exact full v (L := (kernelRun0_C.sl.HS1_20 (F := Ideal) c i arg2 harg2 arg3 harg3 arg4 harg4 arg5 harg5 arg6 harg6 arg7 harg7 arg8 harg8 arg9 harg9 arg10 harg10 arg11 harg11 arg19 x0 x1 x2 x3 x4 x5 x6 x7 x8 x9)) _ (hs1_20 c i arg2 harg2 arg3 harg3 arg4 harg4 arg5 harg5 arg6 harg6 arg7 harg7 arg8 harg8 arg9 harg9 arg10 harg10 arg11 harg11 arg19 x0 x1 x2 x3 x4 x5 x6 x7 x8 x9) (fun b g => match b, g with | ⟨0, _⟩, ⟨0, _⟩ => rfl | ⟨0, _⟩, ⟨1, _⟩ => rfl | ⟨0, _⟩, ⟨2, _⟩ => rfl | ⟨0, _⟩, ⟨3, _⟩ => rfl | ⟨1, _⟩, ⟨0, _⟩ => rfl | ⟨1, _⟩, ⟨1, _⟩ => rfl | ⟨1, _⟩, ⟨2, _⟩ => rfl | ⟨1, _⟩, ⟨3, _⟩ => rfl | ⟨2, _⟩, ⟨0, _⟩ => rfl | ⟨2, _⟩, ⟨1, _⟩ => rfl | ⟨2, _⟩, ⟨2, _⟩ => rfl | ⟨2, _⟩, ⟨3, _⟩ => rfl | ⟨3, _⟩, ⟨0, _⟩ => rfl | ⟨3, _⟩, ⟨1, _⟩ => rfl | ⟨3, _⟩, ⟨2, _⟩ => rfl | ⟨3, _⟩, ⟨3, _⟩ => rfl | ⟨4, _⟩, ⟨0, _⟩ => rfl | ⟨4, _⟩, ⟨1, _⟩ => rfl | ⟨4, _⟩, ⟨2, _⟩ => rfl | ⟨4, _⟩, ⟨3, _⟩ => rfl) (fun r w h => Pt.dS_of_lt _ h) hf r w

/-- The whole scratch holds its closed form after the point. -/
theorem f15 (hf : ∀ (r : Fin 640) (w : Fin 2560), (pos w).val < r.val → v.read (Elt Ideal) f (ix2 r w) = 0) (r : Fin 640) (w : Fin 2560) :
    v.read (Elt Ideal) (v.writes (Elt Ideal) f (kernelRun0_C.sl.HS0_20 (F := Ideal) c i arg2 harg2 arg3 harg3 arg5 harg5 arg6 harg6 arg9 harg9 arg19 x0 x1 x3 x4 x7)) (ix2 r w) = (ptOf (head i) x0 x1 x2 x3 x4 x5 x6 x8 x9 (lseOf x7)).c15 r w := by
  exact full v (L := (kernelRun0_C.sl.HS0_20 (F := Ideal) c i arg2 harg2 arg3 harg3 arg5 harg5 arg6 harg6 arg9 harg9 arg19 x0 x1 x3 x4 x7)) _ (hs0 c i arg2 harg2 arg3 harg3 arg5 harg5 arg6 harg6 arg9 harg9 arg19 x0 x1 x2 x3 x4 x5 x6 x7 x8 x9) (fun b g => match b, g with | ⟨0, _⟩, ⟨0, _⟩ => rfl | ⟨0, _⟩, ⟨1, _⟩ => rfl | ⟨0, _⟩, ⟨2, _⟩ => rfl | ⟨0, _⟩, ⟨3, _⟩ => rfl | ⟨1, _⟩, ⟨0, _⟩ => rfl | ⟨1, _⟩, ⟨1, _⟩ => rfl | ⟨1, _⟩, ⟨2, _⟩ => rfl | ⟨1, _⟩, ⟨3, _⟩ => rfl | ⟨2, _⟩, ⟨0, _⟩ => rfl | ⟨2, _⟩, ⟨1, _⟩ => rfl | ⟨2, _⟩, ⟨2, _⟩ => rfl | ⟨2, _⟩, ⟨3, _⟩ => rfl | ⟨3, _⟩, ⟨0, _⟩ => rfl | ⟨3, _⟩, ⟨1, _⟩ => rfl | ⟨3, _⟩, ⟨2, _⟩ => rfl | ⟨3, _⟩, ⟨3, _⟩ => rfl | ⟨4, _⟩, ⟨0, _⟩ => rfl | ⟨4, _⟩, ⟨1, _⟩ => rfl | ⟨4, _⟩, ⟨2, _⟩ => rfl | ⟨4, _⟩, ⟨3, _⟩ => rfl) (fun r w h => Pt.p_of_lt _ h) hf r w

/-- The whole scratch holds its closed form after the point. -/
theorem f17 (d : Fin 96) (w : Fin 2560) :
    v'.read (Elt Ideal) (v'.writes (Elt Ideal) f' (kernelRun0_C.sl.HS2_20 (F := Ideal) c i arg2 harg2 arg5 harg5 x0 x3)) (ix2 d w) = (ptOf (head i) x0 x1 x2 x3 x4 x5 x6 x8 x9 (lseOf x7)).c17 d w :=
  View.read_writes_apply_of_pieces v' f' (fun y => (ptOf (head i) x0 x1 x2 x3 x4 x5 x6 x8 x9 (lseOf x7)).c17 (y 0) (y 1)) _ (hs2 c i arg2 harg2 arg5 harg5 x0 x1 x2 x3 x4 x5 x6 x7 x8 x9) (ix2 d w)
    (View.cover_of_tiledL (kernelRun0_C.sl.HS2_20 (F := Ideal) c i arg2 harg2 arg5 harg5 x0 x3) S96x128.size (by sl_kernel_rfl) (ix2 d w))

/-- The whole scratch holds its closed form after the point. -/
theorem f18 (d : Fin 96) (w : Fin 2560) :
    v'.read (Elt Ideal) (v'.writes (Elt Ideal) f' (kernelRun0_C.sl.HS3_20 (F := Ideal) c arg10 harg10 arg11 harg11 x8 x9)) (ix2 d w) = (ptOf (head i) x0 x1 x2 x3 x4 x5 x6 x8 x9 (lseOf x7)).c18 d w :=
  View.read_writes_apply_of_pieces v' f' (fun y => (ptOf (head i) x0 x1 x2 x3 x4 x5 x6 x8 x9 (lseOf x7)).c18 (y 0) (y 1)) _ (hs3 c i arg10 harg10 arg11 harg11 x0 x1 x2 x3 x4 x5 x6 x7 x8 x9) (ix2 d w)
    (View.cover_of_tiledL (kernelRun0_C.sl.HS3_20 (F := Ideal) c arg10 harg10 arg11 harg11 x8 x9) S96x128.size (by sl_kernel_rfl) (ix2 d w))

/-- Every store into the queries' gradient holds it. -/
theorem hq : ∀ p ∈ (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1).1, ∀ x : p.1.shape.Idx, p.2 x = (ptOf (head i) x0 x1 x2 x3 x4 x5 x6 x8 x9 (lseOf x7)).dq (p.1.emb x 1) (p.1.emb x 3) (p.1.emb x 4) := by
  refine List.forall_mem_cons.2 ⟨Blk.piece_dq (n := 640) (o := 384) (on := 512) (gn := 3) (inb := inb_S1x4x1x96x640_S1x1x1x96x128_0_3_0_0_512) _ 3 4 rfl rfl rfl rfl _ _ _ ?_ ?_ ?_, ?_⟩
  · exact Blk.kc' (arg6 := arg6) (harg6 := harg6) (x4 := x4)
  · exact fun r j r' w hr hw => (rdS (arg := arg16) _ r j r' w (by omega) hw).trans (b16_4 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  refine List.forall_mem_cons.2 ⟨Blk.piece_dq (n := 640) (o := 256) (on := 512) (gn := 2) (inb := inb_S1x4x1x96x640_S1x1x1x96x128_0_2_0_0_512) _ 2 4 rfl rfl rfl rfl _ _ _ ?_ ?_ ?_, ?_⟩
  · exact Blk.kc' (arg6 := arg6) (harg6 := harg6) (x4 := x4)
  · exact fun r j r' w hr hw => (rdS (arg := arg16) _ r j r' w (by omega) hw).trans (b16_4 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  refine List.forall_mem_cons.2 ⟨Blk.piece_dq (n := 640) (o := 128) (on := 512) (gn := 1) (inb := inb_S1x4x1x96x640_S1x1x1x96x128_0_1_0_0_512) _ 1 4 rfl rfl rfl rfl _ _ _ ?_ ?_ ?_, ?_⟩
  · exact Blk.kc' (arg6 := arg6) (harg6 := harg6) (x4 := x4)
  · exact fun r j r' w hr hw => (rdS (arg := arg16) _ r j r' w (by omega) hw).trans (b16_4 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  refine List.forall_mem_cons.2 ⟨Blk.piece_dq (n := 640) (o := 0) (on := 512) (gn := 0) (inb := inb_S1x4x1x96x640_S1x1x1x96x128_0_0_0_0_512) _ 0 4 rfl rfl rfl rfl _ _ _ ?_ ?_ ?_, ?_⟩
  · exact Blk.kc' (arg6 := arg6) (harg6 := harg6) (x4 := x4)
  · exact fun r j r' w hr hw => (rdS (arg := arg16) _ r j r' w (by omega) hw).trans (b16_4 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  refine List.forall_mem_cons.2 ⟨Blk.piece_dq (n := 512) (o := 384) (on := 384) (gn := 3) (inb := inb_S1x4x1x96x640_S1x1x1x96x128_0_3_0_0_384) _ 3 3 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_3 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  refine List.forall_mem_cons.2 ⟨Blk.piece_dq (n := 512) (o := 256) (on := 384) (gn := 2) (inb := inb_S1x4x1x96x640_S1x1x1x96x128_0_2_0_0_384) _ 2 3 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_3 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  refine List.forall_mem_cons.2 ⟨Blk.piece_dq (n := 512) (o := 128) (on := 384) (gn := 1) (inb := inb_S1x4x1x96x640_S1x1x1x96x128_0_1_0_0_384) _ 1 3 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_3 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  refine List.forall_mem_cons.2 ⟨Blk.piece_dq (n := 512) (o := 0) (on := 384) (gn := 0) (inb := inb_S1x4x1x96x640_S1x1x1x96x128_0_0_0_0_384) _ 0 3 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_3 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  refine List.forall_mem_cons.2 ⟨Blk.piece_dq (n := 384) (o := 384) (on := 256) (gn := 3) (inb := inb_S1x4x1x96x640_S1x1x1x96x128_0_3_0_0_256) _ 3 2 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_2 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  refine List.forall_mem_cons.2 ⟨Blk.piece_dq (n := 384) (o := 256) (on := 256) (gn := 2) (inb := inb_S1x4x1x96x640_S1x1x1x96x128_0_2_0_0_256) _ 2 2 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_2 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  refine List.forall_mem_cons.2 ⟨Blk.piece_dq (n := 384) (o := 128) (on := 256) (gn := 1) (inb := inb_S1x4x1x96x640_S1x1x1x96x128_0_1_0_0_256) _ 1 2 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_2 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  refine List.forall_mem_cons.2 ⟨Blk.piece_dq (n := 384) (o := 0) (on := 256) (gn := 0) (inb := inb_S1x4x1x96x640_S1x1x1x96x128_0_0_0_0_256) _ 0 2 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_2 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  refine List.forall_mem_cons.2 ⟨Blk.piece_dq (n := 256) (o := 384) (on := 128) (gn := 3) (inb := inb_S1x4x1x96x640_S1x1x1x96x128_0_3_0_0_128) _ 3 1 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_1 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  refine List.forall_mem_cons.2 ⟨Blk.piece_dq (n := 256) (o := 256) (on := 128) (gn := 2) (inb := inb_S1x4x1x96x640_S1x1x1x96x128_0_2_0_0_128) _ 2 1 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_1 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  refine List.forall_mem_cons.2 ⟨Blk.piece_dq (n := 256) (o := 128) (on := 128) (gn := 1) (inb := inb_S1x4x1x96x640_S1x1x1x96x128_0_1_0_0_128) _ 1 1 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_1 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  refine List.forall_mem_cons.2 ⟨Blk.piece_dq (n := 256) (o := 0) (on := 128) (gn := 0) (inb := inb_S1x4x1x96x640_S1x1x1x96x128_0_0_0_0_128) _ 0 1 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_1 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  refine List.forall_mem_cons.2 ⟨Blk.piece_dq (n := 128) (o := 384) (on := 0) (gn := 3) (inb := inb_S1x4x1x96x640_S1x1x1x96x128_0_3_0_0_0) _ 3 0 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_0 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  refine List.forall_mem_cons.2 ⟨Blk.piece_dq (n := 128) (o := 256) (on := 0) (gn := 2) (inb := inb_S1x4x1x96x640_S1x1x1x96x128_0_2_0_0_0) _ 2 0 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_0 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  refine List.forall_mem_cons.2 ⟨Blk.piece_dq (n := 128) (o := 128) (on := 0) (gn := 1) (inb := inb_S1x4x1x96x640_S1x1x1x96x128_0_1_0_0_0) _ 1 0 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_0 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  refine List.forall_mem_cons.2 ⟨Blk.piece_dq (n := 128) (o := 0) (on := 0) (gn := 0) (inb := inb_S1x4x1x96x640_S1x1x1x96x128_0_0_0_0_0) _ 0 0 rfl rfl rfl rfl _ _ _ ?_ ?_ ?_, ?_⟩
  · exact Blk.kc (arg6 := arg6) (harg6 := harg6) (x4 := x4)
  · exact fun r j r' w hr hw => (rdS (arg := arg16) _ r j r' w (by omega) hw).trans (b16_0 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  · exact Blk.csm (arg3 := arg3) (harg3 := harg3) (x1 := x1)
  exact List.forall_mem_nil _

/-- Every store into the keys' gradient holds it. -/
theorem hk (h15 : ∀ (r : Fin 640) (w : Fin 2560), (pos w).val < r.val → xs0 (ix2 r w) = 0) (h16 : ∀ (r : Fin 640) (w : Fin 2560), (pos w).val < r.val → xs1 (ix2 r w) = 0) : ∀ p ∈ (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1).2.1, ∀ x : p.1.shape.Idx, p.2 x = (ptOf (head i) x0 x1 x2 x3 x4 x5 x6 x8 x9 (lseOf x7)).dk (p.1.emb x 2) (p.1.emb x 3) := by
  refine List.forall_mem_cons.2 ⟨Blk.piece_dk (m := 128) (n := 512) (k0 := 512) (c0 := 2048) (inb := inb_S1x1x96x640_S1x1x96x128_0_0_0_512) _ 4 rfl rfl rfl (by decide) _ _ _ (Blk.cast128 _ _) ?_ ?_ rfl, ?_⟩
  · exact fun d j w hw => (rdS (arg := arg17) _ d j d w (by omega) hw).trans (f17 c i arg2 harg2 arg5 harg5 x0 x1 x2 x3 x4 x5 x6 x7 x8 x9 arg17.view _ d w)
  · exact fun r j r' w hr hw => (rdS (arg := arg16) _ r j r' w hr hw).trans (b16_4 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (by omega) (by omega))
  refine List.forall_mem_cons.2 ⟨Blk.piece_dk (m := 256) (n := 1536) (k0 := 256) (c0 := 1024) (inb := inb_S1x1x96x640_S1x1x96x256_0_0_0_256) _ 2 rfl rfl rfl (by decide) _ _ _ (Blk.cast256 _ _) ?_ ?_ rfl, ?_⟩
  · exact fun d j w hw => (rdS (arg := arg17) _ d j d w (by omega) hw).trans (f17 c i arg2 harg2 arg5 harg5 x0 x1 x2 x3 x4 x5 x6 x7 x8 x9 arg17.view _ d w)
  · exact fun r j r' w hr hw => (rdS (arg := arg16) _ r j r' w hr hw).trans (f16 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (fun r w h => (congrFun (harg16.read_unread xs1) (ix2 r w)).trans (h16 r w h)) _ _)
  refine List.forall_mem_cons.2 ⟨Blk.piece_dk (m := 256) (n := 2560) (k0 := 0) (c0 := 0) (inb := inb_S1x1x96x640_S1x1x96x256_0_0_0_0) _ 0 rfl rfl rfl (by decide) _ _ _ (Blk.cast256 _ _) ?_ ?_ rfl, ?_⟩
  · exact fun d j w hw => (rdS (arg := arg17) _ d j d w (by omega) hw).trans (f17 c i arg2 harg2 arg5 harg5 x0 x1 x2 x3 x4 x5 x6 x7 x8 x9 arg17.view _ d w)
  · exact fun r j r' w hr hw => (rdS (arg := arg16) _ r j r' w hr hw).trans (f16 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (fun r w h => (congrFun (harg16.read_unread xs1) (ix2 r w)).trans (h16 r w h)) _ _)
  exact List.forall_mem_nil _

/-- Every store into the values' gradient holds it. -/
theorem hv (h15 : ∀ (r : Fin 640) (w : Fin 2560), (pos w).val < r.val → xs0 (ix2 r w) = 0) (h16 : ∀ (r : Fin 640) (w : Fin 2560), (pos w).val < r.val → xs1 (ix2 r w) = 0) : ∀ p ∈ (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1).2.2.1, ∀ x : p.1.shape.Idx, p.2 x = (ptOf (head i) x0 x1 x2 x3 x4 x5 x6 x8 x9 (lseOf x7)).dv (p.1.emb x 2) (p.1.emb x 3) := by
  refine List.forall_mem_cons.2 ⟨Blk.piece_dv (m := 128) (n := 512) (k0 := 512) (c0 := 2048) (inb := inb_S1x1x96x640_S1x1x96x128_0_0_0_512) _ 4 rfl rfl rfl (by decide) _ _ (Blk.cast128 _ _) ?_ ?_, ?_⟩
  · exact fun d j w hw => (rdS (arg := arg18) _ d j d w (by omega) hw).trans (f18 c i arg10 harg10 arg11 harg11 x0 x1 x2 x3 x4 x5 x6 x7 x8 x9 arg18.view _ d w)
  · exact fun r j r' w hr hw => (rdS (arg := arg15) _ r j r' w hr hw).trans (b15_4 c i arg2 harg2 arg3 harg3 arg5 harg5 arg6 harg6 arg9 harg9 arg19 x0 x1 x2 x3 x4 x5 x6 x7 x8 x9 arg15.view _ (by omega) (by omega))
  refine List.forall_mem_cons.2 ⟨Blk.piece_dv (m := 256) (n := 1536) (k0 := 256) (c0 := 1024) (inb := inb_S1x1x96x640_S1x1x96x256_0_0_0_256) _ 2 rfl rfl rfl (by decide) _ _ (Blk.cast256 _ _) ?_ ?_, ?_⟩
  · exact fun d j w hw => (rdS (arg := arg18) _ d j d w (by omega) hw).trans (f18 c i arg10 harg10 arg11 harg11 x0 x1 x2 x3 x4 x5 x6 x7 x8 x9 arg18.view _ d w)
  · exact fun r j r' w hr hw => (rdS (arg := arg15) _ r j r' w hr hw).trans (f15 c i arg2 harg2 arg3 harg3 arg5 harg5 arg6 harg6 arg9 harg9 arg19 x0 x1 x2 x3 x4 x5 x6 x7 x8 x9 arg15.view _ (fun r w h => (congrFun (harg15.read_unread xs0) (ix2 r w)).trans (h15 r w h)) _ _)
  refine List.forall_mem_cons.2 ⟨Blk.piece_dv (m := 256) (n := 2560) (k0 := 0) (c0 := 0) (inb := inb_S1x1x96x640_S1x1x96x256_0_0_0_0) _ 0 rfl rfl rfl (by decide) _ _ (Blk.cast256 _ _) ?_ ?_, ?_⟩
  · exact fun d j w hw => (rdS (arg := arg18) _ d j d w (by omega) hw).trans (f18 c i arg10 harg10 arg11 harg11 x0 x1 x2 x3 x4 x5 x6 x7 x8 x9 arg18.view _ d w)
  · exact fun r j r' w hr hw => (rdS (arg := arg15) _ r j r' w hr hw).trans (f15 c i arg2 harg2 arg3 harg3 arg5 harg5 arg6 harg6 arg9 harg9 arg19 x0 x1 x2 x3 x4 x5 x6 x7 x8 x9 arg15.view _ (fun r w h => (congrFun (harg15.read_unread xs0) (ix2 r w)).trans (h15 r w h)) _ _)
  exact List.forall_mem_nil _

/-- What this case leaves in the staging buffer of a result. -/
theorem o10 (g : Fin 4) (d : Fin 96) (t : Fin 640) : out0_C_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 (ix5 0 g 0 d t) = (ptOf (head i) x0 x1 x2 x3 x4 x5 x6 x8 x9 (lseOf x7)).dq g d t := by
  unfold out0_C_10
  exact View.read_writes_apply_of_pieces _ _ (fun y => (ptOf (head i) x0 x1 x2 x3 x4 x5 x6 x8 x9 (lseOf x7)).dq (y 1) (y 3) (y 4)) _ (hq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 xs0 xs1 hc0 hc1) _ (cover0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 _)

/-- What this case leaves in the staging buffer of a result. -/
theorem o11 (h15 : ∀ (r : Fin 640) (w : Fin 2560), (pos w).val < r.val → xs0 (ix2 r w) = 0) (h16 : ∀ (r : Fin 640) (w : Fin 2560), (pos w).val < r.val → xs1 (ix2 r w) = 0) (d : Fin 96) (t : Fin 640) : out0_C_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 (ix4 0 0 d t) = (ptOf (head i) x0 x1 x2 x3 x4 x5 x6 x8 x9 (lseOf x7)).dk d t := by
  unfold out0_C_11
  exact View.read_writes_apply_of_pieces _ _ (fun y => (ptOf (head i) x0 x1 x2 x3 x4 x5 x6 x8 x9 (lseOf x7)).dk (y 2) (y 3)) _ (hk c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 xs0 xs1 hc0 hc1 h15 h16) _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 _)

/-- What this case leaves in the staging buffer of a result. -/
theorem o12 (h15 : ∀ (r : Fin 640) (w : Fin 2560), (pos w).val < r.val → xs0 (ix2 r w) = 0) (h16 : ∀ (r : Fin 640) (w : Fin 2560), (pos w).val < r.val → xs1 (ix2 r w) = 0) (d : Fin 96) (t : Fin 640) : out0_C_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 (ix4 0 0 d t) = (ptOf (head i) x0 x1 x2 x3 x4 x5 x6 x8 x9 (lseOf x7)).dv d t := by
  unfold out0_C_12
  exact View.read_writes_apply_of_pieces _ _ (fun y => (ptOf (head i) x0 x1 x2 x3 x4 x5 x6 x8 x9 (lseOf x7)).dv (y 2) (y 3)) _ (hv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 xs0 xs1 hc0 hc1 h15 h16) _ (cover0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 _)

/-- What this case leaves in the carried scratch. -/
theorem s0 (h : ∀ (r : Fin 640) (w : Fin 2560), (pos w).val < r.val → xs0 (ix2 r w) = 0) (r : Fin 640) (w : Fin 2560) : sout0_C_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 (ix2 r w) = (ptOf (head i) x0 x1 x2 x3 x4 x5 x6 x8 x9 (lseOf x7)).c15 r w := by
  unfold sout0_C_0
  exact f15 c i arg2 harg2 arg3 harg3 arg5 harg5 arg6 harg6 arg9 harg9 arg19 x0 x1 x2 x3 x4 x5 x6 x7 x8 x9 arg15.view _ (fun r w e => (congrFun (harg15.read_unread xs0) (ix2 r w)).trans (h r w e)) r w

/-- What this case leaves in the carried scratch. -/
theorem s1 (h : ∀ (r : Fin 640) (w : Fin 2560), (pos w).val < r.val → xs1 (ix2 r w) = 0) (r : Fin 640) (w : Fin 2560) : sout0_C_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 (ix2 r w) = (ptOf (head i) x0 x1 x2 x3 x4 x5 x6 x8 x9 (lseOf x7)).c16 r w := by
  unfold sout0_C_1
  exact f16 c i arg2 harg2 arg3 harg3 arg4 harg4 arg5 harg5 arg6 harg6 arg7 harg7 arg8 harg8 arg9 harg9 arg10 harg10 arg11 harg11 arg19 x0 x1 x2 x3 x4 x5 x6 x7 x8 x9 arg16.view _ (fun r w e => (congrFun (harg16.read_unread xs1) (ix2 r w)).trans (h r w e)) r w

/-- What this case leaves in the scratch rows of scaled log-sum-exps. -/
theorem s4 : sout0_C_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 = lseOf x7 := by
  unfold sout0_C_4
  exact funext fun y => View.read_writes_apply_of_pieces _ _ (lseOf x7) _ (hs4 c arg9 harg9 x7) y (hc4 c arg9 harg9 x7 y)

end Cert.KernelIdeal.RunC

end
-- ==== Proof.Cases.lean ====
/- What each case of the body leaves, over any blocks. -/
module

public import proofs.«01_k».proof.Proof.Good
public import proofs.«01_k».proof.Proof.OutsA
public import proofs.«01_k».proof.Proof.OutsB
public import proofs.«01_k».proof.Proof.OutsC

@[expose] public section

set_option maxRecDepth 16384

noncomputable section

namespace Cert.KernelIdeal.RunA

open Idealize.ShloMosaic Idealize.ShloMosaic.TcCoe Idealize.SL.Sem Cert.KernelIdeal.Gen

variable (c : Dev nD) (i : grid0.Coords)
  (arg2 : Memref sig .tc .smem S32 .f32) (harg2 : arg2.IsWhole) (arg3 : Memref sig .tc .smem S8 .f32) (harg3 : arg3.IsWhole)
  (arg4 : Memref sig .tc .smem S8 .f32) (harg4 : arg4.IsWhole) (arg5 : Memref sig .tc .vmem S1x4x1x96x640 .fp8e4m3) (harg5 : arg5.IsWhole)
  (arg6 : Memref sig .tc .vmem S1x1x96x640 .fp8e4m3) (harg6 : arg6.IsWhole) (arg7 : Memref sig .tc .vmem S1x1x96x640 .fp8e4m3) (harg7 : arg7.IsWhole)
  (arg8 : Memref sig .tc .vmem S1x4x1x96x640 .bf16) (harg8 : arg8.IsWhole) (arg9 : Memref sig .tc .vmem S1x4x8x640 .f32) (harg9 : arg9.IsWhole)
  (arg10 : Memref sig .tc .vmem S1x4x1x96x640 .fp8e5m2) (harg10 : arg10.IsWhole)
  (arg11 : Memref sig .tc .vmem S1x1x640 .f32) (harg11 : arg11.IsWhole)
  (arg12 : Memref sig .tc .vmem S1x4x1x96x640 .bf16) (harg12 : arg12.IsWhole) (arg13 : Memref sig .tc .vmem S1x1x96x640 .bf16) (harg13 : arg13.IsWhole)
  (arg14 : Memref sig .tc .vmem S1x1x96x640 .bf16) (harg14 : arg14.IsWhole)
  (arg15 : Memref sig .tc .vmem S640x2560 .bf16) (harg15 : arg15.IsWhole) (arg16 : Memref sig .tc .vmem S640x2560 .bf16) (harg16 : arg16.IsWhole)
  (arg17 : Memref sig .tc .vmem S96x2560 .bf16) (harg17 : arg17.IsWhole) (arg18 : Memref sig .tc .vmem S96x2560 .bf16) (harg18 : arg18.IsWhole)
  (arg19 : Memref sig .tc .vmem S8x4x640 .f32) (harg19 : arg19.IsWhole)
  (x0 : Vec Ideal S32 .f32) (x1 x2 : Vec Ideal S8 .f32) (x3 : Vec Ideal S1x4x1x96x640 .fp8e4m3) (x4 x5 : Vec Ideal S1x1x96x640 .fp8e4m3)
  (x6 : Vec Ideal S1x4x1x96x640 .bf16) (x7 : Vec Ideal S1x4x8x640 .f32) (x8 : Vec Ideal S1x4x1x96x640 .fp8e5m2) (x9 : Vec Ideal S1x1x640 .f32)
  (xs0 xs1 : Vec Ideal S640x2560 .bf16) (xs4 : Vec Ideal S8x4x640 .f32)
  (hc0 : cond0_0 i) (hc1 : cond0_1 i)

/-- What this case leaves are the values of its blocks' quantities. -/
theorem good : Good (ptOf (head i) x0 x1 x2 x3 x4 x5 x6 x8 x9 (lseOf x7)) (lseOf x7) (out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9) (out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9) (out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9) (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9) (sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9) (sout0_A_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9) where
  q := o10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 hc0 hc1
  k := o11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 hc0 hc1
  v := o12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 hc0 hc1
  p := s0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 hc0 hc1
  s := s1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 hc0 hc1
  l := RunA.s4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 hc0 hc1

end Cert.KernelIdeal.RunA

namespace Cert.KernelIdeal.RunB

open Idealize.ShloMosaic Idealize.ShloMosaic.TcCoe Idealize.SL.Sem Cert.KernelIdeal.Gen

variable (c : Dev nD) (i : grid0.Coords)
  (arg2 : Memref sig .tc .smem S32 .f32) (harg2 : arg2.IsWhole) (arg3 : Memref sig .tc .smem S8 .f32) (harg3 : arg3.IsWhole)
  (arg4 : Memref sig .tc .smem S8 .f32) (harg4 : arg4.IsWhole) (arg5 : Memref sig .tc .vmem S1x4x1x96x640 .fp8e4m3) (harg5 : arg5.IsWhole)
  (arg6 : Memref sig .tc .vmem S1x1x96x640 .fp8e4m3) (harg6 : arg6.IsWhole) (arg7 : Memref sig .tc .vmem S1x1x96x640 .fp8e4m3) (harg7 : arg7.IsWhole)
  (arg8 : Memref sig .tc .vmem S1x4x1x96x640 .bf16) (harg8 : arg8.IsWhole) (arg9 : Memref sig .tc .vmem S1x4x8x640 .f32) (harg9 : arg9.IsWhole)
  (arg10 : Memref sig .tc .vmem S1x4x1x96x640 .fp8e5m2) (harg10 : arg10.IsWhole)
  (arg11 : Memref sig .tc .vmem S1x1x640 .f32) (harg11 : arg11.IsWhole)
  (arg12 : Memref sig .tc .vmem S1x4x1x96x640 .bf16) (harg12 : arg12.IsWhole) (arg13 : Memref sig .tc .vmem S1x1x96x640 .bf16) (harg13 : arg13.IsWhole)
  (arg14 : Memref sig .tc .vmem S1x1x96x640 .bf16) (harg14 : arg14.IsWhole)
  (arg15 : Memref sig .tc .vmem S640x2560 .bf16) (harg15 : arg15.IsWhole) (arg16 : Memref sig .tc .vmem S640x2560 .bf16) (harg16 : arg16.IsWhole)
  (arg17 : Memref sig .tc .vmem S96x2560 .bf16) (harg17 : arg17.IsWhole) (arg18 : Memref sig .tc .vmem S96x2560 .bf16) (harg18 : arg18.IsWhole)
  (arg19 : Memref sig .tc .vmem S8x4x640 .f32) (harg19 : arg19.IsWhole)
  (x0 : Vec Ideal S32 .f32) (x1 x2 : Vec Ideal S8 .f32) (x3 : Vec Ideal S1x4x1x96x640 .fp8e4m3) (x4 x5 : Vec Ideal S1x1x96x640 .fp8e4m3)
  (x6 : Vec Ideal S1x4x1x96x640 .bf16) (x7 : Vec Ideal S1x4x8x640 .f32) (x8 : Vec Ideal S1x4x1x96x640 .fp8e5m2) (x9 : Vec Ideal S1x1x640 .f32)
  (xs0 xs1 : Vec Ideal S640x2560 .bf16) (xs4 : Vec Ideal S8x4x640 .f32)
  (hc0 : ¬cond0_0 i) (hc1 : ¬cond0_1 i)

/-- What this case leaves are the values of its blocks' quantities. -/
theorem good (hp : ∀ (r : Fin 640) (w : Fin 2560), (pos w).val < r.val → xs0 (ix2 r w) = 0) (hs : ∀ (r : Fin 640) (w : Fin 2560), (pos w).val < r.val → xs1 (ix2 r w) = 0) : Good (ptOf (head i) x0 x1 x2 x3 x4 x5 x6 x8 x9 xs4) xs4 (out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs4) (out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs4) (out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs4) (sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs4) (sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs4) (sout0_B_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs4) where
  q := o10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 xs0 xs1 xs4 hc0 hc1
  k := o11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 xs0 xs1 xs4 hc0 hc1 hp hs
  v := o12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 xs0 xs1 xs4 hc0 hc1 hp hs
  p := s0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 xs0 xs1 xs4 hc0 hc1 hp
  s := s1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 xs0 xs1 xs4 hc0 hc1 hs
  l := rfl

end Cert.KernelIdeal.RunB

namespace Cert.KernelIdeal.RunC

open Idealize.ShloMosaic Idealize.ShloMosaic.TcCoe Idealize.SL.Sem Cert.KernelIdeal.Gen

variable (c : Dev nD) (i : grid0.Coords)
  (arg2 : Memref sig .tc .smem S32 .f32) (harg2 : arg2.IsWhole) (arg3 : Memref sig .tc .smem S8 .f32) (harg3 : arg3.IsWhole)
  (arg4 : Memref sig .tc .smem S8 .f32) (harg4 : arg4.IsWhole) (arg5 : Memref sig .tc .vmem S1x4x1x96x640 .fp8e4m3) (harg5 : arg5.IsWhole)
  (arg6 : Memref sig .tc .vmem S1x1x96x640 .fp8e4m3) (harg6 : arg6.IsWhole) (arg7 : Memref sig .tc .vmem S1x1x96x640 .fp8e4m3) (harg7 : arg7.IsWhole)
  (arg8 : Memref sig .tc .vmem S1x4x1x96x640 .bf16) (harg8 : arg8.IsWhole) (arg9 : Memref sig .tc .vmem S1x4x8x640 .f32) (harg9 : arg9.IsWhole)
  (arg10 : Memref sig .tc .vmem S1x4x1x96x640 .fp8e5m2) (harg10 : arg10.IsWhole)
  (arg11 : Memref sig .tc .vmem S1x1x640 .f32) (harg11 : arg11.IsWhole)
  (arg12 : Memref sig .tc .vmem S1x4x1x96x640 .bf16) (harg12 : arg12.IsWhole) (arg13 : Memref sig .tc .vmem S1x1x96x640 .bf16) (harg13 : arg13.IsWhole)
  (arg14 : Memref sig .tc .vmem S1x1x96x640 .bf16) (harg14 : arg14.IsWhole)
  (arg15 : Memref sig .tc .vmem S640x2560 .bf16) (harg15 : arg15.IsWhole) (arg16 : Memref sig .tc .vmem S640x2560 .bf16) (harg16 : arg16.IsWhole)
  (arg17 : Memref sig .tc .vmem S96x2560 .bf16) (harg17 : arg17.IsWhole) (arg18 : Memref sig .tc .vmem S96x2560 .bf16) (harg18 : arg18.IsWhole)
  (arg19 : Memref sig .tc .vmem S8x4x640 .f32) (harg19 : arg19.IsWhole)
  (x0 : Vec Ideal S32 .f32) (x1 x2 : Vec Ideal S8 .f32) (x3 : Vec Ideal S1x4x1x96x640 .fp8e4m3) (x4 x5 : Vec Ideal S1x1x96x640 .fp8e4m3)
  (x6 : Vec Ideal S1x4x1x96x640 .bf16) (x7 : Vec Ideal S1x4x8x640 .f32) (x8 : Vec Ideal S1x4x1x96x640 .fp8e5m2) (x9 : Vec Ideal S1x1x640 .f32)
  (xs0 xs1 : Vec Ideal S640x2560 .bf16) (xs4 : Vec Ideal S8x4x640 .f32)
  (hc0 : ¬cond0_0 i) (hc1 : cond0_1 i)

/-- What this case leaves are the values of its blocks' quantities. -/
theorem good (hp : ∀ (r : Fin 640) (w : Fin 2560), (pos w).val < r.val → xs0 (ix2 r w) = 0) (hs : ∀ (r : Fin 640) (w : Fin 2560), (pos w).val < r.val → xs1 (ix2 r w) = 0) : Good (ptOf (head i) x0 x1 x2 x3 x4 x5 x6 x8 x9 (lseOf x7)) (lseOf x7) (out0_C_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1) (out0_C_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1) (out0_C_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1) (sout0_C_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1) (sout0_C_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1) (sout0_C_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1) where
  q := o10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 xs0 xs1 hc0 hc1
  k := o11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 xs0 xs1 hc0 hc1 hp hs
  v := o12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 xs0 xs1 hc0 hc1 hp hs
  p := s0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 xs0 xs1 hc0 hc1 hp
  s := s1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 xs0 xs1 hc0 hc1 hs
  l := RunC.s4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 xs0 xs1 hc0 hc1

end Cert.KernelIdeal.RunC

end
-- ==== Proof.Points.lean ====
/- What every grid point leaves in the results' blocks and in the carried scratch. -/
module

public import proofs.«01_k».proof.Proof.PointAt
public import proofs.«01_k».proof.Proof.Cases

@[expose] public section

set_option maxRecDepth 16384

noncomputable section

namespace Cert.KernelIdeal.Value

open Idealize.ShloMosaic Idealize.ShloMosaic.TcCoe Idealize.SL.Sem Cert.KernelIdeal.Gen

variable (m : (ℓ : Loc nD τ sig) → Buf (Elt Ideal) ℓ)

/-- What a grid point of one case leaves are the values of the point's quantities. -/
theorem good_A (c : Dev nD) (t : Fin cfg0.N) (h0 : t.val % 16 = 0) (h1 : t.val % 8 = 0) :
    Good (ptAt m c t) (lseOf (iblk m c 7 t)) (outsAt0 m c t.val t.isLt).1 (outsAt0 m c t.val t.isLt).2.1 (outsAt0 m c t.val t.isLt).2.2.1 (outsAt0 m c t.val t.isLt).2.2.2.1 (outsAt0 m c t.val t.isLt).2.2.2.2.1 (outsAt0 m c t.val t.isLt).2.2.2.2.2 :=
  Good.of_eq (outsAt0_A m c t h0 h1) (Good.conv (RunA.good c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) ((hcond0_1 t).mpr h1))
    (ptOf_eq m c t (lseOf (iblk m c 7 t)) rfl) rfl)

/-- What a grid point of one case leaves are the values of the point's quantities. -/
theorem good_B (c : Dev nD) (t : Fin cfg0.N) (h0 : ¬t.val % 16 = 0) (h1 : ¬t.val % 8 = 0) (hp : ∀ (r : Fin 640) (w : Fin 2560), (pos w).val < r.val → (outsAt0 m c (t.val - 1) (lt_of_le_of_lt (Nat.sub_le _ _) t.isLt)).2.2.2.1 (ix2 r w) = 0) (hs : ∀ (r : Fin 640) (w : Fin 2560), (pos w).val < r.val → (outsAt0 m c (t.val - 1) (lt_of_le_of_lt (Nat.sub_le _ _) t.isLt)).2.2.2.2.1 (ix2 r w) = 0) (hl : (outsAt0 m c (t.val - 1) (lt_of_le_of_lt (Nat.sub_le _ _) t.isLt)).2.2.2.2.2 = lseOf (iblk m c 7 t)) :
    Good (ptAt m c t) (lseOf (iblk m c 7 t)) (outsAt0 m c t.val t.isLt).1 (outsAt0 m c t.val t.isLt).2.1 (outsAt0 m c t.val t.isLt).2.2.1 (outsAt0 m c t.val t.isLt).2.2.2.1 (outsAt0 m c t.val t.isLt).2.2.2.2.1 (outsAt0 m c t.val t.isLt).2.2.2.2.2 :=
  Good.of_eq (outsAt0_B m c t h0 h1) (Good.conv (RunB.good c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (lt_of_le_of_lt (Nat.sub_le _ _) t.isLt)).2.2.2.1 (outsAt0 m c (t.val - 1) (lt_of_le_of_lt (Nat.sub_le _ _) t.isLt)).2.2.2.2.1 (outsAt0 m c (t.val - 1) (lt_of_le_of_lt (Nat.sub_le _ _) t.isLt)).2.2.2.2.2 (fun h => h0 ((hcond0_0 t).mp h)) (fun h => h1 ((hcond0_1 t).mp h)) hp hs)
    (ptOf_eq m c t (outsAt0 m c (t.val - 1) (lt_of_le_of_lt (Nat.sub_le _ _) t.isLt)).2.2.2.2.2 hl) hl)

/-- What a grid point of one case leaves are the values of the point's quantities. -/
theorem good_C (c : Dev nD) (t : Fin cfg0.N) (h0 : ¬t.val % 16 = 0) (h1 : t.val % 8 = 0) (hp : ∀ (r : Fin 640) (w : Fin 2560), (pos w).val < r.val → (outsAt0 m c (t.val - 1) (lt_of_le_of_lt (Nat.sub_le _ _) t.isLt)).2.2.2.1 (ix2 r w) = 0) (hs : ∀ (r : Fin 640) (w : Fin 2560), (pos w).val < r.val → (outsAt0 m c (t.val - 1) (lt_of_le_of_lt (Nat.sub_le _ _) t.isLt)).2.2.2.2.1 (ix2 r w) = 0) :
    Good (ptAt m c t) (lseOf (iblk m c 7 t)) (outsAt0 m c t.val t.isLt).1 (outsAt0 m c t.val t.isLt).2.1 (outsAt0 m c t.val t.isLt).2.2.1 (outsAt0 m c t.val t.isLt).2.2.2.1 (outsAt0 m c t.val t.isLt).2.2.2.2.1 (outsAt0 m c t.val t.isLt).2.2.2.2.2 :=
  Good.of_eq (outsAt0_C m c t h0 h1) (Good.conv (RunC.good c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (lt_of_le_of_lt (Nat.sub_le _ _) t.isLt)).2.2.2.1 (outsAt0 m c (t.val - 1) (lt_of_le_of_lt (Nat.sub_le _ _) t.isLt)).2.2.2.2.1 (fun h => h0 ((hcond0_0 t).mp h)) ((hcond0_1 t).mpr h1) hp hs)
    (ptOf_eq m c t (lseOf (iblk m c 7 t)) rfl) rfl)

/-- What every grid point leaves are the values of the point's quantities. -/
theorem good (c : Dev nD) : ∀ (n : ℕ) (hn : n < cfg0.N), Good (ptAt m c ⟨n, hn⟩) (lseOf (iblk m c 7 ⟨n, hn⟩)) (outsAt0 m c n hn).1 (outsAt0 m c n hn).2.1 (outsAt0 m c n hn).2.2.1 (outsAt0 m c n hn).2.2.2.1 (outsAt0 m c n hn).2.2.2.2.1 (outsAt0 m c n hn).2.2.2.2.2 := by
  intro n
  induction n with
  | zero => exact fun hn => good_A m c ⟨0, hn⟩ (Nat.zero_mod _) (Nat.zero_mod _)
  | succ n ih =>
    intro hn
    have hN : n + 1 < 16 := lt_of_lt_of_eq hn (show cfg0.N = 16 from N_0)
    have h0 : ¬(n + 1) % 16 = 0 := by omega
    have hp := ih (Nat.lt_of_succ_lt hn)
    by_cases h1 : (n + 1) % 8 = 0
    · exact good_C m c ⟨n + 1, hn⟩ h0 h1 hp.zp hp.zs
    · have hb : bat ⟨n, Nat.lt_of_succ_lt hn⟩ = bat ⟨n + 1, hn⟩ := Fin.ext (by show n / 8 = (n + 1) / 8; omega)
      exact good_B m c ⟨n + 1, hn⟩ h0 h1 hp.zp hp.zs (hp.l.trans (lse_eq m c _ _ hb))

end Cert.KernelIdeal.Value

end
-- ==== Proof.Final.lean ====
/- The result arrays of the grid, as entries over the arguments. -/
module

public import proofs.«01_k».proof.Proof.Points

@[expose] public section

set_option maxRecDepth 16384

noncomputable section

namespace Cert.KernelIdeal.Value

open Idealize.ShloMosaic Idealize.ShloMosaic.TcCoe Idealize.SL.Sem Cert.KernelIdeal.Gen
open Idealize.ShloMosaic.Pipeline (Dat)

variable (m : (ℓ : Loc nD τ sig) → Buf (Elt Ideal) ℓ)

/-- The quantities of one batch and one key head, of the launch's arguments. -/
abbrev ptM (c : Dev nD) (b : Fin 2) (n : Fin 8) : Pt :=
  pt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b n

/-- The array of query gradients. -/
def arrQ (P : Fin 2 → Fin 8 → Pt) : FVec Ideal S2x4x8x96x640 .bf16 := fun y => (P (y 0) (y 2)).dq (y 1) (y 3) (y 4)
/-- The array of key gradients. -/
def arrK (P : Fin 2 → Fin 8 → Pt) : FVec Ideal S2x8x96x640 .bf16 := fun y => (P (y 0) (y 1)).dk (y 2) (y 3)
/-- The array of value gradients. -/
def arrV (P : Fin 2 → Fin 8 → Pt) : FVec Ideal S2x8x96x640 .bf16 := fun y => (P (y 0) (y 1)).dv (y 2) (y 3)

/-- A block of query gradients is a part of the array. -/
theorem at_q (P : Fin 2 → Fin 8 → Pt) (b : Fin 2) (n : Fin 8) (O : Vec Ideal S1x4x1x96x640 .bf16)
    (h : ∀ (g : Fin 4) (d : Fin 96) (t : Fin 640), O (ix5 0 g 0 d t) = (P b n).dq g d t) (y : S1x4x1x96x640.Idx) (z : S2x4x8x96x640.Idx)
    (hz : z = ix5 b (y 1) n (y 3) (y 4)) : O y = arrQ P z := by
  subst hz
  have e : y = ix5 0 (y 1) 0 (y 3) (y 4) := by blk_ext
  exact (congrArg O e).trans (h _ _ _)

/-- A block of key or value gradients is a part of the array. -/
theorem at_k (P : Fin 2 → Fin 8 → Pt) (b : Fin 2) (n : Fin 8) (O : Vec Ideal S1x1x96x640 .bf16)
    (h : ∀ (d : Fin 96) (t : Fin 640), O (ix4 0 0 d t) = (P b n).dk d t) (y : S1x1x96x640.Idx) (z : S2x8x96x640.Idx)
    (hz : z = ix4 b n (y 2) (y 3)) : O y = arrK P z := by
  subst hz
  have e : y = ix4 0 0 (y 2) (y 3) := by blk_ext
  exact (congrArg O e).trans (h _ _)

/-- A block of value gradients is a part of the array. -/
theorem at_v (P : Fin 2 → Fin 8 → Pt) (b : Fin 2) (n : Fin 8) (O : Vec Ideal S1x1x96x640 .bf16)
    (h : ∀ (d : Fin 96) (t : Fin 640), O (ix4 0 0 d t) = (P b n).dv d t) (y : S1x1x96x640.Idx) (z : S2x8x96x640.Idx)
    (hz : z = ix4 b n (y 2) (y 3)) : O y = arrV P z := by
  subst hz
  have e : y = ix4 0 0 (y 2) (y 3) := by blk_ext
  exact (congrArg O e).trans (h _ _)

/-- After the grid the first result array holds the query gradients. -/
theorem final_q (c : Dev nD) : (dats m 0 c).arrAt 10 (cfgs 0).N = arrQ (ptM m c) := by
  refine (dats m 0 c).arrAt_eq_of_covers 10 _ (by decide +kernel) fun t _ y => ?_
  blk_simp
  rw [after0_10]
  refine at_q (ptM m c) (bat t) (hd t) (outsAt0 m c t.val t.isLt).1 (good m c t.val t.isLt).q _ _ ?_
  blk_ext [idx t, bat, hd]

/-- After the grid the second result array holds the key gradients. -/
theorem final_k (c : Dev nD) : (dats m 0 c).arrAt 11 (cfgs 0).N = arrK (ptM m c) := by
  refine (dats m 0 c).arrAt_eq_of_covers 11 _ (by decide +kernel) fun t _ y => ?_
  blk_simp
  rw [after0_11]
  refine at_k (ptM m c) (bat t) (hd t) (outsAt0 m c t.val t.isLt).2.1 (good m c t.val t.isLt).k _ _ ?_
  blk_ext [idx t, bat, hd]

/-- After the grid the third result array holds the value gradients. -/
theorem final_v (c : Dev nD) : (dats m 0 c).arrAt 12 (cfgs 0).N = arrV (ptM m c) := by
  refine (dats m 0 c).arrAt_eq_of_covers 12 _ (by decide +kernel) fun t _ y => ?_
  blk_simp
  rw [after0_12]
  refine at_v (ptM m c) (bat t) (hd t) (outsAt0 m c t.val t.isLt).2.2.1 (good m c t.val t.isLt).v _ _ ?_
  blk_ext [idx t, bat, hd]

end Cert.KernelIdeal.Value

end
-- ==== Proof.KerRun.lean ====
/- The kernel's results, over its arguments. -/
module

public import proofs.«01_k».proof.Proof.Final
public import Idealize.ShloMosaic.Lib.Claim
public import Idealize.ShloMosaic.Lib.StableHlo.RunRead

@[expose] public section

set_option maxRecDepth 16384

noncomputable section

namespace Cert.KernelIdeal.Value

open Idealize.ShloMosaic Idealize.ShloMosaic.TcCoe Idealize.SL.Sem Cert.KernelIdeal.Gen
open Idealize.ShloMosaic.Pipeline (Dat)

/-- The first result: the query gradients, heads and features last. -/
def resQ (X : FVec Ideal S2x4x8x96x640 .bf16) : FVec Ideal S2x640x32x96 .bf16 :=
  transpose S2x640x32x96 [0, 3, 1, 2] (shapeCast S2x32x96x640 X shapeCasts_S2x4x8x96x640_S2x32x96x640) transposes_S2x32x96x640_S2x640x32x96_0_3_1_2

/-- The second and third results: the key or value gradients, heads and features last. -/
def resK (X : FVec Ideal S2x8x96x640 .bf16) : FVec Ideal S2x640x8x96 .bf16 :=
  transpose S2x640x8x96 [0, 3, 1, 2] X transposes_S2x8x96x640_S2x640x8x96_0_3_1_2

/-- An entry of the query gradients. -/
theorem resQ_apply (X : FVec Ideal S2x4x8x96x640 .bf16) (b : Fin 2) (i : Fin 640) (g : Fin 4) (n : Fin 8) (d : Fin 96) :
    resQ X (ix4 b i (qh g n) d) = X (ix5 b g n d i) := by
  pointwise [resQ]
  refine congrArg X ?_
  blk_ext [qh]

/-- An entry of the key or value gradients. -/
theorem resK_apply (X : FVec Ideal S2x8x96x640 .bf16) (b : Fin 2) (j : Fin 640) (n : Fin 8) (d : Fin 96) :
    resK X (ix4 b j n d) = X (ix4 b n d j) := by
  pointwise [resK]

/-- The host operations after the call leave the query gradients in the first result. -/
theorem after_q (W : Valuation τ sig (Elt Ideal)) : StableHlo.after (List.flatten [hostOps1]) W (Proc.tc.devRef main_v16) = resQ (W (Proc.tc.devRef main_v14_0)) := by
  simp only [List.flatten_cons, List.flatten_nil, List.append_nil, StableHlo.after_append]
  after_reads_simp
  rfl

/-- The host operations after the call leave the key gradients in the second result. -/
theorem after_k (W : Valuation τ sig (Elt Ideal)) : StableHlo.after (List.flatten [hostOps1]) W (Proc.tc.devRef main_v17) = resK (W (Proc.tc.devRef main_v14_1)) := by
  simp only [List.flatten_cons, List.flatten_nil, List.append_nil, StableHlo.after_append]
  after_reads_simp
  rfl

/-- The host operations after the call leave the value gradients in the third result. -/
theorem after_v (W : Valuation τ sig (Elt Ideal)) : StableHlo.after (List.flatten [hostOps1]) W (Proc.tc.devRef main_v18) = resK (W (Proc.tc.devRef main_v14_2)) := by
  simp only [List.flatten_cons, List.flatten_nil, List.append_nil, StableHlo.after_append]
  after_reads_simp
  rfl

variable (m : (ℓ : Loc nD τ sig) → Buf (Elt Ideal) ℓ)

/-- What the run leaves in a result. -/
theorem tail_q (c : Dev nD) : Pipeline.afterTail₀ cfgs (dats m) 0 (V0 m) [hostOps1] c main_v16 = resQ (arrQ (ptM m c)) := by
  unfold Pipeline.afterTail₀
  refine (after_q _).trans (congrArg resQ ?_)
  exact (Pipeline.withArrays_arr (cfgs 0).spec (by decide +kernel) c (V0 m c) (fun w => (dats m 0 c).arrAt w (cfgs 0).N) 10).trans (final_q m c)

/-- What the run leaves in a result. -/
theorem tail_k (c : Dev nD) : Pipeline.afterTail₀ cfgs (dats m) 0 (V0 m) [hostOps1] c main_v17 = resK (arrK (ptM m c)) := by
  unfold Pipeline.afterTail₀
  refine (after_k _).trans (congrArg resK ?_)
  exact (Pipeline.withArrays_arr (cfgs 0).spec (by decide +kernel) c (V0 m c) (fun w => (dats m 0 c).arrAt w (cfgs 0).N) 11).trans (final_k m c)

/-- What the run leaves in a result. -/
theorem tail_v (c : Dev nD) : Pipeline.afterTail₀ cfgs (dats m) 0 (V0 m) [hostOps1] c main_v18 = resK (arrV (ptM m c)) := by
  unfold Pipeline.afterTail₀
  refine (after_v _).trans (congrArg resK ?_)
  exact (Pipeline.withArrays_arr (cfgs 0).spec (by decide +kernel) c (V0 m c) (fun w => (dats m 0 c).arrAt w (cfgs 0).N) 12).trans (final_v m c)

/-- The kernel runs, and leaves the gradients in its results and its arguments unchanged. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v16) = resQ (arrQ (ptM m c))
      ∧ r.2.mem ((c.tc : Thread nD τ).loc main_v17) = resK (arrK (ptM m c))
      ∧ r.2.mem ((c.tc : Thread nD τ).loc main_v18) = resK (arrV (ptM m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  run_from Gen.run_main m g
  · exact tail_q m _
  · exact tail_k m _
  · exact tail_v m _
  · exact W_main_arg0 m (dats m) _
  · exact W_main_arg2 m (dats m) _
  · exact W_main_arg4 m (dats m) _
  · exact W_main_arg6 m (dats m) _
  · exact W_main_arg7 m (dats m) _
  · exact W_main_arg8 m (dats m) _
  · exact W_main_arg9 m (dats m) _

end Cert.KernelIdeal.Value

end
-- ==== Proof.Ref.lean ====
/- The reference's tensors, and their entries. -/
module

public import proofs.«01_k».proof.Proof.Gen.ReferenceIdeal.Frame
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.ReferenceIdeal.Value

open Cert.ReferenceIdeal Cert.ReferenceIdeal.Gen

/-- The query head of a group and a key head. -/
def qh (g : Fin 4) (n : Fin 8) : Fin 32 := ⟨g.val * 8 + n.val, by omega⟩

/-- The mask of the scores: key positions up to the query's. -/
def tMask : IVec S2x4x8x640x640 1 :=
  broadcastInDim S2x4x8x640x640 ![3, 4] bcast_S640x640_S2x4x8x640x640_3_4
    (cmpi CmpIPredicate.sle (broadcastInDim S640x640 ![0, 1] bcast_S1x640_S640x640_0_1 (broadcastInDim S1x640 ![1] bcast_S640_S1x640_1 (iotaInDim S640 32 0)))
      (broadcastInDim S640x640 ![0, 1] bcast_S640x1_S640x640_0_1 (broadcastInDim S640x1 ![0] bcast_S640_S640x1_0 (iotaInDim S640 32 0))))

/-- The products of keys (or values) with queries (or output gradients). -/
def tDot (K : FVec Ideal S2x640x8x96 .bf16) (Q : FVec Ideal S2x640x32x96 .bf16) : FVec Ideal S2x4x8x640x640 .f32 :=
  transpose S2x4x8x640x640 [0, 4, 1, 3, 2]
    (Host.dotGeneral (φ₁ := .bf16) (φ₂ := .bf16) dot_S2x640x8x96_S2x640x4x8x96_S2x8x640x640x4_3_4_1_12_02_03 none K (shapeCast S2x640x4x8x96 Q shapeCasts_S2x640x32x96_S2x640x4x8x96))
    transposes_S2x8x640x640x4_S2x4x8x640x640_0_4_1_3_2

/-- An entry of the products. -/
theorem tDot_apply (K : FVec Ideal S2x640x8x96 .bf16) (Q : FVec Ideal S2x640x32x96 .bf16) (b : Fin 2) (g : Fin 4) (n : Fin 8) (i j : Fin 640) :
    tDot K Q (ix5 b g n i j) = ∑ d : Fin 96, K (ix4 b j n d) * Q (ix4 b i (qh g n) d) := by
  pointwise [tDot]
  rfl

/-- The scale of the scores. -/
def tScale (qs : FVec Ideal S32 .f32) (ks : FVec Ideal S8 .f32) (sm : FVec Ideal S_ .f32) : FVec Ideal S2x4x8x640x640 .f32 :=
  broadcastInDim S2x4x8x640x640 ![0, 1, 2, 3, 4] bcast_S1x4x8x1x1_S2x4x8x640x640_0_1_2_3_4
    (broadcastInDim S1x4x8x1x1 ![1, 2] bcast_S4x8_S1x4x8x1x1_1_2
      (mulf (mulf (shapeCast S4x8 qs shapeCasts_S32_S4x8) (broadcastInDim S4x8 ![0, 1] bcast_S1x8_S4x8_0_1 (broadcastInDim S1x8 ![1] bcast_S8_S1x8_1 ks)))
        (broadcastInDim S4x8 ![] bcast_S_S4x8 sm)))

/-- An entry of the scale of the scores. -/
theorem tScale_apply (qs : FVec Ideal S32 .f32) (ks : FVec Ideal S8 .f32) (sm : FVec Ideal S_ .f32) (b : Fin 2) (g : Fin 4) (n : Fin 8) (i j : Fin 640) :
    tScale qs ks sm (ix5 b g n i j) = qs (ix1 (qh g n)) * ks (ix1 n) * sm ix0 := by
  pointwise [tScale]
  rfl

/-- A quantity of every query, repeated over the key positions. -/
def tRow (L : FVec Ideal S2x32x640 .f32) : FVec Ideal S2x4x8x640x640 .f32 :=
  broadcastInDim S2x4x8x640x640 ![0, 1, 2, 3, 4] bcast_S2x4x8x640x1_S2x4x8x640x640_0_1_2_3_4
    (broadcastInDim S2x4x8x640x1 ![0, 1, 2, 3] bcast_S2x4x8x640_S2x4x8x640x1_0_1_2_3 (shapeCast S2x4x8x640 L shapeCasts_S2x32x640_S2x4x8x640))

/-- An entry of a repeated quantity. -/
theorem tRow_apply (L : FVec Ideal S2x32x640 .f32) (b : Fin 2) (g : Fin 4) (n : Fin 8) (i j : Fin 640) :
    tRow L (ix5 b g n i j) = L (ix3 b (qh g n) i) := by
  pointwise [tRow]
  rfl

/-- The word of minus infinity. -/
theorem negInf : Ideal.ofBits .f32 0xFF800000#32 = (⊥ : EReal) := by
  simp [Ideal.ofBits, Ideal.ieee]

/-- The probabilities. -/
def tP (Q : FVec Ideal S2x640x32x96 .bf16) (qs : FVec Ideal S32 .f32) (K : FVec Ideal S2x640x8x96 .bf16) (ks : FVec Ideal S8 .f32)
    (L : FVec Ideal S2x32x640 .f32) (sm : FVec Ideal S_ .f32) : FVec Ideal S2x4x8x640x640 .f32 :=
  Host.exp (subf (select tMask (mulf (tDot K Q) (tScale qs ks sm)) (broadcastInDim S2x4x8x640x640 ![] bcast_S_S2x4x8x640x640 (constant S_ FTy.f32 0xFF800000#32))) (tRow L))

/-- An entry of the probabilities. -/
theorem tP_apply (Q : FVec Ideal S2x640x32x96 .bf16) (qs : FVec Ideal S32 .f32) (K : FVec Ideal S2x640x8x96 .bf16) (ks : FVec Ideal S8 .f32)
    (L : FVec Ideal S2x32x640 .f32) (sm : FVec Ideal S_ .f32) (b : Fin 2) (g : Fin 4) (n : Fin 8) (i j : Fin 640) :
    tP Q qs K ks L sm (ix5 b g n i j) = Ideal.exp ((if j ≤ i then (∑ d : Fin 96, K (ix4 b j n d) * Q (ix4 b i (qh g n) d)) * (qs (ix1 (qh g n)) * ks (ix1 n) * sm ix0) else ⊥) - L (ix3 b (qh g n) i)) := by
  unfold tP
  pointwise [tMask]
  rw [tDot_apply, tScale_apply, tRow_apply, WordCmp.cmpi_sle_ofNat (by omega) (by omega), negInf]
  congr 2
  by_cases h : j ≤ i
  · rw [if_pos h, decide_eq_true (show j.val ≤ i.val from h)]; rfl
  · rw [if_neg h, decide_eq_false (show ¬j.val ≤ i.val from h)]; rfl

/-- The inner products of output gradient and output. -/
def tDelta (DO : FVec Ideal S2x640x32x96 .bf16) (dos : FVec Ideal S2x640 .f32) (O : FVec Ideal S2x640x32x96 .bf16) : FVec Ideal S2x32x640 .f32 :=
  Host.dotGeneral (φ₁ := .f32) (φ₂ := .f32) dot_S2x640x32x96_S2x640x32x96_S2x32x640_3_3_n_n_021_021 none
    (mulf (extf (F := Ideal) (s := S2x640x32x96) FTy.f32 DO bitsLt_bf16_f32)
      (broadcastInDim S2x640x32x96 ![0, 1, 2, 3] bcast_S2x640x1x1_S2x640x32x96_0_1_2_3 (broadcastInDim S2x640x1x1 ![0, 1] bcast_S2x640_S2x640x1x1_0_1 dos)))
    (extf (F := Ideal) (s := S2x640x32x96) FTy.f32 O bitsLt_bf16_f32)

/-- An entry of the inner products. -/
theorem tDelta_apply (DO : FVec Ideal S2x640x32x96 .bf16) (dos : FVec Ideal S2x640 .f32) (O : FVec Ideal S2x640x32x96 .bf16) (b : Fin 2) (h : Fin 32) (i : Fin 640) :
    tDelta DO dos O (ix3 b h i) = ∑ d : Fin 96, DO (ix4 b i h d) * dos (ix2 b i) * O (ix4 b i h d) := by
  pointwise [tDelta]

/-- The scale of the probabilities' gradients. -/
def tVScale (dos : FVec Ideal S2x640 .f32) (vs : FVec Ideal S8 .f32) : FVec Ideal S2x4x8x640x640 .f32 :=
  broadcastInDim S2x4x8x640x640 ![0, 1, 2, 3, 4] bcast_S2x1x8x640x1_S2x4x8x640x640_0_1_2_3_4
    (mulf (broadcastInDim S2x1x8x640x1 ![0, 1, 2, 3, 4] bcast_S2x1x1x640x1_S2x1x8x640x1_0_1_2_3_4 (broadcastInDim S2x1x1x640x1 ![0, 3] bcast_S2x640_S2x1x1x640x1_0_3 dos))
      (broadcastInDim S2x1x8x640x1 ![0, 1, 2, 3, 4] bcast_S1x1x8x1x1_S2x1x8x640x1_0_1_2_3_4 (broadcastInDim S1x1x8x1x1 ![2] bcast_S8_S1x1x8x1x1_2 vs)))

/-- An entry of the scale of the probabilities' gradients. -/
theorem tVScale_apply (dos : FVec Ideal S2x640 .f32) (vs : FVec Ideal S8 .f32) (b : Fin 2) (g : Fin 4) (n : Fin 8) (i j : Fin 640) :
    tVScale dos vs (ix5 b g n i j) = dos (ix2 b i) * vs (ix1 n) := by
  pointwise [tVScale]

/-- The gradients of the scores, over the probabilities. -/
def tDS (P : FVec Ideal S2x4x8x640x640 .f32) (V : FVec Ideal S2x640x8x96 .bf16) (vs : FVec Ideal S8 .f32) (O DO : FVec Ideal S2x640x32x96 .bf16)
    (dos : FVec Ideal S2x640 .f32) : FVec Ideal S2x4x8x640x640 .f32 :=
  mulf P (subf (mulf (tDot V DO) (tVScale dos vs)) (tRow (tDelta DO dos O)))

/-- An entry of the gradients of the scores. -/
theorem tDS_apply (P : FVec Ideal S2x4x8x640x640 .f32) (V : FVec Ideal S2x640x8x96 .bf16) (vs : FVec Ideal S8 .f32) (O DO : FVec Ideal S2x640x32x96 .bf16)
    (dos : FVec Ideal S2x640 .f32) (b : Fin 2) (g : Fin 4) (n : Fin 8) (i j : Fin 640) :
    tDS P V vs O DO dos (ix5 b g n i j) = P (ix5 b g n i j) * ((∑ d : Fin 96, V (ix4 b j n d) * DO (ix4 b i (qh g n) d)) * (dos (ix2 b i) * vs (ix1 n))
      - ∑ d : Fin 96, DO (ix4 b i (qh g n) d) * dos (ix2 b i) * O (ix4 b i (qh g n) d)) := by
  unfold tDS
  pointwise
  rw [tDot_apply, tVScale_apply, tRow_apply, tDelta_apply]

/-- The query gradients. -/
def tDq (dS : FVec Ideal S2x4x8x640x640 .f32) (K : FVec Ideal S2x640x8x96 .bf16) (ks : FVec Ideal S8 .f32) (sm : FVec Ideal S_ .f32) : FVec Ideal S2x640x32x96 .bf16 :=
  truncf (F := Ideal) FTy.bf16 (shapeCast S2x640x32x96
    (mulf (transpose S2x640x4x8x96 [0, 4, 3, 1, 2]
        (Host.dotGeneral (φ₁ := .bf16) (φ₂ := .bf16) dot_S2x640x8x96_S2x4x8x640x640_S2x8x96x4x640_1_4_3_13_02_02 none K (truncf (F := Ideal) (s := S2x4x8x640x640) FTy.bf16 dS bitsLt_bf16_f32))
        transposes_S2x8x96x4x640_S2x640x4x8x96_0_4_3_1_2)
      (broadcastInDim S2x640x4x8x96 ![0, 1, 2, 3, 4] bcast_S1x1x1x8x1_S2x640x4x8x96_0_1_2_3_4
        (broadcastInDim S1x1x1x8x1 ![3] bcast_S8_S1x1x1x8x1_3 (mulf ks (broadcastInDim S8 ![] bcast_S_S8 sm)))))
    shapeCasts_S2x640x4x8x96_S2x640x32x96) bitsLt_bf16_f32

/-- An entry of the query gradients. -/
theorem tDq_apply (dS : FVec Ideal S2x4x8x640x640 .f32) (K : FVec Ideal S2x640x8x96 .bf16) (ks : FVec Ideal S8 .f32) (sm : FVec Ideal S_ .f32)
    (b : Fin 2) (i : Fin 640) (g : Fin 4) (n : Fin 8) (d : Fin 96) :
    tDq dS K ks sm (ix4 b i (qh g n) d) = (∑ j : Fin 640, K (ix4 b j n d) * dS (ix5 b g n i j)) * (ks (ix1 n) * sm ix0) := by
  pointwise [tDq]
  have e1 : ∀ h, (⟨(qh g n).val % 8, h⟩ : Fin 8) = n := fun _ => Fin.ext (by show (g.val * 8 + n.val) % 8 = n.val; omega)
  have e2 : ∀ h, (⟨(qh g n).val / 8, h⟩ : Fin 4) = g := fun _ => Fin.ext (by show (g.val * 8 + n.val) / 8 = g.val; omega)
  simp only [e1, e2]

/-- The sums of the key and value gradients. -/
def tGrad (X : FVec Ideal S2x640x4x8x96 .bf16) (Y : FVec Ideal S2x4x8x640x640 .f32) : FVec Ideal S2x640x8x96 .f32 :=
  transpose S2x640x8x96 [0, 3, 1, 2]
    (Host.dotGeneral (φ₁ := .bf16) (φ₂ := .bf16) dot_S2x640x4x8x96_S2x4x8x640x640_S2x8x96x640_21_13_4_4_03_02 none X (truncf (F := Ideal) (s := S2x4x8x640x640) FTy.bf16 Y bitsLt_bf16_f32))
    transposes_S2x8x96x640_S2x640x8x96_0_3_1_2

/-- An entry of the sums of the key and value gradients. -/
theorem tGrad_apply (X : FVec Ideal S2x640x4x8x96 .bf16) (Y : FVec Ideal S2x4x8x640x640 .f32) (b : Fin 2) (j : Fin 640) (n : Fin 8) (d : Fin 96) :
    tGrad X Y (ix4 b j n d) = ∑ g : Fin 4, ∑ i : Fin 640, X (ix5 b i g n d) * Y (ix5 b g n i j) := by
  pointwise [tGrad]

/-- The scaled queries. -/
def tQw (Q : FVec Ideal S2x640x32x96 .bf16) (qs : FVec Ideal S32 .f32) : FVec Ideal S2x640x4x8x96 .bf16 :=
  mulf (shapeCast S2x640x4x8x96 Q shapeCasts_S2x640x32x96_S2x640x4x8x96)
    (broadcastInDim S2x640x4x8x96 ![0, 1, 2, 3, 4] bcast_S1x1x4x8x1_S2x640x4x8x96_0_1_2_3_4
      (broadcastInDim S1x1x4x8x1 ![2, 3] bcast_S4x8_S1x1x4x8x1_2_3 (truncf (F := Ideal) (s := S4x8) FTy.bf16 (shapeCast S4x8 qs shapeCasts_S32_S4x8) bitsLt_bf16_f32)))

/-- An entry of the scaled queries. -/
theorem tQw_apply (Q : FVec Ideal S2x640x32x96 .bf16) (qs : FVec Ideal S32 .f32) (b : Fin 2) (i : Fin 640) (g : Fin 4) (n : Fin 8) (d : Fin 96) :
    tQw Q qs (ix5 b i g n d) = Q (ix4 b i (qh g n) d) * qs (ix1 (qh g n)) := by
  pointwise [tQw]
  rfl

/-- The scaled output gradients. -/
def tDw (DO : FVec Ideal S2x640x32x96 .bf16) (dos : FVec Ideal S2x640 .f32) : FVec Ideal S2x640x4x8x96 .bf16 :=
  mulf (shapeCast S2x640x4x8x96 DO shapeCasts_S2x640x32x96_S2x640x4x8x96)
    (broadcastInDim S2x640x4x8x96 ![0, 1, 2, 3, 4] bcast_S2x640x1x1x1_S2x640x4x8x96_0_1_2_3_4
      (broadcastInDim S2x640x1x1x1 ![0, 1] bcast_S2x640_S2x640x1x1x1_0_1 (truncf (F := Ideal) (s := S2x640) FTy.bf16 dos bitsLt_bf16_f32)))

/-- An entry of the scaled output gradients. -/
theorem tDw_apply (DO : FVec Ideal S2x640x32x96 .bf16) (dos : FVec Ideal S2x640 .f32) (b : Fin 2) (i : Fin 640) (g : Fin 4) (n : Fin 8) (d : Fin 96) :
    tDw DO dos (ix5 b i g n d) = DO (ix4 b i (qh g n) d) * dos (ix2 b i) := by
  pointwise [tDw]
  rfl

/-- The key gradients. -/
def tDk (dS : FVec Ideal S2x4x8x640x640 .f32) (Q : FVec Ideal S2x640x32x96 .bf16) (qs : FVec Ideal S32 .f32) (sm : FVec Ideal S_ .f32) : FVec Ideal S2x640x8x96 .bf16 :=
  truncf (F := Ideal) (s := S2x640x8x96) FTy.bf16 (mulf (tGrad (tQw Q qs) dS) (broadcastInDim S2x640x8x96 ![] bcast_S_S2x640x8x96 sm)) bitsLt_bf16_f32

/-- The value gradients. -/
def tDv (P : FVec Ideal S2x4x8x640x640 .f32) (DO : FVec Ideal S2x640x32x96 .bf16) (dos : FVec Ideal S2x640 .f32) : FVec Ideal S2x640x8x96 .bf16 :=
  truncf (F := Ideal) (s := S2x640x8x96) FTy.bf16 (tGrad (tDw DO dos) P) bitsLt_bf16_f32

/-- An entry of the key gradients. -/
theorem tDk_apply (dS : FVec Ideal S2x4x8x640x640 .f32) (Q : FVec Ideal S2x640x32x96 .bf16) (qs : FVec Ideal S32 .f32) (sm : FVec Ideal S_ .f32)
    (b : Fin 2) (j : Fin 640) (n : Fin 8) (d : Fin 96) :
    tDk dS Q qs sm (ix4 b j n d) = (∑ g : Fin 4, ∑ i : Fin 640, Q (ix4 b i (qh g n) d) * qs (ix1 (qh g n)) * dS (ix5 b g n i j)) * sm ix0 := by
  pointwise [tDk]
  rw [tGrad_apply]
  simp only [tQw_apply]

/-- An entry of the value gradients. -/
theorem tDv_apply (P : FVec Ideal S2x4x8x640x640 .f32) (DO : FVec Ideal S2x640x32x96 .bf16) (dos : FVec Ideal S2x640 .f32)
    (b : Fin 2) (j : Fin 640) (n : Fin 8) (d : Fin 96) :
    tDv P DO dos (ix4 b j n d) = ∑ g : Fin 4, ∑ i : Fin 640, DO (ix4 b i (qh g n) d) * dos (ix2 b i) * P (ix5 b g n i j) := by
  pointwise [tDv]
  rw [tGrad_apply]
  simp only [tDw_apply]

end Cert.ReferenceIdeal.Value

end
-- ==== Proof.RefRun.lean ====
/- What the reference's host operations leave in its results. -/
module

public import proofs.«01_k».proof.Proof.Ref
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.ReferenceIdeal.Value

open Cert.ReferenceIdeal Cert.ReferenceIdeal.Gen

/-- The probabilities over the buffers the host operations read. -/
abbrev wP (W : Valuation τ sig (Elt Ideal)) : FVec Ideal S2x4x8x640x640 .f32 :=
  tP (W (Proc.tc.devRef main_v2_0)) (W (Proc.tc.devRef main_arg1)) (W (Proc.tc.devRef main_v2_1)) (W (Proc.tc.devRef main_arg3)) (W (Proc.tc.devRef main_arg7)) (W (Proc.tc.devRef main_v1))

/-- The gradients of the scores over the buffers the host operations read. -/
abbrev wDS (W : Valuation τ sig (Elt Ideal)) : FVec Ideal S2x4x8x640x640 .f32 :=
  tDS (wP W) (W (Proc.tc.devRef main_v2_2)) (W (Proc.tc.devRef main_arg5)) (W (Proc.tc.devRef main_arg6)) (W (Proc.tc.devRef main_v2_3)) (W (Proc.tc.devRef main_arg9))

/-- The host operations leave the query gradients in the first result. -/
theorem after_q (W : Valuation τ sig (Elt Ideal)) : StableHlo.after (List.flatten [hostOps1, hostOps1_1, hostOps1_2]) W (Proc.tc.devRef main_v74)
    = tDq (wDS W) (W (Proc.tc.devRef main_v2_1)) (W (Proc.tc.devRef main_arg3)) (W (Proc.tc.devRef main_v1)) := by
  simp only [List.flatten_cons, List.flatten_nil, List.append_nil, StableHlo.after_append]
  after_reads_simp
  rfl

/-- The host operations leave the key gradients in the second result. -/
theorem after_k (W : Valuation τ sig (Elt Ideal)) : StableHlo.after (List.flatten [hostOps1, hostOps1_1, hostOps1_2]) W (Proc.tc.devRef main_v75)
    = tDk (wDS W) (W (Proc.tc.devRef main_v2_0)) (W (Proc.tc.devRef main_arg1)) (W (Proc.tc.devRef main_v1)) := by
  simp only [List.flatten_cons, List.flatten_nil, List.append_nil, StableHlo.after_append]
  after_reads_simp
  rfl

/-- The host operations leave the value gradients in the third result. -/
theorem after_v (W : Valuation τ sig (Elt Ideal)) : StableHlo.after (List.flatten [hostOps1, hostOps1_1, hostOps1_2]) W (Proc.tc.devRef main_v76)
    = tDv (wP W) (W (Proc.tc.devRef main_v2_3)) (W (Proc.tc.devRef main_arg9)) := by
  simp only [List.flatten_cons, List.flatten_nil, List.append_nil, StableHlo.after_append]
  after_reads_simp
  rfl

end Cert.ReferenceIdeal.Value

end
-- ==== Proof.RefArr.lean ====
/- The widened operands of the reference. -/
module

public import proofs.«01_k».proof.Proof.RefRun

@[expose] public section

set_option maxRecDepth 16384

noncomputable section

open Idealize.ShloMosaic Idealize.ShloMosaic.TcCoe Idealize.SL.Sem
open Idealize.ShloMosaic.Pipeline (Dat)

namespace Cert.ReferenceIdeal.Value

open Cert.ReferenceIdeal Cert.ReferenceIdeal.Gen

variable (m : (ℓ : Loc nD τ sig) → Buf (Elt Ideal) ℓ)

/-- After the widening call the first result holds the widened queries. -/
theorem arr_q (c : Dev nD) : (dats m 0 c).arrAt 4 (cfgs 0).N = k0_pay1 (F := Ideal) (m ((c : Thread nD τ).loc main_arg0)) := by
  refine (dats m 0 c).arrAt_eq_of_after_last 4 t0_0 (by decide +kernel) _ fun j => ?_
  blk_simp
  rw [after0_4]
  frame_out
  blk_point [iblk, V]
  all_goals (show 0 * _ + _ = _; omega)

/-- After the widening call the second result holds the widened keys. -/
theorem arr_k (c : Dev nD) : (dats m 0 c).arrAt 5 (cfgs 0).N = k0_pay2 (F := Ideal) (m ((c : Thread nD τ).loc main_arg2)) := by
  refine (dats m 0 c).arrAt_eq_of_after_last 5 t0_0 (by decide +kernel) _ fun j => ?_
  blk_simp
  rw [after0_5]
  frame_out
  blk_point [iblk, V]
  all_goals (show 0 * _ + _ = _; omega)

/-- After the widening call the third result holds the widened values. -/
theorem arr_v (c : Dev nD) : (dats m 0 c).arrAt 6 (cfgs 0).N = k0_pay3 (F := Ideal) (m ((c : Thread nD τ).loc main_arg4)) := by
  refine (dats m 0 c).arrAt_eq_of_after_last 6 t0_0 (by decide +kernel) _ fun j => ?_
  blk_simp
  rw [after0_6]
  frame_out
  blk_point [iblk, V]
  all_goals (show 0 * _ + _ = _; omega)

/-- After the widening call the fourth result holds the widened output gradients. -/
theorem arr_do (c : Dev nD) : (dats m 0 c).arrAt 7 (cfgs 0).N = k0_pay4 (F := Ideal) (m ((c : Thread nD τ).loc main_arg8)) := by
  refine (dats m 0 c).arrAt_eq_of_after_last 7 t0_0 (by decide +kernel) _ fun j => ?_
  blk_simp
  rw [after0_7]
  frame_out
  blk_point [iblk, V]
  all_goals (show 0 * _ + _ = _; omega)

/-- The scale of the scores, computed on the host. -/
theorem V_v1 (c : Dev nD) : V0 m c (Proc.tc.devRef main_v1) = Host.divf (F := Ideal) (constant S_ FTy.f32 0x3F800000#32) (Host.sqrt (constant S_ FTy.f32 0x42C00000#32)) := by
  unfold V0
  simp only [List.flatten_cons, List.flatten_nil, List.append_nil]
  after_reads_simp

/-- The buffers the reference's host operations read after the widening call. -/
abbrev W0 (c : Dev nD) : Valuation τ sig (Elt Ideal) := Pipeline.withArrays (cfgs 0).spec c (V0 m c) fun w => (dats m 0 c).arrAt w (cfgs 0).N

theorem W0_q (c : Dev nD) : W0 m c (Proc.tc.devRef main_v2_0) = k0_pay1 (F := Ideal) (m ((c : Thread nD τ).loc main_arg0)) :=
  (Pipeline.withArrays_arr (cfgs 0).spec (by decide +kernel) c (V0 m c) (fun w => (dats m 0 c).arrAt w (cfgs 0).N) 4).trans (arr_q m c)

theorem W0_k (c : Dev nD) : W0 m c (Proc.tc.devRef main_v2_1) = k0_pay2 (F := Ideal) (m ((c : Thread nD τ).loc main_arg2)) :=
  (Pipeline.withArrays_arr (cfgs 0).spec (by decide +kernel) c (V0 m c) (fun w => (dats m 0 c).arrAt w (cfgs 0).N) 5).trans (arr_k m c)

theorem W0_v (c : Dev nD) : W0 m c (Proc.tc.devRef main_v2_2) = k0_pay3 (F := Ideal) (m ((c : Thread nD τ).loc main_arg4)) :=
  (Pipeline.withArrays_arr (cfgs 0).spec (by decide +kernel) c (V0 m c) (fun w => (dats m 0 c).arrAt w (cfgs 0).N) 6).trans (arr_v m c)

theorem W0_do (c : Dev nD) : W0 m c (Proc.tc.devRef main_v2_3) = k0_pay4 (F := Ideal) (m ((c : Thread nD τ).loc main_arg8)) :=
  (Pipeline.withArrays_arr (cfgs 0).spec (by decide +kernel) c (V0 m c) (fun w => (dats m 0 c).arrAt w (cfgs 0).N) 7).trans (arr_do m c)

theorem W0_arg1 (c : Dev nD) : W0 m c (Proc.tc.devRef main_arg1) = m ((c : Thread nD τ).loc main_arg1) :=
  (Pipeline.withArrays_of_ne _ c (V0 m c) _ main_arg1 (by exact (by decide : ∀ w, Pipeline.arrRef spec0 w ≠ main_arg1))).trans (V_main_arg1 m c)

theorem W0_arg3 (c : Dev nD) : W0 m c (Proc.tc.devRef main_arg3) = m ((c : Thread nD τ).loc main_arg3) :=
  (Pipeline.withArrays_of_ne _ c (V0 m c) _ main_arg3 (by exact (by decide : ∀ w, Pipeline.arrRef spec0 w ≠ main_arg3))).trans (V_main_arg3 m c)

theorem W0_arg5 (c : Dev nD) : W0 m c (Proc.tc.devRef main_arg5) = m ((c : Thread nD τ).loc main_arg5) :=
  (Pipeline.withArrays_of_ne _ c (V0 m c) _ main_arg5 (by exact (by decide : ∀ w, Pipeline.arrRef spec0 w ≠ main_arg5))).trans (V_main_arg5 m c)

theorem W0_arg6 (c : Dev nD) : W0 m c (Proc.tc.devRef main_arg6) = m ((c : Thread nD τ).loc main_arg6) :=
  (Pipeline.withArrays_of_ne _ c (V0 m c) _ main_arg6 (by exact (by decide : ∀ w, Pipeline.arrRef spec0 w ≠ main_arg6))).trans (V_main_arg6 m c)

theorem W0_arg7 (c : Dev nD) : W0 m c (Proc.tc.devRef main_arg7) = m ((c : Thread nD τ).loc main_arg7) :=
  (Pipeline.withArrays_of_ne _ c (V0 m c) _ main_arg7 (by exact (by decide : ∀ w, Pipeline.arrRef spec0 w ≠ main_arg7))).trans (V_main_arg7 m c)

theorem W0_arg9 (c : Dev nD) : W0 m c (Proc.tc.devRef main_arg9) = m ((c : Thread nD τ).loc main_arg9) :=
  (Pipeline.withArrays_of_ne _ c (V0 m c) _ main_arg9 (by exact (by decide : ∀ w, Pipeline.arrRef spec0 w ≠ main_arg9))).trans (V_main_arg9 m c)

theorem W0_v1 (c : Dev nD) : W0 m c (Proc.tc.devRef main_v1) = Host.divf (F := Ideal) (constant S_ FTy.f32 0x3F800000#32) (Host.sqrt (constant S_ FTy.f32 0x42C00000#32)) :=
  (Pipeline.withArrays_of_ne _ c (V0 m c) _ main_v1 (by exact (by decide : ∀ w, Pipeline.arrRef spec0 w ≠ main_v1))).trans (V_v1 m c)

end Cert.ReferenceIdeal.Value

end
-- ==== Proof.RefVal.lean ====
/- The reference's results, over its arguments. -/
module

public import proofs.«01_k».proof.Proof.RefArr

@[expose] public section

set_option maxRecDepth 16384

noncomputable section

open Idealize.ShloMosaic Idealize.ShloMosaic.TcCoe Idealize.SL.Sem
open Idealize.ShloMosaic.Pipeline (Dat)

namespace Cert.ReferenceIdeal.Value

open Cert.ReferenceIdeal Cert.ReferenceIdeal.Gen

variable (m : (ℓ : Loc nD τ sig) → Buf (Elt Ideal) ℓ)

/-- The softmax scale of the reference. -/
abbrev smR : FVec Ideal S_ .f32 := Host.divf (F := Ideal) (constant S_ FTy.f32 0x3F800000#32) (Host.sqrt (constant S_ FTy.f32 0x42C00000#32))

/-- The reference's probabilities, over the arguments. -/
abbrev rP (c : Dev nD) : FVec Ideal S2x4x8x640x640 .f32 :=
  tP (k0_pay1 (F := Ideal) (m ((c : Thread nD τ).loc main_arg0))) (m ((c : Thread nD τ).loc main_arg1)) (k0_pay2 (F := Ideal) (m ((c : Thread nD τ).loc main_arg2))) (m ((c : Thread nD τ).loc main_arg3)) (m ((c : Thread nD τ).loc main_arg7)) smR

/-- The reference's gradients of the scores, over the arguments. -/
abbrev rDS (c : Dev nD) : FVec Ideal S2x4x8x640x640 .f32 :=
  tDS (rP m c) (k0_pay3 (F := Ideal) (m ((c : Thread nD τ).loc main_arg4))) (m ((c : Thread nD τ).loc main_arg5)) (m ((c : Thread nD τ).loc main_arg6)) (k0_pay4 (F := Ideal) (m ((c : Thread nD τ).loc main_arg8))) (m ((c : Thread nD τ).loc main_arg9))

/-- The reference's query gradients, over the arguments. -/
abbrev rDq (c : Dev nD) : FVec Ideal S2x640x32x96 .bf16 :=
  tDq (rDS m c) (k0_pay2 (F := Ideal) (m ((c : Thread nD τ).loc main_arg2))) (m ((c : Thread nD τ).loc main_arg3)) smR

/-- The reference's key gradients, over the arguments. -/
abbrev rDk (c : Dev nD) : FVec Ideal S2x640x8x96 .bf16 :=
  tDk (rDS m c) (k0_pay1 (F := Ideal) (m ((c : Thread nD τ).loc main_arg0))) (m ((c : Thread nD τ).loc main_arg1)) smR

/-- The reference's value gradients, over the arguments. -/
abbrev rDv (c : Dev nD) : FVec Ideal S2x640x8x96 .bf16 :=
  tDv (rP m c) (k0_pay4 (F := Ideal) (m ((c : Thread nD τ).loc main_arg8))) (m ((c : Thread nD τ).loc main_arg9))

/-- The probabilities the host operations compute after the widening call. -/
theorem wP_eq (c : Dev nD) : wP (W0 m c) = rP m c := by
  unfold wP rP
  rw [W0_q, W0_arg1, W0_k, W0_arg3, W0_arg7, W0_v1]

/-- The gradients of the scores the host operations compute after the widening call. -/
theorem wDS_eq (c : Dev nD) : wDS (W0 m c) = rDS m c := by
  unfold wDS rDS
  rw [wP_eq, W0_v, W0_arg5, W0_arg6, W0_do, W0_arg9]

/-- What the run leaves in a result. -/
theorem tail_q (c : Dev nD) : Pipeline.afterTail₀ cfgs (dats m) 0 (V0 m) [hostOps1, hostOps1_1, hostOps1_2] c main_v74 = rDq m c := by
  unfold Pipeline.afterTail₀
  refine (after_q (W0 m c)).trans ?_
  rw [wDS_eq, W0_k, W0_arg3, W0_v1]

/-- What the run leaves in a result. -/
theorem tail_k (c : Dev nD) : Pipeline.afterTail₀ cfgs (dats m) 0 (V0 m) [hostOps1, hostOps1_1, hostOps1_2] c main_v75 = rDk m c := by
  unfold Pipeline.afterTail₀
  refine (after_k (W0 m c)).trans ?_
  rw [wDS_eq, W0_q, W0_arg1, W0_v1]

/-- What the run leaves in a result. -/
theorem tail_v (c : Dev nD) : Pipeline.afterTail₀ cfgs (dats m) 0 (V0 m) [hostOps1, hostOps1_1, hostOps1_2] c main_v76 = rDv m c := by
  unfold Pipeline.afterTail₀
  refine (after_v (W0 m c)).trans ?_
  rw [wP_eq, W0_do, W0_arg9]

/-- The reference runs, and leaves the gradients in its results and its arguments unchanged. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v74) = rDq m c
      ∧ r.2.mem ((c.tc : Thread nD τ).loc main_v75) = rDk m c
      ∧ r.2.mem ((c.tc : Thread nD τ).loc main_v76) = rDv m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  run_from Gen.run_main m g
  · exact tail_q m _
  · exact tail_k m _
  · exact tail_v m _
  · exact W_main_arg1 m (dats m) _
  · exact W_main_arg3 m (dats m) _
  · exact W_main_arg5 m (dats m) _
  · exact W_main_arg6 m (dats m) _
  · exact W_main_arg7 m (dats m) _
  · exact W_main_arg9 m (dats m) _

end Cert.ReferenceIdeal.Value

end
-- ==== Proof.Consts.lean ====
/- The constants' values, and the exponential in base two. -/
module

public import proofs.«01_k».proof.Proof.Forms
public import proofs.«01_k».proof.Proof.Ref

@[expose] public section

set_option maxRecDepth 16384

noncomputable section

open Idealize.ShloMosaic

namespace Cert.KernelIdeal

theorem lgK_eq : lgK = (((Real.log 2)⁻¹ : ℝ) : EReal) :=
  IdealRules.named_const.ideal_named_scalar κ "log2e" (φ := .f32) 0x3FB8AA3B#32 _ rfl

theorem smK_eq : smK = (((Real.sqrt 96)⁻¹ : ℝ) : EReal) :=
  IdealRules.named_const.ideal_named_scalar κ "sm" (φ := .f32) 0x3DD105EC#32 _ rfl

theorem smlK_eq : smlK = smK * lgK := by
  rw [smK_eq, lgK_eq, ← EReal.coe_mul]
  exact IdealRules.named_const.ideal_named_scalar κ "sm_log2e" (φ := .f32) 0x3E16C740#32 _ rfl

theorem log2_inv_pos : 0 < (Real.log 2)⁻¹ := inv_pos.mpr (Real.log_pos (by norm_num))

/-- The exponential is the power of two of the argument times the binary logarithm of `e`. -/
theorem exp2_lgK (x : EReal) : Ideal.exp2 (x * lgK) = Ideal.exp x := by
  rw [lgK_eq]
  induction x with
  | bot => rw [EReal.bot_mul_coe_of_pos log2_inv_pos]; rfl
  | top => rw [EReal.top_mul_coe_of_pos log2_inv_pos]; rfl
  | coe x =>
    rw [← EReal.coe_mul]
    show ((Real.rpow 2 (x * (Real.log 2)⁻¹) : ℝ) : EReal) = ((Real.exp x : ℝ) : EReal)
    congr 1
    show (2 : ℝ) ^ (x * (Real.log 2)⁻¹) = _
    rw [Real.rpow_def_of_pos (by norm_num)]
    congr 1
    have := (Real.log_pos (by norm_num : (1 : ℝ) < 2)).ne'
    field_simp

/-- A factor that is nonnegative and finite distributes over a difference. -/
theorem sub_mul_of {c : EReal} (h0 : 0 ≤ c) (h1 : c ≠ ⊤) (a b : EReal) : (a - b) * c = a * c - b * c := by
  rw [sub_eq_add_neg, sub_eq_add_neg, EReal.right_distrib_of_nonneg_of_ne_top h0 h1, EReal.neg_mul]

/-- A factor that is nonnegative and finite leaves a sum. -/
theorem sum_mul_of {n : ℕ} {c : EReal} (h0 : 0 ≤ c) (h1 : c ≠ ⊤) (f : Fin n → EReal) : (∑ d, f d) * c = ∑ d, f d * c := by
  induction n with
  | zero => simp
  | succ n ih => rw [Fin.sum_univ_succ, Fin.sum_univ_succ, EReal.right_distrib_of_nonneg_of_ne_top h0 h1, ih]

theorem exp2_sub (s a l : EReal) : Ideal.exp2 (s * (a * smlK) - l * lgK) = Ideal.exp (s * (a * smK) - l) := by
  have h0 : 0 ≤ lgK := by rw [lgK_eq]; exact_mod_cast log2_inv_pos.le
  have h1 : lgK ≠ ⊤ := by rw [lgK_eq]; exact EReal.coe_ne_top _
  rw [← exp2_lgK, sub_mul_of h0 h1, smlK_eq, mul_assoc, mul_assoc]

/-- The scale the reference computes. -/
theorem sm_ix0 : Host.divf (F := Ideal) (constant ⟨0, ![]⟩ FTy.f32 0x3F800000#32) (Host.sqrt (constant ⟨0, ![]⟩ FTy.f32 0x42C00000#32)) ix0 = smK := by
  pointwise
  have h : Ideal.ofBits FTy.f32 1119879168#32 = ((96 : ℝ) : EReal) := by
    simp [Ideal.ofBits, Ideal.ieee]
    rw [← EReal.coe_mul]
    norm_num
  rw [h, smK_eq]
  have h2 : Ideal.sqrt ((96 : ℝ) : EReal) = ((Real.sqrt 96 : ℝ) : EReal) := by
    show (if (96 : ℝ) < 0 then ⊥ else ((Real.sqrt 96 : ℝ) : EReal)) = _
    rw [if_neg (by norm_num)]
  rw [h2]
  have h3 : (0 : ℝ) < Real.sqrt 96 := Real.sqrt_pos.mpr (by norm_num)
  unfold Ideal.div
  rw [if_neg (by exact_mod_cast h3.ne'), one_mul, EReal.coe_inv]

/-- A sum over packed lanes is the sum over heads of the sums over positions. -/
theorem lanes_sum (f : Fin 4 → Fin 640 → EReal) : (∑ w : Fin 2560, f (grp w) (pos w)) = ∑ g, ∑ t, f g t := by
  rw [← Fintype.sum_prod_type' (f := f)]
  refine Fintype.sum_bijective (fun w : Fin 2560 => (grp w, pos w)) ⟨?_, ?_⟩ _ _ fun _ => rfl
  · intro a b h
    have h1 : a.val % 512 / 128 = b.val % 512 / 128 := congrArg (fun x : Fin 4 × Fin 640 => x.1.val) h
    have h2 : a.val / 512 * 128 + a.val % 128 = b.val / 512 * 128 + b.val % 128 := congrArg (fun x : Fin 4 × Fin 640 => x.2.val) h
    apply Fin.ext
    omega
  · rintro ⟨g, t⟩
    refine ⟨⟨t.val / 128 * 512 + g.val * 128 + t.val % 128, by omega⟩, ?_⟩
    refine Prod.ext (Fin.ext ?_) (Fin.ext ?_)
    · show (t.val / 128 * 512 + g.val * 128 + t.val % 128) % 512 / 128 = g.val
      omega
    · show (t.val / 128 * 512 + g.val * 128 + t.val % 128) / 512 * 128 + (t.val / 128 * 512 + g.val * 128 + t.val % 128) % 128 = t.val
      omega

end Cert.KernelIdeal

end
-- ==== Proof.Equal.lean ====
/- The reference's tensors are the closed forms of the kernel's blocks. -/
module

public import proofs.«01_k».proof.Proof.Consts
public import proofs.«01_k».proof.Proof.Final

@[expose] public section

set_option maxRecDepth 16384

noncomputable section

open Idealize.ShloMosaic

namespace Cert.Equal

open Cert.KernelIdeal (Pt smK lgK smlK qh grp pos)
open Cert.KernelIdeal.Value (pt)
open Cert.ReferenceIdeal.Value (tP tDS tDq tDk tDv tP_apply tDS_apply tDq_apply tDk_apply tDv_apply)
open Cert.ReferenceIdeal (S2x640x32x96 S32 S2x640x8x96 S8 S2x32x640 S2x640 S2x4x8x640x640 S_)

variable (a0 : FVec Ideal S2x640x32x96 .fp8e4m3) (a1 : FVec Ideal S32 .f32) (a2 : FVec Ideal S2x640x8x96 .fp8e4m3) (a3 : FVec Ideal S8 .f32)
    (a4 : FVec Ideal S2x640x8x96 .fp8e4m3) (a5 : FVec Ideal S8 .f32) (a6 : FVec Ideal S2x640x32x96 .bf16) (a7 : FVec Ideal S2x32x640 .f32)
    (a8 : FVec Ideal S2x640x32x96 .fp8e5m2) (a9 : FVec Ideal S2x640 .f32)
    (Q : FVec Ideal S2x640x32x96 .bf16) (K V : FVec Ideal S2x640x8x96 .bf16) (DO : FVec Ideal S2x640x32x96 .bf16) (sm : FVec Ideal S_ .f32)

/-- The probabilities of the reference, as an entry. -/
theorem p_eq (hQ : ∀ i, Q i = a0 i) (hK : ∀ i, K i = a2 i) (hsm : sm ix0 = smK) (b : Fin 2) (g : Fin 4) (n : Fin 8) (i j : Fin 640) :
    tP Q a1 K a3 a7 sm (ix5 b g n i j) = (pt a0 a1 a2 a3 a4 a5 a6 a7 a8 a9 b n).p g j i := by
  rw [tP_apply, hsm]
  simp only [hQ, hK]
  unfold Pt.p
  by_cases h : j ≤ i
  · rw [if_pos h, if_pos (show j.val ≤ i.val from h)]
    exact (Cert.KernelIdeal.exp2_sub _ _ _).symm
  · rw [if_neg h, if_neg (show ¬ j.val ≤ i.val from h), EReal.bot_sub]
    rfl

/-- The gradients of the scores of the reference, as an entry. -/
theorem dS_eq (P : FVec Ideal S2x4x8x640x640 .f32) (hV : ∀ i, V i = a4 i) (hDO : ∀ i, DO i = a8 i)
    (hP : ∀ b g n i j, P (ix5 b g n i j) = (pt a0 a1 a2 a3 a4 a5 a6 a7 a8 a9 b n).p g j i)
    (hd : ∀ b i, 0 ≤ a9 (ix2 b i) ∧ a9 (ix2 b i) ≠ ⊤) (b : Fin 2) (g : Fin 4) (n : Fin 8) (i j : Fin 640) :
    tDS P V a5 a6 DO a9 (ix5 b g n i j) = (pt a0 a1 a2 a3 a4 a5 a6 a7 a8 a9 b n).dS g j i := by
  rw [tDS_apply, hP]
  simp only [hV, hDO]
  unfold Pt.dS
  rw [Cert.KernelIdeal.sum_mul_of (c := (pt a0 a1 a2 a3 a4 a5 a6 a7 a8 a9 b n).dos i) (hd b i).1 (hd b i).2]
  simp only [mul_right_comm _ (a9 (ix2 b i)) _]
  rfl

/-- The query gradients of the reference, as an entry. -/
theorem dq_eq (D : FVec Ideal S2x4x8x640x640 .f32) (hK : ∀ i, K i = a2 i) (hsm : sm ix0 = smK)
    (hD : ∀ b g n i j, D (ix5 b g n i j) = (pt a0 a1 a2 a3 a4 a5 a6 a7 a8 a9 b n).dS g j i) (b : Fin 2) (i : Fin 640) (g : Fin 4) (n : Fin 8) (d : Fin 96) :
    tDq D K a3 sm (ix4 b i (qh g n) d) = (pt a0 a1 a2 a3 a4 a5 a6 a7 a8 a9 b n).dq g d i := by
  refine (tDq_apply D K a3 sm b i g n d).trans ?_
  rw [hsm]
  simp only [hK, hD]
  rfl

/-- The key gradients of the reference, as an entry. -/
theorem dk_eq (D : FVec Ideal S2x4x8x640x640 .f32) (hQ : ∀ i, Q i = a0 i) (hsm : sm ix0 = smK)
    (hD : ∀ b g n i j, D (ix5 b g n i j) = (pt a0 a1 a2 a3 a4 a5 a6 a7 a8 a9 b n).dS g j i) (b : Fin 2) (j : Fin 640) (n : Fin 8) (d : Fin 96) :
    tDk D Q a1 sm (ix4 b j n d) = (pt a0 a1 a2 a3 a4 a5 a6 a7 a8 a9 b n).dk d j := by
  rw [tDk_apply, hsm]
  simp only [hQ, hD]
  exact (congrArg (· * smK) (Cert.KernelIdeal.lanes_sum fun g t => (pt a0 a1 a2 a3 a4 a5 a6 a7 a8 a9 b n).q g d t
    * (pt a0 a1 a2 a3 a4 a5 a6 a7 a8 a9 b n).qs g * (pt a0 a1 a2 a3 a4 a5 a6 a7 a8 a9 b n).dS g j t)).symm

/-- The value gradients of the reference, as an entry. -/
theorem dv_eq (P : FVec Ideal S2x4x8x640x640 .f32) (hDO : ∀ i, DO i = a8 i)
    (hP : ∀ b g n i j, P (ix5 b g n i j) = (pt a0 a1 a2 a3 a4 a5 a6 a7 a8 a9 b n).p g j i) (b : Fin 2) (j : Fin 640) (n : Fin 8) (d : Fin 96) :
    tDv P DO a9 (ix4 b j n d) = (pt a0 a1 a2 a3 a4 a5 a6 a7 a8 a9 b n).dv d j := by
  rw [tDv_apply]
  simp only [hDO, hP]
  exact (Cert.KernelIdeal.lanes_sum fun g t => (pt a0 a1 a2 a3 a4 a5 a6 a7 a8 a9 b n).dO g d t
    * (pt a0 a1 a2 a3 a4 a5 a6 a7 a8 a9 b n).dos t * (pt a0 a1 a2 a3 a4 a5 a6 a7 a8 a9 b n).p g j t).symm

end Cert.Equal

end
-- ==== Proof.Bounds.lean ====
/- What the precondition says of the output gradients' scales. -/
module

public import proofs.«01_k».proof.Pre_scales_of_do
public import Idealize.ShloMosaic.Lib.ReduceAll
public import Idealize.ShloMosaic.Lib.Pipeline.ValueKit

@[expose] public section

noncomputable section

namespace Cert.Pre_scales_of_do

open Idealize.ShloMosaic

/-- The shape relations of the precondition hold. -/
theorem facts : Facts where
  bcast_S_S2x640 := by decide
  reducesTo_S2x640_S_d0_1 := by decide
  h_S_ := by decide

/-- Where the precondition is one, every scale is nonnegative and finite. -/
theorem bounds [Facts] (a0 : FVec Ideal S2x640x32x96 .fp8e4m3) (a1 : FVec Ideal S32 .f32) (a2 : FVec Ideal S2x640x8x96 .fp8e4m3) (a3 : FVec Ideal S8 .f32)
    (a4 : FVec Ideal S2x640x8x96 .fp8e4m3) (a5 : FVec Ideal S8 .f32) (a6 : FVec Ideal S2x640x32x96 .bf16) (a7 : FVec Ideal S2x32x640 .f32)
    (a8 : FVec Ideal S2x640x32x96 .fp8e5m2) (a9 : FVec Ideal S2x640 .f32) (h : fn (F := Ideal) a0 a1 a2 a3 a4 a5 a6 a7 a8 a9 = fun _ => 1#1) (i : S2x640.Idx) :
    0 ≤ a9 i ∧ a9 i ≠ ⊤ := by
  haveI : Subsingleton S_.Idx := ⟨fun x y => funext fun b => b.elim0⟩
  have h1 := Host.reduce_andi_all _ _ _ _ ix0 (congrFun h ix0) i
  have h2 := IntOp.andi_eq_one.1 h1
  have ha : BitVec.ofBool (decide (Ideal.ofBits .f32 0x00000000#32 ≤ a9 i)) = 1#1 := h2.1
  have hb : BitVec.ofBool (decide (a9 i < Ideal.ofBits .f32 0x7F800000#32)) = 1#1 := h2.2
  have z : Ideal.ofBits .f32 0x00000000#32 = 0 := by simp [Ideal.ofBits, Ideal.ieee]
  have t : Ideal.ofBits .f32 0x7F800000#32 = ⊤ := by simp [Ideal.ofBits, Ideal.ieee]
  rw [z] at ha
  rw [t] at hb
  constructor
  · by_contra hc
    rw [decide_eq_false hc] at ha
    exact absurd ha (by decide)
  · intro hc
    rw [hc, decide_eq_false (lt_irrefl _)] at hb
    exact absurd hb (by decide)

end Cert.Pre_scales_of_do

end
-- ==== Proof.Results.lean ====
/- The kernel's results and the reference's are equal. -/
module

public import proofs.«01_k».proof.Proof.KerRun
public import proofs.«01_k».proof.Proof.RefVal
public import proofs.«01_k».proof.Proof.Equal
public import proofs.«01_k».proof.Proof.Bounds

@[expose] public section

set_option maxRecDepth 16384

noncomputable section

open Idealize.ShloMosaic Idealize.ShloMosaic.TcCoe

namespace Cert.Equal

open Cert.KernelIdeal (Pt smK lgK smlK qh grp pos)
open Cert.KernelIdeal.Value (pt ptM resQ resK arrQ arrK arrV resQ_apply resK_apply)
open Cert.ReferenceIdeal.Value (tP tDS tDq tDk tDv smR rP rDS rDq rDk rDv)
open Cert.ReferenceIdeal (S2x640x32x96 S32 S2x640x8x96 S8 S2x32x640 S2x640 S2x4x8x640x640 S_)
open Cert.ReferenceIdeal.Gen (k0_pay1 k0_pay2 k0_pay3 k0_pay4)

/-- Every scale is nonnegative and finite. -/
def Finite (a9 : FVec Ideal S2x640 .f32) : Prop := ∀ i, 0 ≤ a9 i ∧ a9 i ≠ ⊤

/-- The group of a query head. -/
def hg (h : Fin 32) : Fin 4 := ⟨h.val / 8, by omega⟩
/-- The key head of a query head. -/
def hn (h : Fin 32) : Fin 8 := ⟨h.val % 8, by omega⟩

/-- A query head is a group and a key head. -/
theorem head_eq (h : Fin 32) : h = qh (hg h) (hn h) := by
  apply Fin.ext
  show h.val = h.val / 8 * 8 + h.val % 8
  omega

/-- Two arrays over heads agree when their entries at every group and key head do. -/
theorem ext_q (X Y : FVec Ideal S2x640x32x96 .bf16) (h : ∀ b i g n d, X (ix4 b i (qh g n) d) = Y (ix4 b i (qh g n) d)) : X = Y := by
  funext y
  have e : y = ix4 (y 0) (y 1) (qh (hg (y 2)) (hn (y 2))) (y 3) := by
    funext c
    match c with
    | ⟨0, _⟩ => rfl
    | ⟨1, _⟩ => rfl
    | ⟨2, _⟩ => exact head_eq (y 2)
    | ⟨3, _⟩ => rfl
  exact (congrArg X e).trans ((h _ _ _ _ _).trans (congrArg Y e).symm)

/-- Two arrays over key heads agree when their entries do. -/
theorem ext_k (X Y : FVec Ideal S2x640x8x96 .bf16) (h : ∀ b i n d, X (ix4 b i n d) = Y (ix4 b i n d)) : X = Y := by
  funext y
  have e : y = ix4 (y 0) (y 1) (y 2) (y 3) := by
    funext c
    match c with
    | ⟨0, _⟩ => rfl
    | ⟨1, _⟩ => rfl
    | ⟨2, _⟩ => rfl
    | ⟨3, _⟩ => rfl
  exact (congrArg X e).trans ((h _ _ _ _).trans (congrArg Y e).symm)

variable (a0 : FVec Ideal S2x640x32x96 .fp8e4m3) (a1 : FVec Ideal S32 .f32) (a2 : FVec Ideal S2x640x8x96 .fp8e4m3) (a3 : FVec Ideal S8 .f32) (a4 : FVec Ideal S2x640x8x96 .fp8e4m3) (a5 : FVec Ideal S8 .f32) (a6 : FVec Ideal S2x640x32x96 .bf16) (a7 : FVec Ideal S2x32x640 .f32) (a8 : FVec Ideal S2x640x32x96 .fp8e5m2) (a9 : FVec Ideal S2x640 .f32)

/-- The reference's probabilities over arguments. -/
abbrev gP : FVec Ideal S2x4x8x640x640 .f32 := tP (k0_pay1 (F := Ideal) a0) a1 (k0_pay2 (F := Ideal) a2) a3 a7 smR
/-- The reference's gradients of the scores over arguments. -/
abbrev gDS : FVec Ideal S2x4x8x640x640 .f32 := tDS (gP a0 a1 a2 a3 a7) (k0_pay3 (F := Ideal) a4) a5 a6 (k0_pay4 (F := Ideal) a8) a9

/-- The probabilities' entries. -/
theorem gP_at (b : Fin 2) (g : Fin 4) (n : Fin 8) (i j : Fin 640) :
    gP a0 a1 a2 a3 a7 (ix5 b g n i j) = (pt a0 a1 a2 a3 a4 a5 a6 a7 a8 a9 b n).p g j i :=
  p_eq a0 a1 a2 a3 a4 a5 a6 a7 a8 a9 _ _ _ (fun _ => rfl) (fun _ => rfl) Cert.KernelIdeal.sm_ix0 b g n i j

/-- The entries of the gradients of the scores. -/
theorem gDS_at (hd : Finite a9) (b : Fin 2) (g : Fin 4) (n : Fin 8) (i j : Fin 640) :
    gDS a0 a1 a2 a3 a4 a5 a6 a7 a8 a9 (ix5 b g n i j) = (pt a0 a1 a2 a3 a4 a5 a6 a7 a8 a9 b n).dS g j i :=
  dS_eq a0 a1 a2 a3 a4 a5 a6 a7 a8 a9 _ _ _ (fun _ => rfl) (fun _ => rfl) (gP_at a0 a1 a2 a3 a4 a5 a6 a7 a8 a9) (fun b i => hd (ix2 b i)) b g n i j

/-- The query gradients of the reference and the kernel are equal. -/
theorem q_eq (hd : Finite a9) : tDq (gDS a0 a1 a2 a3 a4 a5 a6 a7 a8 a9) (k0_pay2 (F := Ideal) a2) a3 smR = resQ (arrQ (pt a0 a1 a2 a3 a4 a5 a6 a7 a8 a9)) :=
  ext_q _ _ fun b i g n d =>
    (dq_eq a0 a1 a2 a3 a4 a5 a6 a7 a8 a9 _ _ _ (fun _ => rfl) Cert.KernelIdeal.sm_ix0 (gDS_at a0 a1 a2 a3 a4 a5 a6 a7 a8 a9 hd) b i g n d).trans (resQ_apply (arrQ (pt a0 a1 a2 a3 a4 a5 a6 a7 a8 a9)) b i g n d).symm

/-- The key gradients of the reference and the kernel are equal. -/
theorem k_eq (hd : Finite a9) : tDk (gDS a0 a1 a2 a3 a4 a5 a6 a7 a8 a9) (k0_pay1 (F := Ideal) a0) a1 smR = resK (arrK (pt a0 a1 a2 a3 a4 a5 a6 a7 a8 a9)) :=
  ext_k _ _ fun b j n d =>
    (dk_eq a0 a1 a2 a3 a4 a5 a6 a7 a8 a9 _ _ _ (fun _ => rfl) Cert.KernelIdeal.sm_ix0 (gDS_at a0 a1 a2 a3 a4 a5 a6 a7 a8 a9 hd) b j n d).trans (resK_apply (arrK (pt a0 a1 a2 a3 a4 a5 a6 a7 a8 a9)) b j n d).symm

/-- The value gradients of the reference and the kernel are equal. -/
theorem v_eq : tDv (gP a0 a1 a2 a3 a7) (k0_pay4 (F := Ideal) a8) a9 = resK (arrV (pt a0 a1 a2 a3 a4 a5 a6 a7 a8 a9)) :=
  ext_k _ _ fun b j n d =>
    (dv_eq a0 a1 a2 a3 a4 a5 a6 a7 a8 a9 _ _ (fun _ => rfl) (gP_at a0 a1 a2 a3 a4 a5 a6 a7 a8 a9) b j n d).trans (resK_apply (arrV (pt a0 a1 a2 a3 a4 a5 a6 a7 a8 a9)) b j n d).symm

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- From equal arguments the query gradients of the two programs are equal. -/
theorem mem_q (c : Dev Cert.KernelIdeal.nD) (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (hd : Finite (m ((c.tc : Thread Cert.KernelIdeal.nD Cert.KernelIdeal.τ).loc Cert.KernelIdeal.main_arg9))) :
    rDq m' c = resQ (arrQ (ptM m c)) := by
  unfold rDq rDS rP
  rw [e0, e1, e2, e3, e4, e5, e6, e7, e8, e9]
  exact q_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) hd

/-- From equal arguments the key gradients of the two programs are equal. -/
theorem mem_k (c : Dev Cert.KernelIdeal.nD) (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (hd : Finite (m ((c.tc : Thread Cert.KernelIdeal.nD Cert.KernelIdeal.τ).loc Cert.KernelIdeal.main_arg9))) :
    rDk m' c = resK (arrK (ptM m c)) := by
  unfold rDk rDS rP
  rw [e0, e1, e2, e3, e4, e5, e6, e7, e8, e9]
  exact k_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) hd

/-- From equal arguments the value gradients of the two programs are equal. -/
theorem mem_v (c : Dev Cert.KernelIdeal.nD) (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    rDv m' c = resK (arrV (ptM m c)) := by
  unfold rDv rP
  rw [e0, e1, e2, e3, e7, e8, e9]
  exact v_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Results
public import Idealize.ShloMosaic.Adequacy
public import Idealize.ShloMosaic.Init

@[expose] public section

noncomputable section

namespace Cert.Proof

open Idealize.ShloMosaic Idealize.SL.Sem

/-- The ledger: each named constant is what the certificate's table says. -/
theorem preserves : Cert.preserves_Kernel_KernelIdeal :=
  ⟨IdealRules.named_const.statement Cert.KernelIdeal.κ "log2e" .f32 0x3FB8AA3B#32 (((Real.log 2)⁻¹ : ℝ) : EReal) rfl,
   IdealRules.named_const.statement Cert.KernelIdeal.κ "sm_log2e" .f32 0x3E16C740#32
     (((Real.sqrt 96)⁻¹ * (Real.log 2)⁻¹ : ℝ) : EReal) rfl,
   IdealRules.named_const.statement Cert.KernelIdeal.κ "sm" .f32 0x3DD105EC#32 (((Real.sqrt 96)⁻¹ : ℝ) : EReal) rfl⟩

/-- From equal arguments whose output gradients' scales are nonnegative and finite, the kernel and the reference leave equal gradients. -/
theorem algebraic : Cert.algebraic_KernelIdeal_ReferenceIdeal_pre_scales_of_do (hKernelIdeal := Cert.KernelIdeal.Gen.facts)
    (hReferenceIdeal := Cert.ReferenceIdeal.Gen.facts) (hPre_scales_of_do := Cert.Pre_scales_of_do.facts) := by
  intro m g m' g' hpre hargs
  haveI := Cert.Pre_scales_of_do.facts
  refine ⟨fun c => Cert.KernelIdeal.Value.resQ (Cert.KernelIdeal.Value.arrQ (Cert.KernelIdeal.Value.ptM m c)),
    fun c => Cert.KernelIdeal.Value.resK (Cert.KernelIdeal.Value.arrK (Cert.KernelIdeal.Value.ptM m c)),
    fun c => Cert.KernelIdeal.Value.resK (Cert.KernelIdeal.Value.arrV (Cert.KernelIdeal.Value.ptM m c)),
    Cert.KernelIdeal.Value.run m g, (θ_run _ _ _).mono (fun r h c => ?_) (Cert.ReferenceIdeal.Value.run m' g')⟩
  obtain ⟨e0, e1, e2, e3, e4, e5, e6, e7, e8, e9⟩ := hargs c
  have hd := Cert.Pre_scales_of_do.bounds _ _ _ _ _ _ _ _ _ _ (hpre c)
  obtain ⟨hq, hk, hv, ha⟩ := h c
  exact ⟨hq.trans (Cert.Equal.mem_q m m' c e0 e1 e2 e3 e4 e5 e6 e7 e8 e9 hd), hk.trans (Cert.Equal.mem_k m m' c e0 e1 e2 e3 e4 e5 e6 e7 e8 e9 hd),
    hv.trans (Cert.Equal.mem_v m m' c e0 e1 e2 e3 e7 e8 e9), ha⟩

theorem claim : Cert.Claim :=
  ⟨Cert.Kernel.Gen.facts, Cert.KernelIdeal.Gen.facts, Cert.ReferenceIdeal.Gen.facts, Cert.Pre_scales_of_do.facts,
   fun m ρ _ => Cert.Kernel.Gen.frame m ρ, fun m ρ _ => Cert.KernelIdeal.Gen.frame m ρ, fun m ρ _ => Cert.KernelIdeal.Gen.frame m ρ,
   fun m ρ _ => Cert.ReferenceIdeal.Gen.frame m ρ, fun m ρ _ => Cert.ReferenceIdeal.Gen.frame m ρ, preserves, algebraic⟩

end Cert.Proof

end
